-- ==== Defs.lean ====
def Pre_Kernel [hPre_tokens_in_table : Cert.Pre_tokens_in_table.Facts] (m : (ℓ : Loc Cert.Kernel.nD Cert.Kernel.τ Cert.Kernel.sig) → Buf (Elt Bits) ℓ) : Prop :=
  ∀ c : Dev Cert.Kernel.nD,
    (Cert.Pre_tokens_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_tokens_in_table : Cert.Pre_tokens_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_tokens_in_table_and_tables_finite [hPre_tokens_in_table_and_tables_finite : Cert.Pre_tokens_in_table_and_tables_finite.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_in_table_and_tables_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens_in_table_and_tables_finite [hPre_tokens_in_table_and_tables_finite : Cert.Pre_tokens_in_table_and_tables_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens_in_table_and_tables_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_tokens_in_table : Cert.Pre_tokens_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_tokens_in_table : Cert.Pre_tokens_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_tokens_in_table_and_tables_finite [hKernelIdeal : Cert.KernelIdeal.Facts] [hPre_tokens_in_table_and_tables_finite : Cert.Pre_tokens_in_table_and_tables_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tokens_in_table_and_tables_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_tokens_in_table_and_tables_finite [hReferenceIdeal : Cert.ReferenceIdeal.Facts] [hPre_tokens_in_table_and_tables_finite : Cert.Pre_tokens_in_table_and_tables_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens_in_table_and_tables_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_tokens_in_table_and_tables_finite [hKernelIdeal : Cert.KernelIdeal.Facts] [hReferenceIdeal : Cert.ReferenceIdeal.Facts] [hPre_tokens_in_table_and_tables_finite : Cert.Pre_tokens_in_table_and_tables_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tokens_in_table_and_tables_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_tokens_in_table : Cert.Pre_tokens_in_table.Facts) (hPre_tokens_in_table_and_tables_finite : Cert.Pre_tokens_in_table_and_tables_finite.Facts),
    quiescent_Kernel (hKernel := hKernel) (hPre_tokens_in_table := hPre_tokens_in_table)
    ∧ quiescent_KernelIdeal (hKernelIdeal := hKernelIdeal) (hPre_tokens_in_table := hPre_tokens_in_table)
    ∧ quiescent_KernelIdeal_pre_tokens_in_table_and_tables_finite (hKernelIdeal := hKernelIdeal) (hPre_tokens_in_table_and_tables_finite := hPre_tokens_in_table_and_tables_finite)
    ∧ quiescent_ReferenceIdeal (hReferenceIdeal := hReferenceIdeal)
    ∧ quiescent_ReferenceIdeal_pre_tokens_in_table_and_tables_finite (hReferenceIdeal := hReferenceIdeal) (hPre_tokens_in_table_and_tables_finite := hPre_tokens_in_table_and_tables_finite)
    ∧ preserves_Kernel_KernelIdeal
    ∧ algebraic_KernelIdeal_ReferenceIdeal_pre_tokens_in_table_and_tables_finite (hKernelIdeal := hKernelIdeal) (hReferenceIdeal := hReferenceIdeal) (hPre_tokens_in_table_and_tables_finite := hPre_tokens_in_table_and_tables_finite)
-- ==== Pre_tokens_in_table.lean ====
abbrev S1024x200 : Shape := ⟨2, ![1024, 200]⟩
abbrev S100000x128 : Shape := ⟨2, ![100000, 128]⟩
abbrev S512x128 : Shape := ⟨2, ![512, 128]⟩
abbrev S128 : Shape := ⟨1, ![128]⟩
abbrev S_ : Shape := ⟨0, ![]⟩

class Facts : Prop where
  bcast_S_S1024x200 : S_.BroadcastsInDim S1024x200 (![] : Fin 0 → Fin S1024x200.rank)
  reducesTo_S1024x200_S_d0_1 : S1024x200.ReducesTo [0, 1] S_
  h_S_ : 0 < S_.numel

variable [Facts]

def fn {F : FTy → Type} [FloatOps F] (main_arg0 : IVec S1024x200 32) (main_arg1 : FVec F S100000x128 .f32) (main_arg2 : FVec F S512x128 .f32) (main_arg3 : FVec F S128 .f32) (main_arg4 : FVec F S128 .f32) : IVec S_ 1 :=
  let main_c : IVec S_ 32 := constantI S_ 32 0#32
  let main_v0 : IVec S1024x200 32 := broadcastInDim S1024x200 ![] bcast_S_S1024x200 main_c
  let main_v1 : IVec S1024x200 1 := cmpi .sge main_arg0 main_v0
  let main_c_0 : IVec S_ 32 := constantI S_ 32 100000#32
  let main_v2 : IVec S1024x200 32 := broadcastInDim S1024x200 ![] bcast_S_S1024x200 main_c_0
  let main_v3 : IVec S1024x200 1 := cmpi .slt main_arg0 main_v2
  let main_v4 : IVec S1024x200 1 := andi main_v1 main_v3
  let main_c_1 : IVec S_ 1 := constantI S_ 1 1#1
  let main_v5 : IVec S_ 1 := (fun x v => Host.reduce IntOp.andi x v reducesTo_S1024x200_S_d0_1 h_S_) main_v4 main_c_1
  main_v5
-- ==== Pre_tokens_in_table_and_tables_finite.lean ====
abbrev S1024x200 : Shape := ⟨2, ![1024, 200]⟩
abbrev S100000x128 : Shape := ⟨2, ![100000, 128]⟩
abbrev S512x128 : Shape := ⟨2, ![512, 128]⟩
abbrev S128 : Shape := ⟨1, ![128]⟩
abbrev S_ : Shape := ⟨0, ![]⟩

class Facts : Prop where
  bcast_S_S1024x200 : S_.BroadcastsInDim S1024x200 (![] : Fin 0 → Fin S1024x200.rank)
  reducesTo_S1024x200_S_d0_1 : S1024x200.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S512x128 : S_.BroadcastsInDim S512x128 (![] : Fin 0 → Fin S512x128.rank)
  reducesTo_S512x128_S_d0_1 : S512x128.ReducesTo [0, 1] S_

variable [Facts]

def fn {F : FTy → Type} [FloatOps F] (main_arg0 : IVec S1024x200 32) (main_arg1 : FVec F S100000x128 .f32) (main_arg2 : FVec F S512x128 .f32) (main_arg3 : FVec F S128 .f32) (main_arg4 : FVec F S128 .f32) : IVec S_ 1 :=
  let main_c : IVec S_ 32 := constantI S_ 32 0#32
  let main_v0 : IVec S1024x200 32 := broadcastInDim S1024x200 ![] bcast_S_S1024x200 main_c
  let main_v1 : IVec S1024x200 1 := cmpi .sge main_arg0 main_v0
  let main_c_0 : IVec S_ 32 := constantI S_ 32 100000#32
  let main_v2 : IVec S1024x200 32 := broadcastInDim S1024x200 ![] bcast_S_S1024x200 main_c_0
  let main_v3 : IVec S1024x200 1 := cmpi .slt main_arg0 main_v2
  let main_v4 : IVec S1024x200 1 := andi main_v1 main_v3
  let main_c_1 : IVec S_ 1 := constantI S_ 1 1#1
  let main_v5 : IVec S_ 1 := (fun x v => Host.reduce IntOp.andi x v reducesTo_S1024x200_S_d0_1 h_S_) main_v4 main_c_1
  let main_v6 : FVec F S100000x128 .f32 := Host.absf main_arg1
  let main_cst : FVec F S_ .f32 := constant S_ .f32 0x7F800000#32
  let main_v7 : FVec F S100000x128 .f32 := broadcastInDim S100000x128 ![] bcast_S_S100000x128 main_cst
  let main_v8 : IVec S100000x128 1 := cmpf .olt main_v6 main_v7
  let main_c_2 : IVec S_ 1 := constantI S_ 1 1#1
  let main_v9 : IVec S_ 1 := (fun x v => Host.reduce IntOp.andi x v reducesTo_S100000x128_S_d0_1 h_S_) main_v8 main_c_2
  let main_v10 : IVec S_ 1 := andi main_v5 main_v9
  let main_v11 : FVec F S512x128 .f32 := Host.absf main_arg2
  let main_cst_3 : FVec F S_ .f32 := constant S_ .f32 0x7F800000#32
  let main_v12 : FVec F S512x128 .f32 := broadcastInDim S512x128 ![] bcast_S_S512x128 main_cst_3
  let main_v13 : IVec S512x128 1 := cmpf .olt main_v11 main_v12
  let main_c_4 : IVec S_ 1 := constantI S_ 1 1#1
  let main_v14 : IVec S_ 1 := (fun x v => Host.reduce IntOp.andi x v reducesTo_S512x128_S_d0_1 h_S_) main_v13 main_c_4
  let main_v15 : IVec S_ 1 := andi main_v10 main_v14
  main_v15
-- ==== Kernel.lean ====
abbrev S1024x200 : Shape := ⟨2, ![1024, 200]⟩
abbrev S100000x128 : Shape := ⟨2, ![100000, 128]⟩
abbrev S512x128 : Shape := ⟨2, ![512, 128]⟩
abbrev S128 : Shape := ⟨1, ![128]⟩
abbrev S200x128 : Shape := ⟨2, ![200, 128]⟩
abbrev S1x200x128 : Shape := ⟨3, ![1, 200, 128]⟩
abbrev S1x1x128 : Shape := ⟨3, ![1, 1, 128]⟩
abbrev S128x200 : Shape := ⟨2, ![128, 200]⟩
abbrev S25600x128 : Shape := ⟨2, ![25600, 128]⟩
abbrev S2x1x128 : Shape := ⟨3, ![2, 1, 128]⟩
abbrev S2 : Shape := ⟨1, ![2]⟩
abbrev S2x128x128 : Shape := ⟨3, ![2, 128, 128]⟩
abbrev S1x128 : Shape := ⟨2, ![1, 128]⟩
abbrev S1 : Shape := ⟨1, ![1]⟩
abbrev S_ : Shape := ⟨0, ![]⟩
abbrev S1x128x128 : Shape := ⟨3, ![1, 128, 128]⟩
abbrev S128x128 : Shape := ⟨2, ![128, 128]⟩
abbrev S128x200x128 : Shape := ⟨3, ![128, 200, 128]⟩
abbrev S320x200 : Shape := ⟨2, ![320, 200]⟩
abbrev S500x128 : Shape := ⟨2, ![500, 128]⟩
abbrev S64000x128 : Shape := ⟨2, ![64000, 128]⟩
abbrev S320x200x128 : Shape := ⟨3, ![320, 200, 128]⟩
abbrev S256x200 : Shape := ⟨2, ![256, 200]⟩
abbrev S400x128 : Shape := ⟨2, ![400, 128]⟩
abbrev S51200x128 : Shape := ⟨2, ![51200, 128]⟩
abbrev S256x200x128 : Shape := ⟨3, ![256, 200, 128]⟩
abbrev S1024x200x128 : Shape := ⟨3, ![1024, 200, 128]⟩
abbrev S32x200 : Shape := ⟨2, ![32, 200]⟩
abbrev S32x200x128 : Shape := ⟨3, ![32, 200, 128]⟩
abbrev S32x200x1 : Shape := ⟨3, ![32, 200, 1]⟩

abbrev nBuf : Table → Nat
  | .hbm => 29
  | .local .tc .vmem => 36
  | .local .scVector .vmem => 8
  | _ => 0

abbrev bufTy : (tb : Table) → Fin (nBuf tb) → BufTy
  | .hbm, ⟨0, _⟩ => ⟨S1024x200, .i32⟩
  | .hbm, ⟨1, _⟩ => ⟨S100000x128, .f32⟩
  | .hbm, ⟨2, _⟩ => ⟨S512x128, .f32⟩
  | .hbm, ⟨3, _⟩ => ⟨S128, .f32⟩
  | .hbm, ⟨4, _⟩ => ⟨S128, .f32⟩
  | .hbm, ⟨5, _⟩ => ⟨S200x128, .f32⟩
  | .hbm, ⟨6, _⟩ => ⟨S1x200x128, .f32⟩
  | .hbm, ⟨7, _⟩ => ⟨S1x1x128, .f32⟩
  | .hbm, ⟨8, _⟩ => ⟨S1x1x128, .f32⟩
  | .hbm, ⟨9, _⟩ => ⟨S128x200, .i32⟩
  | .hbm, ⟨10, _⟩ => ⟨S200x128, .i32⟩
  | .hbm, ⟨11, _⟩ => ⟨S25600x128, .f32⟩
  | .hbm, ⟨12, _⟩ => ⟨S128x200x128, .f32⟩
  | .hbm, ⟨13, _⟩ => ⟨S320x200, .i32⟩
  | .hbm, ⟨14, _⟩ => ⟨S500x128, .i32⟩
  | .hbm, ⟨15, _⟩ => ⟨S64000x128, .f32⟩
  | .hbm, ⟨16, _⟩ => ⟨S320x200x128, .f32⟩
  | .hbm, ⟨17, _⟩ => ⟨S320x200, .i32⟩
  | .hbm, ⟨18, _⟩ => ⟨S500x128, .i32⟩
  | .hbm, ⟨19, _⟩ => ⟨S64000x128, .f32⟩
  | .hbm, ⟨20, _⟩ => ⟨S320x200x128, .f32⟩
  | .hbm, ⟨21, _⟩ => ⟨S256x200, .i32⟩
  | .hbm, ⟨22, _⟩ => ⟨S400x128, .i32⟩
  | .hbm, ⟨23, _⟩ => ⟨S51200x128, .f32⟩
  | .hbm, ⟨24, _⟩ => ⟨S256x200x128, .f32⟩
  | .hbm, ⟨25, _⟩ => ⟨S1024x200x128, .f32⟩
  | .hbm, ⟨26, _⟩ => ⟨S1024x200x128, .f32⟩
  | .hbm, ⟨27, _⟩ => ⟨S1024x200x128, .f32⟩
  | .hbm, ⟨28, _⟩ => ⟨S1024x200x128, .f32⟩
  | .local .tc .vmem, ⟨0, _⟩ => ⟨S32x200, .i32⟩
  | .local .tc .vmem, ⟨1, _⟩ => ⟨S32x200, .i32⟩
  | .local .tc .vmem, ⟨2, _⟩ => ⟨S32x200x128, .f32⟩
  | .local .tc .vmem, ⟨3, _⟩ => ⟨S32x200x128, .f32⟩
  | .local .tc .vmem, ⟨4, _⟩ => ⟨S1x200x128, .f32⟩
  | .local .tc .vmem, ⟨5, _⟩ => ⟨S1x1x128, .f32⟩
  | .local .tc .vmem, ⟨6, _⟩ => ⟨S1x1x128, .f32⟩
  | .local .tc .vmem, ⟨7, _⟩ => ⟨S32x200x128, .f32⟩
  | .local .tc .vmem, ⟨8, _⟩ => ⟨S32x200x128, .f32⟩
  | .local .tc .vmem, ⟨9, _⟩ => ⟨S32x200, .i32⟩
  | .local .tc .vmem, ⟨10, _⟩ => ⟨S32x200, .i32⟩
  | .local .tc .vmem, ⟨11, _⟩ => ⟨S32x200x128, .f32⟩
  | .local .tc .vmem, ⟨12, _⟩ => ⟨S32x200x128, .f32⟩
  | .local .tc .vmem, ⟨13, _⟩ => ⟨S1x200x128, .f32⟩
  | .local .tc .vmem, ⟨14, _⟩ => ⟨S1x1x128, .f32⟩
  | .local .tc .vmem, ⟨15, _⟩ => ⟨S1x1x128, .f32⟩
  | .local .tc .vmem, ⟨16, _⟩ => ⟨S32x200x128, .f32⟩
  | .local .tc .vmem, ⟨17, _⟩ => ⟨S32x200x128, .f32⟩
  | .local .tc .vmem, ⟨18, _⟩ => ⟨S32x200, .i32⟩
  | .local .tc .vmem, ⟨19, _⟩ => ⟨S32x200, .i32⟩
  | .local .tc .vmem, ⟨20, _⟩ => ⟨S32x200x128, .f32⟩
  | .local .tc .vmem, ⟨21, _⟩ => ⟨S32x200x128, .f32⟩
  | .local .tc .vmem, ⟨22, _⟩ => ⟨S1x200x128, .f32⟩
  | .local .tc .vmem, ⟨23, _⟩ => ⟨S1x1x128, .f32⟩
  | .local .tc .vmem, ⟨24, _⟩ => ⟨S1x1x128, .f32⟩
  | .local .tc .vmem, ⟨25, _⟩ => ⟨S32x200x128, .f32⟩
  | .local .tc .vmem, ⟨26, _⟩ => ⟨S32x200x128, .f32⟩
  | .local .tc .vmem, ⟨27, _⟩ => ⟨S32x200, .i32⟩
  | .local .tc .vmem, ⟨28, _⟩ => ⟨S32x200, .i32⟩
  | .local .tc .vmem, ⟨29, _⟩ => ⟨S32x200x128, .f32⟩
  | .local .tc .vmem, ⟨30, _⟩ => ⟨S32x200x128, .f32⟩
  | .local .tc .vmem, ⟨31, _⟩ => ⟨S1x200x128, .f32⟩
  | .local .tc .vmem, ⟨32, _⟩ => ⟨S1x1x128, .f32⟩
  | .local .tc .vmem, ⟨33, _⟩ => ⟨S1x1x128, .f32⟩
  | .local .tc .vmem, ⟨34, _⟩ => ⟨S32x200x128, .f32⟩
  | .local .tc .vmem, ⟨35, _⟩ => ⟨S32x200x128, .f32⟩
  | .local .scVector .vmem, ⟨0, _⟩ => ⟨S2x1x128, .i32⟩
  | .local .scVector .vmem, ⟨1, _⟩ => ⟨S2x128x128, .f32⟩
  | .local .scVector .vmem, ⟨2, _⟩ => ⟨S2x1x128, .i32⟩
  | .local .scVector .vmem, ⟨3, _⟩ => ⟨S2x128x128, .f32⟩
  | .local .scVector .vmem, ⟨4, _⟩ => ⟨S2x1x128, .i32⟩
  | .local .scVector .vmem, ⟨5, _⟩ => ⟨S2x128x128, .f32⟩
  | .local .scVector .vmem, ⟨6, _⟩ => ⟨S2x1x128, .i32⟩
  | .local .scVector .vmem, ⟨7, _⟩ => ⟨S2x128x128, .f32⟩
  | _, _ => ⟨S1024x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 60 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTables nBuf rfl bufTy 4 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_arg1_scv : Ref sig .scVector := ⟨.hbm, 1, rfl⟩
abbrev main_v5_scv : Ref sig .scVector := ⟨.hbm, 10, rfl⟩
abbrev main_v6_scv : Ref sig .scVector := ⟨.hbm, 11, rfl⟩
abbrev main_v9_scv : Ref sig .scVector := ⟨.hbm, 14, rfl⟩
abbrev main_v10_scv : Ref sig .scVector := ⟨.hbm, 15, rfl⟩
abbrev main_v13_scv : Ref sig .scVector := ⟨.hbm, 18, rfl⟩
abbrev main_v14_scv : Ref sig .scVector := ⟨.hbm, 19, rfl⟩
abbrev main_v17_scv : Ref sig .scVector := ⟨.hbm, 22, rfl⟩
abbrev main_v18_scv : Ref sig .scVector := ⟨.hbm, 23, rfl⟩
abbrev cc4_stg0_0 : Ref sig .tc := ⟨.vmem, 0, rfl⟩
abbrev cc4_stg0_1 : Ref sig .tc := ⟨.vmem, 1, rfl⟩
abbrev cc4_stg1_0 : Ref sig .tc := ⟨.vmem, 2, rfl⟩
abbrev cc4_stg1_1 : Ref sig .tc := ⟨.vmem, 3, rfl⟩
abbrev cc4_stg2_0 : Ref sig .tc := ⟨.vmem, 4, rfl⟩
abbrev cc4_stg3_0 : Ref sig .tc := ⟨.vmem, 5, rfl⟩
abbrev cc4_stg4_0 : Ref sig .tc := ⟨.vmem, 6, rfl⟩
abbrev cc4_stg5_0 : Ref sig .tc := ⟨.vmem, 7, rfl⟩
abbrev cc4_stg5_1 : Ref sig .tc := ⟨.vmem, 8, rfl⟩
abbrev cc5_stg0_0 : Ref sig .tc := ⟨.vmem, 9, rfl⟩
abbrev cc5_stg0_1 : Ref sig .tc := ⟨.vmem, 10, rfl⟩
abbrev cc5_stg1_0 : Ref sig .tc := ⟨.vmem, 11, rfl⟩
abbrev cc5_stg1_1 : Ref sig .tc := ⟨.vmem, 12, rfl⟩
abbrev cc5_stg2_0 : Ref sig .tc := ⟨.vmem, 13, rfl⟩
abbrev cc5_stg3_0 : Ref sig .tc := ⟨.vmem, 14, rfl⟩
abbrev cc5_stg4_0 : Ref sig .tc := ⟨.vmem, 15, rfl⟩
abbrev cc5_stg5_0 : Ref sig .tc := ⟨.vmem, 16, rfl⟩
abbrev cc5_stg5_1 : Ref sig .tc := ⟨.vmem, 17, rfl⟩
abbrev cc6_stg0_0 : Ref sig .tc := ⟨.vmem, 18, rfl⟩
abbrev cc6_stg0_1 : Ref sig .tc := ⟨.vmem, 19, rfl⟩
abbrev cc6_stg1_0 : Ref sig .tc := ⟨.vmem, 20, rfl⟩
abbrev cc6_stg1_1 : Ref sig .tc := ⟨.vmem, 21, rfl⟩
abbrev cc6_stg2_0 : Ref sig .tc := ⟨.vmem, 22, rfl⟩
abbrev cc6_stg3_0 : Ref sig .tc := ⟨.vmem, 23, rfl⟩
abbrev cc6_stg4_0 : Ref sig .tc := ⟨.vmem, 24, rfl⟩
abbrev cc6_stg5_0 : Ref sig .tc := ⟨.vmem, 25, rfl⟩
abbrev cc6_stg5_1 : Ref sig .tc := ⟨.vmem, 26, rfl⟩
abbrev cc7_stg0_0 : Ref sig .tc := ⟨.vmem, 27, rfl⟩
abbrev cc7_stg0_1 : Ref sig .tc := ⟨.vmem, 28, rfl⟩
abbrev cc7_stg1_0 : Ref sig .tc := ⟨.vmem, 29, rfl⟩
abbrev cc7_stg1_1 : Ref sig .tc := ⟨.vmem, 30, rfl⟩
abbrev cc7_stg2_0 : Ref sig .tc := ⟨.vmem, 31, rfl⟩
abbrev cc7_stg3_0 : Ref sig .tc := ⟨.vmem, 32, rfl⟩
abbrev cc7_stg4_0 : Ref sig .tc := ⟨.vmem, 33, rfl⟩
abbrev cc7_stg5_0 : Ref sig .tc := ⟨.vmem, 34, rfl⟩
abbrev cc7_stg5_1 : Ref sig .tc := ⟨.vmem, 35, rfl⟩
abbrev cc0_scoped0 : Ref sig .scVector := ⟨.vmem, 0, rfl⟩
abbrev cc0_scoped2 : Ref sig .scVector := ⟨.vmem, 1, rfl⟩
abbrev cc1_scoped0 : Ref sig .scVector := ⟨.vmem, 2, rfl⟩
abbrev cc1_scoped2 : Ref sig .scVector := ⟨.vmem, 3, rfl⟩
abbrev cc2_scoped0 : Ref sig .scVector := ⟨.vmem, 4, rfl⟩
abbrev cc2_scoped2 : Ref sig .scVector := ⟨.vmem, 5, rfl⟩
abbrev cc3_scoped0 : Ref sig .scVector := ⟨.vmem, 6, rfl⟩
abbrev cc3_scoped2 : Ref sig .scVector := ⟨.vmem, 7, rfl⟩
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem3_0 : DmaSem sig := 29
abbrev cc4_sem4_0 : DmaSem sig := 30
abbrev cc4_sem5_0 : DmaSem sig := 31
abbrev cc4_sem5_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem3_0 : DmaSem sig := 38
abbrev cc5_sem4_0 : DmaSem sig := 39
abbrev cc5_sem5_0 : DmaSem sig := 40
abbrev cc5_sem5_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem3_0 : DmaSem sig := 47
abbrev cc6_sem4_0 : DmaSem sig := 48
abbrev cc6_sem5_0 : DmaSem sig := 49
abbrev cc6_sem5_1 : DmaSem sig := 50
abbrev cc7_sem0_0 : DmaSem sig := 51
abbrev cc7_sem0_1 : DmaSem sig := 52
abbrev cc7_sem1_0 : DmaSem sig := 53
abbrev cc7_sem1_1 : DmaSem sig := 54
abbrev cc7_sem2_0 : DmaSem sig := 55
abbrev cc7_sem3_0 : DmaSem sig := 56
abbrev cc7_sem4_0 : DmaSem sig := 57
abbrev cc7_sem5_0 : DmaSem sig := 58
abbrev cc7_sem5_1 : DmaSem sig := 59
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let v11 : BitVec 32 := Scalar.muli c1_i32_3 v5
  let c0_i32_5_r0 : BitVec 32 := 0#32
  let v14_r0 : BitVec 1 := Scalar.cmpi .sgt v11 c0_i32_5_r0
  let v15_r0 : BitVec 32 := Scalar.extui v14_r0
  let c0_i32_6_r0 : BitVec 32 := 0#32
  let v16_r0 : BitVec 1 := Scalar.cmpi .ne v15_r0 c0_i32_6_r0
  v16_r0

def k0_cond2 (i : grid0.Coords) : BitVec 1 :=
  let true_22_r0 : BitVec 1 := 1#1
  let c1_i32_7_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let v17_r0 : BitVec 32 := Scalar.muli c1_i32_7_r0 v5
  let c0_i32_21_r0 : BitVec 32 := 0#32
  let v35_r0 : BitVec 1 := Scalar.cmpi .sgt v17_r0 c0_i32_21_r0
  let v36_r0 : BitVec 1 := Scalar.andi true_22_r0 v35_r0
  let true_23_r0 : BitVec 1 := 1#1
  let v37_r0 : BitVec 1 := Scalar.andi v36_r0 true_23_r0
  let v38_r0 : BitVec 32 := Scalar.extui v37_r0
  let c0_i32_25_r0 : BitVec 32 := 0#32
  let v39_r0 : BitVec 1 := Scalar.cmpi .ne v38_r0 c0_i32_25_r0
  v39_r0

def k0_off1 : Fin 3 → Nat :=
  let c0_i32_24_r0 : BitVec 32 := 0#32
  let c2_i32_r0 : BitVec 32 := 2#32
  let v80_r0 : BitVec 32 := Scalar.remui c0_i32_24_r0 c2_i32_r0
  let c0_i32_58_r0 : BitVec 32 := 0#32
  let c0_i32_59_r0 : BitVec 32 := 0#32
  ![v80_r0.toNat, 0, 0]
def k0_off2 (i : grid0.Coords) : Fin 2 → Nat :=
  let c1_i32_57_r0 : BitVec 32 := 1#32
  let c0_i32_10_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let v7 : BitVec 32 := Scalar.muli v3 v5
  let c6_i32_1 : BitVec 32 := 6#32
  let v8 : BitVec 32 := Scalar.muli v3 c6_i32_1
  let c8_i32_2 : BitVec 32 := 8#32
  let v9 : BitVec 32 := Scalar.addi v8 c8_i32_2
  let v10 : BitVec 32 := Scalar.select v6 v7 v9
  let v20_r0 : BitVec 32 := Scalar.addi c0_i32_10_r0 v10
  let v81_r0 : BitVec 32 := Scalar.muli c1_i32_57_r0 v20_r0
  let c0_i32_60_r0 : BitVec 32 := 0#32
  ![v81_r0.toNat, 0]
def k0_off3 : Fin 1 → Nat :=
  let c0_i32_24_r0 : BitVec 32 := 0#32
  let c2_i32_r0 : BitVec 32 := 2#32
  let v80_r0 : BitVec 32 := Scalar.remui c0_i32_24_r0 c2_i32_r0
  ![v80_r0.toNat]
@[reducible] def k0_t1_loop (i : grid0.Coords) : Scf.Loop 32 :=
  let c0_i32_29_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_35_r0 : BitVec 32 := 1#32
  ⟨c0_i32_29_r0, v46_r0, c1_i32_35_r0⟩
def k0_off4 (arg6_r0 : BitVec 32) : Fin 3 → Nat :=
  let c2_i32_101_r0 : BitVec 32 := 2#32
  let v167_r0 : BitVec 32 := Scalar.remui arg6_r0 c2_i32_101_r0
  let c0_i32_103_r0 : BitVec 32 := 0#32
  let c0_i32_104_r0 : BitVec 32 := 0#32
  ![v167_r0.toNat, 0, 0]
def k0_cond3 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let v7 : BitVec 32 := Scalar.muli v3 v5
  let c6_i32_1 : BitVec 32 := 6#32
  let v8 : BitVec 32 := Scalar.muli v3 c6_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v101_r0 : BitVec 1 := Scalar.cmpi .ne v84_r0 v95_r0
  let c0_i32_29_r0 : BitVec 32 := 0#32
  let c1_i32_35_r0 : BitVec 32 := 1#32
  let arg5_r0 : BitVec 32 := Scf.iv c0_i32_29_r0 c1_i32_35_r0 k0_t1
  let c1_i32_57_r0 : BitVec 32 := 1#32
  let v80_r0 : BitVec 32 := Scalar.muli c1_i32_57_r0 v5
  let c2_i32_r0 : BitVec 32 := 2#32
  let v102_r0 : BitVec 32 := Scalar.subi v80_r0 c2_i32_r0
  let c1_i32_70_r0 : BitVec 32 := 1#32
  let v103_r0 : BitVec 32 := Scalar.addi v102_r0 c1_i32_70_r0
  let v104_r0 : BitVec 1 := Scalar.cmpi .sge arg5_r0 v103_r0
  let true_71_r0 : BitVec 1 := 1#1
  let v105_r0 : BitVec 1 := Scalar.xori v104_r0 true_71_r0
  let v106_r0 : BitVec 1 := Scalar.andi v101_r0 v105_r0
  let true_72_r0 : BitVec 1 := 1#1
  let v107_r0 : BitVec 1 := Scalar.andi v106_r0 true_72_r0
  let v108_r0 : BitVec 32 := Scalar.extui v107_r0
  let c0_i32_73_r0 : BitVec 32 := 0#32
  let v109_r0 : BitVec 1 := Scalar.cmpi .ne v108_r0 c0_i32_73_r0
  v109_r0

def k0_off5 (i : grid0.Coords) (arg10_r0 : BitVec 32) : Fin 2 → Nat :=
  let c1_i32_102_r0 : BitVec 32 := 1#32
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let v93_r0 : BitVec 1 := Scalar.cmpi .eq v92_r0 v5
  let c0_i32_66_r0 : BitVec 32 := 0#32
  let v94_r0 : BitVec 32 := Scalar.select v93_r0 c0_i32_66_r0 v92_r0
  let c8_i32_0 : BitVec 32 := 8#32
  let v6 : BitVec 1 := Scalar.cmpi .slt v3 c8_i32_0
  let v7 : BitVec 32 := Scalar.muli v3 v5
  let c6_i32_1 : BitVec 32 := 6#32
  let v8 : BitVec 32 := Scalar.muli v3 c6_i32_1
  let c8_i32_2 : BitVec 32 := 8#32
  let v9 : BitVec 32 := Scalar.addi v8 c8_i32_2
  let v10 : BitVec 32 := Scalar.select v6 v7 v9
  let v95_r0 : BitVec 32 := Scalar.addi v94_r0 v10
  let v168_r0 : BitVec 32 := Scalar.muli c1_i32_102_r0 v95_r0
  let c0_i32_105_r0 : BitVec 32 := 0#32
  ![v168_r0.toNat, 0]
def k0_off6 (arg6_r0 : BitVec 32) : Fin 1 → Nat :=
  let c2_i32_101_r0 : BitVec 32 := 2#32
  let v167_r0 : BitVec 32 := Scalar.remui arg6_r0 c2_i32_101_r0
  ![v167_r0.toNat]
def k0_off7 (arg7_r0 : BitVec 32) : Fin 3 → Nat :=
  let c2_i32_102_r0 : BitVec 32 := 2#32
  let v168_r0 : BitVec 32 := Scalar.remui arg7_r0 c2_i32_102_r0
  let c0_i32_103_r0 : BitVec 32 := 0#32
  let c0_i32_104_r0 : BitVec 32 := 0#32
  ![v168_r0.toNat, 0, 0]
def k0_cond4 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let v7 : BitVec 32 := Scalar.muli v3 v5
  let c6_i32_1 : BitVec 32 := 6#32
  let v8 : BitVec 32 := Scalar.muli v3 c6_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_29_r0 : BitVec 32 := 0#32
  let c1_i32_35_r0 : BitVec 32 := 1#32
  let arg5_r0 : BitVec 32 := Scf.iv c0_i32_29_r0 c1_i32_35_r0 k0_t1
  let c0_i32_58_r0 : BitVec 32 := 0#32
  let v81_r0 : BitVec 1 := Scalar.cmpi .eq arg5_r0 c0_i32_58_r0
  let v120_r0 : BitVec 1 := Scalar.ori v119_r0 v81_r0
  let c0_i32_79_r0 : BitVec 32 := 0#32
  let v121_r0 : BitVec 1 := Scalar.cmpi .sge arg5_r0 c0_i32_79_r0
  let v122_r0 : BitVec 1 := Scalar.andi v120_r0 v121_r0
  let v123_r0 : BitVec 32 := Scalar.extui v122_r0
  let c0_i32_80_r0 : BitVec 32 := 0#32
  let v124_r0 : BitVec 1 := Scalar.cmpi .ne v123_r0 c0_i32_80_r0
  v124_r0

def k0_off8 (i : grid0.Coords) (arg10_r0 : BitVec 32) : Fin 2 → Nat :=
  let c1_i32_101_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let v7 : BitVec 32 := Scalar.muli v3 v5
  let c6_i32_1 : BitVec 32 := 6#32
  let v8 : BitVec 32 := Scalar.muli v3 c6_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let v167_r0 : BitVec 32 := Scalar.muli c1_i32_101_r0 v84_r0
  let c0_i32_105_r0 : BitVec 32 := 0#32
  ![v167_r0.toNat, 0]
def k0_off9 (arg7_r0 : BitVec 32) : Fin 1 → Nat :=
  let c2_i32_102_r0 : BitVec 32 := 2#32
  let v168_r0 : BitVec 32 := Scalar.remui arg7_r0 c2_i32_102_r0
  ![v168_r0.toNat]
def k0_off10 (arg8_r0 : BitVec 32) : Fin 3 → Nat :=
  let c2_i32_84_r0 : BitVec 32 := 2#32
  let v132_r0 : BitVec 32 := Scalar.remui arg8_r0 c2_i32_84_r0
  let c0_i32_101_r1 : BitVec 32 := 0#32
  let c0_i32_102_r1 : BitVec 32 := 0#32
  ![v132_r0.toNat, 0, 0]

def k0_chk2 (i : grid0.Coords) (arg8_r0 : BitVec 32) : Prop :=
  (∀ (k0_h1 : k0_cond1 i = 1#1), ∀ a, (k0_off10 arg8_r0) a + S1x128x128.size a ≤ S2x128x128.size a)
theorem k0_off10_inb : ∀ (i : grid0.Coords) (arg8_r0 : BitVec 32) (k0_hw2 : k0_chk2 i arg8_r0), ∀ (k0_h1 : k0_cond1 i = 1#1), ∀ a, (k0_off10 arg8_r0) a + S1x128x128.size a ≤ S2x128x128.size a := fun i arg8_r0 k0_hw2 k0_h1 => k0_hw2 k0_h1

def k0_off11 (arg7_r0 : BitVec 32) : Fin 3 → Nat :=
  let c2_i32_83_r0 : BitVec 32 := 2#32
  let v131_r0 : BitVec 32 := Scalar.remui arg7_r0 c2_i32_83_r0
  let c0_i32_105_r1 : BitVec 32 := 0#32
  let c0_i32_106_r1 : BitVec 32 := 0#32
  ![v131_r0.toNat, 0, 0]

def k0_chk3 (i : grid0.Coords) (arg7_r0 : BitVec 32) : Prop :=
  (∀ (k0_h1 : k0_cond1 i = 1#1), ∀ a, (k0_off11 arg7_r0) a + S1x1x128.size a ≤ S2x1x128.size a)
theorem k0_off11_inb : ∀ (i : grid0.Coords) (arg7_r0 : BitVec 32) (k0_hw3 : k0_chk3 i arg7_r0), ∀ (k0_h1 : k0_cond1 i = 1#1), ∀ a, (k0_off11 arg7_r0) a + S1x1x128.size a ≤ S2x1x128.size a := fun i arg7_r0 k0_hw3 k0_h1 => k0_hw3 k0_h1

def k0_off12 (arg8_r0 : BitVec 32) : Fin 3 → Nat :=
  let c2_i32_101_r0 : BitVec 32 := 2#32
  let v167_r0 : BitVec 32 := Scalar.remui arg8_r0 c2_i32_101_r0
  let c0_i32_102_r0 : BitVec 32 := 0#32
  let c0_i32_103_r0 : BitVec 32 := 0#32
  ![v167_r0.toNat, 0, 0]
def k0_cond7 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let v7 : BitVec 32 := Scalar.muli v3 v5
  let c6_i32_1 : BitVec 32 := 6#32
  let v8 : BitVec 32 := Scalar.muli v3 c6_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v138_r0 : BitVec 1 := Scalar.cmpi .ne v84_r0 v95_r0
  let c0_i32_29_r0 : BitVec 32 := 0#32
  let c1_i32_35_r0 : BitVec 32 := 1#32
  let arg5_r0 : BitVec 32 := Scf.iv c0_i32_29_r0 c1_i32_35_r0 k0_t1
  let c1_i32_57_r0 : BitVec 32 := 1#32
  let v80_r0 : BitVec 32 := Scalar.muli c1_i32_57_r0 v5
  let c1_i32_59_r0 : BitVec 32 := 1#32
  let v82_r0 : BitVec 32 := Scalar.subi v80_r0 c1_i32_59_r0
  let v83_r0 : BitVec 1 := Scalar.cmpi .eq arg5_r0 v82_r0
  let v139_r0 : BitVec 1 := Scalar.ori v138_r0 v83_r0
  let v140_r0 : BitVec 32 := Scalar.extui v139_r0
  let c0_i32_87_r0 : BitVec 32 := 0#32
  let v141_r0 : BitVec 1 := Scalar.cmpi .ne v140_r0 c0_i32_87_r0
  v141_r0

def k0_off13 (i : grid0.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let v7 : BitVec 32 := Scalar.muli v3 v5
  let c6_i32_1 : BitVec 32 := 6#32
  let v8 : BitVec 32 := Scalar.muli v3 c6_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let v168_r0 : BitVec 32 := Scalar.muli c128_i32_r0 v84_r0
  let c0_i32_104_r0 : BitVec 32 := 0#32
  ![v168_r0.toNat, 0]
def k0_off14 (arg8_r0 : BitVec 32) : Fin 1 → Nat :=
  let c2_i32_101_r0 : BitVec 32 := 2#32
  let v167_r0 : BitVec 32 := Scalar.remui arg8_r0 c2_i32_101_r0
  ![v167_r0.toNat]
def k0_off15 (arg9_r0 : BitVec 32) : Fin 3 → Nat :=
  let c2_i32_101_r0 : BitVec 32 := 2#32
  let v167_r0 : BitVec 32 := Scalar.remui arg9_r0 c2_i32_101_r0
  let c0_i32_102_r0 : BitVec 32 := 0#32
  let c0_i32_103_r0 : BitVec 32 := 0#32
  ![v167_r0.toNat, 0, 0]
def k0_cond9 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let v7 : BitVec 32 := Scalar.muli v3 v5
  let c6_i32_1 : BitVec 32 := 6#32
  let v8 : BitVec 32 := Scalar.muli v3 c6_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_29_r0 : BitVec 32 := 0#32
  let c1_i32_35_r0 : BitVec 32 := 1#32
  let arg5_r0 : BitVec 32 := Scf.iv c0_i32_29_r0 c1_i32_35_r0 k0_t1
  let c0_i32_58_r0 : BitVec 32 := 0#32
  let v81_r0 : BitVec 1 := Scalar.cmpi .eq arg5_r0 c0_i32_58_r0
  let true_93_r0 : BitVec 1 := 1#1
  let v152_r0 : BitVec 1 := Scalar.xori v81_r0 true_93_r0
  let v153_r0 : BitVec 1 := Scalar.andi v151_r0 v152_r0
  let v154_r0 : BitVec 32 := Scalar.extui v153_r0
  let c0_i32_94_r0 : BitVec 32 := 0#32
  let v155_r0 : BitVec 1 := Scalar.cmpi .ne v154_r0 c0_i32_94_r0
  v155_r0

def k0_off16 (i : grid0.Coords) (arg10_r0 : BitVec 32) : Fin 2 → Nat :=
  let c128_i32_r0 : BitVec 32 := 128#32
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let c1_i32_63_r0 : BitVec 32 := 1#32
  let v88_r0 : BitVec 32 := Scalar.subi v5 c1_i32_63_r0
  let v89_r0 : BitVec 32 := Scalar.select v87_r0 v88_r0 v86_r0
  let c8_i32_0 : BitVec 32 := 8#32
  let v6 : BitVec 1 := Scalar.cmpi .slt v3 c8_i32_0
  let v7 : BitVec 32 := Scalar.muli v3 v5
  let c6_i32_1 : BitVec 32 := 6#32
  let v8 : BitVec 32 := Scalar.muli v3 c6_i32_1
  let c8_i32_2 : BitVec 32 := 8#32
  let v9 : BitVec 32 := Scalar.addi v8 c8_i32_2
  let v10 : BitVec 32 := Scalar.select v6 v7 v9
  let v90_r0 : BitVec 32 := Scalar.addi v89_r0 v10
  let v168_r0 : BitVec 32 := Scalar.muli c128_i32_r0 v90_r0
  let c0_i32_104_r0 : BitVec 32 := 0#32
  ![v168_r0.toNat, 0]
def k0_off17 (arg9_r0 : BitVec 32) : Fin 1 → Nat :=
  let c2_i32_101_r0 : BitVec 32 := 2#32
  let v167_r0 : BitVec 32 := Scalar.remui arg9_r0 c2_i32_101_r0
  ![v167_r0.toNat]

def k0_chk1 (i : grid0.Coords) (k0_t1 : Fin (k0_t1_loop i).trips) (arg6_r0 : BitVec 32) (arg7_r0 : BitVec 32) (arg8_r0 : BitVec 32) (arg9_r0 : BitVec 32) (arg10_r0 : BitVec 32) : Prop :=
  (∀ (k0_h1 : k0_cond1 i = 1#1), ∀ (k0_h3 : k0_cond3 i k0_t1 arg10_r0 = 1#1), ∀ a, (k0_off4 arg6_r0) a + S1x1x128.size a ≤ S2x1x128.size a) ∧
  (∀ (k0_h1 : k0_cond1 i = 1#1), ∀ (k0_h3 : k0_cond3 i k0_t1 arg10_r0 = 1#1), ∀ a, (k0_off5 i arg10_r0) a + S1x128.size a ≤ S200x128.size a) ∧
  (∀ (k0_h1 : k0_cond1 i = 1#1), ∀ (k0_h3 : k0_cond3 i k0_t1 arg10_r0 = 1#1), ∀ a, (k0_off6 arg6_r0) a + S1.size a ≤ S2.size a) ∧
  (∀ (k0_h1 : k0_cond1 i = 1#1), ∀ (k0_h4 : k0_cond4 i k0_t1 arg10_r0 = 1#1), ∀ a, (k0_off7 arg7_r0) a + S1x1x128.size a ≤ S2x1x128.size a) ∧
  (∀ (k0_h1 : k0_cond1 i = 1#1), ∀ (k0_h4 : k0_cond4 i k0_t1 arg10_r0 = 1#1), ∀ a, (k0_off8 i arg10_r0) a + S1x128.size a ≤ S200x128.size a) ∧
  (∀ (k0_h1 : k0_cond1 i = 1#1), ∀ (k0_h4 : k0_cond4 i k0_t1 arg10_r0 = 1#1), ∀ a, (k0_off9 arg7_r0) a + S1.size a ≤ S2.size a) ∧
  (∀ (k0_h1 : k0_cond1 i = 1#1), ∀ (k0_h7 : k0_cond7 i k0_t1 arg10_r0 = 1#1), ∀ a, (k0_off12 arg8_r0) a + S1x128x128.size a ≤ S2x128x128.size a) ∧
  (∀ (k0_h1 : k0_cond1 i = 1#1), ∀ (k0_h7 : k0_cond7 i k0_t1 arg10_r0 = 1#1), ∀ a, (k0_off13 i arg10_r0) a + S128x128.size a ≤ S25600x128.size a) ∧
  (∀ (k0_h1 : k0_cond1 i = 1#1), ∀ (k0_h7 : k0_cond7 i k0_t1 arg10_r0 = 1#1), ∀ a, (k0_off14 arg8_r0) a + S1.size a ≤ S2.size a) ∧
  (∀ (k0_h1 : k0_cond1 i = 1#1), ∀ (k0_h9 : k0_cond9 i k0_t1 arg10_r0 = 1#1), ∀ a, (k0_off15 arg9_r0) a + S1x128x128.size a ≤ S2x128x128.size a) ∧
  (∀ (k0_h1 : k0_cond1 i = 1#1), ∀ (k0_h9 : k0_cond9 i k0_t1 arg10_r0 = 1#1), ∀ a, (k0_off16 i arg10_r0) a + S128x128.size a ≤ S25600x128.size a) ∧
  (∀ (k0_h1 : k0_cond1 i = 1#1), ∀ (k0_h9 : k0_cond9 i k0_t1 arg10_r0 = 1#1), ∀ a, (k0_off17 arg9_r0) a + S1.size a ≤ S2.size a)
theorem k0_off4_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off4 arg6_r0) a + S1x1x128.size a ≤ S2x1x128.size a := fun i k0_t1 arg6_r0 arg7_r0 arg8_r0 arg9_r0 arg10_r0 k0_hw1 k0_h1 k0_h3 => k0_hw1.1 k0_h1 k0_h3
theorem k0_off5_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off5 i arg10_r0) a + S1x128.size a ≤ S200x128.size a := fun i k0_t1 arg6_r0 arg7_r0 arg8_r0 arg9_r0 arg10_r0 k0_hw1 k0_h1 k0_h3 => k0_hw1.2.1 k0_h1 k0_h3
theorem k0_off6_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off6 arg6_r0) a + S1.size a ≤ S2.size a := fun i k0_t1 arg6_r0 arg7_r0 arg8_r0 arg9_r0 arg10_r0 k0_hw1 k0_h1 k0_h3 => k0_hw1.2.2.1 k0_h1 k0_h3
theorem k0_off7_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off7 arg7_r0) a + S1x1x128.size a ≤ S2x1x128.size a := fun i k0_t1 arg6_r0 arg7_r0 arg8_r0 arg9_r0 arg10_r0 k0_hw1 k0_h1 k0_h4 => k0_hw1.2.2.2.1 k0_h1 k0_h4
theorem k0_off8_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off8 i arg10_r0) a + S1x128.size a ≤ S200x128.size a := fun i k0_t1 arg6_r0 arg7_r0 arg8_r0 arg9_r0 arg10_r0 k0_hw1 k0_h1 k0_h4 => k0_hw1.2.2.2.2.1 k0_h1 k0_h4
theorem k0_off9_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off9 arg7_r0) a + S1.size a ≤ S2.size a := fun i k0_t1 arg6_r0 arg7_r0 arg8_r0 arg9_r0 arg10_r0 k0_hw1 k0_h1 k0_h4 => k0_hw1.2.2.2.2.2.1 k0_h1 k0_h4
theorem k0_off12_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off12 arg8_r0) a + S1x128x128.size a ≤ S2x128x128.size a := fun i k0_t1 arg6_r0 arg7_r0 arg8_r0 arg9_r0 arg10_r0 k0_hw1 k0_h1 k0_h7 => k0_hw1.2.2.2.2.2.2.1 k0_h1 k0_h7
theorem k0_off13_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off13 i arg10_r0) a + S128x128.size a ≤ S25600x128.size a := fun i k0_t1 arg6_r0 arg7_r0 arg8_r0 arg9_r0 arg10_r0 k0_hw1 k0_h1 k0_h7 => k0_hw1.2.2.2.2.2.2.2.1 k0_h1 k0_h7
theorem k0_off14_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off14 arg8_r0) a + S1.size a ≤ S2.size a := fun i k0_t1 arg6_r0 arg7_r0 arg8_r0 arg9_r0 arg10_r0 k0_hw1 k0_h1 k0_h7 => k0_hw1.2.2.2.2.2.2.2.2.1 k0_h1 k0_h7
theorem k0_off15_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off15 arg9_r0) a + S1x128x128.size a ≤ S2x128x128.size a := fun i k0_t1 arg6_r0 arg7_r0 arg8_r0 arg9_r0 arg10_r0 k0_hw1 k0_h1 k0_h9 => k0_hw1.2.2.2.2.2.2.2.2.2.1 k0_h1 k0_h9
theorem k0_off16_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off16 i arg10_r0) a + S128x128.size a ≤ S25600x128.size a := fun i k0_t1 arg6_r0 arg7_r0 arg8_r0 arg9_r0 arg10_r0 k0_hw1 k0_h1 k0_h9 => k0_hw1.2.2.2.2.2.2.2.2.2.2.1 k0_h1 k0_h9
theorem k0_off17_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off17 arg9_r0) a + S1.size a ≤ S2.size a := fun i k0_t1 arg6_r0 arg7_r0 arg8_r0 arg9_r0 arg10_r0 k0_hw1 k0_h1 k0_h9 => k0_hw1.2.2.2.2.2.2.2.2.2.2.2 k0_h1 k0_h9

@[reducible] def k0_t2_loop (i : grid0.Coords) : Scf.Loop 32 :=
  let c0_i32_29_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let v43_r0 : BitVec 32 := Scalar.addi c0_i32_29_r0 v42_r0
  let c1_i32_36_r0 : BitVec 32 := 1#32
  ⟨v46_r0, v43_r0, c1_i32_36_r0⟩
def k0_off18 (arg6_r0 : BitVec 32) : Fin 3 → Nat :=
  let c2_i32_101_r0 : BitVec 32 := 2#32
  let v167_r0 : BitVec 32 := Scalar.remui arg6_r0 c2_i32_101_r0
  let c0_i32_103_r0 : BitVec 32 := 0#32
  let c0_i32_104_r0 : BitVec 32 := 0#32
  ![v167_r0.toNat, 0, 0]
def k0_cond10 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let v7 : BitVec 32 := Scalar.muli v3 v5
  let c6_i32_1 : BitVec 32 := 6#32
  let v8 : BitVec 32 := Scalar.muli v3 c6_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v101_r0 : BitVec 1 := Scalar.cmpi .ne v84_r0 v95_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k0_t2
  let c1_i32_57_r0 : BitVec 32 := 1#32
  let v80_r0 : BitVec 32 := Scalar.muli c1_i32_57_r0 v5
  let c2_i32_r0 : BitVec 32 := 2#32
  let v102_r0 : BitVec 32 := Scalar.subi v80_r0 c2_i32_r0
  let c1_i32_70_r0 : BitVec 32 := 1#32
  let v103_r0 : BitVec 32 := Scalar.addi v102_r0 c1_i32_70_r0
  let v104_r0 : BitVec 1 := Scalar.cmpi .sge arg5_r0 v103_r0
  let true_71_r0 : BitVec 1 := 1#1
  let v105_r0 : BitVec 1 := Scalar.xori v104_r0 true_71_r0
  let v106_r0 : BitVec 1 := Scalar.andi v101_r0 v105_r0
  let true_72_r0 : BitVec 1 := 1#1
  let v107_r0 : BitVec 1 := Scalar.andi v106_r0 true_72_r0
  let v108_r0 : BitVec 32 := Scalar.extui v107_r0
  let c0_i32_73_r0 : BitVec 32 := 0#32
  let v109_r0 : BitVec 1 := Scalar.cmpi .ne v108_r0 c0_i32_73_r0
  v109_r0

def k0_off19 (i : grid0.Coords) (arg10_r0 : BitVec 32) : Fin 2 → Nat :=
  let c1_i32_102_r0 : BitVec 32 := 1#32
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let v93_r0 : BitVec 1 := Scalar.cmpi .eq v92_r0 v5
  let c0_i32_66_r0 : BitVec 32 := 0#32
  let v94_r0 : BitVec 32 := Scalar.select v93_r0 c0_i32_66_r0 v92_r0
  let c8_i32_0 : BitVec 32 := 8#32
  let v6 : BitVec 1 := Scalar.cmpi .slt v3 c8_i32_0
  let v7 : BitVec 32 := Scalar.muli v3 v5
  let c6_i32_1 : BitVec 32 := 6#32
  let v8 : BitVec 32 := Scalar.muli v3 c6_i32_1
  let c8_i32_2 : BitVec 32 := 8#32
  let v9 : BitVec 32 := Scalar.addi v8 c8_i32_2
  let v10 : BitVec 32 := Scalar.select v6 v7 v9
  let v95_r0 : BitVec 32 := Scalar.addi v94_r0 v10
  let v168_r0 : BitVec 32 := Scalar.muli c1_i32_102_r0 v95_r0
  let c0_i32_105_r0 : BitVec 32 := 0#32
  ![v168_r0.toNat, 0]
def k0_off20 (arg6_r0 : BitVec 32) : Fin 1 → Nat :=
  let c2_i32_101_r0 : BitVec 32 := 2#32
  let v167_r0 : BitVec 32 := Scalar.remui arg6_r0 c2_i32_101_r0
  ![v167_r0.toNat]
def k0_off21 (arg7_r0 : BitVec 32) : Fin 3 → Nat :=
  let c2_i32_102_r0 : BitVec 32 := 2#32
  let v168_r0 : BitVec 32 := Scalar.remui arg7_r0 c2_i32_102_r0
  let c0_i32_103_r0 : BitVec 32 := 0#32
  let c0_i32_104_r0 : BitVec 32 := 0#32
  ![v168_r0.toNat, 0, 0]
def k0_cond11 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let v7 : BitVec 32 := Scalar.muli v3 v5
  let c6_i32_1 : BitVec 32 := 6#32
  let v8 : BitVec 32 := Scalar.muli v3 c6_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k0_t2
  let c0_i32_58_r0 : BitVec 32 := 0#32
  let v81_r0 : BitVec 1 := Scalar.cmpi .eq arg5_r0 c0_i32_58_r0
  let v120_r0 : BitVec 1 := Scalar.ori v119_r0 v81_r0
  let c0_i32_79_r0 : BitVec 32 := 0#32
  let v121_r0 : BitVec 1 := Scalar.cmpi .sge arg5_r0 c0_i32_79_r0
  let v122_r0 : BitVec 1 := Scalar.andi v120_r0 v121_r0
  let v123_r0 : BitVec 32 := Scalar.extui v122_r0
  let c0_i32_80_r0 : BitVec 32 := 0#32
  let v124_r0 : BitVec 1 := Scalar.cmpi .ne v123_r0 c0_i32_80_r0
  v124_r0

def k0_off22 (i : grid0.Coords) (arg10_r0 : BitVec 32) : Fin 2 → Nat :=
  let c1_i32_101_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let v7 : BitVec 32 := Scalar.muli v3 v5
  let c6_i32_1 : BitVec 32 := 6#32
  let v8 : BitVec 32 := Scalar.muli v3 c6_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let v167_r0 : BitVec 32 := Scalar.muli c1_i32_101_r0 v84_r0
  let c0_i32_105_r0 : BitVec 32 := 0#32
  ![v167_r0.toNat, 0]
def k0_off23 (arg7_r0 : BitVec 32) : Fin 1 → Nat :=
  let c2_i32_102_r0 : BitVec 32 := 2#32
  let v168_r0 : BitVec 32 := Scalar.remui arg7_r0 c2_i32_102_r0
  ![v168_r0.toNat]
def k0_off24 (arg8_r0 : BitVec 32) : Fin 3 → Nat :=
  let c2_i32_84_r0 : BitVec 32 := 2#32
  let v132_r0 : BitVec 32 := Scalar.remui arg8_r0 c2_i32_84_r0
  let c0_i32_101_r2 : BitVec 32 := 0#32
  let c0_i32_102_r2 : BitVec 32 := 0#32
  ![v132_r0.toNat, 0, 0]

def k0_chk5 (i : grid0.Coords) (k0_t2 : Fin (k0_t2_loop i).trips) (arg8_r0 : BitVec 32) : Prop :=
  (∀ (k0_h1 : k0_cond1 i = 1#1), ∀ a, (k0_off24 arg8_r0) a + S1x128x128.size a ≤ S2x128x128.size a)
theorem k0_off24_inb : ∀ (i : grid0.Coords) (k0_t2 : Fin (k0_t2_loop i).trips) (arg8_r0 : BitVec 32) (k0_hw5 : k0_chk5 i k0_t2 arg8_r0), ∀ (k0_h1 : k0_cond1 i = 1#1), ∀ a, (k0_off24 arg8_r0) a + S1x128x128.size a ≤ S2x128x128.size a := fun i k0_t2 arg8_r0 k0_hw5 k0_h1 => k0_hw5 k0_h1

def k0_off25 (arg7_r0 : BitVec 32) : Fin 3 → Nat :=
  let c2_i32_83_r0 : BitVec 32 := 2#32
  let v131_r0 : BitVec 32 := Scalar.remui arg7_r0 c2_i32_83_r0
  let c0_i32_105_r2 : BitVec 32 := 0#32
  let c0_i32_106_r2 : BitVec 32 := 0#32
  ![v131_r0.toNat, 0, 0]

def k0_chk6 (i : grid0.Coords) (k0_t2 : Fin (k0_t2_loop i).trips) (arg7_r0 : BitVec 32) : Prop :=
  (∀ (k0_h1 : k0_cond1 i = 1#1), ∀ a, (k0_off25 arg7_r0) a + S1x1x128.size a ≤ S2x1x128.size a)
theorem k0_off25_inb : ∀ (i : grid0.Coords) (k0_t2 : Fin (k0_t2_loop i).trips) (arg7_r0 : BitVec 32) (k0_hw6 : k0_chk6 i k0_t2 arg7_r0), ∀ (k0_h1 : k0_cond1 i = 1#1), ∀ a, (k0_off25 arg7_r0) a + S1x1x128.size a ≤ S2x1x128.size a := fun i k0_t2 arg7_r0 k0_hw6 k0_h1 => k0_hw6 k0_h1

def k0_off26 (arg8_r0 : BitVec 32) : Fin 3 → Nat :=
  let c2_i32_101_r0 : BitVec 32 := 2#32
  let v167_r0 : BitVec 32 := Scalar.remui arg8_r0 c2_i32_101_r0
  let c0_i32_102_r0 : BitVec 32 := 0#32
  let c0_i32_103_r0 : BitVec 32 := 0#32
  ![v167_r0.toNat, 0, 0]
def k0_cond14 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let v7 : BitVec 32 := Scalar.muli v3 v5
  let c6_i32_1 : BitVec 32 := 6#32
  let v8 : BitVec 32 := Scalar.muli v3 c6_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v138_r0 : BitVec 1 := Scalar.cmpi .ne v84_r0 v95_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k0_t2
  let c1_i32_57_r0 : BitVec 32 := 1#32
  let v80_r0 : BitVec 32 := Scalar.muli c1_i32_57_r0 v5
  let c1_i32_59_r0 : BitVec 32 := 1#32
  let v82_r0 : BitVec 32 := Scalar.subi v80_r0 c1_i32_59_r0
  let v83_r0 : BitVec 1 := Scalar.cmpi .eq arg5_r0 v82_r0
  let v139_r0 : BitVec 1 := Scalar.ori v138_r0 v83_r0
  let v140_r0 : BitVec 32 := Scalar.extui v139_r0
  let c0_i32_87_r0 : BitVec 32 := 0#32
  let v141_r0 : BitVec 1 := Scalar.cmpi .ne v140_r0 c0_i32_87_r0
  v141_r0

def k0_off27 (i : grid0.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let v7 : BitVec 32 := Scalar.muli v3 v5
  let c6_i32_1 : BitVec 32 := 6#32
  let v8 : BitVec 32 := Scalar.muli v3 c6_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let v168_r0 : BitVec 32 := Scalar.muli c128_i32_r0 v84_r0
  let c0_i32_104_r0 : BitVec 32 := 0#32
  ![v168_r0.toNat, 0]
def k0_off28 (arg8_r0 : BitVec 32) : Fin 1 → Nat :=
  let c2_i32_101_r0 : BitVec 32 := 2#32
  let v167_r0 : BitVec 32 := Scalar.remui arg8_r0 c2_i32_101_r0
  ![v167_r0.toNat]
def k0_off29 (arg9_r0 : BitVec 32) : Fin 3 → Nat :=
  let c2_i32_101_r0 : BitVec 32 := 2#32
  let v167_r0 : BitVec 32 := Scalar.remui arg9_r0 c2_i32_101_r0
  let c0_i32_102_r0 : BitVec 32 := 0#32
  let c0_i32_103_r0 : BitVec 32 := 0#32
  ![v167_r0.toNat, 0, 0]
def k0_cond16 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let v7 : BitVec 32 := Scalar.muli v3 v5
  let c6_i32_1 : BitVec 32 := 6#32
  let v8 : BitVec 32 := Scalar.muli v3 c6_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k0_t2
  let c0_i32_58_r0 : BitVec 32 := 0#32
  let v81_r0 : BitVec 1 := Scalar.cmpi .eq arg5_r0 c0_i32_58_r0
  let true_93_r0 : BitVec 1 := 1#1
  let v152_r0 : BitVec 1 := Scalar.xori v81_r0 true_93_r0
  let v153_r0 : BitVec 1 := Scalar.andi v151_r0 v152_r0
  let v154_r0 : BitVec 32 := Scalar.extui v153_r0
  let c0_i32_94_r0 : BitVec 32 := 0#32
  let v155_r0 : BitVec 1 := Scalar.cmpi .ne v154_r0 c0_i32_94_r0
  v155_r0

def k0_off30 (i : grid0.Coords) (arg10_r0 : BitVec 32) : Fin 2 → Nat :=
  let c128_i32_r0 : BitVec 32 := 128#32
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let c1_i32_63_r0 : BitVec 32 := 1#32
  let v88_r0 : BitVec 32 := Scalar.subi v5 c1_i32_63_r0
  let v89_r0 : BitVec 32 := Scalar.select v87_r0 v88_r0 v86_r0
  let c8_i32_0 : BitVec 32 := 8#32
  let v6 : BitVec 1 := Scalar.cmpi .slt v3 c8_i32_0
  let v7 : BitVec 32 := Scalar.muli v3 v5
  let c6_i32_1 : BitVec 32 := 6#32
  let v8 : BitVec 32 := Scalar.muli v3 c6_i32_1
  let c8_i32_2 : BitVec 32 := 8#32
  let v9 : BitVec 32 := Scalar.addi v8 c8_i32_2
  let v10 : BitVec 32 := Scalar.select v6 v7 v9
  let v90_r0 : BitVec 32 := Scalar.addi v89_r0 v10
  let v168_r0 : BitVec 32 := Scalar.muli c128_i32_r0 v90_r0
  let c0_i32_104_r0 : BitVec 32 := 0#32
  ![v168_r0.toNat, 0]
def k0_off31 (arg9_r0 : BitVec 32) : Fin 1 → Nat :=
  let c2_i32_101_r0 : BitVec 32 := 2#32
  let v167_r0 : BitVec 32 := Scalar.remui arg9_r0 c2_i32_101_r0
  ![v167_r0.toNat]

def k0_chk4 (i : grid0.Coords) (k0_t2 : Fin (k0_t2_loop i).trips) (arg6_r0 : BitVec 32) (arg7_r0 : BitVec 32) (arg8_r0 : BitVec 32) (arg9_r0 : BitVec 32) (arg10_r0 : BitVec 32) : Prop :=
  (∀ (k0_h1 : k0_cond1 i = 1#1), ∀ (k0_h10 : k0_cond10 i k0_t2 arg10_r0 = 1#1), ∀ a, (k0_off18 arg6_r0) a + S1x1x128.size a ≤ S2x1x128.size a) ∧
  (∀ (k0_h1 : k0_cond1 i = 1#1), ∀ (k0_h10 : k0_cond10 i k0_t2 arg10_r0 = 1#1), ∀ a, (k0_off19 i arg10_r0) a + S1x128.size a ≤ S200x128.size a) ∧
  (∀ (k0_h1 : k0_cond1 i = 1#1), ∀ (k0_h10 : k0_cond10 i k0_t2 arg10_r0 = 1#1), ∀ a, (k0_off20 arg6_r0) a + S1.size a ≤ S2.size a) ∧
  (∀ (k0_h1 : k0_cond1 i = 1#1), ∀ (k0_h11 : k0_cond11 i k0_t2 arg10_r0 = 1#1), ∀ a, (k0_off21 arg7_r0) a + S1x1x128.size a ≤ S2x1x128.size a) ∧
  (∀ (k0_h1 : k0_cond1 i = 1#1), ∀ (k0_h11 : k0_cond11 i k0_t2 arg10_r0 = 1#1), ∀ a, (k0_off22 i arg10_r0) a + S1x128.size a ≤ S200x128.size a) ∧
  (∀ (k0_h1 : k0_cond1 i = 1#1), ∀ (k0_h11 : k0_cond11 i k0_t2 arg10_r0 = 1#1), ∀ a, (k0_off23 arg7_r0) a + S1.size a ≤ S2.size a) ∧
  (∀ (k0_h1 : k0_cond1 i = 1#1), ∀ (k0_h14 : k0_cond14 i k0_t2 arg10_r0 = 1#1), ∀ a, (k0_off26 arg8_r0) a + S1x128x128.size a ≤ S2x128x128.size a) ∧
  (∀ (k0_h1 : k0_cond1 i = 1#1), ∀ (k0_h14 : k0_cond14 i k0_t2 arg10_r0 = 1#1), ∀ a, (k0_off27 i arg10_r0) a + S128x128.size a ≤ S25600x128.size a) ∧
  (∀ (k0_h1 : k0_cond1 i = 1#1), ∀ (k0_h14 : k0_cond14 i k0_t2 arg10_r0 = 1#1), ∀ a, (k0_off28 arg8_r0) a + S1.size a ≤ S2.size a) ∧
  (∀ (k0_h1 : k0_cond1 i = 1#1), ∀ (k0_h16 : k0_cond16 i k0_t2 arg10_r0 = 1#1), ∀ a, (k0_off29 arg9_r0) a + S1x128x128.size a ≤ S2x128x128.size a) ∧
  (∀ (k0_h1 : k0_cond1 i = 1#1), ∀ (k0_h16 : k0_cond16 i k0_t2 arg10_r0 = 1#1), ∀ a, (k0_off30 i arg10_r0) a + S128x128.size a ≤ S25600x128.size a) ∧
  (∀ (k0_h1 : k0_cond1 i = 1#1), ∀ (k0_h16 : k0_cond16 i k0_t2 arg10_r0 = 1#1), ∀ a, (k0_off31 arg9_r0) a + S1.size a ≤ S2.size a)
theorem k0_off18_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off18 arg6_r0) a + S1x1x128.size a ≤ S2x1x128.size a := fun i k0_t2 arg6_r0 arg7_r0 arg8_r0 arg9_r0 arg10_r0 k0_hw4 k0_h1 k0_h10 => k0_hw4.1 k0_h1 k0_h10
theorem k0_off19_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off19 i arg10_r0) a + S1x128.size a ≤ S200x128.size a := fun i k0_t2 arg6_r0 arg7_r0 arg8_r0 arg9_r0 arg10_r0 k0_hw4 k0_h1 k0_h10 => k0_hw4.2.1 k0_h1 k0_h10
theorem k0_off20_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off20 arg6_r0) a + S1.size a ≤ S2.size a := fun i k0_t2 arg6_r0 arg7_r0 arg8_r0 arg9_r0 arg10_r0 k0_hw4 k0_h1 k0_h10 => k0_hw4.2.2.1 k0_h1 k0_h10
theorem k0_off21_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off21 arg7_r0) a + S1x1x128.size a ≤ S2x1x128.size a := fun i k0_t2 arg6_r0 arg7_r0 arg8_r0 arg9_r0 arg10_r0 k0_hw4 k0_h1 k0_h11 => k0_hw4.2.2.2.1 k0_h1 k0_h11
theorem k0_off22_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off22 i arg10_r0) a + S1x128.size a ≤ S200x128.size a := fun i k0_t2 arg6_r0 arg7_r0 arg8_r0 arg9_r0 arg10_r0 k0_hw4 k0_h1 k0_h11 => k0_hw4.2.2.2.2.1 k0_h1 k0_h11
theorem k0_off23_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off23 arg7_r0) a + S1.size a ≤ S2.size a := fun i k0_t2 arg6_r0 arg7_r0 arg8_r0 arg9_r0 arg10_r0 k0_hw4 k0_h1 k0_h11 => k0_hw4.2.2.2.2.2.1 k0_h1 k0_h11
theorem k0_off26_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off26 arg8_r0) a + S1x128x128.size a ≤ S2x128x128.size a := fun i k0_t2 arg6_r0 arg7_r0 arg8_r0 arg9_r0 arg10_r0 k0_hw4 k0_h1 k0_h14 => k0_hw4.2.2.2.2.2.2.1 k0_h1 k0_h14
theorem k0_off27_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off27 i arg10_r0) a + S128x128.size a ≤ S25600x128.size a := fun i k0_t2 arg6_r0 arg7_r0 arg8_r0 arg9_r0 arg10_r0 k0_hw4 k0_h1 k0_h14 => k0_hw4.2.2.2.2.2.2.2.1 k0_h1 k0_h14
theorem k0_off28_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off28 arg8_r0) a + S1.size a ≤ S2.size a := fun i k0_t2 arg6_r0 arg7_r0 arg8_r0 arg9_r0 arg10_r0 k0_hw4 k0_h1 k0_h14 => k0_hw4.2.2.2.2.2.2.2.2.1 k0_h1 k0_h14
theorem k0_off29_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off29 arg9_r0) a + S1x128x128.size a ≤ S2x128x128.size a := fun i k0_t2 arg6_r0 arg7_r0 arg8_r0 arg9_r0 arg10_r0 k0_hw4 k0_h1 k0_h16 => k0_hw4.2.2.2.2.2.2.2.2.2.1 k0_h1 k0_h16
theorem k0_off30_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off30 i arg10_r0) a + S128x128.size a ≤ S25600x128.size a := fun i k0_t2 arg6_r0 arg7_r0 arg8_r0 arg9_r0 arg10_r0 k0_hw4 k0_h1 k0_h16 => k0_hw4.2.2.2.2.2.2.2.2.2.2.1 k0_h1 k0_h16
theorem k0_off31_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off31 arg9_r0) a + S1.size a ≤ S2.size a := fun i k0_t2 arg6_r0 arg7_r0 arg8_r0 arg9_r0 arg10_r0 k0_hw4 k0_h1 k0_h16 => k0_hw4.2.2.2.2.2.2.2.2.2.2.2 k0_h1 k0_h16

def k0_cond18 (i : grid0.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let v11 : BitVec 32 := Scalar.muli c1_i32_3 v5
  let c1_i32_41_r0 : BitVec 32 := 1#32
  let v54_r0 : BitVec 32 := Scalar.subi v11 c1_i32_41_r0
  let c1_i32_42_r0 : BitVec 32 := 1#32
  let v55_r0 : BitVec 32 := Scalar.muli c1_i32_42_r0 v5
  let c1_i32_44_r0 : BitVec 32 := 1#32
  let v57_r0 : BitVec 32 := Scalar.subi v55_r0 c1_i32_44_r0
  let v58_r0 : BitVec 1 := Scalar.cmpi .eq v54_r0 v57_r0
  let v78_r0 : BitVec 32 := Scalar.extui v58_r0
  let c0_i32_56_r0 : BitVec 32 := 0#32
  let v79_r0 : BitVec 1 := Scalar.cmpi .ne v78_r0 c0_i32_56_r0
  v79_r0

def k0_off32 (v48_3_r0 : BitVec 32) : Fin 3 → Nat :=
  let c2_i32_r0 : BitVec 32 := 2#32
  let v80_r0 : BitVec 32 := Scalar.remui v48_3_r0 c2_i32_r0
  let c0_i32_57_r0 : BitVec 32 := 0#32
  let c0_i32_58_r0 : BitVec 32 := 0#32
  ![v80_r0.toNat, 0, 0]

def k0_off33 (i : grid0.Coords) (v48_4_r0 : BitVec 32) : Fin 2 → Nat :=
  let c128_i32_r0 : BitVec 32 := 128#32
  let true_38_r0 : BitVec 1 := 1#1
  let c1_i32_37_r0 : BitVec 32 := 1#32
  let v49_r0 : BitVec 32 := Scalar.subi v48_4_r0 c1_i32_37_r0
  let v50_r0 : BitVec 32 := Scalar.select true_38_r0 v49_r0 v48_4_r0
  let c_m1_i32_39_r0 : BitVec 32 := 4294967295#32
  let v51_r0 : BitVec 1 := Scalar.cmpi .eq v50_r0 c_m1_i32_39_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let c1_i32_40_r0 : BitVec 32 := 1#32
  let v52_r0 : BitVec 32 := Scalar.subi v5 c1_i32_40_r0
  let v53_r0 : BitVec 32 := Scalar.select v51_r0 v52_r0 v50_r0
  let c8_i32_0 : BitVec 32 := 8#32
  let v6 : BitVec 1 := Scalar.cmpi .slt v3 c8_i32_0
  let v7 : BitVec 32 := Scalar.muli v3 v5
  let c6_i32_1 : BitVec 32 := 6#32
  let v8 : BitVec 32 := Scalar.muli v3 c6_i32_1
  let c8_i32_2 : BitVec 32 := 8#32
  let v9 : BitVec 32 := Scalar.addi v8 c8_i32_2
  let v10 : BitVec 32 := Scalar.select v6 v7 v9
  let v59_r0 : BitVec 32 := Scalar.addi v53_r0 v10
  let v81_r0 : BitVec 32 := Scalar.muli c128_i32_r0 v59_r0
  let c0_i32_59_r0 : BitVec 32 := 0#32
  ![v81_r0.toNat, 0]

def k0_chk8 (i : grid0.Coords) (v48_4_r0 : BitVec 32) : Prop :=
  (∀ (k0_h1 : k0_cond1 i = 1#1), ∀ (k0_h18 : k0_cond18 i = 1#1), ∀ a, (k0_off33 i v48_4_r0) a + S128x128.size a ≤ S25600x128.size a)
theorem k0_off33_inb : ∀ (i : grid0.Coords) (v48_4_r0 : BitVec 32) (k0_hw8 : k0_chk8 i v48_4_r0), ∀ (k0_h1 : k0_cond1 i = 1#1), ∀ (k0_h18 : k0_cond18 i = 1#1), ∀ a, (k0_off33 i v48_4_r0) a + S128x128.size a ≤ S25600x128.size a := fun i v48_4_r0 k0_hw8 k0_h1 k0_h18 => k0_hw8 k0_h1 k0_h18

def k0_off34 (v48_3_r0 : BitVec 32) : Fin 1 → Nat :=
  let c2_i32_r0 : BitVec 32 := 2#32
  let v80_r0 : BitVec 32 := Scalar.remui v48_3_r0 c2_i32_r0
  ![v80_r0.toNat]
def k0_off35 (v48_3_r0 : BitVec 32) : Fin 3 → Nat :=
  let c2_i32_r0 : BitVec 32 := 2#32
  let v80_r0 : BitVec 32 := Scalar.remui v48_3_r0 c2_i32_r0
  let c0_i32_61_r0 : BitVec 32 := 0#32
  let c0_i32_62_r0 : BitVec 32 := 0#32
  ![v80_r0.toNat, 0, 0]

def k0_chk7 (i : grid0.Coords) (v48_3_r0 : BitVec 32) : Prop :=
  (∀ (k0_h1 : k0_cond1 i = 1#1), ∀ (k0_h18 : k0_cond18 i = 1#1), ∀ a, (k0_off32 v48_3_r0) a + S1x128x128.size a ≤ S2x128x128.size a) ∧
  (∀ (k0_h1 : k0_cond1 i = 1#1), ∀ (k0_h18 : k0_cond18 i = 1#1), ∀ a, (k0_off34 v48_3_r0) a + S1.size a ≤ S2.size a) ∧
  (∀ (k0_h1 : k0_cond1 i = 1#1), ∀ (k0_h18 : k0_cond18 i = 1#1), ∀ a, (k0_off35 v48_3_r0) a + S1x128x128.size a ≤ S2x128x128.size a)
theorem k0_off32_inb : ∀ (i : grid0.Coords) (v48_3_r0 : BitVec 32) (k0_hw7 : k0_chk7 i v48_3_r0), ∀ (k0_h1 : k0_cond1 i = 1#1), ∀ (k0_h18 : k0_cond18 i = 1#1), ∀ a, (k0_off32 v48_3_r0) a + S1x128x128.size a ≤ S2x128x128.size a := fun i v48_3_r0 k0_hw7 k0_h1 k0_h18 => k0_hw7.1 k0_h1 k0_h18
theorem k0_off34_inb : ∀ (i : grid0.Coords) (v48_3_r0 : BitVec 32) (k0_hw7 : k0_chk7 i v48_3_r0), ∀ (k0_h1 : k0_cond1 i = 1#1), ∀ (k0_h18 : k0_cond18 i = 1#1), ∀ a, (k0_off34 v48_3_r0) a + S1.size a ≤ S2.size a := fun i v48_3_r0 k0_hw7 k0_h1 k0_h18 => k0_hw7.2.1 k0_h1 k0_h18
theorem k0_off35_inb : ∀ (i : grid0.Coords) (v48_3_r0 : BitVec 32) (k0_hw7 : k0_chk7 i v48_3_r0), ∀ (k0_h1 : k0_cond1 i = 1#1), ∀ (k0_h18 : k0_cond18 i = 1#1), ∀ a, (k0_off35 v48_3_r0) a + S1x128x128.size a ≤ S2x128x128.size a := fun i v48_3_r0 k0_hw7 k0_h1 k0_h18 => k0_hw7.2.2 k0_h1 k0_h18

abbrev grid1 : Pipeline.Grid := ⟨2, ![2, 16], ![false, false]⟩

def k1_cond1 (i : grid1.Coords) : BitVec 1 :=
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v11 : BitVec 32 := Scalar.muli c1_i32_4 v5
  let c0_i32_6_r0 : BitVec 32 := 0#32
  let v14_r0 : BitVec 1 := Scalar.cmpi .sgt v11 c0_i32_6_r0
  let v15_r0 : BitVec 32 := Scalar.extui v14_r0
  let c0_i32_7_r0 : BitVec 32 := 0#32
  let v16_r0 : BitVec 1 := Scalar.cmpi .ne v15_r0 c0_i32_7_r0
  v16_r0

def k1_cond2 (i : grid1.Coords) : BitVec 1 :=
  let true_23_r0 : BitVec 1 := 1#1
  let c1_i32_8_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v17_r0 : BitVec 32 := Scalar.muli c1_i32_8_r0 v5
  let c0_i32_22_r0 : BitVec 32 := 0#32
  let v35_r0 : BitVec 1 := Scalar.cmpi .sgt v17_r0 c0_i32_22_r0
  let v36_r0 : BitVec 1 := Scalar.andi true_23_r0 v35_r0
  let true_24_r0 : BitVec 1 := 1#1
  let v37_r0 : BitVec 1 := Scalar.andi v36_r0 true_24_r0
  let v38_r0 : BitVec 32 := Scalar.extui v37_r0
  let c0_i32_26_r0 : BitVec 32 := 0#32
  let v39_r0 : BitVec 1 := Scalar.cmpi .ne v38_r0 c0_i32_26_r0
  v39_r0

def k1_off1 : Fin 3 → Nat :=
  let c0_i32_25_r0 : BitVec 32 := 0#32
  let c2_i32_r0 : BitVec 32 := 2#32
  let v80_r0 : BitVec 32 := Scalar.remui c0_i32_25_r0 c2_i32_r0
  let c0_i32_59_r0 : BitVec 32 := 0#32
  let c0_i32_60_r0 : BitVec 32 := 0#32
  ![v80_r0.toNat, 0, 0]
def k1_off2 (i : grid1.Coords) : Fin 2 → Nat :=
  let c1_i32_58_r0 : BitVec 32 := 1#32
  let c0_i32_11_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v20_r0 : BitVec 32 := Scalar.addi c0_i32_11_r0 v10
  let v81_r0 : BitVec 32 := Scalar.muli c1_i32_58_r0 v20_r0
  let c0_i32_61_r0 : BitVec 32 := 0#32
  ![v81_r0.toNat, 0]
def k1_off3 : Fin 1 → Nat :=
  let c0_i32_25_r0 : BitVec 32 := 0#32
  let c2_i32_r0 : BitVec 32 := 2#32
  let v80_r0 : BitVec 32 := Scalar.remui c0_i32_25_r0 c2_i32_r0
  ![v80_r0.toNat]
@[reducible] def k1_t1_loop (i : grid1.Coords) : Scf.Loop 32 :=
  let c0_i32_30_r0 : BitVec 32 := 0#32
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_36_r0 : BitVec 32 := 1#32
  ⟨c0_i32_30_r0, v46_r0, c1_i32_36_r0⟩
def k1_off4 (arg6_r0 : BitVec 32) : Fin 3 → Nat :=
  let c2_i32_102_r0 : BitVec 32 := 2#32
  let v167_r0 : BitVec 32 := Scalar.remui arg6_r0 c2_i32_102_r0
  let c0_i32_104_r0 : BitVec 32 := 0#32
  let c0_i32_105_r0 : BitVec 32 := 0#32
  ![v167_r0.toNat, 0, 0]
def k1_cond3 (i : grid1.Coords) (k1_t1 : Fin (k1_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v84_r0 : BitVec 32 := Scalar.addi arg10_r0 v10
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v101_r0 : BitVec 1 := Scalar.cmpi .ne v84_r0 v95_r0
  let c0_i32_30_r0 : BitVec 32 := 0#32
  let c1_i32_36_r0 : BitVec 32 := 1#32
  let arg5_r0 : BitVec 32 := Scf.iv c0_i32_30_r0 c1_i32_36_r0 k1_t1
  let c1_i32_58_r0 : BitVec 32 := 1#32
  let v80_r0 : BitVec 32 := Scalar.muli c1_i32_58_r0 v5
  let c2_i32_r0 : BitVec 32 := 2#32
  let v102_r0 : BitVec 32 := Scalar.subi v80_r0 c2_i32_r0
  let c1_i32_71_r0 : BitVec 32 := 1#32
  let v103_r0 : BitVec 32 := Scalar.addi v102_r0 c1_i32_71_r0
  let v104_r0 : BitVec 1 := Scalar.cmpi .sge arg5_r0 v103_r0
  let true_72_r0 : BitVec 1 := 1#1
  let v105_r0 : BitVec 1 := Scalar.xori v104_r0 true_72_r0
  let v106_r0 : BitVec 1 := Scalar.andi v101_r0 v105_r0
  let true_73_r0 : BitVec 1 := 1#1
  let v107_r0 : BitVec 1 := Scalar.andi v106_r0 true_73_r0
  let v108_r0 : BitVec 32 := Scalar.extui v107_r0
  let c0_i32_74_r0 : BitVec 32 := 0#32
  let v109_r0 : BitVec 1 := Scalar.cmpi .ne v108_r0 c0_i32_74_r0
  v109_r0

def k1_off5 (i : grid1.Coords) (arg10_r0 : BitVec 32) : Fin 2 → Nat :=
  let c1_i32_103_r0 : BitVec 32 := 1#32
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v93_r0 : BitVec 1 := Scalar.cmpi .eq v92_r0 v5
  let c0_i32_67_r0 : BitVec 32 := 0#32
  let v94_r0 : BitVec 32 := Scalar.select v93_r0 c0_i32_67_r0 v92_r0
  let c20_i32_1 : BitVec 32 := 20#32
  let v6 : BitVec 1 := Scalar.cmpi .slt v3 c20_i32_1
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v95_r0 : BitVec 32 := Scalar.addi v94_r0 v10
  let v168_r0 : BitVec 32 := Scalar.muli c1_i32_103_r0 v95_r0
  let c0_i32_106_r0 : BitVec 32 := 0#32
  ![v168_r0.toNat, 0]
def k1_off6 (arg6_r0 : BitVec 32) : Fin 1 → Nat :=
  let c2_i32_102_r0 : BitVec 32 := 2#32
  let v167_r0 : BitVec 32 := Scalar.remui arg6_r0 c2_i32_102_r0
  ![v167_r0.toNat]
def k1_off7 (arg7_r0 : BitVec 32) : Fin 3 → Nat :=
  let c2_i32_103_r0 : BitVec 32 := 2#32
  let v168_r0 : BitVec 32 := Scalar.remui arg7_r0 c2_i32_103_r0
  let c0_i32_104_r0 : BitVec 32 := 0#32
  let c0_i32_105_r0 : BitVec 32 := 0#32
  ![v168_r0.toNat, 0, 0]
def k1_cond4 (i : grid1.Coords) (k1_t1 : Fin (k1_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v84_r0 : BitVec 32 := Scalar.addi arg10_r0 v10
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_30_r0 : BitVec 32 := 0#32
  let c1_i32_36_r0 : BitVec 32 := 1#32
  let arg5_r0 : BitVec 32 := Scf.iv c0_i32_30_r0 c1_i32_36_r0 k1_t1
  let c0_i32_59_r0 : BitVec 32 := 0#32
  let v81_r0 : BitVec 1 := Scalar.cmpi .eq arg5_r0 c0_i32_59_r0
  let v120_r0 : BitVec 1 := Scalar.ori v119_r0 v81_r0
  let c0_i32_80_r0 : BitVec 32 := 0#32
  let v121_r0 : BitVec 1 := Scalar.cmpi .sge arg5_r0 c0_i32_80_r0
  let v122_r0 : BitVec 1 := Scalar.andi v120_r0 v121_r0
  let v123_r0 : BitVec 32 := Scalar.extui v122_r0
  let c0_i32_81_r0 : BitVec 32 := 0#32
  let v124_r0 : BitVec 1 := Scalar.cmpi .ne v123_r0 c0_i32_81_r0
  v124_r0

def k1_off8 (i : grid1.Coords) (arg10_r0 : BitVec 32) : Fin 2 → Nat :=
  let c1_i32_102_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v84_r0 : BitVec 32 := Scalar.addi arg10_r0 v10
  let v167_r0 : BitVec 32 := Scalar.muli c1_i32_102_r0 v84_r0
  let c0_i32_106_r0 : BitVec 32 := 0#32
  ![v167_r0.toNat, 0]
def k1_off9 (arg7_r0 : BitVec 32) : Fin 1 → Nat :=
  let c2_i32_103_r0 : BitVec 32 := 2#32
  let v168_r0 : BitVec 32 := Scalar.remui arg7_r0 c2_i32_103_r0
  ![v168_r0.toNat]
def k1_off10 (arg8_r0 : BitVec 32) : Fin 3 → Nat :=
  let c2_i32_85_r0 : BitVec 32 := 2#32
  let v132_r0 : BitVec 32 := Scalar.remui arg8_r0 c2_i32_85_r0
  let c0_i32_102_r1 : BitVec 32 := 0#32
  let c0_i32_103_r1 : BitVec 32 := 0#32
  ![v132_r0.toNat, 0, 0]

def k1_chk2 (i : grid1.Coords) (arg8_r0 : BitVec 32) : Prop :=
  (∀ (k1_h1 : k1_cond1 i = 1#1), ∀ a, (k1_off10 arg8_r0) a + S1x128x128.size a ≤ S2x128x128.size a)
theorem k1_off10_inb : ∀ (i : grid1.Coords) (arg8_r0 : BitVec 32) (k1_hw2 : k1_chk2 i arg8_r0), ∀ (k1_h1 : k1_cond1 i = 1#1), ∀ a, (k1_off10 arg8_r0) a + S1x128x128.size a ≤ S2x128x128.size a := fun i arg8_r0 k1_hw2 k1_h1 => k1_hw2 k1_h1

def k1_off11 (arg7_r0 : BitVec 32) : Fin 3 → Nat :=
  let c2_i32_84_r0 : BitVec 32 := 2#32
  let v131_r0 : BitVec 32 := Scalar.remui arg7_r0 c2_i32_84_r0
  let c0_i32_106_r1 : BitVec 32 := 0#32
  let c0_i32_107_r1 : BitVec 32 := 0#32
  ![v131_r0.toNat, 0, 0]

def k1_chk3 (i : grid1.Coords) (arg7_r0 : BitVec 32) : Prop :=
  (∀ (k1_h1 : k1_cond1 i = 1#1), ∀ a, (k1_off11 arg7_r0) a + S1x1x128.size a ≤ S2x1x128.size a)
theorem k1_off11_inb : ∀ (i : grid1.Coords) (arg7_r0 : BitVec 32) (k1_hw3 : k1_chk3 i arg7_r0), ∀ (k1_h1 : k1_cond1 i = 1#1), ∀ a, (k1_off11 arg7_r0) a + S1x1x128.size a ≤ S2x1x128.size a := fun i arg7_r0 k1_hw3 k1_h1 => k1_hw3 k1_h1

def k1_off12 (arg8_r0 : BitVec 32) : Fin 3 → Nat :=
  let c2_i32_102_r0 : BitVec 32 := 2#32
  let v167_r0 : BitVec 32 := Scalar.remui arg8_r0 c2_i32_102_r0
  let c0_i32_103_r0 : BitVec 32 := 0#32
  let c0_i32_104_r0 : BitVec 32 := 0#32
  ![v167_r0.toNat, 0, 0]
def k1_cond7 (i : grid1.Coords) (k1_t1 : Fin (k1_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v84_r0 : BitVec 32 := Scalar.addi arg10_r0 v10
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v138_r0 : BitVec 1 := Scalar.cmpi .ne v84_r0 v95_r0
  let c0_i32_30_r0 : BitVec 32 := 0#32
  let c1_i32_36_r0 : BitVec 32 := 1#32
  let arg5_r0 : BitVec 32 := Scf.iv c0_i32_30_r0 c1_i32_36_r0 k1_t1
  let c1_i32_58_r0 : BitVec 32 := 1#32
  let v80_r0 : BitVec 32 := Scalar.muli c1_i32_58_r0 v5
  let c1_i32_60_r0 : BitVec 32 := 1#32
  let v82_r0 : BitVec 32 := Scalar.subi v80_r0 c1_i32_60_r0
  let v83_r0 : BitVec 1 := Scalar.cmpi .eq arg5_r0 v82_r0
  let v139_r0 : BitVec 1 := Scalar.ori v138_r0 v83_r0
  let v140_r0 : BitVec 32 := Scalar.extui v139_r0
  let c0_i32_88_r0 : BitVec 32 := 0#32
  let v141_r0 : BitVec 1 := Scalar.cmpi .ne v140_r0 c0_i32_88_r0
  v141_r0

def k1_off13 (i : grid1.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v84_r0 : BitVec 32 := Scalar.addi arg10_r0 v10
  let v168_r0 : BitVec 32 := Scalar.muli c128_i32_r0 v84_r0
  let c0_i32_105_r0 : BitVec 32 := 0#32
  ![v168_r0.toNat, 0]
def k1_off14 (arg8_r0 : BitVec 32) : Fin 1 → Nat :=
  let c2_i32_102_r0 : BitVec 32 := 2#32
  let v167_r0 : BitVec 32 := Scalar.remui arg8_r0 c2_i32_102_r0
  ![v167_r0.toNat]
def k1_off15 (arg9_r0 : BitVec 32) : Fin 3 → Nat :=
  let c2_i32_102_r0 : BitVec 32 := 2#32
  let v167_r0 : BitVec 32 := Scalar.remui arg9_r0 c2_i32_102_r0
  let c0_i32_103_r0 : BitVec 32 := 0#32
  let c0_i32_104_r0 : BitVec 32 := 0#32
  ![v167_r0.toNat, 0, 0]
def k1_cond9 (i : grid1.Coords) (k1_t1 : Fin (k1_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v84_r0 : BitVec 32 := Scalar.addi arg10_r0 v10
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_30_r0 : BitVec 32 := 0#32
  let c1_i32_36_r0 : BitVec 32 := 1#32
  let arg5_r0 : BitVec 32 := Scf.iv c0_i32_30_r0 c1_i32_36_r0 k1_t1
  let c0_i32_59_r0 : BitVec 32 := 0#32
  let v81_r0 : BitVec 1 := Scalar.cmpi .eq arg5_r0 c0_i32_59_r0
  let true_94_r0 : BitVec 1 := 1#1
  let v152_r0 : BitVec 1 := Scalar.xori v81_r0 true_94_r0
  let v153_r0 : BitVec 1 := Scalar.andi v151_r0 v152_r0
  let v154_r0 : BitVec 32 := Scalar.extui v153_r0
  let c0_i32_95_r0 : BitVec 32 := 0#32
  let v155_r0 : BitVec 1 := Scalar.cmpi .ne v154_r0 c0_i32_95_r0
  v155_r0

def k1_off16 (i : grid1.Coords) (arg10_r0 : BitVec 32) : Fin 2 → Nat :=
  let c128_i32_r0 : BitVec 32 := 128#32
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let c1_i32_64_r0 : BitVec 32 := 1#32
  let v88_r0 : BitVec 32 := Scalar.subi v5 c1_i32_64_r0
  let v89_r0 : BitVec 32 := Scalar.select v87_r0 v88_r0 v86_r0
  let c20_i32_1 : BitVec 32 := 20#32
  let v6 : BitVec 1 := Scalar.cmpi .slt v3 c20_i32_1
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v90_r0 : BitVec 32 := Scalar.addi v89_r0 v10
  let v168_r0 : BitVec 32 := Scalar.muli c128_i32_r0 v90_r0
  let c0_i32_105_r0 : BitVec 32 := 0#32
  ![v168_r0.toNat, 0]
def k1_off17 (arg9_r0 : BitVec 32) : Fin 1 → Nat :=
  let c2_i32_102_r0 : BitVec 32 := 2#32
  let v167_r0 : BitVec 32 := Scalar.remui arg9_r0 c2_i32_102_r0
  ![v167_r0.toNat]

def k1_chk1 (i : grid1.Coords) (k1_t1 : Fin (k1_t1_loop i).trips) (arg6_r0 : BitVec 32) (arg7_r0 : BitVec 32) (arg8_r0 : BitVec 32) (arg9_r0 : BitVec 32) (arg10_r0 : BitVec 32) : Prop :=
  (∀ (k1_h1 : k1_cond1 i = 1#1), ∀ (k1_h3 : k1_cond3 i k1_t1 arg10_r0 = 1#1), ∀ a, (k1_off4 arg6_r0) a + S1x1x128.size a ≤ S2x1x128.size a) ∧
  (∀ (k1_h1 : k1_cond1 i = 1#1), ∀ (k1_h3 : k1_cond3 i k1_t1 arg10_r0 = 1#1), ∀ a, (k1_off5 i arg10_r0) a + S1x128.size a ≤ S500x128.size a) ∧
  (∀ (k1_h1 : k1_cond1 i = 1#1), ∀ (k1_h3 : k1_cond3 i k1_t1 arg10_r0 = 1#1), ∀ a, (k1_off6 arg6_r0) a + S1.size a ≤ S2.size a) ∧
  (∀ (k1_h1 : k1_cond1 i = 1#1), ∀ (k1_h4 : k1_cond4 i k1_t1 arg10_r0 = 1#1), ∀ a, (k1_off7 arg7_r0) a + S1x1x128.size a ≤ S2x1x128.size a) ∧
  (∀ (k1_h1 : k1_cond1 i = 1#1), ∀ (k1_h4 : k1_cond4 i k1_t1 arg10_r0 = 1#1), ∀ a, (k1_off8 i arg10_r0) a + S1x128.size a ≤ S500x128.size a) ∧
  (∀ (k1_h1 : k1_cond1 i = 1#1), ∀ (k1_h4 : k1_cond4 i k1_t1 arg10_r0 = 1#1), ∀ a, (k1_off9 arg7_r0) a + S1.size a ≤ S2.size a) ∧
  (∀ (k1_h1 : k1_cond1 i = 1#1), ∀ (k1_h7 : k1_cond7 i k1_t1 arg10_r0 = 1#1), ∀ a, (k1_off12 arg8_r0) a + S1x128x128.size a ≤ S2x128x128.size a) ∧
  (∀ (k1_h1 : k1_cond1 i = 1#1), ∀ (k1_h7 : k1_cond7 i k1_t1 arg10_r0 = 1#1), ∀ a, (k1_off13 i arg10_r0) a + S128x128.size a ≤ S64000x128.size a) ∧
  (∀ (k1_h1 : k1_cond1 i = 1#1), ∀ (k1_h7 : k1_cond7 i k1_t1 arg10_r0 = 1#1), ∀ a, (k1_off14 arg8_r0) a + S1.size a ≤ S2.size a) ∧
  (∀ (k1_h1 : k1_cond1 i = 1#1), ∀ (k1_h9 : k1_cond9 i k1_t1 arg10_r0 = 1#1), ∀ a, (k1_off15 arg9_r0) a + S1x128x128.size a ≤ S2x128x128.size a) ∧
  (∀ (k1_h1 : k1_cond1 i = 1#1), ∀ (k1_h9 : k1_cond9 i k1_t1 arg10_r0 = 1#1), ∀ a, (k1_off16 i arg10_r0) a + S128x128.size a ≤ S64000x128.size a) ∧
  (∀ (k1_h1 : k1_cond1 i = 1#1), ∀ (k1_h9 : k1_cond9 i k1_t1 arg10_r0 = 1#1), ∀ a, (k1_off17 arg9_r0) a + S1.size a ≤ S2.size a)
theorem k1_off4_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h3 : k1_cond3 i k1_t1 arg10_r0 = 1#1), ∀ a, (k1_off4 arg6_r0) a + S1x1x128.size a ≤ S2x1x128.size a := fun i k1_t1 arg6_r0 arg7_r0 arg8_r0 arg9_r0 arg10_r0 k1_hw1 k1_h1 k1_h3 => k1_hw1.1 k1_h1 k1_h3
theorem k1_off5_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h3 : k1_cond3 i k1_t1 arg10_r0 = 1#1), ∀ a, (k1_off5 i arg10_r0) a + S1x128.size a ≤ S500x128.size a := fun i k1_t1 arg6_r0 arg7_r0 arg8_r0 arg9_r0 arg10_r0 k1_hw1 k1_h1 k1_h3 => k1_hw1.2.1 k1_h1 k1_h3
theorem k1_off6_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h3 : k1_cond3 i k1_t1 arg10_r0 = 1#1), ∀ a, (k1_off6 arg6_r0) a + S1.size a ≤ S2.size a := fun i k1_t1 arg6_r0 arg7_r0 arg8_r0 arg9_r0 arg10_r0 k1_hw1 k1_h1 k1_h3 => k1_hw1.2.2.1 k1_h1 k1_h3
theorem k1_off7_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h4 : k1_cond4 i k1_t1 arg10_r0 = 1#1), ∀ a, (k1_off7 arg7_r0) a + S1x1x128.size a ≤ S2x1x128.size a := fun i k1_t1 arg6_r0 arg7_r0 arg8_r0 arg9_r0 arg10_r0 k1_hw1 k1_h1 k1_h4 => k1_hw1.2.2.2.1 k1_h1 k1_h4
theorem k1_off8_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h4 : k1_cond4 i k1_t1 arg10_r0 = 1#1), ∀ a, (k1_off8 i arg10_r0) a + S1x128.size a ≤ S500x128.size a := fun i k1_t1 arg6_r0 arg7_r0 arg8_r0 arg9_r0 arg10_r0 k1_hw1 k1_h1 k1_h4 => k1_hw1.2.2.2.2.1 k1_h1 k1_h4
theorem k1_off9_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h4 : k1_cond4 i k1_t1 arg10_r0 = 1#1), ∀ a, (k1_off9 arg7_r0) a + S1.size a ≤ S2.size a := fun i k1_t1 arg6_r0 arg7_r0 arg8_r0 arg9_r0 arg10_r0 k1_hw1 k1_h1 k1_h4 => k1_hw1.2.2.2.2.2.1 k1_h1 k1_h4
theorem k1_off12_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h7 : k1_cond7 i k1_t1 arg10_r0 = 1#1), ∀ a, (k1_off12 arg8_r0) a + S1x128x128.size a ≤ S2x128x128.size a := fun i k1_t1 arg6_r0 arg7_r0 arg8_r0 arg9_r0 arg10_r0 k1_hw1 k1_h1 k1_h7 => k1_hw1.2.2.2.2.2.2.1 k1_h1 k1_h7
theorem k1_off13_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h7 : k1_cond7 i k1_t1 arg10_r0 = 1#1), ∀ a, (k1_off13 i arg10_r0) a + S128x128.size a ≤ S64000x128.size a := fun i k1_t1 arg6_r0 arg7_r0 arg8_r0 arg9_r0 arg10_r0 k1_hw1 k1_h1 k1_h7 => k1_hw1.2.2.2.2.2.2.2.1 k1_h1 k1_h7
theorem k1_off14_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h7 : k1_cond7 i k1_t1 arg10_r0 = 1#1), ∀ a, (k1_off14 arg8_r0) a + S1.size a ≤ S2.size a := fun i k1_t1 arg6_r0 arg7_r0 arg8_r0 arg9_r0 arg10_r0 k1_hw1 k1_h1 k1_h7 => k1_hw1.2.2.2.2.2.2.2.2.1 k1_h1 k1_h7
theorem k1_off15_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h9 : k1_cond9 i k1_t1 arg10_r0 = 1#1), ∀ a, (k1_off15 arg9_r0) a + S1x128x128.size a ≤ S2x128x128.size a := fun i k1_t1 arg6_r0 arg7_r0 arg8_r0 arg9_r0 arg10_r0 k1_hw1 k1_h1 k1_h9 => k1_hw1.2.2.2.2.2.2.2.2.2.1 k1_h1 k1_h9
theorem k1_off16_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h9 : k1_cond9 i k1_t1 arg10_r0 = 1#1), ∀ a, (k1_off16 i arg10_r0) a + S128x128.size a ≤ S64000x128.size a := fun i k1_t1 arg6_r0 arg7_r0 arg8_r0 arg9_r0 arg10_r0 k1_hw1 k1_h1 k1_h9 => k1_hw1.2.2.2.2.2.2.2.2.2.2.1 k1_h1 k1_h9
theorem k1_off17_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h9 : k1_cond9 i k1_t1 arg10_r0 = 1#1), ∀ a, (k1_off17 arg9_r0) a + S1.size a ≤ S2.size a := fun i k1_t1 arg6_r0 arg7_r0 arg8_r0 arg9_r0 arg10_r0 k1_hw1 k1_h1 k1_h9 => k1_hw1.2.2.2.2.2.2.2.2.2.2.2 k1_h1 k1_h9

@[reducible] def k1_t2_loop (i : grid1.Coords) : Scf.Loop 32 :=
  let c0_i32_30_r0 : BitVec 32 := 0#32
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let v43_r0 : BitVec 32 := Scalar.addi c0_i32_30_r0 v42_r0
  let c1_i32_37_r0 : BitVec 32 := 1#32
  ⟨v46_r0, v43_r0, c1_i32_37_r0⟩
def k1_off18 (arg6_r0 : BitVec 32) : Fin 3 → Nat :=
  let c2_i32_102_r0 : BitVec 32 := 2#32
  let v167_r0 : BitVec 32 := Scalar.remui arg6_r0 c2_i32_102_r0
  let c0_i32_104_r0 : BitVec 32 := 0#32
  let c0_i32_105_r0 : BitVec 32 := 0#32
  ![v167_r0.toNat, 0, 0]
def k1_cond10 (i : grid1.Coords) (k1_t2 : Fin (k1_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v84_r0 : BitVec 32 := Scalar.addi arg10_r0 v10
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v101_r0 : BitVec 1 := Scalar.cmpi .ne v84_r0 v95_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg5_r0 : BitVec 32 := Scf.iv v46_r0 c1_i32_37_r0 k1_t2
  let c1_i32_58_r0 : BitVec 32 := 1#32
  let v80_r0 : BitVec 32 := Scalar.muli c1_i32_58_r0 v5
  let c2_i32_r0 : BitVec 32 := 2#32
  let v102_r0 : BitVec 32 := Scalar.subi v80_r0 c2_i32_r0
  let c1_i32_71_r0 : BitVec 32 := 1#32
  let v103_r0 : BitVec 32 := Scalar.addi v102_r0 c1_i32_71_r0
  let v104_r0 : BitVec 1 := Scalar.cmpi .sge arg5_r0 v103_r0
  let true_72_r0 : BitVec 1 := 1#1
  let v105_r0 : BitVec 1 := Scalar.xori v104_r0 true_72_r0
  let v106_r0 : BitVec 1 := Scalar.andi v101_r0 v105_r0
  let true_73_r0 : BitVec 1 := 1#1
  let v107_r0 : BitVec 1 := Scalar.andi v106_r0 true_73_r0
  let v108_r0 : BitVec 32 := Scalar.extui v107_r0
  let c0_i32_74_r0 : BitVec 32 := 0#32
  let v109_r0 : BitVec 1 := Scalar.cmpi .ne v108_r0 c0_i32_74_r0
  v109_r0

def k1_off19 (i : grid1.Coords) (arg10_r0 : BitVec 32) : Fin 2 → Nat :=
  let c1_i32_103_r0 : BitVec 32 := 1#32
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v93_r0 : BitVec 1 := Scalar.cmpi .eq v92_r0 v5
  let c0_i32_67_r0 : BitVec 32 := 0#32
  let v94_r0 : BitVec 32 := Scalar.select v93_r0 c0_i32_67_r0 v92_r0
  let c20_i32_1 : BitVec 32 := 20#32
  let v6 : BitVec 1 := Scalar.cmpi .slt v3 c20_i32_1
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v95_r0 : BitVec 32 := Scalar.addi v94_r0 v10
  let v168_r0 : BitVec 32 := Scalar.muli c1_i32_103_r0 v95_r0
  let c0_i32_106_r0 : BitVec 32 := 0#32
  ![v168_r0.toNat, 0]
def k1_off20 (arg6_r0 : BitVec 32) : Fin 1 → Nat :=
  let c2_i32_102_r0 : BitVec 32 := 2#32
  let v167_r0 : BitVec 32 := Scalar.remui arg6_r0 c2_i32_102_r0
  ![v167_r0.toNat]
def k1_off21 (arg7_r0 : BitVec 32) : Fin 3 → Nat :=
  let c2_i32_103_r0 : BitVec 32 := 2#32
  let v168_r0 : BitVec 32 := Scalar.remui arg7_r0 c2_i32_103_r0
  let c0_i32_104_r0 : BitVec 32 := 0#32
  let c0_i32_105_r0 : BitVec 32 := 0#32
  ![v168_r0.toNat, 0, 0]
def k1_cond11 (i : grid1.Coords) (k1_t2 : Fin (k1_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v84_r0 : BitVec 32 := Scalar.addi arg10_r0 v10
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg5_r0 : BitVec 32 := Scf.iv v46_r0 c1_i32_37_r0 k1_t2
  let c0_i32_59_r0 : BitVec 32 := 0#32
  let v81_r0 : BitVec 1 := Scalar.cmpi .eq arg5_r0 c0_i32_59_r0
  let v120_r0 : BitVec 1 := Scalar.ori v119_r0 v81_r0
  let c0_i32_80_r0 : BitVec 32 := 0#32
  let v121_r0 : BitVec 1 := Scalar.cmpi .sge arg5_r0 c0_i32_80_r0
  let v122_r0 : BitVec 1 := Scalar.andi v120_r0 v121_r0
  let v123_r0 : BitVec 32 := Scalar.extui v122_r0
  let c0_i32_81_r0 : BitVec 32 := 0#32
  let v124_r0 : BitVec 1 := Scalar.cmpi .ne v123_r0 c0_i32_81_r0
  v124_r0

def k1_off22 (i : grid1.Coords) (arg10_r0 : BitVec 32) : Fin 2 → Nat :=
  let c1_i32_102_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v84_r0 : BitVec 32 := Scalar.addi arg10_r0 v10
  let v167_r0 : BitVec 32 := Scalar.muli c1_i32_102_r0 v84_r0
  let c0_i32_106_r0 : BitVec 32 := 0#32
  ![v167_r0.toNat, 0]
def k1_off23 (arg7_r0 : BitVec 32) : Fin 1 → Nat :=
  let c2_i32_103_r0 : BitVec 32 := 2#32
  let v168_r0 : BitVec 32 := Scalar.remui arg7_r0 c2_i32_103_r0
  ![v168_r0.toNat]
def k1_off24 (arg8_r0 : BitVec 32) : Fin 3 → Nat :=
  let c2_i32_85_r0 : BitVec 32 := 2#32
  let v132_r0 : BitVec 32 := Scalar.remui arg8_r0 c2_i32_85_r0
  let c0_i32_102_r2 : BitVec 32 := 0#32
  let c0_i32_103_r2 : BitVec 32 := 0#32
  ![v132_r0.toNat, 0, 0]

def k1_chk5 (i : grid1.Coords) (k1_t2 : Fin (k1_t2_loop i).trips) (arg8_r0 : BitVec 32) : Prop :=
  (∀ (k1_h1 : k1_cond1 i = 1#1), ∀ a, (k1_off24 arg8_r0) a + S1x128x128.size a ≤ S2x128x128.size a)
theorem k1_off24_inb : ∀ (i : grid1.Coords) (k1_t2 : Fin (k1_t2_loop i).trips) (arg8_r0 : BitVec 32) (k1_hw5 : k1_chk5 i k1_t2 arg8_r0), ∀ (k1_h1 : k1_cond1 i = 1#1), ∀ a, (k1_off24 arg8_r0) a + S1x128x128.size a ≤ S2x128x128.size a := fun i k1_t2 arg8_r0 k1_hw5 k1_h1 => k1_hw5 k1_h1

def k1_off25 (arg7_r0 : BitVec 32) : Fin 3 → Nat :=
  let c2_i32_84_r0 : BitVec 32 := 2#32
  let v131_r0 : BitVec 32 := Scalar.remui arg7_r0 c2_i32_84_r0
  let c0_i32_106_r2 : BitVec 32 := 0#32
  let c0_i32_107_r2 : BitVec 32 := 0#32
  ![v131_r0.toNat, 0, 0]

def k1_chk6 (i : grid1.Coords) (k1_t2 : Fin (k1_t2_loop i).trips) (arg7_r0 : BitVec 32) : Prop :=
  (∀ (k1_h1 : k1_cond1 i = 1#1), ∀ a, (k1_off25 arg7_r0) a + S1x1x128.size a ≤ S2x1x128.size a)
theorem k1_off25_inb : ∀ (i : grid1.Coords) (k1_t2 : Fin (k1_t2_loop i).trips) (arg7_r0 : BitVec 32) (k1_hw6 : k1_chk6 i k1_t2 arg7_r0), ∀ (k1_h1 : k1_cond1 i = 1#1), ∀ a, (k1_off25 arg7_r0) a + S1x1x128.size a ≤ S2x1x128.size a := fun i k1_t2 arg7_r0 k1_hw6 k1_h1 => k1_hw6 k1_h1

def k1_off26 (arg8_r0 : BitVec 32) : Fin 3 → Nat :=
  let c2_i32_102_r0 : BitVec 32 := 2#32
  let v167_r0 : BitVec 32 := Scalar.remui arg8_r0 c2_i32_102_r0
  let c0_i32_103_r0 : BitVec 32 := 0#32
  let c0_i32_104_r0 : BitVec 32 := 0#32
  ![v167_r0.toNat, 0, 0]
def k1_cond14 (i : grid1.Coords) (k1_t2 : Fin (k1_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v84_r0 : BitVec 32 := Scalar.addi arg10_r0 v10
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v138_r0 : BitVec 1 := Scalar.cmpi .ne v84_r0 v95_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg5_r0 : BitVec 32 := Scf.iv v46_r0 c1_i32_37_r0 k1_t2
  let c1_i32_58_r0 : BitVec 32 := 1#32
  let v80_r0 : BitVec 32 := Scalar.muli c1_i32_58_r0 v5
  let c1_i32_60_r0 : BitVec 32 := 1#32
  let v82_r0 : BitVec 32 := Scalar.subi v80_r0 c1_i32_60_r0
  let v83_r0 : BitVec 1 := Scalar.cmpi .eq arg5_r0 v82_r0
  let v139_r0 : BitVec 1 := Scalar.ori v138_r0 v83_r0
  let v140_r0 : BitVec 32 := Scalar.extui v139_r0
  let c0_i32_88_r0 : BitVec 32 := 0#32
  let v141_r0 : BitVec 1 := Scalar.cmpi .ne v140_r0 c0_i32_88_r0
  v141_r0

def k1_off27 (i : grid1.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v84_r0 : BitVec 32 := Scalar.addi arg10_r0 v10
  let v168_r0 : BitVec 32 := Scalar.muli c128_i32_r0 v84_r0
  let c0_i32_105_r0 : BitVec 32 := 0#32
  ![v168_r0.toNat, 0]
def k1_off28 (arg8_r0 : BitVec 32) : Fin 1 → Nat :=
  let c2_i32_102_r0 : BitVec 32 := 2#32
  let v167_r0 : BitVec 32 := Scalar.remui arg8_r0 c2_i32_102_r0
  ![v167_r0.toNat]
def k1_off29 (arg9_r0 : BitVec 32) : Fin 3 → Nat :=
  let c2_i32_102_r0 : BitVec 32 := 2#32
  let v167_r0 : BitVec 32 := Scalar.remui arg9_r0 c2_i32_102_r0
  let c0_i32_103_r0 : BitVec 32 := 0#32
  let c0_i32_104_r0 : BitVec 32 := 0#32
  ![v167_r0.toNat, 0, 0]
def k1_cond16 (i : grid1.Coords) (k1_t2 : Fin (k1_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v84_r0 : BitVec 32 := Scalar.addi arg10_r0 v10
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg5_r0 : BitVec 32 := Scf.iv v46_r0 c1_i32_37_r0 k1_t2
  let c0_i32_59_r0 : BitVec 32 := 0#32
  let v81_r0 : BitVec 1 := Scalar.cmpi .eq arg5_r0 c0_i32_59_r0
  let true_94_r0 : BitVec 1 := 1#1
  let v152_r0 : BitVec 1 := Scalar.xori v81_r0 true_94_r0
  let v153_r0 : BitVec 1 := Scalar.andi v151_r0 v152_r0
  let v154_r0 : BitVec 32 := Scalar.extui v153_r0
  let c0_i32_95_r0 : BitVec 32 := 0#32
  let v155_r0 : BitVec 1 := Scalar.cmpi .ne v154_r0 c0_i32_95_r0
  v155_r0

def k1_off30 (i : grid1.Coords) (arg10_r0 : BitVec 32) : Fin 2 → Nat :=
  let c128_i32_r0 : BitVec 32 := 128#32
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let c1_i32_64_r0 : BitVec 32 := 1#32
  let v88_r0 : BitVec 32 := Scalar.subi v5 c1_i32_64_r0
  let v89_r0 : BitVec 32 := Scalar.select v87_r0 v88_r0 v86_r0
  let c20_i32_1 : BitVec 32 := 20#32
  let v6 : BitVec 1 := Scalar.cmpi .slt v3 c20_i32_1
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v90_r0 : BitVec 32 := Scalar.addi v89_r0 v10
  let v168_r0 : BitVec 32 := Scalar.muli c128_i32_r0 v90_r0
  let c0_i32_105_r0 : BitVec 32 := 0#32
  ![v168_r0.toNat, 0]
def k1_off31 (arg9_r0 : BitVec 32) : Fin 1 → Nat :=
  let c2_i32_102_r0 : BitVec 32 := 2#32
  let v167_r0 : BitVec 32 := Scalar.remui arg9_r0 c2_i32_102_r0
  ![v167_r0.toNat]

def k1_chk4 (i : grid1.Coords) (k1_t2 : Fin (k1_t2_loop i).trips) (arg6_r0 : BitVec 32) (arg7_r0 : BitVec 32) (arg8_r0 : BitVec 32) (arg9_r0 : BitVec 32) (arg10_r0 : BitVec 32) : Prop :=
  (∀ (k1_h1 : k1_cond1 i = 1#1), ∀ (k1_h10 : k1_cond10 i k1_t2 arg10_r0 = 1#1), ∀ a, (k1_off18 arg6_r0) a + S1x1x128.size a ≤ S2x1x128.size a) ∧
  (∀ (k1_h1 : k1_cond1 i = 1#1), ∀ (k1_h10 : k1_cond10 i k1_t2 arg10_r0 = 1#1), ∀ a, (k1_off19 i arg10_r0) a + S1x128.size a ≤ S500x128.size a) ∧
  (∀ (k1_h1 : k1_cond1 i = 1#1), ∀ (k1_h10 : k1_cond10 i k1_t2 arg10_r0 = 1#1), ∀ a, (k1_off20 arg6_r0) a + S1.size a ≤ S2.size a) ∧
  (∀ (k1_h1 : k1_cond1 i = 1#1), ∀ (k1_h11 : k1_cond11 i k1_t2 arg10_r0 = 1#1), ∀ a, (k1_off21 arg7_r0) a + S1x1x128.size a ≤ S2x1x128.size a) ∧
  (∀ (k1_h1 : k1_cond1 i = 1#1), ∀ (k1_h11 : k1_cond11 i k1_t2 arg10_r0 = 1#1), ∀ a, (k1_off22 i arg10_r0) a + S1x128.size a ≤ S500x128.size a) ∧
  (∀ (k1_h1 : k1_cond1 i = 1#1), ∀ (k1_h11 : k1_cond11 i k1_t2 arg10_r0 = 1#1), ∀ a, (k1_off23 arg7_r0) a + S1.size a ≤ S2.size a) ∧
  (∀ (k1_h1 : k1_cond1 i = 1#1), ∀ (k1_h14 : k1_cond14 i k1_t2 arg10_r0 = 1#1), ∀ a, (k1_off26 arg8_r0) a + S1x128x128.size a ≤ S2x128x128.size a) ∧
  (∀ (k1_h1 : k1_cond1 i = 1#1), ∀ (k1_h14 : k1_cond14 i k1_t2 arg10_r0 = 1#1), ∀ a, (k1_off27 i arg10_r0) a + S128x128.size a ≤ S64000x128.size a) ∧
  (∀ (k1_h1 : k1_cond1 i = 1#1), ∀ (k1_h14 : k1_cond14 i k1_t2 arg10_r0 = 1#1), ∀ a, (k1_off28 arg8_r0) a + S1.size a ≤ S2.size a) ∧
  (∀ (k1_h1 : k1_cond1 i = 1#1), ∀ (k1_h16 : k1_cond16 i k1_t2 arg10_r0 = 1#1), ∀ a, (k1_off29 arg9_r0) a + S1x128x128.size a ≤ S2x128x128.size a) ∧
  (∀ (k1_h1 : k1_cond1 i = 1#1), ∀ (k1_h16 : k1_cond16 i k1_t2 arg10_r0 = 1#1), ∀ a, (k1_off30 i arg10_r0) a + S128x128.size a ≤ S64000x128.size a) ∧
  (∀ (k1_h1 : k1_cond1 i = 1#1), ∀ (k1_h16 : k1_cond16 i k1_t2 arg10_r0 = 1#1), ∀ a, (k1_off31 arg9_r0) a + S1.size a ≤ S2.size a)
theorem k1_off18_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h10 : k1_cond10 i k1_t2 arg10_r0 = 1#1), ∀ a, (k1_off18 arg6_r0) a + S1x1x128.size a ≤ S2x1x128.size a := fun i k1_t2 arg6_r0 arg7_r0 arg8_r0 arg9_r0 arg10_r0 k1_hw4 k1_h1 k1_h10 => k1_hw4.1 k1_h1 k1_h10
theorem k1_off19_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h10 : k1_cond10 i k1_t2 arg10_r0 = 1#1), ∀ a, (k1_off19 i arg10_r0) a + S1x128.size a ≤ S500x128.size a := fun i k1_t2 arg6_r0 arg7_r0 arg8_r0 arg9_r0 arg10_r0 k1_hw4 k1_h1 k1_h10 => k1_hw4.2.1 k1_h1 k1_h10
theorem k1_off20_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h10 : k1_cond10 i k1_t2 arg10_r0 = 1#1), ∀ a, (k1_off20 arg6_r0) a + S1.size a ≤ S2.size a := fun i k1_t2 arg6_r0 arg7_r0 arg8_r0 arg9_r0 arg10_r0 k1_hw4 k1_h1 k1_h10 => k1_hw4.2.2.1 k1_h1 k1_h10
theorem k1_off21_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h11 : k1_cond11 i k1_t2 arg10_r0 = 1#1), ∀ a, (k1_off21 arg7_r0) a + S1x1x128.size a ≤ S2x1x128.size a := fun i k1_t2 arg6_r0 arg7_r0 arg8_r0 arg9_r0 arg10_r0 k1_hw4 k1_h1 k1_h11 => k1_hw4.2.2.2.1 k1_h1 k1_h11
theorem k1_off22_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h11 : k1_cond11 i k1_t2 arg10_r0 = 1#1), ∀ a, (k1_off22 i arg10_r0) a + S1x128.size a ≤ S500x128.size a := fun i k1_t2 arg6_r0 arg7_r0 arg8_r0 arg9_r0 arg10_r0 k1_hw4 k1_h1 k1_h11 => k1_hw4.2.2.2.2.1 k1_h1 k1_h11
theorem k1_off23_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h11 : k1_cond11 i k1_t2 arg10_r0 = 1#1), ∀ a, (k1_off23 arg7_r0) a + S1.size a ≤ S2.size a := fun i k1_t2 arg6_r0 arg7_r0 arg8_r0 arg9_r0 arg10_r0 k1_hw4 k1_h1 k1_h11 => k1_hw4.2.2.2.2.2.1 k1_h1 k1_h11
theorem k1_off26_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h14 : k1_cond14 i k1_t2 arg10_r0 = 1#1), ∀ a, (k1_off26 arg8_r0) a + S1x128x128.size a ≤ S2x128x128.size a := fun i k1_t2 arg6_r0 arg7_r0 arg8_r0 arg9_r0 arg10_r0 k1_hw4 k1_h1 k1_h14 => k1_hw4.2.2.2.2.2.2.1 k1_h1 k1_h14
theorem k1_off27_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h14 : k1_cond14 i k1_t2 arg10_r0 = 1#1), ∀ a, (k1_off27 i arg10_r0) a + S128x128.size a ≤ S64000x128.size a := fun i k1_t2 arg6_r0 arg7_r0 arg8_r0 arg9_r0 arg10_r0 k1_hw4 k1_h1 k1_h14 => k1_hw4.2.2.2.2.2.2.2.1 k1_h1 k1_h14
theorem k1_off28_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h14 : k1_cond14 i k1_t2 arg10_r0 = 1#1), ∀ a, (k1_off28 arg8_r0) a + S1.size a ≤ S2.size a := fun i k1_t2 arg6_r0 arg7_r0 arg8_r0 arg9_r0 arg10_r0 k1_hw4 k1_h1 k1_h14 => k1_hw4.2.2.2.2.2.2.2.2.1 k1_h1 k1_h14
theorem k1_off29_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h16 : k1_cond16 i k1_t2 arg10_r0 = 1#1), ∀ a, (k1_off29 arg9_r0) a + S1x128x128.size a ≤ S2x128x128.size a := fun i k1_t2 arg6_r0 arg7_r0 arg8_r0 arg9_r0 arg10_r0 k1_hw4 k1_h1 k1_h16 => k1_hw4.2.2.2.2.2.2.2.2.2.1 k1_h1 k1_h16
theorem k1_off30_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h16 : k1_cond16 i k1_t2 arg10_r0 = 1#1), ∀ a, (k1_off30 i arg10_r0) a + S128x128.size a ≤ S64000x128.size a := fun i k1_t2 arg6_r0 arg7_r0 arg8_r0 arg9_r0 arg10_r0 k1_hw4 k1_h1 k1_h16 => k1_hw4.2.2.2.2.2.2.2.2.2.2.1 k1_h1 k1_h16
theorem k1_off31_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h16 : k1_cond16 i k1_t2 arg10_r0 = 1#1), ∀ a, (k1_off31 arg9_r0) a + S1.size a ≤ S2.size a := fun i k1_t2 arg6_r0 arg7_r0 arg8_r0 arg9_r0 arg10_r0 k1_hw4 k1_h1 k1_h16 => k1_hw4.2.2.2.2.2.2.2.2.2.2.2 k1_h1 k1_h16

def k1_cond18 (i : grid1.Coords) : BitVec 1 :=
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v11 : BitVec 32 := Scalar.muli c1_i32_4 v5
  let c1_i32_42_r0 : BitVec 32 := 1#32
  let v54_r0 : BitVec 32 := Scalar.subi v11 c1_i32_42_r0
  let c1_i32_43_r0 : BitVec 32 := 1#32
  let v55_r0 : BitVec 32 := Scalar.muli c1_i32_43_r0 v5
  let c1_i32_45_r0 : BitVec 32 := 1#32
  let v57_r0 : BitVec 32 := Scalar.subi v55_r0 c1_i32_45_r0
  let v58_r0 : BitVec 1 := Scalar.cmpi .eq v54_r0 v57_r0
  let v78_r0 : BitVec 32 := Scalar.extui v58_r0
  let c0_i32_57_r0 : BitVec 32 := 0#32
  let v79_r0 : BitVec 1 := Scalar.cmpi .ne v78_r0 c0_i32_57_r0
  v79_r0

def k1_off32 (v48_3_r0 : BitVec 32) : Fin 3 → Nat :=
  let c2_i32_r0 : BitVec 32 := 2#32
  let v80_r0 : BitVec 32 := Scalar.remui v48_3_r0 c2_i32_r0
  let c0_i32_58_r0 : BitVec 32 := 0#32
  let c0_i32_59_r0 : BitVec 32 := 0#32
  ![v80_r0.toNat, 0, 0]

def k1_off33 (i : grid1.Coords) (v48_4_r0 : BitVec 32) : Fin 2 → Nat :=
  let c128_i32_r0 : BitVec 32 := 128#32
  let true_39_r0 : BitVec 1 := 1#1
  let c1_i32_38_r0 : BitVec 32 := 1#32
  let v49_r0 : BitVec 32 := Scalar.subi v48_4_r0 c1_i32_38_r0
  let v50_r0 : BitVec 32 := Scalar.select true_39_r0 v49_r0 v48_4_r0
  let c_m1_i32_40_r0 : BitVec 32 := 4294967295#32
  let v51_r0 : BitVec 1 := Scalar.cmpi .eq v50_r0 c_m1_i32_40_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let c1_i32_41_r0 : BitVec 32 := 1#32
  let v52_r0 : BitVec 32 := Scalar.subi v5 c1_i32_41_r0
  let v53_r0 : BitVec 32 := Scalar.select v51_r0 v52_r0 v50_r0
  let c20_i32_1 : BitVec 32 := 20#32
  let v6 : BitVec 1 := Scalar.cmpi .slt v3 c20_i32_1
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v59_r0 : BitVec 32 := Scalar.addi v53_r0 v10
  let v81_r0 : BitVec 32 := Scalar.muli c128_i32_r0 v59_r0
  let c0_i32_60_r0 : BitVec 32 := 0#32
  ![v81_r0.toNat, 0]

def k1_chk8 (i : grid1.Coords) (v48_4_r0 : BitVec 32) : Prop :=
  (∀ (k1_h1 : k1_cond1 i = 1#1), ∀ (k1_h18 : k1_cond18 i = 1#1), ∀ a, (k1_off33 i v48_4_r0) a + S128x128.size a ≤ S64000x128.size a)
theorem k1_off33_inb : ∀ (i : grid1.Coords) (v48_4_r0 : BitVec 32) (k1_hw8 : k1_chk8 i v48_4_r0), ∀ (k1_h1 : k1_cond1 i = 1#1), ∀ (k1_h18 : k1_cond18 i = 1#1), ∀ a, (k1_off33 i v48_4_r0) a + S128x128.size a ≤ S64000x128.size a := fun i v48_4_r0 k1_hw8 k1_h1 k1_h18 => k1_hw8 k1_h1 k1_h18

def k1_off34 (v48_3_r0 : BitVec 32) : Fin 1 → Nat :=
  let c2_i32_r0 : BitVec 32 := 2#32
  let v80_r0 : BitVec 32 := Scalar.remui v48_3_r0 c2_i32_r0
  ![v80_r0.toNat]
def k1_off35 (v48_3_r0 : BitVec 32) : Fin 3 → Nat :=
  let c2_i32_r0 : BitVec 32 := 2#32
  let v80_r0 : BitVec 32 := Scalar.remui v48_3_r0 c2_i32_r0
  let c0_i32_62_r0 : BitVec 32 := 0#32
  let c0_i32_63_r0 : BitVec 32 := 0#32
  ![v80_r0.toNat, 0, 0]

def k1_chk7 (i : grid1.Coords) (v48_3_r0 : BitVec 32) : Prop :=
  (∀ (k1_h1 : k1_cond1 i = 1#1), ∀ (k1_h18 : k1_cond18 i = 1#1), ∀ a, (k1_off32 v48_3_r0) a + S1x128x128.size a ≤ S2x128x128.size a) ∧
  (∀ (k1_h1 : k1_cond1 i = 1#1), ∀ (k1_h18 : k1_cond18 i = 1#1), ∀ a, (k1_off34 v48_3_r0) a + S1.size a ≤ S2.size a) ∧
  (∀ (k1_h1 : k1_cond1 i = 1#1), ∀ (k1_h18 : k1_cond18 i = 1#1), ∀ a, (k1_off35 v48_3_r0) a + S1x128x128.size a ≤ S2x128x128.size a)
theorem k1_off32_inb : ∀ (i : grid1.Coords) (v48_3_r0 : BitVec 32) (k1_hw7 : k1_chk7 i v48_3_r0), ∀ (k1_h1 : k1_cond1 i = 1#1), ∀ (k1_h18 : k1_cond18 i = 1#1), ∀ a, (k1_off32 v48_3_r0) a + S1x128x128.size a ≤ S2x128x128.size a := fun i v48_3_r0 k1_hw7 k1_h1 k1_h18 => k1_hw7.1 k1_h1 k1_h18
theorem k1_off34_inb : ∀ (i : grid1.Coords) (v48_3_r0 : BitVec 32) (k1_hw7 : k1_chk7 i v48_3_r0), ∀ (k1_h1 : k1_cond1 i = 1#1), ∀ (k1_h18 : k1_cond18 i = 1#1), ∀ a, (k1_off34 v48_3_r0) a + S1.size a ≤ S2.size a := fun i v48_3_r0 k1_hw7 k1_h1 k1_h18 => k1_hw7.2.1 k1_h1 k1_h18
theorem k1_off35_inb : ∀ (i : grid1.Coords) (v48_3_r0 : BitVec 32) (k1_hw7 : k1_chk7 i v48_3_r0), ∀ (k1_h1 : k1_cond1 i = 1#1), ∀ (k1_h18 : k1_cond18 i = 1#1), ∀ a, (k1_off35 v48_3_r0) a + S1x128x128.size a ≤ S2x128x128.size a := fun i v48_3_r0 k1_hw7 k1_h1 k1_h18 => k1_hw7.2.2 k1_h1 k1_h18

abbrev grid2 : Pipeline.Grid := ⟨2, ![2, 16], ![false, false]⟩

def k2_cond1 (i : grid2.Coords) : BitVec 1 :=
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v11 : BitVec 32 := Scalar.muli c1_i32_4 v5
  let c0_i32_6_r0 : BitVec 32 := 0#32
  let v14_r0 : BitVec 1 := Scalar.cmpi .sgt v11 c0_i32_6_r0
  let v15_r0 : BitVec 32 := Scalar.extui v14_r0
  let c0_i32_7_r0 : BitVec 32 := 0#32
  let v16_r0 : BitVec 1 := Scalar.cmpi .ne v15_r0 c0_i32_7_r0
  v16_r0

def k2_cond2 (i : grid2.Coords) : BitVec 1 :=
  let true_23_r0 : BitVec 1 := 1#1
  let c1_i32_8_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v17_r0 : BitVec 32 := Scalar.muli c1_i32_8_r0 v5
  let c0_i32_22_r0 : BitVec 32 := 0#32
  let v35_r0 : BitVec 1 := Scalar.cmpi .sgt v17_r0 c0_i32_22_r0
  let v36_r0 : BitVec 1 := Scalar.andi true_23_r0 v35_r0
  let true_24_r0 : BitVec 1 := 1#1
  let v37_r0 : BitVec 1 := Scalar.andi v36_r0 true_24_r0
  let v38_r0 : BitVec 32 := Scalar.extui v37_r0
  let c0_i32_26_r0 : BitVec 32 := 0#32
  let v39_r0 : BitVec 1 := Scalar.cmpi .ne v38_r0 c0_i32_26_r0
  v39_r0

def k2_off1 : Fin 3 → Nat :=
  let c0_i32_25_r0 : BitVec 32 := 0#32
  let c2_i32_r0 : BitVec 32 := 2#32
  let v80_r0 : BitVec 32 := Scalar.remui c0_i32_25_r0 c2_i32_r0
  let c0_i32_59_r0 : BitVec 32 := 0#32
  let c0_i32_60_r0 : BitVec 32 := 0#32
  ![v80_r0.toNat, 0, 0]
def k2_off2 (i : grid2.Coords) : Fin 2 → Nat :=
  let c1_i32_58_r0 : BitVec 32 := 1#32
  let c0_i32_11_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v20_r0 : BitVec 32 := Scalar.addi c0_i32_11_r0 v10
  let v81_r0 : BitVec 32 := Scalar.muli c1_i32_58_r0 v20_r0
  let c0_i32_61_r0 : BitVec 32 := 0#32
  ![v81_r0.toNat, 0]
def k2_off3 : Fin 1 → Nat :=
  let c0_i32_25_r0 : BitVec 32 := 0#32
  let c2_i32_r0 : BitVec 32 := 2#32
  let v80_r0 : BitVec 32 := Scalar.remui c0_i32_25_r0 c2_i32_r0
  ![v80_r0.toNat]
@[reducible] def k2_t1_loop (i : grid2.Coords) : Scf.Loop 32 :=
  let c0_i32_30_r0 : BitVec 32 := 0#32
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_36_r0 : BitVec 32 := 1#32
  ⟨c0_i32_30_r0, v46_r0, c1_i32_36_r0⟩
def k2_off4 (arg6_r0 : BitVec 32) : Fin 3 → Nat :=
  let c2_i32_102_r0 : BitVec 32 := 2#32
  let v167_r0 : BitVec 32 := Scalar.remui arg6_r0 c2_i32_102_r0
  let c0_i32_104_r0 : BitVec 32 := 0#32
  let c0_i32_105_r0 : BitVec 32 := 0#32
  ![v167_r0.toNat, 0, 0]
def k2_cond3 (i : grid2.Coords) (k2_t1 : Fin (k2_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v84_r0 : BitVec 32 := Scalar.addi arg10_r0 v10
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v101_r0 : BitVec 1 := Scalar.cmpi .ne v84_r0 v95_r0
  let c0_i32_30_r0 : BitVec 32 := 0#32
  let c1_i32_36_r0 : BitVec 32 := 1#32
  let arg5_r0 : BitVec 32 := Scf.iv c0_i32_30_r0 c1_i32_36_r0 k2_t1
  let c1_i32_58_r0 : BitVec 32 := 1#32
  let v80_r0 : BitVec 32 := Scalar.muli c1_i32_58_r0 v5
  let c2_i32_r0 : BitVec 32 := 2#32
  let v102_r0 : BitVec 32 := Scalar.subi v80_r0 c2_i32_r0
  let c1_i32_71_r0 : BitVec 32 := 1#32
  let v103_r0 : BitVec 32 := Scalar.addi v102_r0 c1_i32_71_r0
  let v104_r0 : BitVec 1 := Scalar.cmpi .sge arg5_r0 v103_r0
  let true_72_r0 : BitVec 1 := 1#1
  let v105_r0 : BitVec 1 := Scalar.xori v104_r0 true_72_r0
  let v106_r0 : BitVec 1 := Scalar.andi v101_r0 v105_r0
  let true_73_r0 : BitVec 1 := 1#1
  let v107_r0 : BitVec 1 := Scalar.andi v106_r0 true_73_r0
  let v108_r0 : BitVec 32 := Scalar.extui v107_r0
  let c0_i32_74_r0 : BitVec 32 := 0#32
  let v109_r0 : BitVec 1 := Scalar.cmpi .ne v108_r0 c0_i32_74_r0
  v109_r0

def k2_off5 (i : grid2.Coords) (arg10_r0 : BitVec 32) : Fin 2 → Nat :=
  let c1_i32_103_r0 : BitVec 32 := 1#32
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v93_r0 : BitVec 1 := Scalar.cmpi .eq v92_r0 v5
  let c0_i32_67_r0 : BitVec 32 := 0#32
  let v94_r0 : BitVec 32 := Scalar.select v93_r0 c0_i32_67_r0 v92_r0
  let c20_i32_1 : BitVec 32 := 20#32
  let v6 : BitVec 1 := Scalar.cmpi .slt v3 c20_i32_1
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v95_r0 : BitVec 32 := Scalar.addi v94_r0 v10
  let v168_r0 : BitVec 32 := Scalar.muli c1_i32_103_r0 v95_r0
  let c0_i32_106_r0 : BitVec 32 := 0#32
  ![v168_r0.toNat, 0]
def k2_off6 (arg6_r0 : BitVec 32) : Fin 1 → Nat :=
  let c2_i32_102_r0 : BitVec 32 := 2#32
  let v167_r0 : BitVec 32 := Scalar.remui arg6_r0 c2_i32_102_r0
  ![v167_r0.toNat]
def k2_off7 (arg7_r0 : BitVec 32) : Fin 3 → Nat :=
  let c2_i32_103_r0 : BitVec 32 := 2#32
  let v168_r0 : BitVec 32 := Scalar.remui arg7_r0 c2_i32_103_r0
  let c0_i32_104_r0 : BitVec 32 := 0#32
  let c0_i32_105_r0 : BitVec 32 := 0#32
  ![v168_r0.toNat, 0, 0]
def k2_cond4 (i : grid2.Coords) (k2_t1 : Fin (k2_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v84_r0 : BitVec 32 := Scalar.addi arg10_r0 v10
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_30_r0 : BitVec 32 := 0#32
  let c1_i32_36_r0 : BitVec 32 := 1#32
  let arg5_r0 : BitVec 32 := Scf.iv c0_i32_30_r0 c1_i32_36_r0 k2_t1
  let c0_i32_59_r0 : BitVec 32 := 0#32
  let v81_r0 : BitVec 1 := Scalar.cmpi .eq arg5_r0 c0_i32_59_r0
  let v120_r0 : BitVec 1 := Scalar.ori v119_r0 v81_r0
  let c0_i32_80_r0 : BitVec 32 := 0#32
  let v121_r0 : BitVec 1 := Scalar.cmpi .sge arg5_r0 c0_i32_80_r0
  let v122_r0 : BitVec 1 := Scalar.andi v120_r0 v121_r0
  let v123_r0 : BitVec 32 := Scalar.extui v122_r0
  let c0_i32_81_r0 : BitVec 32 := 0#32
  let v124_r0 : BitVec 1 := Scalar.cmpi .ne v123_r0 c0_i32_81_r0
  v124_r0

def k2_off8 (i : grid2.Coords) (arg10_r0 : BitVec 32) : Fin 2 → Nat :=
  let c1_i32_102_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v84_r0 : BitVec 32 := Scalar.addi arg10_r0 v10
  let v167_r0 : BitVec 32 := Scalar.muli c1_i32_102_r0 v84_r0
  let c0_i32_106_r0 : BitVec 32 := 0#32
  ![v167_r0.toNat, 0]
def k2_off9 (arg7_r0 : BitVec 32) : Fin 1 → Nat :=
  let c2_i32_103_r0 : BitVec 32 := 2#32
  let v168_r0 : BitVec 32 := Scalar.remui arg7_r0 c2_i32_103_r0
  ![v168_r0.toNat]
def k2_off10 (arg8_r0 : BitVec 32) : Fin 3 → Nat :=
  let c2_i32_85_r0 : BitVec 32 := 2#32
  let v132_r0 : BitVec 32 := Scalar.remui arg8_r0 c2_i32_85_r0
  let c0_i32_102_r1 : BitVec 32 := 0#32
  let c0_i32_103_r1 : BitVec 32 := 0#32
  ![v132_r0.toNat, 0, 0]

def k2_chk2 (i : grid2.Coords) (arg8_r0 : BitVec 32) : Prop :=
  (∀ (k2_h1 : k2_cond1 i = 1#1), ∀ a, (k2_off10 arg8_r0) a + S1x128x128.size a ≤ S2x128x128.size a)
theorem k2_off10_inb : ∀ (i : grid2.Coords) (arg8_r0 : BitVec 32) (k2_hw2 : k2_chk2 i arg8_r0), ∀ (k2_h1 : k2_cond1 i = 1#1), ∀ a, (k2_off10 arg8_r0) a + S1x128x128.size a ≤ S2x128x128.size a := fun i arg8_r0 k2_hw2 k2_h1 => k2_hw2 k2_h1

def k2_off11 (arg7_r0 : BitVec 32) : Fin 3 → Nat :=
  let c2_i32_84_r0 : BitVec 32 := 2#32
  let v131_r0 : BitVec 32 := Scalar.remui arg7_r0 c2_i32_84_r0
  let c0_i32_106_r1 : BitVec 32 := 0#32
  let c0_i32_107_r1 : BitVec 32 := 0#32
  ![v131_r0.toNat, 0, 0]

def k2_chk3 (i : grid2.Coords) (arg7_r0 : BitVec 32) : Prop :=
  (∀ (k2_h1 : k2_cond1 i = 1#1), ∀ a, (k2_off11 arg7_r0) a + S1x1x128.size a ≤ S2x1x128.size a)
theorem k2_off11_inb : ∀ (i : grid2.Coords) (arg7_r0 : BitVec 32) (k2_hw3 : k2_chk3 i arg7_r0), ∀ (k2_h1 : k2_cond1 i = 1#1), ∀ a, (k2_off11 arg7_r0) a + S1x1x128.size a ≤ S2x1x128.size a := fun i arg7_r0 k2_hw3 k2_h1 => k2_hw3 k2_h1

def k2_off12 (arg8_r0 : BitVec 32) : Fin 3 → Nat :=
  let c2_i32_102_r0 : BitVec 32 := 2#32
  let v167_r0 : BitVec 32 := Scalar.remui arg8_r0 c2_i32_102_r0
  let c0_i32_103_r0 : BitVec 32 := 0#32
  let c0_i32_104_r0 : BitVec 32 := 0#32
  ![v167_r0.toNat, 0, 0]
def k2_cond7 (i : grid2.Coords) (k2_t1 : Fin (k2_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v84_r0 : BitVec 32 := Scalar.addi arg10_r0 v10
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v138_r0 : BitVec 1 := Scalar.cmpi .ne v84_r0 v95_r0
  let c0_i32_30_r0 : BitVec 32 := 0#32
  let c1_i32_36_r0 : BitVec 32 := 1#32
  let arg5_r0 : BitVec 32 := Scf.iv c0_i32_30_r0 c1_i32_36_r0 k2_t1
  let c1_i32_58_r0 : BitVec 32 := 1#32
  let v80_r0 : BitVec 32 := Scalar.muli c1_i32_58_r0 v5
  let c1_i32_60_r0 : BitVec 32 := 1#32
  let v82_r0 : BitVec 32 := Scalar.subi v80_r0 c1_i32_60_r0
  let v83_r0 : BitVec 1 := Scalar.cmpi .eq arg5_r0 v82_r0
  let v139_r0 : BitVec 1 := Scalar.ori v138_r0 v83_r0
  let v140_r0 : BitVec 32 := Scalar.extui v139_r0
  let c0_i32_88_r0 : BitVec 32 := 0#32
  let v141_r0 : BitVec 1 := Scalar.cmpi .ne v140_r0 c0_i32_88_r0
  v141_r0

def k2_off13 (i : grid2.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v84_r0 : BitVec 32 := Scalar.addi arg10_r0 v10
  let v168_r0 : BitVec 32 := Scalar.muli c128_i32_r0 v84_r0
  let c0_i32_105_r0 : BitVec 32 := 0#32
  ![v168_r0.toNat, 0]
def k2_off14 (arg8_r0 : BitVec 32) : Fin 1 → Nat :=
  let c2_i32_102_r0 : BitVec 32 := 2#32
  let v167_r0 : BitVec 32 := Scalar.remui arg8_r0 c2_i32_102_r0
  ![v167_r0.toNat]
def k2_off15 (arg9_r0 : BitVec 32) : Fin 3 → Nat :=
  let c2_i32_102_r0 : BitVec 32 := 2#32
  let v167_r0 : BitVec 32 := Scalar.remui arg9_r0 c2_i32_102_r0
  let c0_i32_103_r0 : BitVec 32 := 0#32
  let c0_i32_104_r0 : BitVec 32 := 0#32
  ![v167_r0.toNat, 0, 0]
def k2_cond9 (i : grid2.Coords) (k2_t1 : Fin (k2_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v84_r0 : BitVec 32 := Scalar.addi arg10_r0 v10
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_30_r0 : BitVec 32 := 0#32
  let c1_i32_36_r0 : BitVec 32 := 1#32
  let arg5_r0 : BitVec 32 := Scf.iv c0_i32_30_r0 c1_i32_36_r0 k2_t1
  let c0_i32_59_r0 : BitVec 32 := 0#32
  let v81_r0 : BitVec 1 := Scalar.cmpi .eq arg5_r0 c0_i32_59_r0
  let true_94_r0 : BitVec 1 := 1#1
  let v152_r0 : BitVec 1 := Scalar.xori v81_r0 true_94_r0
  let v153_r0 : BitVec 1 := Scalar.andi v151_r0 v152_r0
  let v154_r0 : BitVec 32 := Scalar.extui v153_r0
  let c0_i32_95_r0 : BitVec 32 := 0#32
  let v155_r0 : BitVec 1 := Scalar.cmpi .ne v154_r0 c0_i32_95_r0
  v155_r0

def k2_off16 (i : grid2.Coords) (arg10_r0 : BitVec 32) : Fin 2 → Nat :=
  let c128_i32_r0 : BitVec 32 := 128#32
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let c1_i32_64_r0 : BitVec 32 := 1#32
  let v88_r0 : BitVec 32 := Scalar.subi v5 c1_i32_64_r0
  let v89_r0 : BitVec 32 := Scalar.select v87_r0 v88_r0 v86_r0
  let c20_i32_1 : BitVec 32 := 20#32
  let v6 : BitVec 1 := Scalar.cmpi .slt v3 c20_i32_1
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v90_r0 : BitVec 32 := Scalar.addi v89_r0 v10
  let v168_r0 : BitVec 32 := Scalar.muli c128_i32_r0 v90_r0
  let c0_i32_105_r0 : BitVec 32 := 0#32
  ![v168_r0.toNat, 0]
def k2_off17 (arg9_r0 : BitVec 32) : Fin 1 → Nat :=
  let c2_i32_102_r0 : BitVec 32 := 2#32
  let v167_r0 : BitVec 32 := Scalar.remui arg9_r0 c2_i32_102_r0
  ![v167_r0.toNat]

def k2_chk1 (i : grid2.Coords) (k2_t1 : Fin (k2_t1_loop i).trips) (arg6_r0 : BitVec 32) (arg7_r0 : BitVec 32) (arg8_r0 : BitVec 32) (arg9_r0 : BitVec 32) (arg10_r0 : BitVec 32) : Prop :=
  (∀ (k2_h1 : k2_cond1 i = 1#1), ∀ (k2_h3 : k2_cond3 i k2_t1 arg10_r0 = 1#1), ∀ a, (k2_off4 arg6_r0) a + S1x1x128.size a ≤ S2x1x128.size a) ∧
  (∀ (k2_h1 : k2_cond1 i = 1#1), ∀ (k2_h3 : k2_cond3 i k2_t1 arg10_r0 = 1#1), ∀ a, (k2_off5 i arg10_r0) a + S1x128.size a ≤ S500x128.size a) ∧
  (∀ (k2_h1 : k2_cond1 i = 1#1), ∀ (k2_h3 : k2_cond3 i k2_t1 arg10_r0 = 1#1), ∀ a, (k2_off6 arg6_r0) a + S1.size a ≤ S2.size a) ∧
  (∀ (k2_h1 : k2_cond1 i = 1#1), ∀ (k2_h4 : k2_cond4 i k2_t1 arg10_r0 = 1#1), ∀ a, (k2_off7 arg7_r0) a + S1x1x128.size a ≤ S2x1x128.size a) ∧
  (∀ (k2_h1 : k2_cond1 i = 1#1), ∀ (k2_h4 : k2_cond4 i k2_t1 arg10_r0 = 1#1), ∀ a, (k2_off8 i arg10_r0) a + S1x128.size a ≤ S500x128.size a) ∧
  (∀ (k2_h1 : k2_cond1 i = 1#1), ∀ (k2_h4 : k2_cond4 i k2_t1 arg10_r0 = 1#1), ∀ a, (k2_off9 arg7_r0) a + S1.size a ≤ S2.size a) ∧
  (∀ (k2_h1 : k2_cond1 i = 1#1), ∀ (k2_h7 : k2_cond7 i k2_t1 arg10_r0 = 1#1), ∀ a, (k2_off12 arg8_r0) a + S1x128x128.size a ≤ S2x128x128.size a) ∧
  (∀ (k2_h1 : k2_cond1 i = 1#1), ∀ (k2_h7 : k2_cond7 i k2_t1 arg10_r0 = 1#1), ∀ a, (k2_off13 i arg10_r0) a + S128x128.size a ≤ S64000x128.size a) ∧
  (∀ (k2_h1 : k2_cond1 i = 1#1), ∀ (k2_h7 : k2_cond7 i k2_t1 arg10_r0 = 1#1), ∀ a, (k2_off14 arg8_r0) a + S1.size a ≤ S2.size a) ∧
  (∀ (k2_h1 : k2_cond1 i = 1#1), ∀ (k2_h9 : k2_cond9 i k2_t1 arg10_r0 = 1#1), ∀ a, (k2_off15 arg9_r0) a + S1x128x128.size a ≤ S2x128x128.size a) ∧
  (∀ (k2_h1 : k2_cond1 i = 1#1), ∀ (k2_h9 : k2_cond9 i k2_t1 arg10_r0 = 1#1), ∀ a, (k2_off16 i arg10_r0) a + S128x128.size a ≤ S64000x128.size a) ∧
  (∀ (k2_h1 : k2_cond1 i = 1#1), ∀ (k2_h9 : k2_cond9 i k2_t1 arg10_r0 = 1#1), ∀ a, (k2_off17 arg9_r0) a + S1.size a ≤ S2.size a)
theorem k2_off4_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h3 : k2_cond3 i k2_t1 arg10_r0 = 1#1), ∀ a, (k2_off4 arg6_r0) a + S1x1x128.size a ≤ S2x1x128.size a := fun i k2_t1 arg6_r0 arg7_r0 arg8_r0 arg9_r0 arg10_r0 k2_hw1 k2_h1 k2_h3 => k2_hw1.1 k2_h1 k2_h3
theorem k2_off5_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h3 : k2_cond3 i k2_t1 arg10_r0 = 1#1), ∀ a, (k2_off5 i arg10_r0) a + S1x128.size a ≤ S500x128.size a := fun i k2_t1 arg6_r0 arg7_r0 arg8_r0 arg9_r0 arg10_r0 k2_hw1 k2_h1 k2_h3 => k2_hw1.2.1 k2_h1 k2_h3
theorem k2_off6_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h3 : k2_cond3 i k2_t1 arg10_r0 = 1#1), ∀ a, (k2_off6 arg6_r0) a + S1.size a ≤ S2.size a := fun i k2_t1 arg6_r0 arg7_r0 arg8_r0 arg9_r0 arg10_r0 k2_hw1 k2_h1 k2_h3 => k2_hw1.2.2.1 k2_h1 k2_h3
theorem k2_off7_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h4 : k2_cond4 i k2_t1 arg10_r0 = 1#1), ∀ a, (k2_off7 arg7_r0) a + S1x1x128.size a ≤ S2x1x128.size a := fun i k2_t1 arg6_r0 arg7_r0 arg8_r0 arg9_r0 arg10_r0 k2_hw1 k2_h1 k2_h4 => k2_hw1.2.2.2.1 k2_h1 k2_h4
theorem k2_off8_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h4 : k2_cond4 i k2_t1 arg10_r0 = 1#1), ∀ a, (k2_off8 i arg10_r0) a + S1x128.size a ≤ S500x128.size a := fun i k2_t1 arg6_r0 arg7_r0 arg8_r0 arg9_r0 arg10_r0 k2_hw1 k2_h1 k2_h4 => k2_hw1.2.2.2.2.1 k2_h1 k2_h4
theorem k2_off9_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h4 : k2_cond4 i k2_t1 arg10_r0 = 1#1), ∀ a, (k2_off9 arg7_r0) a + S1.size a ≤ S2.size a := fun i k2_t1 arg6_r0 arg7_r0 arg8_r0 arg9_r0 arg10_r0 k2_hw1 k2_h1 k2_h4 => k2_hw1.2.2.2.2.2.1 k2_h1 k2_h4
theorem k2_off12_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h7 : k2_cond7 i k2_t1 arg10_r0 = 1#1), ∀ a, (k2_off12 arg8_r0) a + S1x128x128.size a ≤ S2x128x128.size a := fun i k2_t1 arg6_r0 arg7_r0 arg8_r0 arg9_r0 arg10_r0 k2_hw1 k2_h1 k2_h7 => k2_hw1.2.2.2.2.2.2.1 k2_h1 k2_h7
theorem k2_off13_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h7 : k2_cond7 i k2_t1 arg10_r0 = 1#1), ∀ a, (k2_off13 i arg10_r0) a + S128x128.size a ≤ S64000x128.size a := fun i k2_t1 arg6_r0 arg7_r0 arg8_r0 arg9_r0 arg10_r0 k2_hw1 k2_h1 k2_h7 => k2_hw1.2.2.2.2.2.2.2.1 k2_h1 k2_h7
theorem k2_off14_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h7 : k2_cond7 i k2_t1 arg10_r0 = 1#1), ∀ a, (k2_off14 arg8_r0) a + S1.size a ≤ S2.size a := fun i k2_t1 arg6_r0 arg7_r0 arg8_r0 arg9_r0 arg10_r0 k2_hw1 k2_h1 k2_h7 => k2_hw1.2.2.2.2.2.2.2.2.1 k2_h1 k2_h7
theorem k2_off15_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h9 : k2_cond9 i k2_t1 arg10_r0 = 1#1), ∀ a, (k2_off15 arg9_r0) a + S1x128x128.size a ≤ S2x128x128.size a := fun i k2_t1 arg6_r0 arg7_r0 arg8_r0 arg9_r0 arg10_r0 k2_hw1 k2_h1 k2_h9 => k2_hw1.2.2.2.2.2.2.2.2.2.1 k2_h1 k2_h9
theorem k2_off16_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h9 : k2_cond9 i k2_t1 arg10_r0 = 1#1), ∀ a, (k2_off16 i arg10_r0) a + S128x128.size a ≤ S64000x128.size a := fun i k2_t1 arg6_r0 arg7_r0 arg8_r0 arg9_r0 arg10_r0 k2_hw1 k2_h1 k2_h9 => k2_hw1.2.2.2.2.2.2.2.2.2.2.1 k2_h1 k2_h9
theorem k2_off17_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h9 : k2_cond9 i k2_t1 arg10_r0 = 1#1), ∀ a, (k2_off17 arg9_r0) a + S1.size a ≤ S2.size a := fun i k2_t1 arg6_r0 arg7_r0 arg8_r0 arg9_r0 arg10_r0 k2_hw1 k2_h1 k2_h9 => k2_hw1.2.2.2.2.2.2.2.2.2.2.2 k2_h1 k2_h9

@[reducible] def k2_t2_loop (i : grid2.Coords) : Scf.Loop 32 :=
  let c0_i32_30_r0 : BitVec 32 := 0#32
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let v43_r0 : BitVec 32 := Scalar.addi c0_i32_30_r0 v42_r0
  let c1_i32_37_r0 : BitVec 32 := 1#32
  ⟨v46_r0, v43_r0, c1_i32_37_r0⟩
def k2_off18 (arg6_r0 : BitVec 32) : Fin 3 → Nat :=
  let c2_i32_102_r0 : BitVec 32 := 2#32
  let v167_r0 : BitVec 32 := Scalar.remui arg6_r0 c2_i32_102_r0
  let c0_i32_104_r0 : BitVec 32 := 0#32
  let c0_i32_105_r0 : BitVec 32 := 0#32
  ![v167_r0.toNat, 0, 0]
def k2_cond10 (i : grid2.Coords) (k2_t2 : Fin (k2_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v84_r0 : BitVec 32 := Scalar.addi arg10_r0 v10
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v101_r0 : BitVec 1 := Scalar.cmpi .ne v84_r0 v95_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg5_r0 : BitVec 32 := Scf.iv v46_r0 c1_i32_37_r0 k2_t2
  let c1_i32_58_r0 : BitVec 32 := 1#32
  let v80_r0 : BitVec 32 := Scalar.muli c1_i32_58_r0 v5
  let c2_i32_r0 : BitVec 32 := 2#32
  let v102_r0 : BitVec 32 := Scalar.subi v80_r0 c2_i32_r0
  let c1_i32_71_r0 : BitVec 32 := 1#32
  let v103_r0 : BitVec 32 := Scalar.addi v102_r0 c1_i32_71_r0
  let v104_r0 : BitVec 1 := Scalar.cmpi .sge arg5_r0 v103_r0
  let true_72_r0 : BitVec 1 := 1#1
  let v105_r0 : BitVec 1 := Scalar.xori v104_r0 true_72_r0
  let v106_r0 : BitVec 1 := Scalar.andi v101_r0 v105_r0
  let true_73_r0 : BitVec 1 := 1#1
  let v107_r0 : BitVec 1 := Scalar.andi v106_r0 true_73_r0
  let v108_r0 : BitVec 32 := Scalar.extui v107_r0
  let c0_i32_74_r0 : BitVec 32 := 0#32
  let v109_r0 : BitVec 1 := Scalar.cmpi .ne v108_r0 c0_i32_74_r0
  v109_r0

def k2_off19 (i : grid2.Coords) (arg10_r0 : BitVec 32) : Fin 2 → Nat :=
  let c1_i32_103_r0 : BitVec 32 := 1#32
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v93_r0 : BitVec 1 := Scalar.cmpi .eq v92_r0 v5
  let c0_i32_67_r0 : BitVec 32 := 0#32
  let v94_r0 : BitVec 32 := Scalar.select v93_r0 c0_i32_67_r0 v92_r0
  let c20_i32_1 : BitVec 32 := 20#32
  let v6 : BitVec 1 := Scalar.cmpi .slt v3 c20_i32_1
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v95_r0 : BitVec 32 := Scalar.addi v94_r0 v10
  let v168_r0 : BitVec 32 := Scalar.muli c1_i32_103_r0 v95_r0
  let c0_i32_106_r0 : BitVec 32 := 0#32
  ![v168_r0.toNat, 0]
def k2_off20 (arg6_r0 : BitVec 32) : Fin 1 → Nat :=
  let c2_i32_102_r0 : BitVec 32 := 2#32
  let v167_r0 : BitVec 32 := Scalar.remui arg6_r0 c2_i32_102_r0
  ![v167_r0.toNat]
def k2_off21 (arg7_r0 : BitVec 32) : Fin 3 → Nat :=
  let c2_i32_103_r0 : BitVec 32 := 2#32
  let v168_r0 : BitVec 32 := Scalar.remui arg7_r0 c2_i32_103_r0
  let c0_i32_104_r0 : BitVec 32 := 0#32
  let c0_i32_105_r0 : BitVec 32 := 0#32
  ![v168_r0.toNat, 0, 0]
def k2_cond11 (i : grid2.Coords) (k2_t2 : Fin (k2_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v84_r0 : BitVec 32 := Scalar.addi arg10_r0 v10
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg5_r0 : BitVec 32 := Scf.iv v46_r0 c1_i32_37_r0 k2_t2
  let c0_i32_59_r0 : BitVec 32 := 0#32
  let v81_r0 : BitVec 1 := Scalar.cmpi .eq arg5_r0 c0_i32_59_r0
  let v120_r0 : BitVec 1 := Scalar.ori v119_r0 v81_r0
  let c0_i32_80_r0 : BitVec 32 := 0#32
  let v121_r0 : BitVec 1 := Scalar.cmpi .sge arg5_r0 c0_i32_80_r0
  let v122_r0 : BitVec 1 := Scalar.andi v120_r0 v121_r0
  let v123_r0 : BitVec 32 := Scalar.extui v122_r0
  let c0_i32_81_r0 : BitVec 32 := 0#32
  let v124_r0 : BitVec 1 := Scalar.cmpi .ne v123_r0 c0_i32_81_r0
  v124_r0

def k2_off22 (i : grid2.Coords) (arg10_r0 : BitVec 32) : Fin 2 → Nat :=
  let c1_i32_102_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v84_r0 : BitVec 32 := Scalar.addi arg10_r0 v10
  let v167_r0 : BitVec 32 := Scalar.muli c1_i32_102_r0 v84_r0
  let c0_i32_106_r0 : BitVec 32 := 0#32
  ![v167_r0.toNat, 0]
def k2_off23 (arg7_r0 : BitVec 32) : Fin 1 → Nat :=
  let c2_i32_103_r0 : BitVec 32 := 2#32
  let v168_r0 : BitVec 32 := Scalar.remui arg7_r0 c2_i32_103_r0
  ![v168_r0.toNat]
def k2_off24 (arg8_r0 : BitVec 32) : Fin 3 → Nat :=
  let c2_i32_85_r0 : BitVec 32 := 2#32
  let v132_r0 : BitVec 32 := Scalar.remui arg8_r0 c2_i32_85_r0
  let c0_i32_102_r2 : BitVec 32 := 0#32
  let c0_i32_103_r2 : BitVec 32 := 0#32
  ![v132_r0.toNat, 0, 0]

def k2_chk5 (i : grid2.Coords) (k2_t2 : Fin (k2_t2_loop i).trips) (arg8_r0 : BitVec 32) : Prop :=
  (∀ (k2_h1 : k2_cond1 i = 1#1), ∀ a, (k2_off24 arg8_r0) a + S1x128x128.size a ≤ S2x128x128.size a)
theorem k2_off24_inb : ∀ (i : grid2.Coords) (k2_t2 : Fin (k2_t2_loop i).trips) (arg8_r0 : BitVec 32) (k2_hw5 : k2_chk5 i k2_t2 arg8_r0), ∀ (k2_h1 : k2_cond1 i = 1#1), ∀ a, (k2_off24 arg8_r0) a + S1x128x128.size a ≤ S2x128x128.size a := fun i k2_t2 arg8_r0 k2_hw5 k2_h1 => k2_hw5 k2_h1

def k2_off25 (arg7_r0 : BitVec 32) : Fin 3 → Nat :=
  let c2_i32_84_r0 : BitVec 32 := 2#32
  let v131_r0 : BitVec 32 := Scalar.remui arg7_r0 c2_i32_84_r0
  let c0_i32_106_r2 : BitVec 32 := 0#32
  let c0_i32_107_r2 : BitVec 32 := 0#32
  ![v131_r0.toNat, 0, 0]

def k2_chk6 (i : grid2.Coords) (k2_t2 : Fin (k2_t2_loop i).trips) (arg7_r0 : BitVec 32) : Prop :=
  (∀ (k2_h1 : k2_cond1 i = 1#1), ∀ a, (k2_off25 arg7_r0) a + S1x1x128.size a ≤ S2x1x128.size a)
theorem k2_off25_inb : ∀ (i : grid2.Coords) (k2_t2 : Fin (k2_t2_loop i).trips) (arg7_r0 : BitVec 32) (k2_hw6 : k2_chk6 i k2_t2 arg7_r0), ∀ (k2_h1 : k2_cond1 i = 1#1), ∀ a, (k2_off25 arg7_r0) a + S1x1x128.size a ≤ S2x1x128.size a := fun i k2_t2 arg7_r0 k2_hw6 k2_h1 => k2_hw6 k2_h1

def k2_off26 (arg8_r0 : BitVec 32) : Fin 3 → Nat :=
  let c2_i32_102_r0 : BitVec 32 := 2#32
  let v167_r0 : BitVec 32 := Scalar.remui arg8_r0 c2_i32_102_r0
  let c0_i32_103_r0 : BitVec 32 := 0#32
  let c0_i32_104_r0 : BitVec 32 := 0#32
  ![v167_r0.toNat, 0, 0]
def k2_cond14 (i : grid2.Coords) (k2_t2 : Fin (k2_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v84_r0 : BitVec 32 := Scalar.addi arg10_r0 v10
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v138_r0 : BitVec 1 := Scalar.cmpi .ne v84_r0 v95_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg5_r0 : BitVec 32 := Scf.iv v46_r0 c1_i32_37_r0 k2_t2
  let c1_i32_58_r0 : BitVec 32 := 1#32
  let v80_r0 : BitVec 32 := Scalar.muli c1_i32_58_r0 v5
  let c1_i32_60_r0 : BitVec 32 := 1#32
  let v82_r0 : BitVec 32 := Scalar.subi v80_r0 c1_i32_60_r0
  let v83_r0 : BitVec 1 := Scalar.cmpi .eq arg5_r0 v82_r0
  let v139_r0 : BitVec 1 := Scalar.ori v138_r0 v83_r0
  let v140_r0 : BitVec 32 := Scalar.extui v139_r0
  let c0_i32_88_r0 : BitVec 32 := 0#32
  let v141_r0 : BitVec 1 := Scalar.cmpi .ne v140_r0 c0_i32_88_r0
  v141_r0

def k2_off27 (i : grid2.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v84_r0 : BitVec 32 := Scalar.addi arg10_r0 v10
  let v168_r0 : BitVec 32 := Scalar.muli c128_i32_r0 v84_r0
  let c0_i32_105_r0 : BitVec 32 := 0#32
  ![v168_r0.toNat, 0]
def k2_off28 (arg8_r0 : BitVec 32) : Fin 1 → Nat :=
  let c2_i32_102_r0 : BitVec 32 := 2#32
  let v167_r0 : BitVec 32 := Scalar.remui arg8_r0 c2_i32_102_r0
  ![v167_r0.toNat]
def k2_off29 (arg9_r0 : BitVec 32) : Fin 3 → Nat :=
  let c2_i32_102_r0 : BitVec 32 := 2#32
  let v167_r0 : BitVec 32 := Scalar.remui arg9_r0 c2_i32_102_r0
  let c0_i32_103_r0 : BitVec 32 := 0#32
  let c0_i32_104_r0 : BitVec 32 := 0#32
  ![v167_r0.toNat, 0, 0]
def k2_cond16 (i : grid2.Coords) (k2_t2 : Fin (k2_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v84_r0 : BitVec 32 := Scalar.addi arg10_r0 v10
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg5_r0 : BitVec 32 := Scf.iv v46_r0 c1_i32_37_r0 k2_t2
  let c0_i32_59_r0 : BitVec 32 := 0#32
  let v81_r0 : BitVec 1 := Scalar.cmpi .eq arg5_r0 c0_i32_59_r0
  let true_94_r0 : BitVec 1 := 1#1
  let v152_r0 : BitVec 1 := Scalar.xori v81_r0 true_94_r0
  let v153_r0 : BitVec 1 := Scalar.andi v151_r0 v152_r0
  let v154_r0 : BitVec 32 := Scalar.extui v153_r0
  let c0_i32_95_r0 : BitVec 32 := 0#32
  let v155_r0 : BitVec 1 := Scalar.cmpi .ne v154_r0 c0_i32_95_r0
  v155_r0

def k2_off30 (i : grid2.Coords) (arg10_r0 : BitVec 32) : Fin 2 → Nat :=
  let c128_i32_r0 : BitVec 32 := 128#32
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let c1_i32_64_r0 : BitVec 32 := 1#32
  let v88_r0 : BitVec 32 := Scalar.subi v5 c1_i32_64_r0
  let v89_r0 : BitVec 32 := Scalar.select v87_r0 v88_r0 v86_r0
  let c20_i32_1 : BitVec 32 := 20#32
  let v6 : BitVec 1 := Scalar.cmpi .slt v3 c20_i32_1
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v90_r0 : BitVec 32 := Scalar.addi v89_r0 v10
  let v168_r0 : BitVec 32 := Scalar.muli c128_i32_r0 v90_r0
  let c0_i32_105_r0 : BitVec 32 := 0#32
  ![v168_r0.toNat, 0]
def k2_off31 (arg9_r0 : BitVec 32) : Fin 1 → Nat :=
  let c2_i32_102_r0 : BitVec 32 := 2#32
  let v167_r0 : BitVec 32 := Scalar.remui arg9_r0 c2_i32_102_r0
  ![v167_r0.toNat]

def k2_chk4 (i : grid2.Coords) (k2_t2 : Fin (k2_t2_loop i).trips) (arg6_r0 : BitVec 32) (arg7_r0 : BitVec 32) (arg8_r0 : BitVec 32) (arg9_r0 : BitVec 32) (arg10_r0 : BitVec 32) : Prop :=
  (∀ (k2_h1 : k2_cond1 i = 1#1), ∀ (k2_h10 : k2_cond10 i k2_t2 arg10_r0 = 1#1), ∀ a, (k2_off18 arg6_r0) a + S1x1x128.size a ≤ S2x1x128.size a) ∧
  (∀ (k2_h1 : k2_cond1 i = 1#1), ∀ (k2_h10 : k2_cond10 i k2_t2 arg10_r0 = 1#1), ∀ a, (k2_off19 i arg10_r0) a + S1x128.size a ≤ S500x128.size a) ∧
  (∀ (k2_h1 : k2_cond1 i = 1#1), ∀ (k2_h10 : k2_cond10 i k2_t2 arg10_r0 = 1#1), ∀ a, (k2_off20 arg6_r0) a + S1.size a ≤ S2.size a) ∧
  (∀ (k2_h1 : k2_cond1 i = 1#1), ∀ (k2_h11 : k2_cond11 i k2_t2 arg10_r0 = 1#1), ∀ a, (k2_off21 arg7_r0) a + S1x1x128.size a ≤ S2x1x128.size a) ∧
  (∀ (k2_h1 : k2_cond1 i = 1#1), ∀ (k2_h11 : k2_cond11 i k2_t2 arg10_r0 = 1#1), ∀ a, (k2_off22 i arg10_r0) a + S1x128.size a ≤ S500x128.size a) ∧
  (∀ (k2_h1 : k2_cond1 i = 1#1), ∀ (k2_h11 : k2_cond11 i k2_t2 arg10_r0 = 1#1), ∀ a, (k2_off23 arg7_r0) a + S1.size a ≤ S2.size a) ∧
  (∀ (k2_h1 : k2_cond1 i = 1#1), ∀ (k2_h14 : k2_cond14 i k2_t2 arg10_r0 = 1#1), ∀ a, (k2_off26 arg8_r0) a + S1x128x128.size a ≤ S2x128x128.size a) ∧
  (∀ (k2_h1 : k2_cond1 i = 1#1), ∀ (k2_h14 : k2_cond14 i k2_t2 arg10_r0 = 1#1), ∀ a, (k2_off27 i arg10_r0) a + S128x128.size a ≤ S64000x128.size a) ∧
  (∀ (k2_h1 : k2_cond1 i = 1#1), ∀ (k2_h14 : k2_cond14 i k2_t2 arg10_r0 = 1#1), ∀ a, (k2_off28 arg8_r0) a + S1.size a ≤ S2.size a) ∧
  (∀ (k2_h1 : k2_cond1 i = 1#1), ∀ (k2_h16 : k2_cond16 i k2_t2 arg10_r0 = 1#1), ∀ a, (k2_off29 arg9_r0) a + S1x128x128.size a ≤ S2x128x128.size a) ∧
  (∀ (k2_h1 : k2_cond1 i = 1#1), ∀ (k2_h16 : k2_cond16 i k2_t2 arg10_r0 = 1#1), ∀ a, (k2_off30 i arg10_r0) a + S128x128.size a ≤ S64000x128.size a) ∧
  (∀ (k2_h1 : k2_cond1 i = 1#1), ∀ (k2_h16 : k2_cond16 i k2_t2 arg10_r0 = 1#1), ∀ a, (k2_off31 arg9_r0) a + S1.size a ≤ S2.size a)
theorem k2_off18_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h10 : k2_cond10 i k2_t2 arg10_r0 = 1#1), ∀ a, (k2_off18 arg6_r0) a + S1x1x128.size a ≤ S2x1x128.size a := fun i k2_t2 arg6_r0 arg7_r0 arg8_r0 arg9_r0 arg10_r0 k2_hw4 k2_h1 k2_h10 => k2_hw4.1 k2_h1 k2_h10
theorem k2_off19_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h10 : k2_cond10 i k2_t2 arg10_r0 = 1#1), ∀ a, (k2_off19 i arg10_r0) a + S1x128.size a ≤ S500x128.size a := fun i k2_t2 arg6_r0 arg7_r0 arg8_r0 arg9_r0 arg10_r0 k2_hw4 k2_h1 k2_h10 => k2_hw4.2.1 k2_h1 k2_h10
theorem k2_off20_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h10 : k2_cond10 i k2_t2 arg10_r0 = 1#1), ∀ a, (k2_off20 arg6_r0) a + S1.size a ≤ S2.size a := fun i k2_t2 arg6_r0 arg7_r0 arg8_r0 arg9_r0 arg10_r0 k2_hw4 k2_h1 k2_h10 => k2_hw4.2.2.1 k2_h1 k2_h10
theorem k2_off21_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h11 : k2_cond11 i k2_t2 arg10_r0 = 1#1), ∀ a, (k2_off21 arg7_r0) a + S1x1x128.size a ≤ S2x1x128.size a := fun i k2_t2 arg6_r0 arg7_r0 arg8_r0 arg9_r0 arg10_r0 k2_hw4 k2_h1 k2_h11 => k2_hw4.2.2.2.1 k2_h1 k2_h11
theorem k2_off22_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h11 : k2_cond11 i k2_t2 arg10_r0 = 1#1), ∀ a, (k2_off22 i arg10_r0) a + S1x128.size a ≤ S500x128.size a := fun i k2_t2 arg6_r0 arg7_r0 arg8_r0 arg9_r0 arg10_r0 k2_hw4 k2_h1 k2_h11 => k2_hw4.2.2.2.2.1 k2_h1 k2_h11
theorem k2_off23_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h11 : k2_cond11 i k2_t2 arg10_r0 = 1#1), ∀ a, (k2_off23 arg7_r0) a + S1.size a ≤ S2.size a := fun i k2_t2 arg6_r0 arg7_r0 arg8_r0 arg9_r0 arg10_r0 k2_hw4 k2_h1 k2_h11 => k2_hw4.2.2.2.2.2.1 k2_h1 k2_h11
theorem k2_off26_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h14 : k2_cond14 i k2_t2 arg10_r0 = 1#1), ∀ a, (k2_off26 arg8_r0) a + S1x128x128.size a ≤ S2x128x128.size a := fun i k2_t2 arg6_r0 arg7_r0 arg8_r0 arg9_r0 arg10_r0 k2_hw4 k2_h1 k2_h14 => k2_hw4.2.2.2.2.2.2.1 k2_h1 k2_h14
theorem k2_off27_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h14 : k2_cond14 i k2_t2 arg10_r0 = 1#1), ∀ a, (k2_off27 i arg10_r0) a + S128x128.size a ≤ S64000x128.size a := fun i k2_t2 arg6_r0 arg7_r0 arg8_r0 arg9_r0 arg10_r0 k2_hw4 k2_h1 k2_h14 => k2_hw4.2.2.2.2.2.2.2.1 k2_h1 k2_h14
theorem k2_off28_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h14 : k2_cond14 i k2_t2 arg10_r0 = 1#1), ∀ a, (k2_off28 arg8_r0) a + S1.size a ≤ S2.size a := fun i k2_t2 arg6_r0 arg7_r0 arg8_r0 arg9_r0 arg10_r0 k2_hw4 k2_h1 k2_h14 => k2_hw4.2.2.2.2.2.2.2.2.1 k2_h1 k2_h14
theorem k2_off29_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h16 : k2_cond16 i k2_t2 arg10_r0 = 1#1), ∀ a, (k2_off29 arg9_r0) a + S1x128x128.size a ≤ S2x128x128.size a := fun i k2_t2 arg6_r0 arg7_r0 arg8_r0 arg9_r0 arg10_r0 k2_hw4 k2_h1 k2_h16 => k2_hw4.2.2.2.2.2.2.2.2.2.1 k2_h1 k2_h16
theorem k2_off30_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h16 : k2_cond16 i k2_t2 arg10_r0 = 1#1), ∀ a, (k2_off30 i arg10_r0) a + S128x128.size a ≤ S64000x128.size a := fun i k2_t2 arg6_r0 arg7_r0 arg8_r0 arg9_r0 arg10_r0 k2_hw4 k2_h1 k2_h16 => k2_hw4.2.2.2.2.2.2.2.2.2.2.1 k2_h1 k2_h16
theorem k2_off31_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h16 : k2_cond16 i k2_t2 arg10_r0 = 1#1), ∀ a, (k2_off31 arg9_r0) a + S1.size a ≤ S2.size a := fun i k2_t2 arg6_r0 arg7_r0 arg8_r0 arg9_r0 arg10_r0 k2_hw4 k2_h1 k2_h16 => k2_hw4.2.2.2.2.2.2.2.2.2.2.2 k2_h1 k2_h16

def k2_cond18 (i : grid2.Coords) : BitVec 1 :=
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v11 : BitVec 32 := Scalar.muli c1_i32_4 v5
  let c1_i32_42_r0 : BitVec 32 := 1#32
  let v54_r0 : BitVec 32 := Scalar.subi v11 c1_i32_42_r0
  let c1_i32_43_r0 : BitVec 32 := 1#32
  let v55_r0 : BitVec 32 := Scalar.muli c1_i32_43_r0 v5
  let c1_i32_45_r0 : BitVec 32 := 1#32
  let v57_r0 : BitVec 32 := Scalar.subi v55_r0 c1_i32_45_r0
  let v58_r0 : BitVec 1 := Scalar.cmpi .eq v54_r0 v57_r0
  let v78_r0 : BitVec 32 := Scalar.extui v58_r0
  let c0_i32_57_r0 : BitVec 32 := 0#32
  let v79_r0 : BitVec 1 := Scalar.cmpi .ne v78_r0 c0_i32_57_r0
  v79_r0

def k2_off32 (v48_3_r0 : BitVec 32) : Fin 3 → Nat :=
  let c2_i32_r0 : BitVec 32 := 2#32
  let v80_r0 : BitVec 32 := Scalar.remui v48_3_r0 c2_i32_r0
  let c0_i32_58_r0 : BitVec 32 := 0#32
  let c0_i32_59_r0 : BitVec 32 := 0#32
  ![v80_r0.toNat, 0, 0]

def k2_off33 (i : grid2.Coords) (v48_4_r0 : BitVec 32) : Fin 2 → Nat :=
  let c128_i32_r0 : BitVec 32 := 128#32
  let true_39_r0 : BitVec 1 := 1#1
  let c1_i32_38_r0 : BitVec 32 := 1#32
  let v49_r0 : BitVec 32 := Scalar.subi v48_4_r0 c1_i32_38_r0
  let v50_r0 : BitVec 32 := Scalar.select true_39_r0 v49_r0 v48_4_r0
  let c_m1_i32_40_r0 : BitVec 32 := 4294967295#32
  let v51_r0 : BitVec 1 := Scalar.cmpi .eq v50_r0 c_m1_i32_40_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let c1_i32_41_r0 : BitVec 32 := 1#32
  let v52_r0 : BitVec 32 := Scalar.subi v5 c1_i32_41_r0
  let v53_r0 : BitVec 32 := Scalar.select v51_r0 v52_r0 v50_r0
  let c20_i32_1 : BitVec 32 := 20#32
  let v6 : BitVec 1 := Scalar.cmpi .slt v3 c20_i32_1
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v59_r0 : BitVec 32 := Scalar.addi v53_r0 v10
  let v81_r0 : BitVec 32 := Scalar.muli c128_i32_r0 v59_r0
  let c0_i32_60_r0 : BitVec 32 := 0#32
  ![v81_r0.toNat, 0]

def k2_chk8 (i : grid2.Coords) (v48_4_r0 : BitVec 32) : Prop :=
  (∀ (k2_h1 : k2_cond1 i = 1#1), ∀ (k2_h18 : k2_cond18 i = 1#1), ∀ a, (k2_off33 i v48_4_r0) a + S128x128.size a ≤ S64000x128.size a)
theorem k2_off33_inb : ∀ (i : grid2.Coords) (v48_4_r0 : BitVec 32) (k2_hw8 : k2_chk8 i v48_4_r0), ∀ (k2_h1 : k2_cond1 i = 1#1), ∀ (k2_h18 : k2_cond18 i = 1#1), ∀ a, (k2_off33 i v48_4_r0) a + S128x128.size a ≤ S64000x128.size a := fun i v48_4_r0 k2_hw8 k2_h1 k2_h18 => k2_hw8 k2_h1 k2_h18

def k2_off34 (v48_3_r0 : BitVec 32) : Fin 1 → Nat :=
  let c2_i32_r0 : BitVec 32 := 2#32
  let v80_r0 : BitVec 32 := Scalar.remui v48_3_r0 c2_i32_r0
  ![v80_r0.toNat]
def k2_off35 (v48_3_r0 : BitVec 32) : Fin 3 → Nat :=
  let c2_i32_r0 : BitVec 32 := 2#32
  let v80_r0 : BitVec 32 := Scalar.remui v48_3_r0 c2_i32_r0
  let c0_i32_62_r0 : BitVec 32 := 0#32
  let c0_i32_63_r0 : BitVec 32 := 0#32
  ![v80_r0.toNat, 0, 0]

def k2_chk7 (i : grid2.Coords) (v48_3_r0 : BitVec 32) : Prop :=
  (∀ (k2_h1 : k2_cond1 i = 1#1), ∀ (k2_h18 : k2_cond18 i = 1#1), ∀ a, (k2_off32 v48_3_r0) a + S1x128x128.size a ≤ S2x128x128.size a) ∧
  (∀ (k2_h1 : k2_cond1 i = 1#1), ∀ (k2_h18 : k2_cond18 i = 1#1), ∀ a, (k2_off34 v48_3_r0) a + S1.size a ≤ S2.size a) ∧
  (∀ (k2_h1 : k2_cond1 i = 1#1), ∀ (k2_h18 : k2_cond18 i = 1#1), ∀ a, (k2_off35 v48_3_r0) a + S1x128x128.size a ≤ S2x128x128.size a)
theorem k2_off32_inb : ∀ (i : grid2.Coords) (v48_3_r0 : BitVec 32) (k2_hw7 : k2_chk7 i v48_3_r0), ∀ (k2_h1 : k2_cond1 i = 1#1), ∀ (k2_h18 : k2_cond18 i = 1#1), ∀ a, (k2_off32 v48_3_r0) a + S1x128x128.size a ≤ S2x128x128.size a := fun i v48_3_r0 k2_hw7 k2_h1 k2_h18 => k2_hw7.1 k2_h1 k2_h18
theorem k2_off34_inb : ∀ (i : grid2.Coords) (v48_3_r0 : BitVec 32) (k2_hw7 : k2_chk7 i v48_3_r0), ∀ (k2_h1 : k2_cond1 i = 1#1), ∀ (k2_h18 : k2_cond18 i = 1#1), ∀ a, (k2_off34 v48_3_r0) a + S1.size a ≤ S2.size a := fun i v48_3_r0 k2_hw7 k2_h1 k2_h18 => k2_hw7.2.1 k2_h1 k2_h18
theorem k2_off35_inb : ∀ (i : grid2.Coords) (v48_3_r0 : BitVec 32) (k2_hw7 : k2_chk7 i v48_3_r0), ∀ (k2_h1 : k2_cond1 i = 1#1), ∀ (k2_h18 : k2_cond18 i = 1#1), ∀ a, (k2_off35 v48_3_r0) a + S1x128x128.size a ≤ S2x128x128.size a := fun i v48_3_r0 k2_hw7 k2_h1 k2_h18 => k2_hw7.2.2 k2_h1 k2_h18

abbrev grid3 : Pipeline.Grid := ⟨2, ![2, 16], ![false, false]⟩

def k3_cond1 (i : grid3.Coords) : BitVec 1 :=
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v11 : BitVec 32 := Scalar.muli c1_i32_4 v5
  let c0_i32_6_r0 : BitVec 32 := 0#32
  let v14_r0 : BitVec 1 := Scalar.cmpi .sgt v11 c0_i32_6_r0
  let v15_r0 : BitVec 32 := Scalar.extui v14_r0
  let c0_i32_7_r0 : BitVec 32 := 0#32
  let v16_r0 : BitVec 1 := Scalar.cmpi .ne v15_r0 c0_i32_7_r0
  v16_r0

def k3_cond2 (i : grid3.Coords) : BitVec 1 :=
  let true_23_r0 : BitVec 1 := 1#1
  let c1_i32_8_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v17_r0 : BitVec 32 := Scalar.muli c1_i32_8_r0 v5
  let c0_i32_22_r0 : BitVec 32 := 0#32
  let v35_r0 : BitVec 1 := Scalar.cmpi .sgt v17_r0 c0_i32_22_r0
  let v36_r0 : BitVec 1 := Scalar.andi true_23_r0 v35_r0
  let true_24_r0 : BitVec 1 := 1#1
  let v37_r0 : BitVec 1 := Scalar.andi v36_r0 true_24_r0
  let v38_r0 : BitVec 32 := Scalar.extui v37_r0
  let c0_i32_26_r0 : BitVec 32 := 0#32
  let v39_r0 : BitVec 1 := Scalar.cmpi .ne v38_r0 c0_i32_26_r0
  v39_r0

def k3_off1 : Fin 3 → Nat :=
  let c0_i32_25_r0 : BitVec 32 := 0#32
  let c2_i32_r0 : BitVec 32 := 2#32
  let v80_r0 : BitVec 32 := Scalar.remui c0_i32_25_r0 c2_i32_r0
  let c0_i32_59_r0 : BitVec 32 := 0#32
  let c0_i32_60_r0 : BitVec 32 := 0#32
  ![v80_r0.toNat, 0, 0]
def k3_off2 (i : grid3.Coords) : Fin 2 → Nat :=
  let c1_i32_58_r0 : BitVec 32 := 1#32
  let c0_i32_11_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v20_r0 : BitVec 32 := Scalar.addi c0_i32_11_r0 v10
  let v81_r0 : BitVec 32 := Scalar.muli c1_i32_58_r0 v20_r0
  let c0_i32_61_r0 : BitVec 32 := 0#32
  ![v81_r0.toNat, 0]
def k3_off3 : Fin 1 → Nat :=
  let c0_i32_25_r0 : BitVec 32 := 0#32
  let c2_i32_r0 : BitVec 32 := 2#32
  let v80_r0 : BitVec 32 := Scalar.remui c0_i32_25_r0 c2_i32_r0
  ![v80_r0.toNat]
@[reducible] def k3_t1_loop (i : grid3.Coords) : Scf.Loop 32 :=
  let c0_i32_30_r0 : BitVec 32 := 0#32
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_36_r0 : BitVec 32 := 1#32
  ⟨c0_i32_30_r0, v46_r0, c1_i32_36_r0⟩
def k3_off4 (arg6_r0 : BitVec 32) : Fin 3 → Nat :=
  let c2_i32_102_r0 : BitVec 32 := 2#32
  let v167_r0 : BitVec 32 := Scalar.remui arg6_r0 c2_i32_102_r0
  let c0_i32_104_r0 : BitVec 32 := 0#32
  let c0_i32_105_r0 : BitVec 32 := 0#32
  ![v167_r0.toNat, 0, 0]
def k3_cond3 (i : grid3.Coords) (k3_t1 : Fin (k3_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v101_r0 : BitVec 1 := Scalar.cmpi .ne v84_r0 v95_r0
  let c0_i32_30_r0 : BitVec 32 := 0#32
  let c1_i32_36_r0 : BitVec 32 := 1#32
  let arg5_r0 : BitVec 32 := Scf.iv c0_i32_30_r0 c1_i32_36_r0 k3_t1
  let c1_i32_58_r0 : BitVec 32 := 1#32
  let v80_r0 : BitVec 32 := Scalar.muli c1_i32_58_r0 v5
  let c2_i32_r0 : BitVec 32 := 2#32
  let v102_r0 : BitVec 32 := Scalar.subi v80_r0 c2_i32_r0
  let c1_i32_71_r0 : BitVec 32 := 1#32
  let v103_r0 : BitVec 32 := Scalar.addi v102_r0 c1_i32_71_r0
  let v104_r0 : BitVec 1 := Scalar.cmpi .sge arg5_r0 v103_r0
  let true_72_r0 : BitVec 1 := 1#1
  let v105_r0 : BitVec 1 := Scalar.xori v104_r0 true_72_r0
  let v106_r0 : BitVec 1 := Scalar.andi v101_r0 v105_r0
  let true_73_r0 : BitVec 1 := 1#1
  let v107_r0 : BitVec 1 := Scalar.andi v106_r0 true_73_r0
  let v108_r0 : BitVec 32 := Scalar.extui v107_r0
  let c0_i32_74_r0 : BitVec 32 := 0#32
  let v109_r0 : BitVec 1 := Scalar.cmpi .ne v108_r0 c0_i32_74_r0
  v109_r0

def k3_off5 (i : grid3.Coords) (arg10_r0 : BitVec 32) : Fin 2 → Nat :=
  let c1_i32_103_r0 : BitVec 32 := 1#32
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v93_r0 : BitVec 1 := Scalar.cmpi .eq v92_r0 v5
  let c0_i32_67_r0 : BitVec 32 := 0#32
  let v94_r0 : BitVec 32 := Scalar.select v93_r0 c0_i32_67_r0 v92_r0
  let c16_i32_1 : BitVec 32 := 16#32
  let v6 : BitVec 1 := Scalar.cmpi .slt v3 c16_i32_1
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v95_r0 : BitVec 32 := Scalar.addi v94_r0 v10
  let v168_r0 : BitVec 32 := Scalar.muli c1_i32_103_r0 v95_r0
  let c0_i32_106_r0 : BitVec 32 := 0#32
  ![v168_r0.toNat, 0]
def k3_off6 (arg6_r0 : BitVec 32) : Fin 1 → Nat :=
  let c2_i32_102_r0 : BitVec 32 := 2#32
  let v167_r0 : BitVec 32 := Scalar.remui arg6_r0 c2_i32_102_r0
  ![v167_r0.toNat]
def k3_off7 (arg7_r0 : BitVec 32) : Fin 3 → Nat :=
  let c2_i32_103_r0 : BitVec 32 := 2#32
  let v168_r0 : BitVec 32 := Scalar.remui arg7_r0 c2_i32_103_r0
  let c0_i32_104_r0 : BitVec 32 := 0#32
  let c0_i32_105_r0 : BitVec 32 := 0#32
  ![v168_r0.toNat, 0, 0]
def k3_cond4 (i : grid3.Coords) (k3_t1 : Fin (k3_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_30_r0 : BitVec 32 := 0#32
  let c1_i32_36_r0 : BitVec 32 := 1#32
  let arg5_r0 : BitVec 32 := Scf.iv c0_i32_30_r0 c1_i32_36_r0 k3_t1
  let c0_i32_59_r0 : BitVec 32 := 0#32
  let v81_r0 : BitVec 1 := Scalar.cmpi .eq arg5_r0 c0_i32_59_r0
  let v120_r0 : BitVec 1 := Scalar.ori v119_r0 v81_r0
  let c0_i32_80_r0 : BitVec 32 := 0#32
  let v121_r0 : BitVec 1 := Scalar.cmpi .sge arg5_r0 c0_i32_80_r0
  let v122_r0 : BitVec 1 := Scalar.andi v120_r0 v121_r0
  let v123_r0 : BitVec 32 := Scalar.extui v122_r0
  let c0_i32_81_r0 : BitVec 32 := 0#32
  let v124_r0 : BitVec 1 := Scalar.cmpi .ne v123_r0 c0_i32_81_r0
  v124_r0

def k3_off8 (i : grid3.Coords) (arg10_r0 : BitVec 32) : Fin 2 → Nat :=
  let c1_i32_102_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let v167_r0 : BitVec 32 := Scalar.muli c1_i32_102_r0 v84_r0
  let c0_i32_106_r0 : BitVec 32 := 0#32
  ![v167_r0.toNat, 0]
def k3_off9 (arg7_r0 : BitVec 32) : Fin 1 → Nat :=
  let c2_i32_103_r0 : BitVec 32 := 2#32
  let v168_r0 : BitVec 32 := Scalar.remui arg7_r0 c2_i32_103_r0
  ![v168_r0.toNat]
def k3_off10 (arg8_r0 : BitVec 32) : Fin 3 → Nat :=
  let c2_i32_85_r0 : BitVec 32 := 2#32
  let v132_r0 : BitVec 32 := Scalar.remui arg8_r0 c2_i32_85_r0
  let c0_i32_102_r1 : BitVec 32 := 0#32
  let c0_i32_103_r1 : BitVec 32 := 0#32
  ![v132_r0.toNat, 0, 0]

def k3_chk2 (i : grid3.Coords) (arg8_r0 : BitVec 32) : Prop :=
  (∀ (k3_h1 : k3_cond1 i = 1#1), ∀ a, (k3_off10 arg8_r0) a + S1x128x128.size a ≤ S2x128x128.size a)
theorem k3_off10_inb : ∀ (i : grid3.Coords) (arg8_r0 : BitVec 32) (k3_hw2 : k3_chk2 i arg8_r0), ∀ (k3_h1 : k3_cond1 i = 1#1), ∀ a, (k3_off10 arg8_r0) a + S1x128x128.size a ≤ S2x128x128.size a := fun i arg8_r0 k3_hw2 k3_h1 => k3_hw2 k3_h1

def k3_off11 (arg7_r0 : BitVec 32) : Fin 3 → Nat :=
  let c2_i32_84_r0 : BitVec 32 := 2#32
  let v131_r0 : BitVec 32 := Scalar.remui arg7_r0 c2_i32_84_r0
  let c0_i32_106_r1 : BitVec 32 := 0#32
  let c0_i32_107_r1 : BitVec 32 := 0#32
  ![v131_r0.toNat, 0, 0]

def k3_chk3 (i : grid3.Coords) (arg7_r0 : BitVec 32) : Prop :=
  (∀ (k3_h1 : k3_cond1 i = 1#1), ∀ a, (k3_off11 arg7_r0) a + S1x1x128.size a ≤ S2x1x128.size a)
theorem k3_off11_inb : ∀ (i : grid3.Coords) (arg7_r0 : BitVec 32) (k3_hw3 : k3_chk3 i arg7_r0), ∀ (k3_h1 : k3_cond1 i = 1#1), ∀ a, (k3_off11 arg7_r0) a + S1x1x128.size a ≤ S2x1x128.size a := fun i arg7_r0 k3_hw3 k3_h1 => k3_hw3 k3_h1

def k3_off12 (arg8_r0 : BitVec 32) : Fin 3 → Nat :=
  let c2_i32_102_r0 : BitVec 32 := 2#32
  let v167_r0 : BitVec 32 := Scalar.remui arg8_r0 c2_i32_102_r0
  let c0_i32_103_r0 : BitVec 32 := 0#32
  let c0_i32_104_r0 : BitVec 32 := 0#32
  ![v167_r0.toNat, 0, 0]
def k3_cond7 (i : grid3.Coords) (k3_t1 : Fin (k3_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v138_r0 : BitVec 1 := Scalar.cmpi .ne v84_r0 v95_r0
  let c0_i32_30_r0 : BitVec 32 := 0#32
  let c1_i32_36_r0 : BitVec 32 := 1#32
  let arg5_r0 : BitVec 32 := Scf.iv c0_i32_30_r0 c1_i32_36_r0 k3_t1
  let c1_i32_58_r0 : BitVec 32 := 1#32
  let v80_r0 : BitVec 32 := Scalar.muli c1_i32_58_r0 v5
  let c1_i32_60_r0 : BitVec 32 := 1#32
  let v82_r0 : BitVec 32 := Scalar.subi v80_r0 c1_i32_60_r0
  let v83_r0 : BitVec 1 := Scalar.cmpi .eq arg5_r0 v82_r0
  let v139_r0 : BitVec 1 := Scalar.ori v138_r0 v83_r0
  let v140_r0 : BitVec 32 := Scalar.extui v139_r0
  let c0_i32_88_r0 : BitVec 32 := 0#32
  let v141_r0 : BitVec 1 := Scalar.cmpi .ne v140_r0 c0_i32_88_r0
  v141_r0

def k3_off13 (i : grid3.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let v168_r0 : BitVec 32 := Scalar.muli c128_i32_r0 v84_r0
  let c0_i32_105_r0 : BitVec 32 := 0#32
  ![v168_r0.toNat, 0]
def k3_off14 (arg8_r0 : BitVec 32) : Fin 1 → Nat :=
  let c2_i32_102_r0 : BitVec 32 := 2#32
  let v167_r0 : BitVec 32 := Scalar.remui arg8_r0 c2_i32_102_r0
  ![v167_r0.toNat]
def k3_off15 (arg9_r0 : BitVec 32) : Fin 3 → Nat :=
  let c2_i32_102_r0 : BitVec 32 := 2#32
  let v167_r0 : BitVec 32 := Scalar.remui arg9_r0 c2_i32_102_r0
  let c0_i32_103_r0 : BitVec 32 := 0#32
  let c0_i32_104_r0 : BitVec 32 := 0#32
  ![v167_r0.toNat, 0, 0]
def k3_cond9 (i : grid3.Coords) (k3_t1 : Fin (k3_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_30_r0 : BitVec 32 := 0#32
  let c1_i32_36_r0 : BitVec 32 := 1#32
  let arg5_r0 : BitVec 32 := Scf.iv c0_i32_30_r0 c1_i32_36_r0 k3_t1
  let c0_i32_59_r0 : BitVec 32 := 0#32
  let v81_r0 : BitVec 1 := Scalar.cmpi .eq arg5_r0 c0_i32_59_r0
  let true_94_r0 : BitVec 1 := 1#1
  let v152_r0 : BitVec 1 := Scalar.xori v81_r0 true_94_r0
  let v153_r0 : BitVec 1 := Scalar.andi v151_r0 v152_r0
  let v154_r0 : BitVec 32 := Scalar.extui v153_r0
  let c0_i32_95_r0 : BitVec 32 := 0#32
  let v155_r0 : BitVec 1 := Scalar.cmpi .ne v154_r0 c0_i32_95_r0
  v155_r0

def k3_off16 (i : grid3.Coords) (arg10_r0 : BitVec 32) : Fin 2 → Nat :=
  let c128_i32_r0 : BitVec 32 := 128#32
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let c1_i32_64_r0 : BitVec 32 := 1#32
  let v88_r0 : BitVec 32 := Scalar.subi v5 c1_i32_64_r0
  let v89_r0 : BitVec 32 := Scalar.select v87_r0 v88_r0 v86_r0
  let c16_i32_1 : BitVec 32 := 16#32
  let v6 : BitVec 1 := Scalar.cmpi .slt v3 c16_i32_1
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v90_r0 : BitVec 32 := Scalar.addi v89_r0 v10
  let v168_r0 : BitVec 32 := Scalar.muli c128_i32_r0 v90_r0
  let c0_i32_105_r0 : BitVec 32 := 0#32
  ![v168_r0.toNat, 0]
def k3_off17 (arg9_r0 : BitVec 32) : Fin 1 → Nat :=
  let c2_i32_102_r0 : BitVec 32 := 2#32
  let v167_r0 : BitVec 32 := Scalar.remui arg9_r0 c2_i32_102_r0
  ![v167_r0.toNat]

def k3_chk1 (i : grid3.Coords) (k3_t1 : Fin (k3_t1_loop i).trips) (arg6_r0 : BitVec 32) (arg7_r0 : BitVec 32) (arg8_r0 : BitVec 32) (arg9_r0 : BitVec 32) (arg10_r0 : BitVec 32) : Prop :=
  (∀ (k3_h1 : k3_cond1 i = 1#1), ∀ (k3_h3 : k3_cond3 i k3_t1 arg10_r0 = 1#1), ∀ a, (k3_off4 arg6_r0) a + S1x1x128.size a ≤ S2x1x128.size a) ∧
  (∀ (k3_h1 : k3_cond1 i = 1#1), ∀ (k3_h3 : k3_cond3 i k3_t1 arg10_r0 = 1#1), ∀ a, (k3_off5 i arg10_r0) a + S1x128.size a ≤ S400x128.size a) ∧
  (∀ (k3_h1 : k3_cond1 i = 1#1), ∀ (k3_h3 : k3_cond3 i k3_t1 arg10_r0 = 1#1), ∀ a, (k3_off6 arg6_r0) a + S1.size a ≤ S2.size a) ∧
  (∀ (k3_h1 : k3_cond1 i = 1#1), ∀ (k3_h4 : k3_cond4 i k3_t1 arg10_r0 = 1#1), ∀ a, (k3_off7 arg7_r0) a + S1x1x128.size a ≤ S2x1x128.size a) ∧
  (∀ (k3_h1 : k3_cond1 i = 1#1), ∀ (k3_h4 : k3_cond4 i k3_t1 arg10_r0 = 1#1), ∀ a, (k3_off8 i arg10_r0) a + S1x128.size a ≤ S400x128.size a) ∧
  (∀ (k3_h1 : k3_cond1 i = 1#1), ∀ (k3_h4 : k3_cond4 i k3_t1 arg10_r0 = 1#1), ∀ a, (k3_off9 arg7_r0) a + S1.size a ≤ S2.size a) ∧
  (∀ (k3_h1 : k3_cond1 i = 1#1), ∀ (k3_h7 : k3_cond7 i k3_t1 arg10_r0 = 1#1), ∀ a, (k3_off12 arg8_r0) a + S1x128x128.size a ≤ S2x128x128.size a) ∧
  (∀ (k3_h1 : k3_cond1 i = 1#1), ∀ (k3_h7 : k3_cond7 i k3_t1 arg10_r0 = 1#1), ∀ a, (k3_off13 i arg10_r0) a + S128x128.size a ≤ S51200x128.size a) ∧
  (∀ (k3_h1 : k3_cond1 i = 1#1), ∀ (k3_h7 : k3_cond7 i k3_t1 arg10_r0 = 1#1), ∀ a, (k3_off14 arg8_r0) a + S1.size a ≤ S2.size a) ∧
  (∀ (k3_h1 : k3_cond1 i = 1#1), ∀ (k3_h9 : k3_cond9 i k3_t1 arg10_r0 = 1#1), ∀ a, (k3_off15 arg9_r0) a + S1x128x128.size a ≤ S2x128x128.size a) ∧
  (∀ (k3_h1 : k3_cond1 i = 1#1), ∀ (k3_h9 : k3_cond9 i k3_t1 arg10_r0 = 1#1), ∀ a, (k3_off16 i arg10_r0) a + S128x128.size a ≤ S51200x128.size a) ∧
  (∀ (k3_h1 : k3_cond1 i = 1#1), ∀ (k3_h9 : k3_cond9 i k3_t1 arg10_r0 = 1#1), ∀ a, (k3_off17 arg9_r0) a + S1.size a ≤ S2.size a)
theorem k3_off4_inb : ∀ (i : grid3.Coords) (k3_t1 : Fin (k3_t1_loop i).trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i = 1#1), ∀ (k3_h3 : k3_cond3 i k3_t1 arg10_r0 = 1#1), ∀ a, (k3_off4 arg6_r0) a + S1x1x128.size a ≤ S2x1x128.size a := fun i k3_t1 arg6_r0 arg7_r0 arg8_r0 arg9_r0 arg10_r0 k3_hw1 k3_h1 k3_h3 => k3_hw1.1 k3_h1 k3_h3
theorem k3_off5_inb : ∀ (i : grid3.Coords) (k3_t1 : Fin (k3_t1_loop i).trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i = 1#1), ∀ (k3_h3 : k3_cond3 i k3_t1 arg10_r0 = 1#1), ∀ a, (k3_off5 i arg10_r0) a + S1x128.size a ≤ S400x128.size a := fun i k3_t1 arg6_r0 arg7_r0 arg8_r0 arg9_r0 arg10_r0 k3_hw1 k3_h1 k3_h3 => k3_hw1.2.1 k3_h1 k3_h3
theorem k3_off6_inb : ∀ (i : grid3.Coords) (k3_t1 : Fin (k3_t1_loop i).trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i = 1#1), ∀ (k3_h3 : k3_cond3 i k3_t1 arg10_r0 = 1#1), ∀ a, (k3_off6 arg6_r0) a + S1.size a ≤ S2.size a := fun i k3_t1 arg6_r0 arg7_r0 arg8_r0 arg9_r0 arg10_r0 k3_hw1 k3_h1 k3_h3 => k3_hw1.2.2.1 k3_h1 k3_h3
theorem k3_off7_inb : ∀ (i : grid3.Coords) (k3_t1 : Fin (k3_t1_loop i).trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i = 1#1), ∀ (k3_h4 : k3_cond4 i k3_t1 arg10_r0 = 1#1), ∀ a, (k3_off7 arg7_r0) a + S1x1x128.size a ≤ S2x1x128.size a := fun i k3_t1 arg6_r0 arg7_r0 arg8_r0 arg9_r0 arg10_r0 k3_hw1 k3_h1 k3_h4 => k3_hw1.2.2.2.1 k3_h1 k3_h4
theorem k3_off8_inb : ∀ (i : grid3.Coords) (k3_t1 : Fin (k3_t1_loop i).trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i = 1#1), ∀ (k3_h4 : k3_cond4 i k3_t1 arg10_r0 = 1#1), ∀ a, (k3_off8 i arg10_r0) a + S1x128.size a ≤ S400x128.size a := fun i k3_t1 arg6_r0 arg7_r0 arg8_r0 arg9_r0 arg10_r0 k3_hw1 k3_h1 k3_h4 => k3_hw1.2.2.2.2.1 k3_h1 k3_h4
theorem k3_off9_inb : ∀ (i : grid3.Coords) (k3_t1 : Fin (k3_t1_loop i).trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i = 1#1), ∀ (k3_h4 : k3_cond4 i k3_t1 arg10_r0 = 1#1), ∀ a, (k3_off9 arg7_r0) a + S1.size a ≤ S2.size a := fun i k3_t1 arg6_r0 arg7_r0 arg8_r0 arg9_r0 arg10_r0 k3_hw1 k3_h1 k3_h4 => k3_hw1.2.2.2.2.2.1 k3_h1 k3_h4
theorem k3_off12_inb : ∀ (i : grid3.Coords) (k3_t1 : Fin (k3_t1_loop i).trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i = 1#1), ∀ (k3_h7 : k3_cond7 i k3_t1 arg10_r0 = 1#1), ∀ a, (k3_off12 arg8_r0) a + S1x128x128.size a ≤ S2x128x128.size a := fun i k3_t1 arg6_r0 arg7_r0 arg8_r0 arg9_r0 arg10_r0 k3_hw1 k3_h1 k3_h7 => k3_hw1.2.2.2.2.2.2.1 k3_h1 k3_h7
theorem k3_off13_inb : ∀ (i : grid3.Coords) (k3_t1 : Fin (k3_t1_loop i).trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i = 1#1), ∀ (k3_h7 : k3_cond7 i k3_t1 arg10_r0 = 1#1), ∀ a, (k3_off13 i arg10_r0) a + S128x128.size a ≤ S51200x128.size a := fun i k3_t1 arg6_r0 arg7_r0 arg8_r0 arg9_r0 arg10_r0 k3_hw1 k3_h1 k3_h7 => k3_hw1.2.2.2.2.2.2.2.1 k3_h1 k3_h7
theorem k3_off14_inb : ∀ (i : grid3.Coords) (k3_t1 : Fin (k3_t1_loop i).trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i = 1#1), ∀ (k3_h7 : k3_cond7 i k3_t1 arg10_r0 = 1#1), ∀ a, (k3_off14 arg8_r0) a + S1.size a ≤ S2.size a := fun i k3_t1 arg6_r0 arg7_r0 arg8_r0 arg9_r0 arg10_r0 k3_hw1 k3_h1 k3_h7 => k3_hw1.2.2.2.2.2.2.2.2.1 k3_h1 k3_h7
theorem k3_off15_inb : ∀ (i : grid3.Coords) (k3_t1 : Fin (k3_t1_loop i).trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i = 1#1), ∀ (k3_h9 : k3_cond9 i k3_t1 arg10_r0 = 1#1), ∀ a, (k3_off15 arg9_r0) a + S1x128x128.size a ≤ S2x128x128.size a := fun i k3_t1 arg6_r0 arg7_r0 arg8_r0 arg9_r0 arg10_r0 k3_hw1 k3_h1 k3_h9 => k3_hw1.2.2.2.2.2.2.2.2.2.1 k3_h1 k3_h9
theorem k3_off16_inb : ∀ (i : grid3.Coords) (k3_t1 : Fin (k3_t1_loop i).trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i = 1#1), ∀ (k3_h9 : k3_cond9 i k3_t1 arg10_r0 = 1#1), ∀ a, (k3_off16 i arg10_r0) a + S128x128.size a ≤ S51200x128.size a := fun i k3_t1 arg6_r0 arg7_r0 arg8_r0 arg9_r0 arg10_r0 k3_hw1 k3_h1 k3_h9 => k3_hw1.2.2.2.2.2.2.2.2.2.2.1 k3_h1 k3_h9
theorem k3_off17_inb : ∀ (i : grid3.Coords) (k3_t1 : Fin (k3_t1_loop i).trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i = 1#1), ∀ (k3_h9 : k3_cond9 i k3_t1 arg10_r0 = 1#1), ∀ a, (k3_off17 arg9_r0) a + S1.size a ≤ S2.size a := fun i k3_t1 arg6_r0 arg7_r0 arg8_r0 arg9_r0 arg10_r0 k3_hw1 k3_h1 k3_h9 => k3_hw1.2.2.2.2.2.2.2.2.2.2.2 k3_h1 k3_h9

@[reducible] def k3_t2_loop (i : grid3.Coords) : Scf.Loop 32 :=
  let c0_i32_30_r0 : BitVec 32 := 0#32
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let v43_r0 : BitVec 32 := Scalar.addi c0_i32_30_r0 v42_r0
  let c1_i32_37_r0 : BitVec 32 := 1#32
  ⟨v46_r0, v43_r0, c1_i32_37_r0⟩
def k3_off18 (arg6_r0 : BitVec 32) : Fin 3 → Nat :=
  let c2_i32_102_r0 : BitVec 32 := 2#32
  let v167_r0 : BitVec 32 := Scalar.remui arg6_r0 c2_i32_102_r0
  let c0_i32_104_r0 : BitVec 32 := 0#32
  let c0_i32_105_r0 : BitVec 32 := 0#32
  ![v167_r0.toNat, 0, 0]
def k3_cond10 (i : grid3.Coords) (k3_t2 : Fin (k3_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v101_r0 : BitVec 1 := Scalar.cmpi .ne v84_r0 v95_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg5_r0 : BitVec 32 := Scf.iv v46_r0 c1_i32_37_r0 k3_t2
  let c1_i32_58_r0 : BitVec 32 := 1#32
  let v80_r0 : BitVec 32 := Scalar.muli c1_i32_58_r0 v5
  let c2_i32_r0 : BitVec 32 := 2#32
  let v102_r0 : BitVec 32 := Scalar.subi v80_r0 c2_i32_r0
  let c1_i32_71_r0 : BitVec 32 := 1#32
  let v103_r0 : BitVec 32 := Scalar.addi v102_r0 c1_i32_71_r0
  let v104_r0 : BitVec 1 := Scalar.cmpi .sge arg5_r0 v103_r0
  let true_72_r0 : BitVec 1 := 1#1
  let v105_r0 : BitVec 1 := Scalar.xori v104_r0 true_72_r0
  let v106_r0 : BitVec 1 := Scalar.andi v101_r0 v105_r0
  let true_73_r0 : BitVec 1 := 1#1
  let v107_r0 : BitVec 1 := Scalar.andi v106_r0 true_73_r0
  let v108_r0 : BitVec 32 := Scalar.extui v107_r0
  let c0_i32_74_r0 : BitVec 32 := 0#32
  let v109_r0 : BitVec 1 := Scalar.cmpi .ne v108_r0 c0_i32_74_r0
  v109_r0

def k3_off19 (i : grid3.Coords) (arg10_r0 : BitVec 32) : Fin 2 → Nat :=
  let c1_i32_103_r0 : BitVec 32 := 1#32
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v93_r0 : BitVec 1 := Scalar.cmpi .eq v92_r0 v5
  let c0_i32_67_r0 : BitVec 32 := 0#32
  let v94_r0 : BitVec 32 := Scalar.select v93_r0 c0_i32_67_r0 v92_r0
  let c16_i32_1 : BitVec 32 := 16#32
  let v6 : BitVec 1 := Scalar.cmpi .slt v3 c16_i32_1
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v95_r0 : BitVec 32 := Scalar.addi v94_r0 v10
  let v168_r0 : BitVec 32 := Scalar.muli c1_i32_103_r0 v95_r0
  let c0_i32_106_r0 : BitVec 32 := 0#32
  ![v168_r0.toNat, 0]
def k3_off20 (arg6_r0 : BitVec 32) : Fin 1 → Nat :=
  let c2_i32_102_r0 : BitVec 32 := 2#32
  let v167_r0 : BitVec 32 := Scalar.remui arg6_r0 c2_i32_102_r0
  ![v167_r0.toNat]
def k3_off21 (arg7_r0 : BitVec 32) : Fin 3 → Nat :=
  let c2_i32_103_r0 : BitVec 32 := 2#32
  let v168_r0 : BitVec 32 := Scalar.remui arg7_r0 c2_i32_103_r0
  let c0_i32_104_r0 : BitVec 32 := 0#32
  let c0_i32_105_r0 : BitVec 32 := 0#32
  ![v168_r0.toNat, 0, 0]
def k3_cond11 (i : grid3.Coords) (k3_t2 : Fin (k3_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg5_r0 : BitVec 32 := Scf.iv v46_r0 c1_i32_37_r0 k3_t2
  let c0_i32_59_r0 : BitVec 32 := 0#32
  let v81_r0 : BitVec 1 := Scalar.cmpi .eq arg5_r0 c0_i32_59_r0
  let v120_r0 : BitVec 1 := Scalar.ori v119_r0 v81_r0
  let c0_i32_80_r0 : BitVec 32 := 0#32
  let v121_r0 : BitVec 1 := Scalar.cmpi .sge arg5_r0 c0_i32_80_r0
  let v122_r0 : BitVec 1 := Scalar.andi v120_r0 v121_r0
  let v123_r0 : BitVec 32 := Scalar.extui v122_r0
  let c0_i32_81_r0 : BitVec 32 := 0#32
  let v124_r0 : BitVec 1 := Scalar.cmpi .ne v123_r0 c0_i32_81_r0
  v124_r0

def k3_off22 (i : grid3.Coords) (arg10_r0 : BitVec 32) : Fin 2 → Nat :=
  let c1_i32_102_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let v167_r0 : BitVec 32 := Scalar.muli c1_i32_102_r0 v84_r0
  let c0_i32_106_r0 : BitVec 32 := 0#32
  ![v167_r0.toNat, 0]
def k3_off23 (arg7_r0 : BitVec 32) : Fin 1 → Nat :=
  let c2_i32_103_r0 : BitVec 32 := 2#32
  let v168_r0 : BitVec 32 := Scalar.remui arg7_r0 c2_i32_103_r0
  ![v168_r0.toNat]
def k3_off24 (arg8_r0 : BitVec 32) : Fin 3 → Nat :=
  let c2_i32_85_r0 : BitVec 32 := 2#32
  let v132_r0 : BitVec 32 := Scalar.remui arg8_r0 c2_i32_85_r0
  let c0_i32_102_r2 : BitVec 32 := 0#32
  let c0_i32_103_r2 : BitVec 32 := 0#32
  ![v132_r0.toNat, 0, 0]

def k3_chk5 (i : grid3.Coords) (k3_t2 : Fin (k3_t2_loop i).trips) (arg8_r0 : BitVec 32) : Prop :=
  (∀ (k3_h1 : k3_cond1 i = 1#1), ∀ a, (k3_off24 arg8_r0) a + S1x128x128.size a ≤ S2x128x128.size a)
theorem k3_off24_inb : ∀ (i : grid3.Coords) (k3_t2 : Fin (k3_t2_loop i).trips) (arg8_r0 : BitVec 32) (k3_hw5 : k3_chk5 i k3_t2 arg8_r0), ∀ (k3_h1 : k3_cond1 i = 1#1), ∀ a, (k3_off24 arg8_r0) a + S1x128x128.size a ≤ S2x128x128.size a := fun i k3_t2 arg8_r0 k3_hw5 k3_h1 => k3_hw5 k3_h1

def k3_off25 (arg7_r0 : BitVec 32) : Fin 3 → Nat :=
  let c2_i32_84_r0 : BitVec 32 := 2#32
  let v131_r0 : BitVec 32 := Scalar.remui arg7_r0 c2_i32_84_r0
  let c0_i32_106_r2 : BitVec 32 := 0#32
  let c0_i32_107_r2 : BitVec 32 := 0#32
  ![v131_r0.toNat, 0, 0]

def k3_chk6 (i : grid3.Coords) (k3_t2 : Fin (k3_t2_loop i).trips) (arg7_r0 : BitVec 32) : Prop :=
  (∀ (k3_h1 : k3_cond1 i = 1#1), ∀ a, (k3_off25 arg7_r0) a + S1x1x128.size a ≤ S2x1x128.size a)
theorem k3_off25_inb : ∀ (i : grid3.Coords) (k3_t2 : Fin (k3_t2_loop i).trips) (arg7_r0 : BitVec 32) (k3_hw6 : k3_chk6 i k3_t2 arg7_r0), ∀ (k3_h1 : k3_cond1 i = 1#1), ∀ a, (k3_off25 arg7_r0) a + S1x1x128.size a ≤ S2x1x128.size a := fun i k3_t2 arg7_r0 k3_hw6 k3_h1 => k3_hw6 k3_h1

def k3_off26 (arg8_r0 : BitVec 32) : Fin 3 → Nat :=
  let c2_i32_102_r0 : BitVec 32 := 2#32
  let v167_r0 : BitVec 32 := Scalar.remui arg8_r0 c2_i32_102_r0
  let c0_i32_103_r0 : BitVec 32 := 0#32
  let c0_i32_104_r0 : BitVec 32 := 0#32
  ![v167_r0.toNat, 0, 0]
def k3_cond14 (i : grid3.Coords) (k3_t2 : Fin (k3_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v138_r0 : BitVec 1 := Scalar.cmpi .ne v84_r0 v95_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg5_r0 : BitVec 32 := Scf.iv v46_r0 c1_i32_37_r0 k3_t2
  let c1_i32_58_r0 : BitVec 32 := 1#32
  let v80_r0 : BitVec 32 := Scalar.muli c1_i32_58_r0 v5
  let c1_i32_60_r0 : BitVec 32 := 1#32
  let v82_r0 : BitVec 32 := Scalar.subi v80_r0 c1_i32_60_r0
  let v83_r0 : BitVec 1 := Scalar.cmpi .eq arg5_r0 v82_r0
  let v139_r0 : BitVec 1 := Scalar.ori v138_r0 v83_r0
  let v140_r0 : BitVec 32 := Scalar.extui v139_r0
  let c0_i32_88_r0 : BitVec 32 := 0#32
  let v141_r0 : BitVec 1 := Scalar.cmpi .ne v140_r0 c0_i32_88_r0
  v141_r0

def k3_off27 (i : grid3.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let v168_r0 : BitVec 32 := Scalar.muli c128_i32_r0 v84_r0
  let c0_i32_105_r0 : BitVec 32 := 0#32
  ![v168_r0.toNat, 0]
def k3_off28 (arg8_r0 : BitVec 32) : Fin 1 → Nat :=
  let c2_i32_102_r0 : BitVec 32 := 2#32
  let v167_r0 : BitVec 32 := Scalar.remui arg8_r0 c2_i32_102_r0
  ![v167_r0.toNat]
def k3_off29 (arg9_r0 : BitVec 32) : Fin 3 → Nat :=
  let c2_i32_102_r0 : BitVec 32 := 2#32
  let v167_r0 : BitVec 32 := Scalar.remui arg9_r0 c2_i32_102_r0
  let c0_i32_103_r0 : BitVec 32 := 0#32
  let c0_i32_104_r0 : BitVec 32 := 0#32
  ![v167_r0.toNat, 0, 0]
def k3_cond16 (i : grid3.Coords) (k3_t2 : Fin (k3_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg5_r0 : BitVec 32 := Scf.iv v46_r0 c1_i32_37_r0 k3_t2
  let c0_i32_59_r0 : BitVec 32 := 0#32
  let v81_r0 : BitVec 1 := Scalar.cmpi .eq arg5_r0 c0_i32_59_r0
  let true_94_r0 : BitVec 1 := 1#1
  let v152_r0 : BitVec 1 := Scalar.xori v81_r0 true_94_r0
  let v153_r0 : BitVec 1 := Scalar.andi v151_r0 v152_r0
  let v154_r0 : BitVec 32 := Scalar.extui v153_r0
  let c0_i32_95_r0 : BitVec 32 := 0#32
  let v155_r0 : BitVec 1 := Scalar.cmpi .ne v154_r0 c0_i32_95_r0
  v155_r0

def k3_off30 (i : grid3.Coords) (arg10_r0 : BitVec 32) : Fin 2 → Nat :=
  let c128_i32_r0 : BitVec 32 := 128#32
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let c1_i32_64_r0 : BitVec 32 := 1#32
  let v88_r0 : BitVec 32 := Scalar.subi v5 c1_i32_64_r0
  let v89_r0 : BitVec 32 := Scalar.select v87_r0 v88_r0 v86_r0
  let c16_i32_1 : BitVec 32 := 16#32
  let v6 : BitVec 1 := Scalar.cmpi .slt v3 c16_i32_1
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v90_r0 : BitVec 32 := Scalar.addi v89_r0 v10
  let v168_r0 : BitVec 32 := Scalar.muli c128_i32_r0 v90_r0
  let c0_i32_105_r0 : BitVec 32 := 0#32
  ![v168_r0.toNat, 0]
def k3_off31 (arg9_r0 : BitVec 32) : Fin 1 → Nat :=
  let c2_i32_102_r0 : BitVec 32 := 2#32
  let v167_r0 : BitVec 32 := Scalar.remui arg9_r0 c2_i32_102_r0
  ![v167_r0.toNat]

def k3_chk4 (i : grid3.Coords) (k3_t2 : Fin (k3_t2_loop i).trips) (arg6_r0 : BitVec 32) (arg7_r0 : BitVec 32) (arg8_r0 : BitVec 32) (arg9_r0 : BitVec 32) (arg10_r0 : BitVec 32) : Prop :=
  (∀ (k3_h1 : k3_cond1 i = 1#1), ∀ (k3_h10 : k3_cond10 i k3_t2 arg10_r0 = 1#1), ∀ a, (k3_off18 arg6_r0) a + S1x1x128.size a ≤ S2x1x128.size a) ∧
  (∀ (k3_h1 : k3_cond1 i = 1#1), ∀ (k3_h10 : k3_cond10 i k3_t2 arg10_r0 = 1#1), ∀ a, (k3_off19 i arg10_r0) a + S1x128.size a ≤ S400x128.size a) ∧
  (∀ (k3_h1 : k3_cond1 i = 1#1), ∀ (k3_h10 : k3_cond10 i k3_t2 arg10_r0 = 1#1), ∀ a, (k3_off20 arg6_r0) a + S1.size a ≤ S2.size a) ∧
  (∀ (k3_h1 : k3_cond1 i = 1#1), ∀ (k3_h11 : k3_cond11 i k3_t2 arg10_r0 = 1#1), ∀ a, (k3_off21 arg7_r0) a + S1x1x128.size a ≤ S2x1x128.size a) ∧
  (∀ (k3_h1 : k3_cond1 i = 1#1), ∀ (k3_h11 : k3_cond11 i k3_t2 arg10_r0 = 1#1), ∀ a, (k3_off22 i arg10_r0) a + S1x128.size a ≤ S400x128.size a) ∧
  (∀ (k3_h1 : k3_cond1 i = 1#1), ∀ (k3_h11 : k3_cond11 i k3_t2 arg10_r0 = 1#1), ∀ a, (k3_off23 arg7_r0) a + S1.size a ≤ S2.size a) ∧
  (∀ (k3_h1 : k3_cond1 i = 1#1), ∀ (k3_h14 : k3_cond14 i k3_t2 arg10_r0 = 1#1), ∀ a, (k3_off26 arg8_r0) a + S1x128x128.size a ≤ S2x128x128.size a) ∧
  (∀ (k3_h1 : k3_cond1 i = 1#1), ∀ (k3_h14 : k3_cond14 i k3_t2 arg10_r0 = 1#1), ∀ a, (k3_off27 i arg10_r0) a + S128x128.size a ≤ S51200x128.size a) ∧
  (∀ (k3_h1 : k3_cond1 i = 1#1), ∀ (k3_h14 : k3_cond14 i k3_t2 arg10_r0 = 1#1), ∀ a, (k3_off28 arg8_r0) a + S1.size a ≤ S2.size a) ∧
  (∀ (k3_h1 : k3_cond1 i = 1#1), ∀ (k3_h16 : k3_cond16 i k3_t2 arg10_r0 = 1#1), ∀ a, (k3_off29 arg9_r0) a + S1x128x128.size a ≤ S2x128x128.size a) ∧
  (∀ (k3_h1 : k3_cond1 i = 1#1), ∀ (k3_h16 : k3_cond16 i k3_t2 arg10_r0 = 1#1), ∀ a, (k3_off30 i arg10_r0) a + S128x128.size a ≤ S51200x128.size a) ∧
  (∀ (k3_h1 : k3_cond1 i = 1#1), ∀ (k3_h16 : k3_cond16 i k3_t2 arg10_r0 = 1#1), ∀ a, (k3_off31 arg9_r0) a + S1.size a ≤ S2.size a)
theorem k3_off18_inb : ∀ (i : grid3.Coords) (k3_t2 : Fin (k3_t2_loop i).trips) (arg6_r0 : BitVec 32) (arg7_r0 : BitVec 32) (arg8_r0 : BitVec 32) (arg9_r0 : BitVec 32) (arg10_r0 : BitVec 32) (k3_hw4 : k3_chk4 i k3_t2 arg6_r0 arg7_r0 arg8_r0 arg9_r0 arg10_r0), ∀ (k3_h1 : k3_cond1 i = 1#1), ∀ (k3_h10 : k3_cond10 i k3_t2 arg10_r0 = 1#1), ∀ a, (k3_off18 arg6_r0) a + S1x1x128.size a ≤ S2x1x128.size a := fun i k3_t2 arg6_r0 arg7_r0 arg8_r0 arg9_r0 arg10_r0 k3_hw4 k3_h1 k3_h10 => k3_hw4.1 k3_h1 k3_h10
theorem k3_off19_inb : ∀ (i : grid3.Coords) (k3_t2 : Fin (k3_t2_loop i).trips) (arg6_r0 : BitVec 32) (arg7_r0 : BitVec 32) (arg8_r0 : BitVec 32) (arg9_r0 : BitVec 32) (arg10_r0 : BitVec 32) (k3_hw4 : k3_chk4 i k3_t2 arg6_r0 arg7_r0 arg8_r0 arg9_r0 arg10_r0), ∀ (k3_h1 : k3_cond1 i = 1#1), ∀ (k3_h10 : k3_cond10 i k3_t2 arg10_r0 = 1#1), ∀ a, (k3_off19 i arg10_r0) a + S1x128.size a ≤ S400x128.size a := fun i k3_t2 arg6_r0 arg7_r0 arg8_r0 arg9_r0 arg10_r0 k3_hw4 k3_h1 k3_h10 => k3_hw4.2.1 k3_h1 k3_h10
theorem k3_off20_inb : ∀ (i : grid3.Coords) (k3_t2 : Fin (k3_t2_loop i).trips) (arg6_r0 : BitVec 32) (arg7_r0 : BitVec 32) (arg8_r0 : BitVec 32) (arg9_r0 : BitVec 32) (arg10_r0 : BitVec 32) (k3_hw4 : k3_chk4 i k3_t2 arg6_r0 arg7_r0 arg8_r0 arg9_r0 arg10_r0), ∀ (k3_h1 : k3_cond1 i = 1#1), ∀ (k3_h10 : k3_cond10 i k3_t2 arg10_r0 = 1#1), ∀ a, (k3_off20 arg6_r0) a + S1.size a ≤ S2.size a := fun i k3_t2 arg6_r0 arg7_r0 arg8_r0 arg9_r0 arg10_r0 k3_hw4 k3_h1 k3_h10 => k3_hw4.2.2.1 k3_h1 k3_h10
theorem k3_off21_inb : ∀ (i : grid3.Coords) (k3_t2 : Fin (k3_t2_loop i).trips) (arg6_r0 : BitVec 32) (arg7_r0 : BitVec 32) (arg8_r0 : BitVec 32) (arg9_r0 : BitVec 32) (arg10_r0 : BitVec 32) (k3_hw4 : k3_chk4 i k3_t2 arg6_r0 arg7_r0 arg8_r0 arg9_r0 arg10_r0), ∀ (k3_h1 : k3_cond1 i = 1#1), ∀ (k3_h11 : k3_cond11 i k3_t2 arg10_r0 = 1#1), ∀ a, (k3_off21 arg7_r0) a + S1x1x128.size a ≤ S2x1x128.size a := fun i k3_t2 arg6_r0 arg7_r0 arg8_r0 arg9_r0 arg10_r0 k3_hw4 k3_h1 k3_h11 => k3_hw4.2.2.2.1 k3_h1 k3_h11
theorem k3_off22_inb : ∀ (i : grid3.Coords) (k3_t2 : Fin (k3_t2_loop i).trips) (arg6_r0 : BitVec 32) (arg7_r0 : BitVec 32) (arg8_r0 : BitVec 32) (arg9_r0 : BitVec 32) (arg10_r0 : BitVec 32) (k3_hw4 : k3_chk4 i k3_t2 arg6_r0 arg7_r0 arg8_r0 arg9_r0 arg10_r0), ∀ (k3_h1 : k3_cond1 i = 1#1), ∀ (k3_h11 : k3_cond11 i k3_t2 arg10_r0 = 1#1), ∀ a, (k3_off22 i arg10_r0) a + S1x128.size a ≤ S400x128.size a := fun i k3_t2 arg6_r0 arg7_r0 arg8_r0 arg9_r0 arg10_r0 k3_hw4 k3_h1 k3_h11 => k3_hw4.2.2.2.2.1 k3_h1 k3_h11
theorem k3_off23_inb : ∀ (i : grid3.Coords) (k3_t2 : Fin (k3_t2_loop i).trips) (arg6_r0 : BitVec 32) (arg7_r0 : BitVec 32) (arg8_r0 : BitVec 32) (arg9_r0 : BitVec 32) (arg10_r0 : BitVec 32) (k3_hw4 : k3_chk4 i k3_t2 arg6_r0 arg7_r0 arg8_r0 arg9_r0 arg10_r0), ∀ (k3_h1 : k3_cond1 i = 1#1), ∀ (k3_h11 : k3_cond11 i k3_t2 arg10_r0 = 1#1), ∀ a, (k3_off23 arg7_r0) a + S1.size a ≤ S2.size a := fun i k3_t2 arg6_r0 arg7_r0 arg8_r0 arg9_r0 arg10_r0 k3_hw4 k3_h1 k3_h11 => k3_hw4.2.2.2.2.2.1 k3_h1 k3_h11
theorem k3_off26_inb : ∀ (i : grid3.Coords) (k3_t2 : Fin (k3_t2_loop i).trips) (arg6_r0 : BitVec 32) (arg7_r0 : BitVec 32) (arg8_r0 : BitVec 32) (arg9_r0 : BitVec 32) (arg10_r0 : BitVec 32) (k3_hw4 : k3_chk4 i k3_t2 arg6_r0 arg7_r0 arg8_r0 arg9_r0 arg10_r0), ∀ (k3_h1 : k3_cond1 i = 1#1), ∀ (k3_h14 : k3_cond14 i k3_t2 arg10_r0 = 1#1), ∀ a, (k3_off26 arg8_r0) a + S1x128x128.size a ≤ S2x128x128.size a := fun i k3_t2 arg6_r0 arg7_r0 arg8_r0 arg9_r0 arg10_r0 k3_hw4 k3_h1 k3_h14 => k3_hw4.2.2.2.2.2.2.1 k3_h1 k3_h14
theorem k3_off27_inb : ∀ (i : grid3.Coords) (k3_t2 : Fin (k3_t2_loop i).trips) (arg6_r0 : BitVec 32) (arg7_r0 : BitVec 32) (arg8_r0 : BitVec 32) (arg9_r0 : BitVec 32) (arg10_r0 : BitVec 32) (k3_hw4 : k3_chk4 i k3_t2 arg6_r0 arg7_r0 arg8_r0 arg9_r0 arg10_r0), ∀ (k3_h1 : k3_cond1 i = 1#1), ∀ (k3_h14 : k3_cond14 i k3_t2 arg10_r0 = 1#1), ∀ a, (k3_off27 i arg10_r0) a + S128x128.size a ≤ S51200x128.size a := fun i k3_t2 arg6_r0 arg7_r0 arg8_r0 arg9_r0 arg10_r0 k3_hw4 k3_h1 k3_h14 => k3_hw4.2.2.2.2.2.2.2.1 k3_h1 k3_h14
theorem k3_off28_inb : ∀ (i : grid3.Coords) (k3_t2 : Fin (k3_t2_loop i).trips) (arg6_r0 : BitVec 32) (arg7_r0 : BitVec 32) (arg8_r0 : BitVec 32) (arg9_r0 : BitVec 32) (arg10_r0 : BitVec 32) (k3_hw4 : k3_chk4 i k3_t2 arg6_r0 arg7_r0 arg8_r0 arg9_r0 arg10_r0), ∀ (k3_h1 : k3_cond1 i = 1#1), ∀ (k3_h14 : k3_cond14 i k3_t2 arg10_r0 = 1#1), ∀ a, (k3_off28 arg8_r0) a + S1.size a ≤ S2.size a := fun i k3_t2 arg6_r0 arg7_r0 arg8_r0 arg9_r0 arg10_r0 k3_hw4 k3_h1 k3_h14 => k3_hw4.2.2.2.2.2.2.2.2.1 k3_h1 k3_h14
theorem k3_off29_inb : ∀ (i : grid3.Coords) (k3_t2 : Fin (k3_t2_loop i).trips) (arg6_r0 : BitVec 32) (arg7_r0 : BitVec 32) (arg8_r0 : BitVec 32) (arg9_r0 : BitVec 32) (arg10_r0 : BitVec 32) (k3_hw4 : k3_chk4 i k3_t2 arg6_r0 arg7_r0 arg8_r0 arg9_r0 arg10_r0), ∀ (k3_h1 : k3_cond1 i = 1#1), ∀ (k3_h16 : k3_cond16 i k3_t2 arg10_r0 = 1#1), ∀ a, (k3_off29 arg9_r0) a + S1x128x128.size a ≤ S2x128x128.size a := fun i k3_t2 arg6_r0 arg7_r0 arg8_r0 arg9_r0 arg10_r0 k3_hw4 k3_h1 k3_h16 => k3_hw4.2.2.2.2.2.2.2.2.2.1 k3_h1 k3_h16
theorem k3_off30_inb : ∀ (i : grid3.Coords) (k3_t2 : Fin (k3_t2_loop i).trips) (arg6_r0 : BitVec 32) (arg7_r0 : BitVec 32) (arg8_r0 : BitVec 32) (arg9_r0 : BitVec 32) (arg10_r0 : BitVec 32) (k3_hw4 : k3_chk4 i k3_t2 arg6_r0 arg7_r0 arg8_r0 arg9_r0 arg10_r0), ∀ (k3_h1 : k3_cond1 i = 1#1), ∀ (k3_h16 : k3_cond16 i k3_t2 arg10_r0 = 1#1), ∀ a, (k3_off30 i arg10_r0) a + S128x128.size a ≤ S51200x128.size a := fun i k3_t2 arg6_r0 arg7_r0 arg8_r0 arg9_r0 arg10_r0 k3_hw4 k3_h1 k3_h16 => k3_hw4.2.2.2.2.2.2.2.2.2.2.1 k3_h1 k3_h16
theorem k3_off31_inb : ∀ (i : grid3.Coords) (k3_t2 : Fin (k3_t2_loop i).trips) (arg6_r0 : BitVec 32) (arg7_r0 : BitVec 32) (arg8_r0 : BitVec 32) (arg9_r0 : BitVec 32) (arg10_r0 : BitVec 32) (k3_hw4 : k3_chk4 i k3_t2 arg6_r0 arg7_r0 arg8_r0 arg9_r0 arg10_r0), ∀ (k3_h1 : k3_cond1 i = 1#1), ∀ (k3_h16 : k3_cond16 i k3_t2 arg10_r0 = 1#1), ∀ a, (k3_off31 arg9_r0) a + S1.size a ≤ S2.size a := fun i k3_t2 arg6_r0 arg7_r0 arg8_r0 arg9_r0 arg10_r0 k3_hw4 k3_h1 k3_h16 => k3_hw4.2.2.2.2.2.2.2.2.2.2.2 k3_h1 k3_h16

def k3_cond18 (i : grid3.Coords) : BitVec 1 :=
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v11 : BitVec 32 := Scalar.muli c1_i32_4 v5
  let c1_i32_42_r0 : BitVec 32 := 1#32
  let v54_r0 : BitVec 32 := Scalar.subi v11 c1_i32_42_r0
  let c1_i32_43_r0 : BitVec 32 := 1#32
  let v55_r0 : BitVec 32 := Scalar.muli c1_i32_43_r0 v5
  let c1_i32_45_r0 : BitVec 32 := 1#32
  let v57_r0 : BitVec 32 := Scalar.subi v55_r0 c1_i32_45_r0
  let v58_r0 : BitVec 1 := Scalar.cmpi .eq v54_r0 v57_r0
  let v78_r0 : BitVec 32 := Scalar.extui v58_r0
  let c0_i32_57_r0 : BitVec 32 := 0#32
  let v79_r0 : BitVec 1 := Scalar.cmpi .ne v78_r0 c0_i32_57_r0
  v79_r0

def k3_off32 (v48_3_r0 : BitVec 32) : Fin 3 → Nat :=
  let c2_i32_r0 : BitVec 32 := 2#32
  let v80_r0 : BitVec 32 := Scalar.remui v48_3_r0 c2_i32_r0
  let c0_i32_58_r0 : BitVec 32 := 0#32
  let c0_i32_59_r0 : BitVec 32 := 0#32
  ![v80_r0.toNat, 0, 0]

def k3_off33 (i : grid3.Coords) (v48_4_r0 : BitVec 32) : Fin 2 → Nat :=
  let c128_i32_r0 : BitVec 32 := 128#32
  let true_39_r0 : BitVec 1 := 1#1
  let c1_i32_38_r0 : BitVec 32 := 1#32
  let v49_r0 : BitVec 32 := Scalar.subi v48_4_r0 c1_i32_38_r0
  let v50_r0 : BitVec 32 := Scalar.select true_39_r0 v49_r0 v48_4_r0
  let c_m1_i32_40_r0 : BitVec 32 := 4294967295#32
  let v51_r0 : BitVec 1 := Scalar.cmpi .eq v50_r0 c_m1_i32_40_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let c1_i32_41_r0 : BitVec 32 := 1#32
  let v52_r0 : BitVec 32 := Scalar.subi v5 c1_i32_41_r0
  let v53_r0 : BitVec 32 := Scalar.select v51_r0 v52_r0 v50_r0
  let c16_i32_1 : BitVec 32 := 16#32
  let v6 : BitVec 1 := Scalar.cmpi .slt v3 c16_i32_1
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v59_r0 : BitVec 32 := Scalar.addi v53_r0 v10
  let v81_r0 : BitVec 32 := Scalar.muli c128_i32_r0 v59_r0
  let c0_i32_60_r0 : BitVec 32 := 0#32
  ![v81_r0.toNat, 0]

def k3_chk8 (i : grid3.Coords) (v48_4_r0 : BitVec 32) : Prop :=
  (∀ (k3_h1 : k3_cond1 i = 1#1), ∀ (k3_h18 : k3_cond18 i = 1#1), ∀ a, (k3_off33 i v48_4_r0) a + S128x128.size a ≤ S51200x128.size a)
theorem k3_off33_inb : ∀ (i : grid3.Coords) (v48_4_r0 : BitVec 32) (k3_hw8 : k3_chk8 i v48_4_r0), ∀ (k3_h1 : k3_cond1 i = 1#1), ∀ (k3_h18 : k3_cond18 i = 1#1), ∀ a, (k3_off33 i v48_4_r0) a + S128x128.size a ≤ S51200x128.size a := fun i v48_4_r0 k3_hw8 k3_h1 k3_h18 => k3_hw8 k3_h1 k3_h18

def k3_off34 (v48_3_r0 : BitVec 32) : Fin 1 → Nat :=
  let c2_i32_r0 : BitVec 32 := 2#32
  let v80_r0 : BitVec 32 := Scalar.remui v48_3_r0 c2_i32_r0
  ![v80_r0.toNat]
def k3_off35 (v48_3_r0 : BitVec 32) : Fin 3 → Nat :=
  let c2_i32_r0 : BitVec 32 := 2#32
  let v80_r0 : BitVec 32 := Scalar.remui v48_3_r0 c2_i32_r0
  let c0_i32_62_r0 : BitVec 32 := 0#32
  let c0_i32_63_r0 : BitVec 32 := 0#32
  ![v80_r0.toNat, 0, 0]

def k3_chk7 (i : grid3.Coords) (v48_3_r0 : BitVec 32) : Prop :=
  (∀ (k3_h1 : k3_cond1 i = 1#1), ∀ (k3_h18 : k3_cond18 i = 1#1), ∀ a, (k3_off32 v48_3_r0) a + S1x128x128.size a ≤ S2x128x128.size a) ∧
  (∀ (k3_h1 : k3_cond1 i = 1#1), ∀ (k3_h18 : k3_cond18 i = 1#1), ∀ a, (k3_off34 v48_3_r0) a + S1.size a ≤ S2.size a) ∧
  (∀ (k3_h1 : k3_cond1 i = 1#1), ∀ (k3_h18 : k3_cond18 i = 1#1), ∀ a, (k3_off35 v48_3_r0) a + S1x128x128.size a ≤ S2x128x128.size a)
theorem k3_off32_inb : ∀ (i : grid3.Coords) (v48_3_r0 : BitVec 32) (k3_hw7 : k3_chk7 i v48_3_r0), ∀ (k3_h1 : k3_cond1 i = 1#1), ∀ (k3_h18 : k3_cond18 i = 1#1), ∀ a, (k3_off32 v48_3_r0) a + S1x128x128.size a ≤ S2x128x128.size a := fun i v48_3_r0 k3_hw7 k3_h1 k3_h18 => k3_hw7.1 k3_h1 k3_h18
theorem k3_off34_inb : ∀ (i : grid3.Coords) (v48_3_r0 : BitVec 32) (k3_hw7 : k3_chk7 i v48_3_r0), ∀ (k3_h1 : k3_cond1 i = 1#1), ∀ (k3_h18 : k3_cond18 i = 1#1), ∀ a, (k3_off34 v48_3_r0) a + S1.size a ≤ S2.size a := fun i v48_3_r0 k3_hw7 k3_h1 k3_h18 => k3_hw7.2.1 k3_h1 k3_h18
theorem k3_off35_inb : ∀ (i : grid3.Coords) (v48_3_r0 : BitVec 32) (k3_hw7 : k3_chk7 i v48_3_r0), ∀ (k3_h1 : k3_cond1 i = 1#1), ∀ (k3_h18 : k3_cond18 i = 1#1), ∀ a, (k3_off35 v48_3_r0) a + S1x128x128.size a ≤ S2x128x128.size a := fun i v48_3_r0 k3_hw7 k3_h1 k3_h18 => k3_hw7.2.2 k3_h1 k3_h18

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_3 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_4 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_5 (i : grid4.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

abbrev stage4_0 : Fin 2 → Memref sig .tc .vmem S32x200 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S32x200x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x200x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S32x200x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_3 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_4 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_5 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_6 (i : grid5.Coords) : Fin 3 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  let c0_i32_1 : BitVec 32 := 0#32
  ![v0.toNat, c0_i32.toNat, c0_i32_0.toNat]

abbrev stage5_0 : Fin 2 → Memref sig .tc .vmem S32x200 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S32x200x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x200x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S32x200x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_3 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_4 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_5 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_6 (i : grid6.Coords) : Fin 3 → Nat :=
  let arg0 : BitVec 32 := BitVec.ofNat 32 (i 0).val
  let c14_i32 : BitVec 32 := 14#32
  let v0 : BitVec 32 := Scalar.addi c14_i32 arg0
  let c0_i32 : BitVec 32 := 0#32
  let c0_i32_0 : BitVec 32 := 0#32
  let c0_i32_1 : BitVec 32 := 0#32
  ![v0.toNat, c0_i32.toNat, c0_i32_0.toNat]

abbrev stage6_0 : Fin 2 → Memref sig .tc .vmem S32x200 .i32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S32x200x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x200x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S32x200x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![8], ![false]⟩

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_3 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc7_transform_4 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc7_transform_5 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc7_transform_6 (i : grid7.Coords) : Fin 3 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  let c0_i32_1 : BitVec 32 := 0#32
  ![v0.toNat, c0_i32.toNat, c0_i32_0.toNat]

abbrev stage7_0 : Fin 2 → Memref sig .tc .vmem S32x200 .i32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S32x200x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x200x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S32x200x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev scKind : Fin 4 → Kind := fun | 0 => .scVector | 1 => .scVector | 2 => .scVector | 3 => .scVector | ⟨_ + 4, h⟩ => absurd h (Nat.not_lt.2 (Nat.le_add_left _ _))
abbrev scNCore : Fin 4 → Nat := fun | 0 => 2 | 1 => 2 | 2 => 2 | 3 => 2 | ⟨_ + 4, h⟩ => absurd h (Nat.not_lt.2 (Nat.le_add_left _ _))
abbrev scNSub : Fin 4 → Nat := fun | 0 => 16 | 1 => 16 | 2 => 16 | 3 => 16 | ⟨_ + 4, h⟩ => absurd h (Nat.not_lt.2 (Nat.le_add_left _ _))
-- ==== ReferenceIdeal.lean ====
abbrev S1024x200 : Shape := ⟨2, ![1024, 200]⟩
abbrev S100000x128 : Shape := ⟨2, ![100000, 128]⟩
abbrev S512x128 : Shape := ⟨2, ![512, 128]⟩
abbrev S128 : Shape := ⟨1, ![128]⟩
abbrev S_ : Shape := ⟨0, ![]⟩
abbrev S1 : Shape := ⟨1, ![1]⟩
abbrev S1024x200x1 : Shape := ⟨3, ![1024, 200, 1]⟩
abbrev S1x1x1 : Shape := ⟨3, ![1, 1, 1]⟩
abbrev S1024x200x128 : Shape := ⟨3, ![1024, 200, 128]⟩
abbrev S200x128 : Shape := ⟨2, ![200, 128]⟩
abbrev S1x200x128 : Shape := ⟨3, ![1, 200, 128]⟩
abbrev S1x1x128 : Shape := ⟨3, ![1, 1, 128]⟩

abbrev nBuf : Space → Nat
  | .hbm => 66
  | .vmem => 0
  | .smem => 0
  | _ => 0

abbrev bufTy : (tb : Table) → Fin (tcTables nBuf tb) → BufTy
  | .hbm, ⟨0, _⟩ => ⟨S1024x200, .i32⟩
  | .hbm, ⟨1, _⟩ => ⟨S100000x128, .f32⟩
  | .hbm, ⟨2, _⟩ => ⟨S512x128, .f32⟩
  | .hbm, ⟨3, _⟩ => ⟨S128, .f32⟩
  | .hbm, ⟨4, _⟩ => ⟨S128, .f32⟩
  | .hbm, ⟨5, _⟩ => ⟨S_, .i32⟩
  | .hbm, ⟨6, _⟩ => ⟨S1, .i32⟩
  | .hbm, ⟨7, _⟩ => ⟨S_, .f32⟩
  | .hbm, ⟨8, _⟩ => ⟨S128, .f32⟩
  | .hbm, ⟨9, _⟩ => ⟨S100000x128, .f32⟩
  | .hbm, ⟨10, _⟩ => ⟨S_, .i32⟩
  | .hbm, ⟨11, _⟩ => ⟨S1024x200, .i32⟩
  | .hbm, ⟨12, _⟩ => ⟨S1024x200, .i1⟩
  | .hbm, ⟨13, _⟩ => ⟨S_, .i32⟩
  | .hbm, ⟨14, _⟩ => ⟨S1024x200, .i32⟩
  | .hbm, ⟨15, _⟩ => ⟨S1024x200, .i32⟩
  | .hbm, ⟨16, _⟩ => ⟨S1024x200, .i32⟩
  | .hbm, ⟨17, _⟩ => ⟨S1024x200x1, .i32⟩
  | .hbm, ⟨18, _⟩ => ⟨S1, .i32⟩
  | .hbm, ⟨19, _⟩ => ⟨S_, .i32⟩
  | .hbm, ⟨20, _⟩ => ⟨S1024x200x1, .i32⟩
  | .hbm, ⟨21, _⟩ => ⟨S1024x200x1, .i1⟩
  | .hbm, ⟨22, _⟩ => ⟨S1x1x1, .i32⟩
  | .hbm, ⟨23, _⟩ => ⟨S1024x200x1, .i32⟩
  | .hbm, ⟨24, _⟩ => ⟨S1024x200x1, .i1⟩
  | .hbm, ⟨25, _⟩ => ⟨S1024x200x1, .i1⟩
  | .hbm, ⟨26, _⟩ => ⟨S_, .i1⟩
  | .hbm, ⟨27, _⟩ => ⟨S1024x200, .i1⟩
  | .hbm, ⟨28, _⟩ => ⟨S1024x200x128, .f32⟩
  | .hbm, ⟨29, _⟩ => ⟨S1024x200x128, .i1⟩
  | .hbm, ⟨30, _⟩ => ⟨S_, .f32⟩
  | .hbm, ⟨31, _⟩ => ⟨S1024x200x128, .f32⟩
  | .hbm, ⟨32, _⟩ => ⟨S1024x200x128, .f32⟩
  | .hbm, ⟨33, _⟩ => ⟨S200x128, .f32⟩
  | .hbm, ⟨34, _⟩ => ⟨S1x200x128, .f32⟩
  | .hbm, ⟨35, _⟩ => ⟨S1024x200x128, .f32⟩
  | .hbm, ⟨36, _⟩ => ⟨S1024x200x128, .f32⟩
  | .hbm, ⟨37, _⟩ => ⟨S_, .f32⟩
  | .hbm, ⟨38, _⟩ => ⟨S1024x200, .f32⟩
  | .hbm, ⟨39, _⟩ => ⟨S1024x200x1, .f32⟩
  | .hbm, ⟨40, _⟩ => ⟨S_, .f32⟩
  | .hbm, ⟨41, _⟩ => ⟨S1024x200x1, .f32⟩
  | .hbm, ⟨42, _⟩ => ⟨S1024x200x1, .f32⟩
  | .hbm, ⟨43, _⟩ => ⟨S1024x200x128, .f32⟩
  | .hbm, ⟨44, _⟩ => ⟨S1024x200x128, .f32⟩
  | .hbm, ⟨45, _⟩ => ⟨S1024x200x128, .f32⟩
  | .hbm, ⟨46, _⟩ => ⟨S_, .f32⟩
  | .hbm, ⟨47, _⟩ => ⟨S1024x200, .f32⟩
  | .hbm, ⟨48, _⟩ => ⟨S1024x200x1, .f32⟩
  | .hbm, ⟨49, _⟩ => ⟨S_, .f32⟩
  | .hbm, ⟨50, _⟩ => ⟨S1024x200x1, .f32⟩
  | .hbm, ⟨51, _⟩ => ⟨S1024x200x1, .f32⟩
  | .hbm, ⟨52, _⟩ => ⟨S1024x200x128, .f32⟩
  | .hbm, ⟨53, _⟩ => ⟨S1024x200x128, .f32⟩
  | .hbm, ⟨54, _⟩ => ⟨S_, .f32⟩
  | .hbm, ⟨55, _⟩ => ⟨S1024x200x1, .f32⟩
  | .hbm, ⟨56, _⟩ => ⟨S1024x200x1, .f32⟩
  | .hbm, ⟨57, _⟩ => ⟨S1024x200x1, .f32⟩
  | .hbm, ⟨58, _⟩ => ⟨S1024x200x128, .f32⟩
  | .hbm, ⟨59, _⟩ => ⟨S1024x200x128, .f32⟩
  | .hbm, ⟨60, _⟩ => ⟨S1x1x128, .f32⟩
  | .hbm, ⟨61, _⟩ => ⟨S1024x200x128, .f32⟩
  | .hbm, ⟨62, _⟩ => ⟨S1024x200x128, .f32⟩
  | .hbm, ⟨63, _⟩ => ⟨S1x1x128, .f32⟩
  | .hbm, ⟨64, _⟩ => ⟨S1024x200x128, .f32⟩
  | .hbm, ⟨65, _⟩ => ⟨S1024x200x128, .f32⟩
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst_0 : Ref sig .tc := ⟨.hbm, 37, rfl⟩
abbrev main_v8 : Ref sig .tc := ⟨.hbm, 38, rfl⟩
abbrev main_v9 : Ref sig .tc := ⟨.hbm, 39, rfl⟩
abbrev main_cst_1 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_cst_2 : Ref sig .tc := ⟨.hbm, 46, rfl⟩
abbrev main_v15 : Ref sig .tc := ⟨.hbm, 47, rfl⟩
abbrev main_v16 : Ref sig .tc := ⟨.hbm, 48, rfl⟩
abbrev main_cst_3 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_cst_4 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩

abbrev nD : Nat := 1
abbrev τ : Topo := Topo.v7x

variable {F : FTy → Type} [FloatOps F]
-- ==== Proof.Setup.lean ====
/-
  The program as the launch theorem sees it: its labels, its configuration of SparseCore calls, and the ghost state the
  proof keeps: the calls' handshakes, the TensorCore calls' rounds, the transfers' counters.
-/
module

public import proofs.«01_k».proof.Defs
public import proofs.«01_k».proof.Proof.Gen.KernelIdeal
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.ShareLeaves
public import Idealize.ShloMosaic.Lib.Tactic

@[expose] public section
noncomputable section

namespace Cert.Proof.Setup

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The program's labels: the kernels' and the pipelines'. -/
abbrev ΛP : Labels := Pipeline.Sig Λ₀ (Fin 4) fun p => (pcfgs (F := F) p).Adm
/-- The program's SparseCore calls. -/
abbrev K : SparseCore.Cfg τ sig (ΛP (F := F)) 4 := sc (F := F)
/-- The program's bodies. -/
abbrev D [FloatOps F] : Defs nD τ sig (Elt F) (ΛP (F := F)) := Pipeline.defs pcfgs defs₀
/-- No variants: every loop is counted. -/
abbrev 𝒱₀ : Variants := Variants.none
/-- The same, for all labels. -/
abbrev 𝒱 : Variants := 𝒱₀.lift
/-- The variant that a call starts from. -/
abbrev v₀ : 𝒱.V := Sum.inl none

/-- The side conditions of the program's SparseCore calls. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the TensorCore calls' rounds, the transfers' counters. -/
abbrev UH : Type := URounds (GSem nD τ sig) ℕ
/-- The ghost state of the normalization calls. -/
abbrev UP : Type := URounds (GSem nD τ sig) Unit
/-- The ghost state of the whole launch. -/
abbrev UU : Type := UH × (UP × Counters)

local notation "𝕄" => MT nD τ sig (HIx 4) (Elt F) ℕ UU ℕ

/-- The handshakes' part of the ghost state. -/
abbrev EH : Emb UH (MT nD τ sig (HIx 4) (Elt F) ℕ UU ℕ) := embL
/-- The normalization calls' part of the ghost state. -/
def EP : Emb UP (MT nD τ sig (HIx 4) (Elt F) ℕ UU ℕ) :=
  ((Emb.inl : Emb UP (UP × Counters)).trans (Emb.inr : Emb (UP × Counters) UU)).trans
    (uEmb (nD := nD) (sig := sig) (Ix := HIx 4) (Val := Elt F) (Name := ℕ) (U := UU) (Lvl := ℕ)).toEmb

instance EP_landsIn : (EP : Emb UP 𝕄).LandsIn (upEmb : UEmb _ 𝕄) := by unfold EP; infer_instance

/-- The counters' part of the ghost state. -/
abbrev EC : UEmb Counters 𝕄 := countersEmb

end Cert.Proof.Setup
end
-- ==== Proof.Trip.lean ====
/-
  The text that the four gather kernels share. Each of the four printed kernels walks its rows of indices with the
  same pipeline; they differ in the number of rows, in the words that say which row and which buffer slot a step
  works on, and in nothing else. `Trip` collects those words and their bounds, `trip` is one step of the pipeline over
  them, `Gather` and `gather` are the whole kernel. The equations `…_eq` of `Proof/Kernels.lean` say that each printed
  kernel is `gather` at its own words.
-/
module

public import proofs.«01_k».proof.Defs
public import proofs.«01_k».proof.Proof.Gen.KernelIdeal
public import proofs.«01_k».proof.Proof.Gen.KernelIdeal.Skeleton

@[expose] public section
noncomputable section

namespace Cert.Proof.Trip

open Cert.KernelIdeal Cert.KernelIdeal.Gen
open Idealize.ShloMosaic Idealize.SL.Sem

/-- The shape of the index array a call reads and of the rows it writes. -/
abbrev SI (R : ℕ) : Shape := ⟨2, ![R, 128]⟩

/-- The five words the pipeline's loop carries: the next index fetch, the current index slot, the current row slot,
    the row slot whose copy-out is the oldest, the step. -/
abbrev Words : Type := BitVec 32 × BitVec 32 × BitVec 32 × BitVec 32 × BitVec 32

/-- The words one step of the pipeline computes: its checks, its conditions, the offsets it slices at, and the words
    it hands on. -/
structure Trip (R N : ℕ) where
  P3 : Prop
  P2 : Prop
  P1 : Prop
  d3 : Decidable P3
  d2 : Decidable P2
  d1 : Decidable P1
  c3 : BitVec 1
  c4 : BitVec 1
  c7 : BitVec 1
  c9 : BitVec 1
  off4 : Fin 3 → ℕ
  inb4 : P1 → c3 = 1#1 → ∀ a, off4 a + S1x1x128.size a ≤ S2x1x128.size a
  off5 : Fin 2 → ℕ
  inb5 : P1 → c3 = 1#1 → ∀ a, off5 a + S1x128.size a ≤ (SI R).size a
  off6 : Fin 1 → ℕ
  inb6 : P1 → c3 = 1#1 → ∀ a, off6 a + S1.size a ≤ S2.size a
  off7 : Fin 3 → ℕ
  inb7 : P1 → c4 = 1#1 → ∀ a, off7 a + S1x1x128.size a ≤ S2x1x128.size a
  off8 : Fin 2 → ℕ
  inb8 : P1 → c4 = 1#1 → ∀ a, off8 a + S1x128.size a ≤ (SI R).size a
  off9 : Fin 1 → ℕ
  inb9 : P1 → c4 = 1#1 → ∀ a, off9 a + S1.size a ≤ S2.size a
  off10 : Fin 3 → ℕ
  inb10 : P2 → ∀ a, off10 a + S1x128x128.size a ≤ S2x128x128.size a
  off11 : Fin 3 → ℕ
  inb11 : P3 → ∀ a, off11 a + S1x1x128.size a ≤ S2x1x128.size a
  off12 : Fin 3 → ℕ
  inb12 : P1 → c7 = 1#1 → ∀ a, off12 a + S1x128x128.size a ≤ S2x128x128.size a
  off13 : Fin 2 → ℕ
  inb13 : P1 → c7 = 1#1 → ∀ a, off13 a + S128x128.size a ≤ (SI N).size a
  off14 : Fin 1 → ℕ
  inb14 : P1 → c7 = 1#1 → ∀ a, off14 a + S1.size a ≤ S2.size a
  off15 : Fin 3 → ℕ
  inb15 : P1 → c9 = 1#1 → ∀ a, off15 a + S1x128x128.size a ≤ S2x128x128.size a
  off16 : Fin 2 → ℕ
  inb16 : P1 → c9 = 1#1 → ∀ a, off16 a + S128x128.size a ≤ (SI N).size a
  off17 : Fin 1 → ℕ
  inb17 : P1 → c9 = 1#1 → ∀ a, off17 a + S1.size a ≤ S2.size a
  /-- the loop's counter, -/
  a5 : BitVec 32
  /-- its five carried words, -/
  a6 : BitVec 32
  a7 : BitVec 32
  a8 : BitVec 32
  a9 : BitVec 32
  a10 : BitVec 32
  /-- the number of the tile's rows and the first of them. -/
  cnt : BitVec 32
  base : BitVec 32

namespace Trip
variable {R N : ℕ} (p : Trip R N)

/-- The row this step works on, the row before it and the row after it, around the tile's rows. -/
def cur : BitVec 32 := Scalar.addi p.a10 p.base
/-- The row of the step before, or the last at the first. -/
def prev : BitVec 32 :=
  Scalar.addi (Scalar.select (Scalar.cmpi .eq (Scalar.select 1#1 (Scalar.subi p.a10 1#32) p.a10) 4294967295#32) (Scalar.subi p.cnt 1#32)
    (Scalar.select 1#1 (Scalar.subi p.a10 1#32) p.a10)) p.base
/-- The row of the step after, or the first at the last. -/
def next : BitVec 32 :=
  Scalar.addi (Scalar.select (Scalar.cmpi .eq (Scalar.select 1#1 (Scalar.addi p.a10 1#32) p.a10) p.cnt) 0#32
    (Scalar.select 1#1 (Scalar.addi p.a10 1#32) p.a10)) p.base
/-- Whether this step is the first, and whether it is the last. -/
def isFirst : BitVec 1 := Scalar.cmpi .eq p.a5 0#32
/-- Whether the step is the last. -/
def isLast : BitVec 1 := Scalar.cmpi .eq p.a5 (Scalar.subi (Scalar.muli 1#32 p.cnt) 1#32)
/-- The number of fetches after this step's. -/
def n6 : BitVec 32 :=
  Scalar.select (Scalar.andi (Scalar.andi (Scalar.cmpi .ne p.cur p.next)
    (Scalar.xori (Scalar.cmpi .sge p.a5 (Scalar.addi (Scalar.subi (Scalar.muli 1#32 p.cnt) 2#32) 1#32)) 1#1)) 1#1) (Scalar.addi p.a6 1#32) p.a6
end Trip

/-- The words a step hands on, from the values its first part bound. -/
def wX1 (a5 cur prev : BitVec 32) (fi : BitVec 1) : BitVec 1 :=
  Scalar.cmpi .ne (Scalar.extui (Scalar.andi (Scalar.ori (Scalar.cmpi .ne cur prev) fi) (Scalar.cmpi .sge a5 0#32)) : BitVec 32) 0#32
/-- Whether the block is to be written out: the next row is another, or no step follows. -/
def wX2 (cur next : BitVec 32) (la : BitVec 1) : BitVec 1 :=
  Scalar.cmpi .ne (Scalar.extui (Scalar.ori (Scalar.cmpi .ne cur next) la) : BitVec 32) 0#32
/-- Whether the block before is to be waited for: it differs and a step came before. -/
def wX3 (cur prev : BitVec 32) (fi : BitVec 1) : BitVec 1 :=
  Scalar.cmpi .ne (Scalar.extui (Scalar.andi (Scalar.cmpi .ne cur prev) (Scalar.xori fi 1#1)) : BitVec 32) 0#32
/-- The count of rows of indices done with, after the step. -/
def wN7 (a7 cur next : BitVec 32) (la : BitVec 1) : BitVec 32 :=
  Scalar.select (Scalar.ori (Scalar.cmpi .ne cur next) la) (Scalar.addi a7 1#32) a7
/-- The count of blocks sent out, after the step. -/
def wN8 (a8 cur next : BitVec 32) (la : BitVec 1) : BitVec 32 :=
  Scalar.select (Scalar.andi (Scalar.ori (Scalar.cmpi .ne cur next) la) 1#1) (Scalar.addi a8 1#32) a8
/-- The count of blocks known to be written, after the step. -/
def wN9 (a9 cur prev : BitVec 32) (fi : BitVec 1) : BitVec 32 :=
  Scalar.select (Scalar.andi (Scalar.andi (Scalar.cmpi .ne cur prev) (Scalar.xori fi 1#1)) 1#1) (Scalar.addi a9 1#32) a9
/-- The step in the next round. -/
def wN10 (a10 cnt : BitVec 32) : BitVec 32 :=
  Scalar.select (Scalar.cmpi .eq (Scalar.select 1#1 (Scalar.addi a10 1#32) a10) cnt) 0#32 (Scalar.select 1#1 (Scalar.addi a10 1#32) a10)

variable {F : FTy → Type} [FloatOps F]

section
variable {R N : ℕ} (p : Trip R N) {sc : Fin τ.nSC} {su : Fin τ.nSub}
  (tb : Memref sig .scVector .hbm S100000x128 .f32) (ix : Memref sig .scVector .hbm (SI R) .i32)
  (rw : Memref sig .scVector .hbm (SI N) .f32)
  (ib : Memref sig .scVector .vmem S2x1x128 .i32) (is : DmaSems sig S2)
  (rb : Memref sig .scVector .vmem S2x128x128 .f32) (rs : DmaSems sig S2) (gs : DmaSems sig S_)

/-- The first part of a step: its checks, and the fetch of the next row of indices. -/
def tripA : Prog (TpuEff nD τ sig (Elt F) Λ₀ (.scVector sc su))
    (Σ' (_ : p.P3) (_ : p.P2) (_ : p.P1) (_ : BitVec 32) (_ : BitVec 32) (_ : BitVec 1) (_ : BitVec 1) (_ : BitVec 32)
      (_ : BitVec 32) (_ : BitVec 32) (_ : BitVec 32) (_ : BitVec 1), BitVec 32) := do
  have h3 : p.P3 := (← Prog.lift (TpuEff.assume p.P3 p.d3)).down
  have h2 : p.P2 := (← Prog.lift (TpuEff.assume p.P2 p.d2)).down
  have h1 : p.P1 := (← Prog.lift (TpuEff.assume p.P1 p.d1)).down
  if hc : p.c3 = 1#1 then do
    Prog.lift (.enqueueDma (ix.slice (Rect.unit (s := SI R) p.off5 S1x128.size (p.inb5 h1 hc)) (fun _ => rfl))
      (.here ((ib.slice (Rect.unit (s := S2x1x128) p.off4 S1x1x128.size (p.inb4 h1 hc)) (fun _ => rfl)).squeeze S1x128 squeezes_S1x1x128_S1x128))
      (.dma ((is.slice (Rect.unit (s := S2) p.off6 S1.size (p.inb6 h1 hc))).squeeze S_ squeezes_S1_S_).sem)
      (View.wordExact_bits rfl) ((View.wordExact_bits rfl).reshape _ _) ⟨Or.inl rfl, trivial⟩)
    pure ⟨⟩
  else do
    pure ⟨⟩
  pure ⟨h3, h2, h1, p.a5, Scalar.muli 1#32 p.cnt, p.isFirst, p.isLast, p.cur, p.prev, p.next, p.n6, Scalar.cmpi .ne p.cur p.next, 2#32⟩

/-- The second part of a step: the wait for its row of indices, and the gather of the rows they name. -/
def tripB (h3 : p.P3) (h2 : p.P2) (h1 : p.P1) (a5 cur prev : BitVec 32) (fi : BitVec 1) : Prog (TpuEff nD τ sig (Elt F) Λ₀ (.scVector sc su)) PUnit := do
  if hc : p.c4 = 1#1 then do
    Prog.lift (.waitDma2 ((is.slice (Rect.unit (s := S2) p.off9 S1.size (p.inb9 h1 hc))).squeeze S_ squeezes_S1_S_).sem
      (ix.slice (Rect.unit (s := SI R) p.off8 S1x128.size (p.inb8 h1 hc)) (fun _ => rfl))
      ((ib.slice (Rect.unit (s := S2x1x128) p.off7 S1x1x128.size (p.inb7 h1 hc)) (fun _ => rfl)).squeeze S1x128 squeezes_S1x1x128_S1x128)
      (View.wordExact_bits rfl) ((View.wordExact_bits rfl).reshape _ _))
    pure ⟨⟩
  else do
    pure ⟨⟩
  if wX1 a5 cur prev fi = 1#1 then do
    pure ⟨⟩
  else do
    pure ⟨⟩
  SparseCore.enqueueIndirectGather rfl (tb.slice (Rect.unit (s := S100000x128) ![0, 0] S100000x128.size inb_S100000x128_S100000x128_0_0) (fun _ => rfl))
    (((rb.slice (Rect.unit (s := S2x128x128) p.off10 S1x128x128.size (p.inb10 h2)) (fun _ => rfl)).squeeze S128x128 squeezes_S1x128x128_S128x128).slice
      (Rect.unit (s := S128x128) ![0, 0] S128x128.size inb_S128x128_S128x128_0_0) (fun _ => rfl))
    gathers_S100000x128_S128x128
    ((((ib.slice (Rect.unit (s := S2x1x128) p.off11 S1x1x128.size (p.inb11 h3)) (fun _ => rfl)).squeeze S1x128 squeezes_S1x1x128_S1x128).slice
      (Rect.unit (s := S1x128) ![0, 0] S1x128.size inb_S1x128_S1x128_0_0) (fun _ => rfl)).squeeze S128 squeezes_S1x128_S128)
    rfl gs.sem (View.wordExact_bits rfl) rfl (Or.inl rfl)
  pure ⟨⟩

/-- The third part of a step: the wait for the gather, the copy-out of the gathered rows, and the wait for the
    copy-out of the step before. -/
def tripC (h2 : p.P2) (h1 : p.P1) (cur prev next : BitVec 32) (fi la : BitVec 1) : Prog (TpuEff nD τ sig (Elt F) Λ₀ (.scVector sc su))
    (Σ' (_ : BitVec 32) (_ : BitVec 32) (_ : BitVec 32), BitVec 32) := do
  SparseCore.waitIndirectGather gs.sem (tb.slice (Rect.unit (s := S100000x128) ![0, 0] S100000x128.size inb_S100000x128_S100000x128_0_0) (fun _ => rfl))
    (((rb.slice (Rect.unit (s := S2x128x128) p.off10 S1x128x128.size (p.inb10 h2)) (fun _ => rfl)).squeeze S128x128 squeezes_S1x128x128_S128x128).slice
      (Rect.unit (s := S128x128) ![0, 0] S128x128.size inb_S128x128_S128x128_0_0) (fun _ => rfl))
    (View.wordExact_bits rfl) (View.wordExact_bits rfl)
  if wX2 cur next la = 1#1 then do
    pure ⟨⟩
  else do
    pure ⟨⟩
  if hc : p.c7 = 1#1 then do
    Prog.lift (.enqueueDma
      ((rb.slice (Rect.unit (s := S2x128x128) p.off12 S1x128x128.size (p.inb12 h1 hc)) (fun _ => rfl)).squeeze S128x128 squeezes_S1x128x128_S128x128)
      (.here (rw.slice (Rect.unit (s := SI N) p.off13 S128x128.size (p.inb13 h1 hc)) (fun _ => rfl)))
      (.dma ((rs.slice (Rect.unit (s := S2) p.off14 S1.size (p.inb14 h1 hc))).squeeze S_ squeezes_S1_S_).sem)
      ((View.wordExact_bits rfl).reshape _ _) (View.wordExact_bits rfl) ⟨Or.inl rfl, trivial⟩)
    pure ⟨⟩
  else do
    pure ⟨⟩
  if wX3 cur prev fi = 1#1 then do
    pure ⟨⟩
  else do
    pure ⟨⟩
  if hc : p.c9 = 1#1 then do
    Prog.lift (.waitDma2 ((rs.slice (Rect.unit (s := S2) p.off17 S1.size (p.inb17 h1 hc))).squeeze S_ squeezes_S1_S_).sem
      ((rb.slice (Rect.unit (s := S2x128x128) p.off15 S1x128x128.size (p.inb15 h1 hc)) (fun _ => rfl)).squeeze S128x128 squeezes_S1x128x128_S128x128)
      (rw.slice (Rect.unit (s := SI N) p.off16 S128x128.size (p.inb16 h1 hc)) (fun _ => rfl))
      ((View.wordExact_bits rfl).reshape _ _) (View.wordExact_bits rfl))
    pure ⟨⟩
  else do
    pure ⟨⟩
  pure ⟨wN8 p.a8 cur next la, wN9 p.a9 cur prev fi, wN7 p.a7 cur next la, wN10 p.a10 p.cnt⟩

/-- One step of the pipeline. -/
def trip : Prog (TpuEff nD τ sig (Elt F) Λ₀ (.scVector sc su)) Words := do
  let ⟨h3, h2, h1, a5, _, fi, la, cur, prev, next, n6, _, _⟩ ← tripA p ix ib is
  tripB p tb ix ib is rb gs h3 h2 h1 a5 cur prev fi
  let ⟨n8, n9, n7, n10⟩ ← tripC p tb rw rb rs gs h2 h1 cur prev next fi la
  pure (n6, n7, n8, n9, n10)

end

/-- The words of a whole call on one tile: whether it has rows at all, the first fetch, the steps of its two loops, and
    the last wait. -/
structure Gather (R N : ℕ) where
  c1 : BitVec 1
  c2 : BitVec 1
  off1 : Fin 3 → ℕ
  inb1 : c1 = 1#1 → c2 = 1#1 → ∀ a, off1 a + S1x1x128.size a ≤ S2x1x128.size a
  off2 : Fin 2 → ℕ
  inb2 : c1 = 1#1 → c2 = 1#1 → ∀ a, off2 a + S1x128.size a ≤ (SI R).size a
  off3 : Fin 1 → ℕ
  inb3 : c1 = 1#1 → c2 = 1#1 → ∀ a, off3 a + S1.size a ≤ S2.size a
  w41 : BitVec 32
  w45 : BitVec 32
  l1 : Scf.Loop 32
  ok1 : c1 = 1#1 → l1.OK
  steps : c1 = 1#1 → BitVec 32 → Fin l1.trips → Words → Trip R N
  l2 : Scf.Loop 32
  ok2 : c1 = 1#1 → l2.OK
  P8 : BitVec 32 → Prop
  P7 : BitVec 32 → Prop
  d8 : ∀ w, Decidable (P8 w)
  d7 : ∀ w, Decidable (P7 w)
  x1 : BitVec 1
  c18 : BitVec 1
  off33 : BitVec 32 → Fin 2 → ℕ
  inb33 : ∀ w, P8 w → c1 = 1#1 → c18 = 1#1 → ∀ a, off33 w a + S128x128.size a ≤ (SI N).size a
  off34 : BitVec 32 → Fin 1 → ℕ
  inb34 : ∀ w, P7 w → c1 = 1#1 → c18 = 1#1 → ∀ a, off34 w a + S1.size a ≤ S2.size a
  off35 : BitVec 32 → Fin 3 → ℕ
  inb35 : ∀ w, P7 w → c1 = 1#1 → c18 = 1#1 → ∀ a, off35 w a + S1x128x128.size a ≤ S2x128x128.size a

section
variable {R N : ℕ} (p : Gather R N) {sc : Fin τ.nSC} {su : Fin τ.nSub}
  (tb : Memref sig .scVector .hbm S100000x128 .f32) (ix : Memref sig .scVector .hbm (SI R) .i32)
  (rw : Memref sig .scVector .hbm (SI N) .f32)
  (ib : Memref sig .scVector .vmem S2x1x128 .i32) (is : DmaSems sig S2)
  (rb : Memref sig .scVector .vmem S2x128x128 .f32) (rs : DmaSems sig S2) (gs : DmaSems sig S_)

/-- The fetch of the first row of indices. -/
def first (h1 : p.c1 = 1#1) : Prog (TpuEff nD τ sig (Elt F) Λ₀ (.scVector sc su))
    (Σ' (_ : BitVec 32) (_ : BitVec 32) (_ : BitVec 32) (_ : BitVec 32) (_ : BitVec 32) (_ : BitVec 32), BitVec 32) := do
  if hc : p.c2 = 1#1 then do
    Prog.lift (.enqueueDma (ix.slice (Rect.unit (s := SI R) p.off2 S1x128.size (p.inb2 h1 hc)) (fun _ => rfl))
      (.here ((ib.slice (Rect.unit (s := S2x1x128) p.off1 S1x1x128.size (p.inb1 h1 hc)) (fun _ => rfl)).squeeze S1x128 squeezes_S1x1x128_S1x128))
      (.dma ((is.slice (Rect.unit (s := S2) p.off3 S1.size (p.inb3 h1 hc))).squeeze S_ squeezes_S1_S_).sem)
      (View.wordExact_bits rfl) ((View.wordExact_bits rfl).reshape _ _) ⟨Or.inl rfl, trivial⟩)
    pure ⟨⟩
  else do
    pure ⟨⟩
  pure ⟨p.w41, 0#32, 0#32, 0#32, 0#32, 0#32, p.w45⟩

/-- The loop over the tile's rows, the second loop (which has no trip), and the wait for the last copy-out. -/
def rest (h1 : p.c1 = 1#1) (w6 w5 w7 w8 w9 w10 : BitVec 32)
    (body2 : Fin p.l2.trips → Words → Prog (TpuEff nD τ sig (Elt F) Λ₀ (.scVector sc su)) Words) :
    Prog (TpuEff nD τ sig (Elt F) Λ₀ (.scVector sc su)) PUnit := do
  let (a6, a7, a8, a9, a10) ← Scf.Loop.for p.l1 (p.ok1 h1) (w6, w7, w8, w9, w10) fun t acc => trip (p.steps h1 w5 t acc) tb ix rw ib is rb rs gs
  let (_, _, _, b9, b10) ← Scf.Loop.for p.l2 (p.ok2 h1) (a6, a7, a8, a9, a10) body2
  have h8 : p.P8 b10 := (← Prog.lift (TpuEff.assume (p.P8 b10) (p.d8 b10))).down
  have h7 : p.P7 b9 := (← Prog.lift (TpuEff.assume (p.P7 b9) (p.d7 b9))).down
  if _hx : p.x1 = 1#1 then do
    pure ⟨⟩
  else do
    pure ⟨⟩
  if hc : p.c18 = 1#1 then do
    Prog.lift (.waitDma2 ((rs.slice (Rect.unit (s := S2) (p.off34 b9) S1.size (p.inb34 b9 h7 h1 hc))).squeeze S_ squeezes_S1_S_).sem
      ((rb.slice (Rect.unit (s := S2x128x128) (p.off35 b9) S1x128x128.size (p.inb35 b9 h7 h1 hc)) (fun _ => rfl)).squeeze S128x128 squeezes_S1x128x128_S128x128)
      (rw.slice (Rect.unit (s := SI N) (p.off33 b10) S128x128.size (p.inb33 b10 h8 h1 hc)) (fun _ => rfl))
      ((View.wordExact_bits rfl).reshape _ _) (View.wordExact_bits rfl))
    pure ⟨⟩
  else do
    pure ⟨⟩
  pure ⟨⟩

/-- The whole call on one tile. -/
def gather (body2 : ∀ (_ : p.c1 = 1#1) (_ _ _ _ _ _ _ : BitVec 32), Fin p.l2.trips → Words → Prog (TpuEff nD τ sig (Elt F) Λ₀ (.scVector sc su)) Words) :
    Prog (TpuEff nD τ sig (Elt F) Λ₀ (.scVector sc su)) PUnit := do
  if h1 : p.c1 = 1#1 then do
    let ⟨w6, w5, w7, w8, w9, w10, w45⟩ ← first p ix ib is h1
    rest p tb ix rw ib is rb rs gs h1 w6 w5 w7 w8 w9 w10 (body2 h1 w6 w5 w7 w8 w9 w10 w45)
    pure ⟨⟩
  else do
    pure ⟨⟩
  pure ⟨⟩

end

end Cert.Proof.Trip
end
-- ==== Proof.Ops.lean ====
/-
  The six transfers of one step of the gather pipeline, each as a rule over what it takes and what it leaves: the fetch
  of a row of indices into a slot and its wait, the gather of the rows they name and its wait, the copy-out of the
  gathered rows and its wait. The rules are over any table, index array, row array and buffers, so that one proof serves
  the four calls.
-/
module

public import proofs.«01_k».proof.Proof.Setup
public import proofs.«01_k».proof.Proof.Trip

@[expose] public section
noncomputable section

namespace Cert.Proof.Ops

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Setup Cert.Proof.Trip

variable {F : FTy → Type}

local notation "𝕄" => MT nD τ sig (HIx 4) (Elt F) ℕ UU ℕ

/-! ## Views -/

/-- Contents that read the same through a view agree on the view's elements. -/
theorem agree_of_read {κ : Kind} {sp : Space} {s : Shape} {e : EltTy} (v : View sig κ sp s e) {f g : v.ty.Contents (Elt F)}
    (h : v.read (Elt F) f = v.read (Elt F) g) : ∀ i ∈ v.set, f i = g i := by
  intro i hi
  obtain ⟨x, -, rfl⟩ := Finset.mem_map.mp hi
  have := congrFun h x
  rw [View.read_apply, View.read_apply] at this
  exact (cast_inj _).mp this

/-- The rectangle at offset zero of the shape's own sizes places every index at itself. -/
theorem emb_full {s : Shape} {off : Fin s.rank → ℕ} (h : ∀ a, off a = 0) (inb : ∀ a, off a + s.size a ≤ s.size a) (x : s.Idx) :
    (Rect.unit (s := s) off s.size inb).emb x = x := by
  funext a; apply Fin.ext
  show off a + 1 * (x a).val = (x a).val
  rw [h a]; omega

/-- Such a rectangle of a view covers the view, -/
theorem set_full {κ : Kind} {sp : Space} {s : Shape} {e : EltTy} (v : View sig κ sp s e) {off : Fin s.rank → ℕ} (h : ∀ a, off a = 0)
    (inb : ∀ a, off a + s.size a ≤ s.size a) : (v.slice (Rect.unit (s := s) off s.size inb)).set = v.set := by
  ext i
  constructor
  · exact fun hi => View.set_slice_subset v _ hi
  · intro hi
    obtain ⟨x, -, rfl⟩ := Finset.mem_map.mp hi
    exact Finset.mem_map.mpr ⟨x, Finset.mem_univ _, congrArg v.emb (emb_full h inb x)⟩

/-- and reads what the view reads. -/
theorem read_full {κ : Kind} {sp : Space} {s : Shape} {e : EltTy} (v : View sig κ sp s e) {off : Fin s.rank → ℕ} (h : ∀ a, off a = 0)
    (inb : ∀ a, off a + s.size a ≤ s.size a) (f : v.ty.Contents (Elt F)) :
    (v.slice (Rect.unit (s := s) off s.size inb)).read (Elt F) f = v.read (Elt F) f := by
  funext x
  show v.read (Elt F) f ((Rect.unit (s := s) off s.size inb).emb x) = _
  rw [emb_full h inb x]

variable [FloatOps F]

section
variable {R N : ℕ} (d : Dev nD) (sc : Fin τ.nSC) (su : Fin τ.nSub)
  (tb : Memref sig .scVector .hbm S100000x128 .f32) (ix : Memref sig .scVector .hbm (SI R) .i32)
  (rw : Memref sig .scVector .hbm (SI N) .f32)
  (ib : Memref sig .scVector .vmem S2x1x128 .i32) (is : DmaSems sig S2)
  (rb : Memref sig .scVector .vmem S2x128x128 .f32) (rs : DmaSems sig S2) (gs : DmaSems sig S_)

/-! ## The slots and the rows -/

/-- A slot lies in the index buffer. -/
theorem inbI : ∀ (σ : Fin 2) (a), (![σ.val, 0, 0] : Fin 3 → ℕ) a + S1x1x128.size a ≤ S2x1x128.size a := by decide
/-- A slot lies in the row buffer. -/
theorem inbO : ∀ (σ : Fin 2) (a), (![σ.val, 0, 0] : Fin 3 → ℕ) a + S1x128x128.size a ≤ S2x128x128.size a := by decide
/-- A slot lies in the pair of semaphores. -/
theorem inbS : ∀ (σ : Fin 2) (a), (![σ.val] : Fin 1 → ℕ) a + S1.size a ≤ S2.size a := by decide
/-- A row lies in the array of indices. -/
theorem inbRow {R r : ℕ} (h : r < R) : ∀ a, (![r, 0] : Fin 2 → ℕ) a + S1x128.size a ≤ (SI R).size a :=
  Rect.inb₂ (show r + 1 ≤ R by omega) (show 0 + 128 ≤ 128 by omega)
/-- A block of 128 rows lies in the array of gathered rows. -/
theorem inbBlk {N r : ℕ} (h : 128 * r + 128 ≤ N) : ∀ a, (![128 * r, 0] : Fin 2 → ℕ) a + S128x128.size a ≤ (SI N).size a :=
  Rect.inb₂ h (show 0 + 128 ≤ 128 by omega)

/-- Slot `σ` of the index buffer, and its semaphore. -/
abbrev iSlot (σ : Fin 2) : Memref sig .scVector .vmem S1x128 .i32 :=
  (ib.slice (Rect.unit (s := S2x1x128) ![σ.val, 0, 0] S1x1x128.size (inbI σ)) (fun _ => rfl)).squeeze S1x128 squeezes_S1x1x128_S1x128
/-- A slot's semaphore. -/
abbrev slotSem (a : DmaSems sig S2) (σ : Fin 2) : DmaSem sig := ((a.slice (Rect.unit (s := S2) ![σ.val] S1.size (inbS σ))).squeeze S_ squeezes_S1_S_).sem
/-- Slot `σ` of the row buffer. -/
abbrev oSlot (σ : Fin 2) : Memref sig .scVector .vmem S128x128 .f32 :=
  (rb.slice (Rect.unit (s := S2x128x128) ![σ.val, 0, 0] S1x128x128.size (inbO σ)) (fun _ => rfl)).squeeze S128x128 squeezes_S1x128x128_S128x128
/-- Row `r` of the indices. -/
abbrev iRow (r : ℕ) (h : r < R) : Memref sig .scVector .hbm S1x128 .i32 :=
  ix.slice (Rect.unit (s := SI R) ![r, 0] S1x128.size (inbRow h)) (fun _ => rfl)
/-- The 128 rows gathered at row `r` of the indices. -/
abbrev oBlk (r : ℕ) (h : 128 * r + 128 ≤ N) : Memref sig .scVector .hbm S128x128 .f32 :=
  rw.slice (Rect.unit (s := SI N) ![128 * r, 0] S128x128.size (inbBlk h)) (fun _ => rfl)
/-- The table, as the gather names it. -/
abbrev tbl : Memref sig .scVector .hbm S100000x128 .f32 :=
  tb.slice (Rect.unit (s := S100000x128) ![0, 0] S100000x128.size inb_S100000x128_S100000x128_0_0) (fun _ => rfl)
/-- Slot `σ` of the row buffer as the gather names it. -/
abbrev gSlot (σ : Fin 2) : Memref sig .scVector .vmem S128x128 .f32 :=
  (oSlot rb σ).slice (Rect.unit (s := S128x128) ![0, 0] S128x128.size inb_S128x128_S128x128_0_0) (fun _ => rfl)
/-- Slot `σ` of the index buffer as the gather's list. -/
abbrev gList (σ : Fin 2) : Memref sig .scVector .vmem S128 .i32 :=
  ((iSlot ib σ).slice (Rect.unit (s := S1x128) ![0, 0] S1x128.size inb_S1x128_S1x128_0_0) (fun _ => rfl)).squeeze S128 squeezes_S1x128_S128

variable (fi : Buf (Elt F) (ix.view.loc (V d sc su))) (ft : Buf (Elt F) (tb.view.loc (V d sc su)))
  (f0 G : Buf (Elt F) (rw.view.loc (V d sc su)))
  (qi : Fin 2 → PosShare TreeShare) (qt : PosShare TreeShare)
  (O : CellTallies nD τ sig (HIx 4)) (W : Waits sig (HIx 4))

/-- The list a slot holding `w` is to the gather. -/
def listOf (w : S1x128.Idx → Elt F .i32) : S128.Idx → Elt F .i32 := fun y => w (Shape.reshapeEquiv squeezes_S1x128_S128.numel_eq y)

variable (hin : ∀ (r : ℕ) (h : r < R) (x : S1x128.Idx), BitVec.toNat (w := 32) ((iRow ix r h).view.read (Elt F) fi x) < 100000)

/-- The rows of the table that row `r` of the indices names. -/
def pay (r : ℕ) (h : r < R) : S128x128.Idx → Elt F .f32 :=
  SparseCore.gatherPayload gathers_S100000x128_S128x128 ((tbl tb).view.read (Elt F) ft)
    (SparseCore.rows (listOf ((iRow ix r h).view.read (Elt F) fi)) rfl fun y => hin r h _)

/-- Two equal lists name the same rows. -/
theorem rows_congr {t t' : S128.Idx → Elt F .i32} (h : t = t') (hn) (h1 : ∀ x, BitVec.toNat (w := 32) (t x) < 100000)
    (h2 : ∀ x, BitVec.toNat (w := 32) (t' x) < 100000) (g : S100000x128.Idx → Elt F .f32) :
    SparseCore.gatherPayload gathers_S100000x128_S128x128 g (SparseCore.rows t hn h1)
      = SparseCore.gatherPayload gathers_S100000x128_S128x128 g (SparseCore.rows t' hn h2) := by
  subst h; rfl

/-! ## What is held between the steps -/

/-- The waits so far: those the tile came with, and waits on its own transfers. -/
def Owes : sProp 𝕄 := iprop(∃ W', ⌜∀ p ∈ W', p ∈ W ∨ p.2 = none⌝ ∗ owes (V d sc su) O W')
/-- One more wait on a transfer of the tile's own. -/
theorem owes_in {W' : Waits sig (HIx 4)} (hW : ∀ p ∈ W', p ∈ W ∨ p.2 = none) {sm : SemLoc sig} :
    (owes (V d sc su) O (insert (sm, (default : HIx 4)) W') : sProp 𝕄) ⊢ iprop(∃ W', ⌜∀ p ∈ W', p ∈ W ∨ p.2 = none⌝ ∗ owes (V d sc su) O W') := by
  iintro H
  iexists _
  isplitr
  rotate_left
  · iexact H
  · ipureintro
    exact fun p hp => (Finset.mem_insert.mp hp).elim (fun h => Or.inr (by rw [h]; rfl)) (hW p)
/-- Slot `σ` of the index buffer, whatever it holds. -/
def iAny (σ : Fin 2) : sProp 𝕄 :=
  iprop(∃ f : Buf (Elt F) ((iSlot ib σ).view.loc (V d sc su)), (iSlot ib σ).view.loc (V d sc su) ↦[(iSlot ib σ).view.set]{fullShare} f)
/-- Slot `σ` holding row `r` of the indices. -/
def iHas (σ : Fin 2) (r : ℕ) (h : r < R) : sProp 𝕄 :=
  iprop(∃ f : Buf (Elt F) ((iSlot ib σ).view.loc (V d sc su)),
    ⌜(iSlot ib σ).view.read (Elt F) f = (iRow ix r h).view.read (Elt F) fi⌝
      ∗ (iSlot ib σ).view.loc (V d sc su) ↦[(iSlot ib σ).view.set]{fullShare} f)
/-- Slot `σ` of the row buffer, whatever it holds. -/
def oAny (σ : Fin 2) : sProp 𝕄 :=
  iprop(∃ f : Buf (Elt F) ((oSlot rb σ).view.loc (V d sc su)), (oSlot rb σ).view.loc (V d sc su) ↦[(oSlot rb σ).view.set]{fullShare} f)
/-- Slot `σ` holding the rows that row `r` of the indices names. -/
def oHas (σ : Fin 2) (r : ℕ) (h : r < R) : sProp 𝕄 :=
  iprop(∃ f : Buf (Elt F) ((oSlot rb σ).view.loc (V d sc su)),
    ⌜(oSlot rb σ).view.read (Elt F) f = pay d sc su tb ix fi ft hin r h⌝
      ∗ (oSlot rb σ).view.loc (V d sc su) ↦[(oSlot rb σ).view.set]{fullShare} f)

/-- Slot `σ` and its semaphore at rest, and the tile's share of the indices for it. -/
def iFree (σ : Fin 2) : sProp 𝕄 :=
  iprop(iAny d sc su ib σ ∗ semVal (V d sc su, .dma (slotSem is σ)) 0 ∗ (ix.view.loc (V d sc su) ↦{qi σ} fi))
/-- The fetch of row `r` into slot `σ` under way. -/
def iFly (σ : Fin 2) (r : ℕ) (h : r < R) : sProp 𝕄 :=
  iprop(Transfers.Flight EC (V d sc su) (.dma (slotSem is σ)) (default : HIx 4) ((iSlot ib σ).view.dmaCredit)
      iprop(iHas d sc su ix ib fi σ r h ∗ (ix.view.loc (V d sc su) ↦[(iRow ix r h).view.set]{qi σ} fi))
    ∗ (ix.view.loc (V d sc su) ↦[Finset.univ \ (iRow ix r h).view.set]{qi σ} fi))
/-- Slot `σ` holding row `r`, its semaphore at rest. -/
def iFull (σ : Fin 2) (r : ℕ) (h : r < R) : sProp 𝕄 :=
  iprop(iHas d sc su ix ib fi σ r h ∗ semVal (V d sc su, .dma (slotSem is σ)) 0 ∗ (ix.view.loc (V d sc su) ↦{qi σ} fi))
/-- The gather of the rows that slot `σ` names under way. -/
def gFly (σ : Fin 2) (r : ℕ) (h : r < R) : sProp 𝕄 :=
  iprop(Transfers.Flight EC (V d sc su) (.dma gs.sem) (default : HIx 4) ((gSlot rb σ).view.dmaCredit)
      iprop(oHas d sc su tb ix rb fi ft hin σ r h ∗ (tb.view.loc (V d sc su) ↦[(tbl tb).view.set]{qt} ft) ∗ iAny d sc su ib σ)
    ∗ (tb.view.loc (V d sc su) ↦[Finset.univ \ (tbl tb).view.set]{qt} ft)
    ∗ semVal (V d sc su, .dma (slotSem is σ)) 0 ∗ (ix.view.loc (V d sc su) ↦{qi σ} fi))
/-- Slot `σ` of the row buffer and its semaphore at rest. -/
def oFree (σ : Fin 2) : sProp 𝕄 := iprop(oAny d sc su rb σ ∗ semVal (V d sc su, .dma (slotSem rs σ)) 0)
/-- The rows of row `r` held, with the contents `f`. -/
def blk (f : Buf (Elt F) (rw.view.loc (V d sc su))) (r : ℕ) (h : 128 * r + 128 ≤ N) : sProp 𝕄 :=
  iprop(rw.view.loc (V d sc su) ↦[(oBlk rw r h).view.set]{fullShare} f)
/-- The copy-out of slot `σ` to the rows of row `r` under way. -/
def oFly (σ : Fin 2) (r : ℕ) (h : 128 * r + 128 ≤ N) : sProp 𝕄 :=
  Transfers.Flight EC (V d sc su) (.dma (slotSem rs σ)) (default : HIx 4) ((oBlk rw r h).view.dmaCredit)
      iprop(blk d sc su rw G r h ∗ oAny d sc su rb σ)

/-- A held buffer is a part of it and the rest. -/
theorem split {ℓ : Loc nD τ sig} (I : Finset ℓ.ty.Idx) (q : PosShare TreeShare) (f : Buf (Elt F) ℓ) :
    (ℓ ↦{q} f : sProp 𝕄) ⊢ iprop((ℓ ↦[I]{q} f) ∗ (ℓ ↦[Finset.univ \ I]{q} f)) := (pointsTo_split_subset (Finset.subset_univ I)).1
/-- Two shares of a part of a buffer, joined. -/
theorem join {ℓ : Loc nD τ sig} (I : Finset ℓ.ty.Idx) (q : PosShare TreeShare) (f : Buf (Elt F) ℓ) :
    iprop((ℓ ↦[I]{q} f) ∗ (ℓ ↦[Finset.univ \ I]{q} f)) ⊢ (ℓ ↦{q} f : sProp 𝕄) := (pointsTo_split_subset (Finset.subset_univ I)).2

/-! ## The rules -/

/-- A fetch takes a free slot and leaves it under way. -/
theorem fetch_wp {Q : PUnit.{1} → sProp 𝕄} (σ : Fin 2) (r : ℕ) (h : r < R) {off5 : Fin 2 → ℕ} {off4 : Fin 3 → ℕ} {off6 : Fin 1 → ℕ} {i5 i4 i6} {w1 w2 w3}
    (h5 : off5 = ![r, 0]) (h4 : off4 = ![σ.val, 0, 0]) (h6 : off6 = ![σ.val]) :
    iFree d sc su ix ib is fi qi σ
      ⊢ iprop((iFly d sc su ix ib is fi qi σ r h -∗ Q ⟨⟩)
          -∗ wp frame (wpE (defs₀ (F := F)) 𝒱₀ (V d sc su) none) Set.univ
              (Prog.lift (.enqueueDma (ix.slice (Rect.unit (s := SI R) off5 S1x128.size i5) (fun _ => rfl))
                (.here ((ib.slice (Rect.unit (s := S2x1x128) off4 S1x1x128.size i4) (fun _ => rfl)).squeeze S1x128 squeezes_S1x1x128_S1x128))
                (.dma ((is.slice (Rect.unit (s := S2) off6 S1.size i6)).squeeze S_ squeezes_S1_S_).sem) w1 w2 w3)) Q) := by
  subst h5 h4 h6
  iintro H
  unfold iFree iAny
  icases H with ⟨Hs, Hsem, Hix⟩
  icases Hs with ⟨%f, Hs⟩
  ihave Hp := (split (F := F) (iRow ix r h).view.set (qi σ) fi) $$ Hix
  icases Hp with ⟨Hrow, Hrest⟩
  iintro Hk
  iapply (Transfers.wp_dmaLocal EC 𝒱₀ (V d sc su) none (src := iRow ix r h) (dst := iSlot ib σ) (q := qi σ) (fs := fi)
    (Sd := (iSlot ib σ).view.set) (default : HIx 4) ((iSlot ib σ).view.dmaCredit) rfl (View.dmaCredit_pos _ (by decide)) (Finset.Subset.refl _)) $$ [Hrow Hs Hsem]
  · iframe Hrow Hs Hsem
  iintro Hf
  simp only [wp_ret]
  imodintro
  iapply Hk
  unfold iFly
  iframe Hrest
  iapply (Transfers.Flight_mono EC (V d sc su) ?_) $$ Hf
  unfold iHas
  iintro ⟨H, Hr⟩
  isplitl [H]
  · iexists ((iSlot ib σ).view.write (Elt F) f ((iRow ix r h).view.read (Elt F) fi) Finset.univ)
    isplitr
    · ipureintro; exact View.read_write_univ _ _
    · iexact H
  · iexact Hr

/-- The wait for a fetch leaves its slot holding the row. -/
theorem fetched_wp {Q : PUnit.{1} → sProp 𝕄} (σ : Fin 2) (r : ℕ) (h : r < R) {off8 : Fin 2 → ℕ} {off7 : Fin 3 → ℕ} {off9 : Fin 1 → ℕ} {i8 i7 i9} {w1 w2}
    (h7 : off7 = ![σ.val, 0, 0]) (h9 : off9 = ![σ.val]) :
    iprop(Transfers.MayWaits (V d sc su) (default : HIx 4) O ∗ iFly d sc su ix ib is fi qi σ r h ∗ Owes d sc su O W)
      ⊢ iprop((iprop(iFull d sc su ix ib is fi qi σ r h ∗ Owes d sc su O W) -∗ Q ⟨⟩)
          -∗ wp frame (wpE (defs₀ (F := F)) 𝒱₀ (V d sc su) none) Set.univ
              (Prog.lift (.waitDma2 ((is.slice (Rect.unit (s := S2) off9 S1.size i9)).squeeze S_ squeezes_S1_S_).sem
                (ix.slice (Rect.unit (s := SI R) off8 S1x128.size i8) (fun _ => rfl))
                ((ib.slice (Rect.unit (s := S2x1x128) off7 S1x1x128.size i7) (fun _ => rfl)).squeeze S1x128 squeezes_S1x1x128_S1x128) w1 w2)) Q) := by
  subst h7 h9
  unfold iFly Owes
  iintro ⟨Hmw, ⟨Hf, Hrest⟩, ⟨%W', %hW, Ho⟩⟩
  iintro Hk
  ihave Hm := (Transfers.MayWaits.elim (.dma (slotSem is σ))) $$ Hmw
  iapply (Transfers.wp_waitLocalO EC 𝒱₀ (V d sc su) none (default : HIx 4) (rfl : (iSlot ib σ).view.dmaCredit = _)) $$ [Hf Ho Hm]
  · iframe Hf Ho; iexact Hm
  iintro ⟨⟨Hs, Hrow⟩, Hsem, Ho⟩
  simp only [wp_ret]
  imodintro
  iapply Hk
  unfold iFull
  isplitl [Hs Hrow Hrest Hsem]
  · iframe Hs Hsem
    iapply (join (F := F) (iRow ix r h).view.set (qi σ) fi)
    iframe Hrest; iexact Hrow
  · iapply (owes_in (F := F) d sc su O W hW) $$ Ho

/-- A gather takes a slot holding a row of indices, a slot of the row buffer and the tile's share of the table. -/
theorem gather_wp {Q : PUnit.{1} → sProp 𝕄} (σ : Fin 2) (r : ℕ) (h : r < R)
    (hcr : ∑ j, ((gSlot rb σ).slice (S128x128.rowRect gathers_S100000x128_S128x128.axis' j) (S128x128.stride_rowRect gathers_S100000x128_S128x128.axis' j)).view.dmaCredit
      = (gSlot rb σ).view.dmaCredit)
    {off10 : Fin 3 → ℕ} {off11 : Fin 3 → ℕ} {i10 i11} {p1 p2 p3 p4 p5 p6}
    (h10 : off10 = ![σ.val, 0, 0]) (h11 : off11 = ![σ.val, 0, 0]) :
    iprop(iFull d sc su ix ib is fi qi σ r h ∗ oAny d sc su rb σ ∗ (tb.view.loc (V d sc su) ↦{qt} ft) ∗ semVal (V d sc su, .dma gs.sem) 0)
      ⊢ iprop((gFly d sc su tb ix ib is rb gs fi ft qi qt hin σ r h -∗ Q ⟨⟩)
          -∗ wp frame (wpE (defs₀ (F := F)) 𝒱₀ (V d sc su) none) Set.univ
              (SparseCore.enqueueIndirectGather p1 (tbl tb)
                (((rb.slice (Rect.unit (s := S2x128x128) off10 S1x128x128.size i10) (fun _ => rfl)).squeeze S128x128 squeezes_S1x128x128_S128x128).slice
                  (Rect.unit (s := S128x128) ![0, 0] S128x128.size inb_S128x128_S128x128_0_0) (fun _ => rfl))
                gathers_S100000x128_S128x128
                ((((ib.slice (Rect.unit (s := S2x1x128) off11 S1x1x128.size i11) (fun _ => rfl)).squeeze S1x128 squeezes_S1x1x128_S1x128).slice
                  (Rect.unit (s := S1x128) ![0, 0] S1x128.size inb_S1x128_S1x128_0_0) (fun _ => rfl)).squeeze S128 squeezes_S1x128_S128)
                p2 gs.sem p3 p4 p5 p6) Q) := by
  subst h10 h11
  unfold iFull iHas oAny
  iintro ⟨⟨⟨%fx, %hfx, Hs⟩, Hsem, Hix⟩, ⟨%fr, Hr⟩, Ht, Hgs⟩
  have hl : (gList ib σ).view.read (Elt F) fx = listOf ((iRow ix r h).view.read (Elt F) fi) := by
    rw [← hfx, ← read_full (iSlot ib σ).view (off := ![0, 0]) (by decide) inb_S1x128_S1x128_0_0 fx]
    rfl
  have hset1 : (gList ib σ).view.set = (iSlot ib σ).view.set :=
    (View.set_reshape _ _).trans (set_full _ (by decide) _)
  have hset2 : (gSlot rb σ).view.set = (oSlot rb σ).view.set := set_full _ (by decide) _
  rw [← hset1, ← hset2]
  ihave Hp := (split (F := F) (tbl tb).view.set qt ft) $$ Ht
  icases Hp with ⟨Ht, Hrest⟩
  iintro Hk
  rw [← bind_pure (SparseCore.enqueueIndirectGather _ _ _ _ _ _ _ _ _ _ _)]
  iapply (SparseCore.wp_indirectGatherLocal EC 𝒱₀ (V d sc su) none (src := tbl tb) (dst := gSlot rb σ) (offs := gList ib σ)
    (hg := gathers_S100000x128_S128x128) (q := qt) (qo := fullShare) (fs := ft) (fd := fr) (fo := fx)
    (default : HIx 4) ((gSlot rb σ).view.dmaCredit) hcr (by decide) (fun y => by rw [hl]; exact hin r h _)) $$ [Ht Hr Hs Hgs]
  · iframe Ht Hr Hs Hgs
  iintro Hf
  simp only [wp_pure]
  imodintro
  iapply Hk
  unfold gFly
  iframe Hrest Hsem Hix
  iapply (Transfers.Flight_mono EC (V d sc su) ?_) $$ Hf
  unfold oHas iAny
  iintro ⟨Hd, Ht, Hs⟩
  isplitl [Hd]
  · iexists _
    isplitr
    rotate_left
    · rw [hset2]; iexact Hd
    · ipureintro
      rw [← read_full (oSlot rb σ).view (off := ![0, 0]) (by decide) inb_S128x128_S128x128_0_0]
      refine (View.read_write_univ _ _).trans ?_
      exact rows_congr hl _ _ _ _
  · iframe Ht
    iexists _
    rw [← hset1]; iexact Hs

/-- The wait for a gather leaves the slot of the row buffer holding the rows, and the index slot free. -/
theorem gathered_wp {Q : PUnit.{1} → sProp 𝕄} (σ : Fin 2) (r : ℕ) (h : r < R) {off10 : Fin 3 → ℕ} {i10} {w1 w2} (h10 : off10 = ![σ.val, 0, 0]) :
    iprop(Transfers.MayWaits (V d sc su) (default : HIx 4) O ∗ gFly d sc su tb ix ib is rb gs fi ft qi qt hin σ r h ∗ Owes d sc su O W)
      ⊢ iprop((iprop(oHas d sc su tb ix rb fi ft hin σ r h ∗ iFree d sc su ix ib is fi qi σ ∗ (tb.view.loc (V d sc su) ↦{qt} ft)
            ∗ semVal (V d sc su, .dma gs.sem) 0 ∗ Owes d sc su O W) -∗ Q ⟨⟩)
          -∗ wp frame (wpE (defs₀ (F := F)) 𝒱₀ (V d sc su) none) Set.univ
              (SparseCore.waitIndirectGather gs.sem (tbl tb)
                (((rb.slice (Rect.unit (s := S2x128x128) off10 S1x128x128.size i10) (fun _ => rfl)).squeeze S128x128 squeezes_S1x128x128_S128x128).slice
                  (Rect.unit (s := S128x128) ![0, 0] S128x128.size inb_S128x128_S128x128_0_0) (fun _ => rfl)) w1 w2) Q) := by
  subst h10
  unfold gFly Owes
  iintro ⟨Hmw, ⟨Hf, Hrest, Hsem, Hix⟩, ⟨%W', %hW, Ho⟩⟩
  iintro Hk
  ihave Hm := (Transfers.MayWaits.elim (.dma gs.sem)) $$ Hmw
  iapply (Transfers.wp_waitLocalO EC 𝒱₀ (V d sc su) none (default : HIx 4) (rfl : (gSlot rb σ).view.dmaCredit = _)) $$ [Hf Ho Hm]
  · iframe Hf Ho; iexact Hm
  iintro ⟨⟨Hr, Ht, Hs⟩, Hgs, Ho⟩
  simp only [wp_ret]
  imodintro
  iapply Hk
  unfold iFree
  iframe Hr Hs Hsem Hix Hgs
  isplitl [Ht Hrest]
  · iapply (join (F := F) (tbl tb).view.set qt ft)
    iframe Hrest; iexact Ht
  · iapply (owes_in (F := F) d sc su O W hW) $$ Ho

/-- The copy-out takes the gathered rows and the block they go to. -/
theorem out_wp {Q : PUnit.{1} → sProp 𝕄} (σ : Fin 2) (r : ℕ) (h : r < R) (hb : 128 * r + 128 ≤ N)
    (hG : (oBlk rw r hb).view.read (Elt F) G = pay d sc su tb ix fi ft hin r h)
    {off12 : Fin 3 → ℕ} {off13 : Fin 2 → ℕ} {off14 : Fin 1 → ℕ} {i12 i13 i14} {w1 w2 w3}
    (h12 : off12 = ![σ.val, 0, 0]) (h13 : off13 = ![128 * r, 0]) (h14 : off14 = ![σ.val]) :
    iprop(oHas d sc su tb ix rb fi ft hin σ r h ∗ semVal (V d sc su, .dma (slotSem rs σ)) 0 ∗ blk d sc su rw f0 r hb)
      ⊢ iprop((oFly d sc su rw rb rs G σ r hb -∗ Q ⟨⟩)
          -∗ wp frame (wpE (defs₀ (F := F)) 𝒱₀ (V d sc su) none) Set.univ
              (Prog.lift (.enqueueDma
                ((rb.slice (Rect.unit (s := S2x128x128) off12 S1x128x128.size i12) (fun _ => rfl)).squeeze S128x128 squeezes_S1x128x128_S128x128)
                (.here (rw.slice (Rect.unit (s := SI N) off13 S128x128.size i13) (fun _ => rfl)))
                (.dma ((rs.slice (Rect.unit (s := S2) off14 S1.size i14)).squeeze S_ squeezes_S1_S_).sem) w1 w2 w3)) Q) := by
  subst h12 h13 h14
  unfold oHas blk
  iintro ⟨⟨%f, %hf, Hs⟩, Hsem, Hb⟩
  iintro Hk
  iapply (Transfers.wp_dmaLocal EC 𝒱₀ (V d sc su) none (src := oSlot rb σ) (dst := oBlk rw r hb) (q := fullShare) (fs := f) (fd := f0)
    (Sd := (oBlk rw r hb).view.set) (default : HIx 4) ((oBlk rw r hb).view.dmaCredit) rfl (View.dmaCredit_pos _ (by decide)) (Finset.Subset.refl _)) $$ [Hs Hb Hsem]
  · iframe Hs Hsem; iexact Hb
  iintro Hf
  simp only [wp_ret]
  imodintro
  iapply Hk
  unfold oFly blk oAny
  iapply (Transfers.Flight_mono EC (V d sc su) ?_) $$ Hf
  iintro ⟨Hb, Hs⟩
  isplitl [Hb]
  · have hc := agree_of_read (F := F) (oBlk rw r hb).view (f := (oBlk rw r hb).view.write (Elt F) f0 ((oSlot rb σ).view.read (Elt F) f) Finset.univ) (g := G)
      ((View.read_write_univ _ _).trans (hf.trans hG.symm))
    iapply (Entails.of_eq (pointsTo_congr hc))
    iexact Hb
  · iexists _; iexact Hs

/-- The wait for a copy-out leaves the block final and the slot of the row buffer free. -/
theorem outed_wp {Q : PUnit.{1} → sProp 𝕄} (σ : Fin 2) (r : ℕ) (hb : 128 * r + 128 ≤ N)
    {off15 : Fin 3 → ℕ} {off16 : Fin 2 → ℕ} {off17 : Fin 1 → ℕ} {i15 i16 i17} {w1 w2} (h17 : off17 = ![σ.val]) :
    iprop(Transfers.MayWaits (V d sc su) (default : HIx 4) O ∗ oFly d sc su rw rb rs G σ r hb ∗ Owes d sc su O W)
      ⊢ iprop((iprop(blk d sc su rw G r hb ∗ oFree d sc su rb rs σ ∗ Owes d sc su O W) -∗ Q ⟨⟩)
          -∗ wp frame (wpE (defs₀ (F := F)) 𝒱₀ (V d sc su) none) Set.univ
              (Prog.lift (.waitDma2 ((rs.slice (Rect.unit (s := S2) off17 S1.size i17)).squeeze S_ squeezes_S1_S_).sem
                ((rb.slice (Rect.unit (s := S2x128x128) off15 S1x128x128.size i15) (fun _ => rfl)).squeeze S128x128 squeezes_S1x128x128_S128x128)
                (rw.slice (Rect.unit (s := SI N) off16 S128x128.size i16) (fun _ => rfl)) w1 w2)) Q) := by
  subst h17
  unfold oFly Owes
  iintro ⟨Hmw, Hf, ⟨%W', %hW, Ho⟩⟩
  iintro Hk
  ihave Hm := (Transfers.MayWaits.elim (.dma (slotSem rs σ))) $$ Hmw
  iapply (Transfers.wp_waitLocalO EC 𝒱₀ (V d sc su) none (dstw := rw.slice (Rect.unit (s := SI N) off16 S128x128.size i16) (fun _ => rfl)) (default : HIx 4) (N := (oBlk rw r hb).view.dmaCredit) rfl) $$ [Hf Ho Hm]
  · iframe Hf Ho; iexact Hm
  iintro ⟨⟨Hb, Hs⟩, Hsem, Ho⟩
  simp only [wp_ret]
  imodintro
  iapply Hk
  unfold oFree
  iframe Hb Hs Hsem
  iapply (owes_in (F := F) d sc su O W hW) $$ Ho

end
end Cert.Proof.Ops
end
-- ==== Proof.Kernels.lean ====
/-
  Each printed gather kernel is the shared text `gather` at its own words.
-/
module

public import proofs.«01_k».proof.Proof.Trip

@[expose] public section
noncomputable section

namespace Cert.Proof.Kernels

open Cert.KernelIdeal Cert.KernelIdeal.Gen
open Idealize.ShloMosaic Idealize.SL.Sem
open Cert.Proof.Trip

/-- The tile's number among the 32. -/
def wTile (i : Fin 2) (j : Fin 16) : BitVec 32 :=
  Scalar.addi (Scalar.addi 0#32 (Scalar.muli (BitVec.ofNat 32 j.val) 1#32)) (Scalar.muli (BitVec.ofNat 32 i.val) 16#32)
/-- A tile's number of rows and its first row, `a` to each of the first `n` tiles and `b` to each of the others. -/
def wCnt (n a b w : BitVec 32) : BitVec 32 := Scalar.select (Scalar.cmpi .slt w n) a b
/-- A tile's first row of indices, as the program computes it. -/
def wBase (n a b w : BitVec 32) : BitVec 32 :=
  Scalar.select (Scalar.cmpi .slt w n) (Scalar.muli w (wCnt n a b w)) (Scalar.addi (Scalar.muli w b) n)

variable {F : FTy → Type} [FloatOps F]

/-! ## Call 0 -/

/-- How many rows of indices a tile takes at call 0. -/
def n0 (i : grid0.Coords) : BitVec 32 := wCnt 8#32 7#32 6#32 (wTile (i 0) (i 1))
/-- A tile's first row of indices at call 0. -/
def b0 (i : grid0.Coords) : BitVec 32 := wBase 8#32 7#32 6#32 (wTile (i 0) (i 1))

/-- The words of one step of call 0. -/
def step0 (i : grid0.Coords) (h1 : k0_cond1 i = 1#1) (w5 : BitVec 32) (t : Fin (k0_t1_loop i).trips) (acc : Words) : Trip 200 25600 where
  P3 := k0_chk3 i acc.2.1
  P2 := k0_chk2 i acc.2.2.1
  P1 := k0_chk1 i t acc.1 acc.2.1 acc.2.2.1 acc.2.2.2.1 acc.2.2.2.2
  d3 := k0_chk3.dec i acc.2.1
  d2 := k0_chk2.dec i acc.2.2.1
  d1 := k0_chk1.dec i t acc.1 acc.2.1 acc.2.2.1 acc.2.2.2.1 acc.2.2.2.2
  c3 := k0_cond3 i t acc.2.2.2.2
  c4 := k0_cond4 i t acc.2.2.2.2
  c7 := k0_cond7 i t acc.2.2.2.2
  c9 := k0_cond9 i t acc.2.2.2.2
  off4 := k0_off4 acc.1
  inb4 := fun hw hc => k0_off4_inb i t acc.1 acc.2.1 acc.2.2.1 acc.2.2.2.1 acc.2.2.2.2 hw h1 hc
  off5 := k0_off5 i acc.2.2.2.2
  inb5 := fun hw hc => k0_off5_inb i t acc.1 acc.2.1 acc.2.2.1 acc.2.2.2.1 acc.2.2.2.2 hw h1 hc
  off6 := k0_off6 acc.1
  inb6 := fun hw hc => k0_off6_inb i t acc.1 acc.2.1 acc.2.2.1 acc.2.2.2.1 acc.2.2.2.2 hw h1 hc
  off7 := k0_off7 acc.2.1
  inb7 := fun hw hc => k0_off7_inb i t acc.1 acc.2.1 acc.2.2.1 acc.2.2.2.1 acc.2.2.2.2 hw h1 hc
  off8 := k0_off8 i acc.2.2.2.2
  inb8 := fun hw hc => k0_off8_inb i t acc.1 acc.2.1 acc.2.2.1 acc.2.2.2.1 acc.2.2.2.2 hw h1 hc
  off9 := k0_off9 acc.2.1
  inb9 := fun hw hc => k0_off9_inb i t acc.1 acc.2.1 acc.2.2.1 acc.2.2.2.1 acc.2.2.2.2 hw h1 hc
  off10 := k0_off10 acc.2.2.1
  inb10 := fun hw => k0_off10_inb i acc.2.2.1 hw h1
  off11 := k0_off11 acc.2.1
  inb11 := fun hw => k0_off11_inb i acc.2.1 hw h1
  off12 := k0_off12 acc.2.2.1
  inb12 := fun hw hc => k0_off12_inb i t acc.1 acc.2.1 acc.2.2.1 acc.2.2.2.1 acc.2.2.2.2 hw h1 hc
  off13 := k0_off13 i acc.2.2.2.2
  inb13 := fun hw hc => k0_off13_inb i t acc.1 acc.2.1 acc.2.2.1 acc.2.2.2.1 acc.2.2.2.2 hw h1 hc
  off14 := k0_off14 acc.2.2.1
  inb14 := fun hw hc => k0_off14_inb i t acc.1 acc.2.1 acc.2.2.1 acc.2.2.2.1 acc.2.2.2.2 hw h1 hc
  off15 := k0_off15 acc.2.2.2.1
  inb15 := fun hw hc => k0_off15_inb i t acc.1 acc.2.1 acc.2.2.1 acc.2.2.2.1 acc.2.2.2.2 hw h1 hc
  off16 := k0_off16 i acc.2.2.2.2
  inb16 := fun hw hc => k0_off16_inb i t acc.1 acc.2.1 acc.2.2.1 acc.2.2.2.1 acc.2.2.2.2 hw h1 hc
  off17 := k0_off17 acc.2.2.2.1
  inb17 := fun hw hc => k0_off17_inb i t acc.1 acc.2.1 acc.2.2.1 acc.2.2.2.1 acc.2.2.2.2 hw h1 hc
  a5 := Scf.iv w5 1#32 t
  a6 := acc.1
  a7 := acc.2.1
  a8 := acc.2.2.1
  a9 := acc.2.2.2.1
  a10 := acc.2.2.2.2
  cnt := n0 i
  base := b0 i

/-- The words of call 0 on one tile. -/
def call0 (i : grid0.Coords) : Gather 200 25600 where
  c1 := k0_cond1 i
  c2 := k0_cond2 i
  off1 := k0_off1
  inb1 := fun h1 h2 => k0_off1_inb i h1 h2
  off2 := k0_off2 i
  inb2 := fun h1 h2 => k0_off2_inb i h1 h2
  off3 := k0_off3
  inb3 := fun h1 h2 => k0_off3_inb i h1 h2
  w41 := Scalar.select (Scalar.andi 1#1 (Scalar.cmpi .sgt (Scalar.muli 1#32 (n0 i)) 0#32)) (Scalar.addi 0#32 1#32) 0#32
  w45 := Scalar.muli (Scalar.divsi (Scalar.subi (Scalar.muli 1#32 (n0 i)) 0#32) 1#32) 1#32
  l1 := k0_t1_loop i
  ok1 := fun h1 => k0_t1_ok i h1
  steps := step0 i
  l2 := k0_t2_loop i
  ok2 := fun h1 => k0_t2_ok i h1
  P8 := fun w => k0_chk8 i w
  P7 := fun w => k0_chk7 i w
  d8 := fun w => k0_chk8.dec i w
  d7 := fun w => k0_chk7.dec i w
  x1 := Scalar.cmpi .ne (Scalar.extui (Scalar.cmpi .eq (Scalar.subi (Scalar.muli 1#32 (n0 i)) 1#32) (Scalar.subi (Scalar.muli 1#32 (n0 i)) 1#32)) : BitVec 32) 0#32
  c18 := k0_cond18 i
  off33 := fun w => k0_off33 i w
  inb33 := fun w hw h1 hc => k0_off33_inb i w hw h1 hc
  off34 := fun w => k0_off34 w
  inb34 := fun w hw h1 hc => k0_off34_inb i w hw h1 hc
  off35 := fun w => k0_off35 w
  inb35 := fun w hw h1 hc => k0_off35_inb i w hw h1 hc

set_option maxRecDepth 65536 in
set_option maxHeartbeats 4000000 in
/-- Call 0's printed kernel is the shared text at its words. -/
theorem kernel0_eq (i : grid0.Coords) (tb : Memref sig .scVector .hbm S100000x128 .f32) (htb : tb.IsWhole) (ix : Memref sig .scVector .hbm S200x128 .i32)
    (hix : ix.IsWhole) (rw : Memref sig .scVector .hbm S25600x128 .f32) (hrw : rw.IsWhole) (ib : Memref sig .scVector .vmem S2x1x128 .i32) (hib : ib.IsWhole)
    (is : DmaSems sig S2) (rb : Memref sig .scVector .vmem S2x128x128 .f32) (hrb : rb.IsWhole) (rs : DmaSems sig S2) (gs gs' : DmaSems sig S_) :
    cc0_gather_kernel (F := F) i tb htb ix hix rw hrw ib hib is rb hrb rs gs gs'
      = gather (F := F) (call0 i) tb ix rw ib is rb rs gs fun h1 w6 w5 w7 w8 w9 w10 w45 =>
          k0_t2_body i tb htb ix hix rw hrw ib hib is rb hrb rs gs gs' (n0 i) (b0 i) (Scalar.muli 1#32 (n0 i)) h1 w6 w5 w7 w8 w9 w10 w45 (Scalar.addi w5 w45) := by
  rw [cc0_gather_kernel_eq_skeleton]; rfl

/-! ## Call 1 -/

/-- How many rows of indices a tile takes at call 1. -/
def n1 (i : grid1.Coords) : BitVec 32 := wCnt 20#32 16#32 15#32 (wTile (i 0) (i 1))
/-- A tile's first row of indices at call 1. -/
def b1 (i : grid1.Coords) : BitVec 32 := wBase 20#32 16#32 15#32 (wTile (i 0) (i 1))

/-- The words of one step of call 1. -/
def step1 (i : grid1.Coords) (h1 : k1_cond1 i = 1#1) (w5 : BitVec 32) (t : Fin (k1_t1_loop i).trips) (acc : Words) : Trip 500 64000 where
  P3 := k1_chk3 i acc.2.1
  P2 := k1_chk2 i acc.2.2.1
  P1 := k1_chk1 i t acc.1 acc.2.1 acc.2.2.1 acc.2.2.2.1 acc.2.2.2.2
  d3 := k1_chk3.dec i acc.2.1
  d2 := k1_chk2.dec i acc.2.2.1
  d1 := k1_chk1.dec i t acc.1 acc.2.1 acc.2.2.1 acc.2.2.2.1 acc.2.2.2.2
  c3 := k1_cond3 i t acc.2.2.2.2
  c4 := k1_cond4 i t acc.2.2.2.2
  c7 := k1_cond7 i t acc.2.2.2.2
  c9 := k1_cond9 i t acc.2.2.2.2
  off4 := k1_off4 acc.1
  inb4 := fun hw hc => k1_off4_inb i t acc.1 acc.2.1 acc.2.2.1 acc.2.2.2.1 acc.2.2.2.2 hw h1 hc
  off5 := k1_off5 i acc.2.2.2.2
  inb5 := fun hw hc => k1_off5_inb i t acc.1 acc.2.1 acc.2.2.1 acc.2.2.2.1 acc.2.2.2.2 hw h1 hc
  off6 := k1_off6 acc.1
  inb6 := fun hw hc => k1_off6_inb i t acc.1 acc.2.1 acc.2.2.1 acc.2.2.2.1 acc.2.2.2.2 hw h1 hc
  off7 := k1_off7 acc.2.1
  inb7 := fun hw hc => k1_off7_inb i t acc.1 acc.2.1 acc.2.2.1 acc.2.2.2.1 acc.2.2.2.2 hw h1 hc
  off8 := k1_off8 i acc.2.2.2.2
  inb8 := fun hw hc => k1_off8_inb i t acc.1 acc.2.1 acc.2.2.1 acc.2.2.2.1 acc.2.2.2.2 hw h1 hc
  off9 := k1_off9 acc.2.1
  inb9 := fun hw hc => k1_off9_inb i t acc.1 acc.2.1 acc.2.2.1 acc.2.2.2.1 acc.2.2.2.2 hw h1 hc
  off10 := k1_off10 acc.2.2.1
  inb10 := fun hw => k1_off10_inb i acc.2.2.1 hw h1
  off11 := k1_off11 acc.2.1
  inb11 := fun hw => k1_off11_inb i acc.2.1 hw h1
  off12 := k1_off12 acc.2.2.1
  inb12 := fun hw hc => k1_off12_inb i t acc.1 acc.2.1 acc.2.2.1 acc.2.2.2.1 acc.2.2.2.2 hw h1 hc
  off13 := k1_off13 i acc.2.2.2.2
  inb13 := fun hw hc => k1_off13_inb i t acc.1 acc.2.1 acc.2.2.1 acc.2.2.2.1 acc.2.2.2.2 hw h1 hc
  off14 := k1_off14 acc.2.2.1
  inb14 := fun hw hc => k1_off14_inb i t acc.1 acc.2.1 acc.2.2.1 acc.2.2.2.1 acc.2.2.2.2 hw h1 hc
  off15 := k1_off15 acc.2.2.2.1
  inb15 := fun hw hc => k1_off15_inb i t acc.1 acc.2.1 acc.2.2.1 acc.2.2.2.1 acc.2.2.2.2 hw h1 hc
  off16 := k1_off16 i acc.2.2.2.2
  inb16 := fun hw hc => k1_off16_inb i t acc.1 acc.2.1 acc.2.2.1 acc.2.2.2.1 acc.2.2.2.2 hw h1 hc
  off17 := k1_off17 acc.2.2.2.1
  inb17 := fun hw hc => k1_off17_inb i t acc.1 acc.2.1 acc.2.2.1 acc.2.2.2.1 acc.2.2.2.2 hw h1 hc
  a5 := Scf.iv w5 1#32 t
  a6 := acc.1
  a7 := acc.2.1
  a8 := acc.2.2.1
  a9 := acc.2.2.2.1
  a10 := acc.2.2.2.2
  cnt := n1 i
  base := b1 i

/-- The words of call 1 on one tile. -/
def call1 (i : grid1.Coords) : Gather 500 64000 where
  c1 := k1_cond1 i
  c2 := k1_cond2 i
  off1 := k1_off1
  inb1 := fun h1 h2 => k1_off1_inb i h1 h2
  off2 := k1_off2 i
  inb2 := fun h1 h2 => k1_off2_inb i h1 h2
  off3 := k1_off3
  inb3 := fun h1 h2 => k1_off3_inb i h1 h2
  w41 := Scalar.select (Scalar.andi 1#1 (Scalar.cmpi .sgt (Scalar.muli 1#32 (n1 i)) 0#32)) (Scalar.addi 0#32 1#32) 0#32
  w45 := Scalar.muli (Scalar.divsi (Scalar.subi (Scalar.muli 1#32 (n1 i)) 0#32) 1#32) 1#32
  l1 := k1_t1_loop i
  ok1 := fun h1 => k1_t1_ok i h1
  steps := step1 i
  l2 := k1_t2_loop i
  ok2 := fun h1 => k1_t2_ok i h1
  P8 := fun w => k1_chk8 i w
  P7 := fun w => k1_chk7 i w
  d8 := fun w => k1_chk8.dec i w
  d7 := fun w => k1_chk7.dec i w
  x1 := Scalar.cmpi .ne (Scalar.extui (Scalar.cmpi .eq (Scalar.subi (Scalar.muli 1#32 (n1 i)) 1#32) (Scalar.subi (Scalar.muli 1#32 (n1 i)) 1#32)) : BitVec 32) 0#32
  c18 := k1_cond18 i
  off33 := fun w => k1_off33 i w
  inb33 := fun w hw h1 hc => k1_off33_inb i w hw h1 hc
  off34 := fun w => k1_off34 w
  inb34 := fun w hw h1 hc => k1_off34_inb i w hw h1 hc
  off35 := fun w => k1_off35 w
  inb35 := fun w hw h1 hc => k1_off35_inb i w hw h1 hc

set_option maxRecDepth 65536 in
set_option maxHeartbeats 4000000 in
/-- Call 1's printed kernel is the shared text at its words. -/
theorem kernel1_eq (i : grid1.Coords) (tb : Memref sig .scVector .hbm S100000x128 .f32) (htb : tb.IsWhole) (ix : Memref sig .scVector .hbm S500x128 .i32)
    (hix : ix.IsWhole) (rw : Memref sig .scVector .hbm S64000x128 .f32) (hrw : rw.IsWhole) (ib : Memref sig .scVector .vmem S2x1x128 .i32) (hib : ib.IsWhole)
    (is : DmaSems sig S2) (rb : Memref sig .scVector .vmem S2x128x128 .f32) (hrb : rb.IsWhole) (rs : DmaSems sig S2) (gs gs' : DmaSems sig S_) :
    cc1_gather_kernel (F := F) i tb htb ix hix rw hrw ib hib is rb hrb rs gs gs'
      = gather (F := F) (call1 i) tb ix rw ib is rb rs gs fun h1 w6 w5 w7 w8 w9 w10 w45 =>
          k1_t2_body i tb htb ix hix rw hrw ib hib is rb hrb rs gs gs' (n1 i) (b1 i) (Scalar.muli 1#32 (n1 i)) h1 w6 w5 w7 w8 w9 w10 w45 (Scalar.addi w5 w45) := by
  rw [cc1_gather_kernel_eq_skeleton]; rfl

/-! ## Call 2 -/

/-- How many rows of indices a tile takes at call 2. -/
def n2 (i : grid2.Coords) : BitVec 32 := wCnt 20#32 16#32 15#32 (wTile (i 0) (i 1))
/-- A tile's first row of indices at call 2. -/
def b2 (i : grid2.Coords) : BitVec 32 := wBase 20#32 16#32 15#32 (wTile (i 0) (i 1))

/-- The words of one step of call 2. -/
def step2 (i : grid2.Coords) (h1 : k2_cond1 i = 1#1) (w5 : BitVec 32) (t : Fin (k2_t1_loop i).trips) (acc : Words) : Trip 500 64000 where
  P3 := k2_chk3 i acc.2.1
  P2 := k2_chk2 i acc.2.2.1
  P1 := k2_chk1 i t acc.1 acc.2.1 acc.2.2.1 acc.2.2.2.1 acc.2.2.2.2
  d3 := k2_chk3.dec i acc.2.1
  d2 := k2_chk2.dec i acc.2.2.1
  d1 := k2_chk1.dec i t acc.1 acc.2.1 acc.2.2.1 acc.2.2.2.1 acc.2.2.2.2
  c3 := k2_cond3 i t acc.2.2.2.2
  c4 := k2_cond4 i t acc.2.2.2.2
  c7 := k2_cond7 i t acc.2.2.2.2
  c9 := k2_cond9 i t acc.2.2.2.2
  off4 := k2_off4 acc.1
  inb4 := fun hw hc => k2_off4_inb i t acc.1 acc.2.1 acc.2.2.1 acc.2.2.2.1 acc.2.2.2.2 hw h1 hc
  off5 := k2_off5 i acc.2.2.2.2
  inb5 := fun hw hc => k2_off5_inb i t acc.1 acc.2.1 acc.2.2.1 acc.2.2.2.1 acc.2.2.2.2 hw h1 hc
  off6 := k2_off6 acc.1
  inb6 := fun hw hc => k2_off6_inb i t acc.1 acc.2.1 acc.2.2.1 acc.2.2.2.1 acc.2.2.2.2 hw h1 hc
  off7 := k2_off7 acc.2.1
  inb7 := fun hw hc => k2_off7_inb i t acc.1 acc.2.1 acc.2.2.1 acc.2.2.2.1 acc.2.2.2.2 hw h1 hc
  off8 := k2_off8 i acc.2.2.2.2
  inb8 := fun hw hc => k2_off8_inb i t acc.1 acc.2.1 acc.2.2.1 acc.2.2.2.1 acc.2.2.2.2 hw h1 hc
  off9 := k2_off9 acc.2.1
  inb9 := fun hw hc => k2_off9_inb i t acc.1 acc.2.1 acc.2.2.1 acc.2.2.2.1 acc.2.2.2.2 hw h1 hc
  off10 := k2_off10 acc.2.2.1
  inb10 := fun hw => k2_off10_inb i acc.2.2.1 hw h1
  off11 := k2_off11 acc.2.1
  inb11 := fun hw => k2_off11_inb i acc.2.1 hw h1
  off12 := k2_off12 acc.2.2.1
  inb12 := fun hw hc => k2_off12_inb i t acc.1 acc.2.1 acc.2.2.1 acc.2.2.2.1 acc.2.2.2.2 hw h1 hc
  off13 := k2_off13 i acc.2.2.2.2
  inb13 := fun hw hc => k2_off13_inb i t acc.1 acc.2.1 acc.2.2.1 acc.2.2.2.1 acc.2.2.2.2 hw h1 hc
  off14 := k2_off14 acc.2.2.1
  inb14 := fun hw hc => k2_off14_inb i t acc.1 acc.2.1 acc.2.2.1 acc.2.2.2.1 acc.2.2.2.2 hw h1 hc
  off15 := k2_off15 acc.2.2.2.1
  inb15 := fun hw hc => k2_off15_inb i t acc.1 acc.2.1 acc.2.2.1 acc.2.2.2.1 acc.2.2.2.2 hw h1 hc
  off16 := k2_off16 i acc.2.2.2.2
  inb16 := fun hw hc => k2_off16_inb i t acc.1 acc.2.1 acc.2.2.1 acc.2.2.2.1 acc.2.2.2.2 hw h1 hc
  off17 := k2_off17 acc.2.2.2.1
  inb17 := fun hw hc => k2_off17_inb i t acc.1 acc.2.1 acc.2.2.1 acc.2.2.2.1 acc.2.2.2.2 hw h1 hc
  a5 := Scf.iv w5 1#32 t
  a6 := acc.1
  a7 := acc.2.1
  a8 := acc.2.2.1
  a9 := acc.2.2.2.1
  a10 := acc.2.2.2.2
  cnt := n2 i
  base := b2 i

/-- The words of call 2 on one tile. -/
def call2 (i : grid2.Coords) : Gather 500 64000 where
  c1 := k2_cond1 i
  c2 := k2_cond2 i
  off1 := k2_off1
  inb1 := fun h1 h2 => k2_off1_inb i h1 h2
  off2 := k2_off2 i
  inb2 := fun h1 h2 => k2_off2_inb i h1 h2
  off3 := k2_off3
  inb3 := fun h1 h2 => k2_off3_inb i h1 h2
  w41 := Scalar.select (Scalar.andi 1#1 (Scalar.cmpi .sgt (Scalar.muli 1#32 (n2 i)) 0#32)) (Scalar.addi 0#32 1#32) 0#32
  w45 := Scalar.muli (Scalar.divsi (Scalar.subi (Scalar.muli 1#32 (n2 i)) 0#32) 1#32) 1#32
  l1 := k2_t1_loop i
  ok1 := fun h1 => k2_t1_ok i h1
  steps := step2 i
  l2 := k2_t2_loop i
  ok2 := fun h1 => k2_t2_ok i h1
  P8 := fun w => k2_chk8 i w
  P7 := fun w => k2_chk7 i w
  d8 := fun w => k2_chk8.dec i w
  d7 := fun w => k2_chk7.dec i w
  x1 := Scalar.cmpi .ne (Scalar.extui (Scalar.cmpi .eq (Scalar.subi (Scalar.muli 1#32 (n2 i)) 1#32) (Scalar.subi (Scalar.muli 1#32 (n2 i)) 1#32)) : BitVec 32) 0#32
  c18 := k2_cond18 i
  off33 := fun w => k2_off33 i w
  inb33 := fun w hw h1 hc => k2_off33_inb i w hw h1 hc
  off34 := fun w => k2_off34 w
  inb34 := fun w hw h1 hc => k2_off34_inb i w hw h1 hc
  off35 := fun w => k2_off35 w
  inb35 := fun w hw h1 hc => k2_off35_inb i w hw h1 hc

set_option maxRecDepth 65536 in
set_option maxHeartbeats 4000000 in
/-- Call 2's printed kernel is the shared text at its words. -/
theorem kernel2_eq (i : grid2.Coords) (tb : Memref sig .scVector .hbm S100000x128 .f32) (htb : tb.IsWhole) (ix : Memref sig .scVector .hbm S500x128 .i32)
    (hix : ix.IsWhole) (rw : Memref sig .scVector .hbm S64000x128 .f32) (hrw : rw.IsWhole) (ib : Memref sig .scVector .vmem S2x1x128 .i32) (hib : ib.IsWhole)
    (is : DmaSems sig S2) (rb : Memref sig .scVector .vmem S2x128x128 .f32) (hrb : rb.IsWhole) (rs : DmaSems sig S2) (gs gs' : DmaSems sig S_) :
    cc2_gather_kernel (F := F) i tb htb ix hix rw hrw ib hib is rb hrb rs gs gs'
      = gather (F := F) (call2 i) tb ix rw ib is rb rs gs fun h1 w6 w5 w7 w8 w9 w10 w45 =>
          k2_t2_body i tb htb ix hix rw hrw ib hib is rb hrb rs gs gs' (n2 i) (b2 i) (Scalar.muli 1#32 (n2 i)) h1 w6 w5 w7 w8 w9 w10 w45 (Scalar.addi w5 w45) := by
  rw [cc2_gather_kernel_eq_skeleton]; rfl

/-! ## Call 3 -/

/-- How many rows of indices a tile takes at call 3. -/
def n3 (i : grid3.Coords) : BitVec 32 := wCnt 16#32 13#32 12#32 (wTile (i 0) (i 1))
/-- A tile's first row of indices at call 3. -/
def b3 (i : grid3.Coords) : BitVec 32 := wBase 16#32 13#32 12#32 (wTile (i 0) (i 1))

/-- The words of one step of call 3. -/
def step3 (i : grid3.Coords) (h1 : k3_cond1 i = 1#1) (w5 : BitVec 32) (t : Fin (k3_t1_loop i).trips) (acc : Words) : Trip 400 51200 where
  P3 := k3_chk3 i acc.2.1
  P2 := k3_chk2 i acc.2.2.1
  P1 := k3_chk1 i t acc.1 acc.2.1 acc.2.2.1 acc.2.2.2.1 acc.2.2.2.2
  d3 := k3_chk3.dec i acc.2.1
  d2 := k3_chk2.dec i acc.2.2.1
  d1 := k3_chk1.dec i t acc.1 acc.2.1 acc.2.2.1 acc.2.2.2.1 acc.2.2.2.2
  c3 := k3_cond3 i t acc.2.2.2.2
  c4 := k3_cond4 i t acc.2.2.2.2
  c7 := k3_cond7 i t acc.2.2.2.2
  c9 := k3_cond9 i t acc.2.2.2.2
  off4 := k3_off4 acc.1
  inb4 := fun hw hc => k3_off4_inb i t acc.1 acc.2.1 acc.2.2.1 acc.2.2.2.1 acc.2.2.2.2 hw h1 hc
  off5 := k3_off5 i acc.2.2.2.2
  inb5 := fun hw hc => k3_off5_inb i t acc.1 acc.2.1 acc.2.2.1 acc.2.2.2.1 acc.2.2.2.2 hw h1 hc
  off6 := k3_off6 acc.1
  inb6 := fun hw hc => k3_off6_inb i t acc.1 acc.2.1 acc.2.2.1 acc.2.2.2.1 acc.2.2.2.2 hw h1 hc
  off7 := k3_off7 acc.2.1
  inb7 := fun hw hc => k3_off7_inb i t acc.1 acc.2.1 acc.2.2.1 acc.2.2.2.1 acc.2.2.2.2 hw h1 hc
  off8 := k3_off8 i acc.2.2.2.2
  inb8 := fun hw hc => k3_off8_inb i t acc.1 acc.2.1 acc.2.2.1 acc.2.2.2.1 acc.2.2.2.2 hw h1 hc
  off9 := k3_off9 acc.2.1
  inb9 := fun hw hc => k3_off9_inb i t acc.1 acc.2.1 acc.2.2.1 acc.2.2.2.1 acc.2.2.2.2 hw h1 hc
  off10 := k3_off10 acc.2.2.1
  inb10 := fun hw => k3_off10_inb i acc.2.2.1 hw h1
  off11 := k3_off11 acc.2.1
  inb11 := fun hw => k3_off11_inb i acc.2.1 hw h1
  off12 := k3_off12 acc.2.2.1
  inb12 := fun hw hc => k3_off12_inb i t acc.1 acc.2.1 acc.2.2.1 acc.2.2.2.1 acc.2.2.2.2 hw h1 hc
  off13 := k3_off13 i acc.2.2.2.2
  inb13 := fun hw hc => k3_off13_inb i t acc.1 acc.2.1 acc.2.2.1 acc.2.2.2.1 acc.2.2.2.2 hw h1 hc
  off14 := k3_off14 acc.2.2.1
  inb14 := fun hw hc => k3_off14_inb i t acc.1 acc.2.1 acc.2.2.1 acc.2.2.2.1 acc.2.2.2.2 hw h1 hc
  off15 := k3_off15 acc.2.2.2.1
  inb15 := fun hw hc => k3_off15_inb i t acc.1 acc.2.1 acc.2.2.1 acc.2.2.2.1 acc.2.2.2.2 hw h1 hc
  off16 := k3_off16 i acc.2.2.2.2
  inb16 := fun hw hc => k3_off16_inb i t acc.1 acc.2.1 acc.2.2.1 acc.2.2.2.1 acc.2.2.2.2 hw h1 hc
  off17 := k3_off17 acc.2.2.2.1
  inb17 := fun hw hc => k3_off17_inb i t acc.1 acc.2.1 acc.2.2.1 acc.2.2.2.1 acc.2.2.2.2 hw h1 hc
  a5 := Scf.iv w5 1#32 t
  a6 := acc.1
  a7 := acc.2.1
  a8 := acc.2.2.1
  a9 := acc.2.2.2.1
  a10 := acc.2.2.2.2
  cnt := n3 i
  base := b3 i

/-- The words of call 3 on one tile. -/
def call3 (i : grid3.Coords) : Gather 400 51200 where
  c1 := k3_cond1 i
  c2 := k3_cond2 i
  off1 := k3_off1
  inb1 := fun h1 h2 => k3_off1_inb i h1 h2
  off2 := k3_off2 i
  inb2 := fun h1 h2 => k3_off2_inb i h1 h2
  off3 := k3_off3
  inb3 := fun h1 h2 => k3_off3_inb i h1 h2
  w41 := Scalar.select (Scalar.andi 1#1 (Scalar.cmpi .sgt (Scalar.muli 1#32 (n3 i)) 0#32)) (Scalar.addi 0#32 1#32) 0#32
  w45 := Scalar.muli (Scalar.divsi (Scalar.subi (Scalar.muli 1#32 (n3 i)) 0#32) 1#32) 1#32
  l1 := k3_t1_loop i
  ok1 := fun h1 => k3_t1_ok i h1
  steps := step3 i
  l2 := k3_t2_loop i
  ok2 := fun h1 => k3_t2_ok i h1
  P8 := fun w => k3_chk8 i w
  P7 := fun w => k3_chk7 i w
  d8 := fun w => k3_chk8.dec i w
  d7 := fun w => k3_chk7.dec i w
  x1 := Scalar.cmpi .ne (Scalar.extui (Scalar.cmpi .eq (Scalar.subi (Scalar.muli 1#32 (n3 i)) 1#32) (Scalar.subi (Scalar.muli 1#32 (n3 i)) 1#32)) : BitVec 32) 0#32
  c18 := k3_cond18 i
  off33 := fun w => k3_off33 i w
  inb33 := fun w hw h1 hc => k3_off33_inb i w hw h1 hc
  off34 := fun w => k3_off34 w
  inb34 := fun w hw h1 hc => k3_off34_inb i w hw h1 hc
  off35 := fun w => k3_off35 w
  inb35 := fun w hw h1 hc => k3_off35_inb i w hw h1 hc

set_option maxRecDepth 65536 in
set_option maxHeartbeats 4000000 in
/-- Call 3's printed kernel is the shared text at its words. -/
theorem kernel3_eq (i : grid3.Coords) (tb : Memref sig .scVector .hbm S100000x128 .f32) (htb : tb.IsWhole) (ix : Memref sig .scVector .hbm S400x128 .i32)
    (hix : ix.IsWhole) (rw : Memref sig .scVector .hbm S51200x128 .f32) (hrw : rw.IsWhole) (ib : Memref sig .scVector .vmem S2x1x128 .i32) (hib : ib.IsWhole)
    (is : DmaSems sig S2) (rb : Memref sig .scVector .vmem S2x128x128 .f32) (hrb : rb.IsWhole) (rs : DmaSems sig S2) (gs gs' : DmaSems sig S_) :
    cc3_gather_kernel (F := F) i tb htb ix hix rw hrw ib hib is rb hrb rs gs gs'
      = gather (F := F) (call3 i) tb ix rw ib is rb rs gs fun h1 w6 w5 w7 w8 w9 w10 w45 =>
          k3_t2_body i tb htb ix hix rw hrw ib hib is rb hrb rs gs gs' (n3 i) (b3 i) (Scalar.muli 1#32 (n3 i)) h1 w6 w5 w7 w8 w9 w10 w45 (Scalar.addi w5 w45) := by
  rw [cc3_gather_kernel_eq_skeleton]; rfl

end Cert.Proof.Kernels
end
-- ==== Proof.Words.lean ====
/-
  What the words of the gather kernels are. A call gives the first `n` of its 32 tiles `a` rows of indices and the
  others `b = a - 1`; step `k` of a tile works on the tile's row `k`, in slot `k % 2` of each buffer.
-/
module

public import proofs.«01_k».proof.Proof.Kernels

@[expose] public section
noncomputable section

namespace Cert.Proof.Words

open Cert.KernelIdeal Cert.KernelIdeal.Gen
open Idealize.ShloMosaic Idealize.SL.Sem
open Cert.Proof.Trip Cert.Proof.Kernels

/-- The words the loop carries into step `k` of `n`. -/
def wordsAt (n k : ℕ) : Words :=
  (BitVec.ofNat 32 (min n (k + 1)), BitVec.ofNat 32 k, BitVec.ofNat 32 k, BitVec.ofNat 32 (k - 1), if k = n then 0#32 else BitVec.ofNat 32 k)

instance {R N : ℕ} (p : Trip R N) : Decidable p.P3 := p.d3
instance {R N : ℕ} (p : Trip R N) : Decidable p.P2 := p.d2
instance {R N : ℕ} (p : Trip R N) : Decidable p.P1 := p.d1
instance {R N : ℕ} (p : Gather R N) (w : BitVec 32) : Decidable (p.P8 w) := p.d8 w
instance {R N : ℕ} (p : Gather R N) (w : BitVec 32) : Decidable (p.P7 w) := p.d7 w

/-- The words `p` hands on. -/
def wordsOut {R N : ℕ} (p : Trip R N) : Words :=
  (p.n6, wN7 p.a7 p.cur p.next p.isLast, wN8 p.a8 p.cur p.next p.isLast, wN9 p.a9 p.cur p.prev p.isFirst, wN10 p.a10 p.cnt)

/-- The words `p` are those of step `k` of a tile with `n` rows, the first of them `base`. -/
def StepOK {R N : ℕ} (p : Trip R N) (n base k : ℕ) : Prop :=
  p.P3 ∧ p.P2 ∧ p.P1 ∧ (p.c3 = 1#1 ↔ k + 1 < n) ∧ p.c4 = 1#1 ∧ p.c7 = 1#1 ∧ (p.c9 = 1#1 ↔ 0 < k)
    ∧ (k + 1 < n → p.off4 = ![(k + 1) % 2, 0, 0] ∧ p.off5 = ![base + (k + 1), 0] ∧ p.off6 = ![(k + 1) % 2])
    ∧ p.off7 = ![k % 2, 0, 0] ∧ p.off9 = ![k % 2] ∧ p.off10 = ![k % 2, 0, 0] ∧ p.off11 = ![k % 2, 0, 0]
    ∧ p.off12 = ![k % 2, 0, 0] ∧ p.off13 = ![128 * (base + k), 0] ∧ p.off14 = ![k % 2]
    ∧ (0 < k → p.off17 = ![(k - 1) % 2])
    ∧ wordsOut p = wordsAt n (k + 1)

/-- The words `p` are those of a tile with `n` rows, the first of them `base`. -/
def CallOK {R N : ℕ} (p : Gather R N) (n base : ℕ) : Prop :=
  0 < n ∧ p.c1 = 1#1 ∧ p.c2 = 1#1 ∧ p.off1 = ![0, 0, 0] ∧ p.off2 = ![base, 0] ∧ p.off3 = ![0] ∧ p.w41 = 1#32
    ∧ p.l1.trips = n ∧ (∀ (h1 : p.c1 = 1#1) (t : Fin p.l1.trips), StepOK (p.steps h1 0#32 t (wordsAt n t.val)) n base t.val)
    ∧ p.l2.trips = 0 ∧ p.P8 0#32 ∧ p.P7 (BitVec.ofNat 32 (n - 1)) ∧ p.c18 = 1#1 ∧ p.off34 (BitVec.ofNat 32 (n - 1)) = ![(n - 1) % 2]
    ∧ base + n ≤ R ∧ N = 128 * R

instance {R N : ℕ} (p : Trip R N) (n base k : ℕ) : Decidable (StepOK p n base k) := by unfold StepOK; infer_instance
instance {R N : ℕ} (p : Gather R N) (n base : ℕ) : Decidable (CallOK p n base) := by unfold CallOK; infer_instance

/-- A tile's number of rows, and its first row. -/
def rowCnt (n a b w : ℕ) : ℕ := if w < n then a else b
/-- A tile's first row, as a number. -/
def rowBase (n b w : ℕ) : ℕ := b * w + min n w

/-- Tile `(c, s)` of a call. -/
def tile (c : Fin 2) (s : Fin 16) : grid0.Coords :=
  fun | 0 => c | 1 => s | ⟨_ + 2, h⟩ => absurd h (Nat.not_lt.2 (Nat.le_add_left _ _))
/-- Its number among the 32. -/
def tileNo (c : Fin 2) (s : Fin 16) : ℕ := 16 * c.val + s.val

/-- Call 0's words are what its numbers say, for every tile. -/
theorem call0_ok : ∀ (c : Fin 2) (s : Fin 16), CallOK (call0 (tile c s)) (rowCnt 8 7 6 (tileNo c s)) (rowBase 8 6 (tileNo c s)) := by decide +kernel
/-- Call 1's words are what its numbers say, for every tile. -/
theorem call1_ok : ∀ (c : Fin 2) (s : Fin 16), CallOK (call1 (tile c s)) (rowCnt 20 16 15 (tileNo c s)) (rowBase 20 15 (tileNo c s)) := by decide +kernel
/-- Call 2's words are what its numbers say, for every tile. -/
theorem call2_ok : ∀ (c : Fin 2) (s : Fin 16), CallOK (call2 (tile c s)) (rowCnt 20 16 15 (tileNo c s)) (rowBase 20 15 (tileNo c s)) := by decide +kernel
/-- Call 3's words are what its numbers say, for every tile. -/
theorem call3_ok : ∀ (c : Fin 2) (s : Fin 16), CallOK (call3 (tile c s)) (rowCnt 16 13 12 (tileNo c s)) (rowBase 16 12 (tileNo c s)) := by decide +kernel

end Cert.Proof.Words
end
-- ==== Proof.Tile.lean ====
/-
  One tile's run of a gather call, with the values it leaves. After `k` steps the rows of the tile's first `k - 1` rows
  of indices are final, the copy-out of the row before is under way, and the next row of indices is being fetched.
-/
module

public import proofs.«01_k».proof.Proof.Ops
public import proofs.«01_k».proof.Proof.Words

@[expose] public section
noncomputable section

namespace Cert.Proof.Tile

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Setup Cert.Proof.Trip Cert.Proof.Words Cert.Proof.Ops

variable {F : FTy → Type} [FloatOps F]

local notation "𝕄" => MT nD τ sig (HIx 4) (Elt F) ℕ UU ℕ

/-- The slot of step `k`. -/
def slot (k : ℕ) : Fin 2 := ⟨k % 2, Nat.mod_lt _ (by decide)⟩
/-- The slots alternate. -/
theorem slot_add_two (k : ℕ) : slot (k + 1 + 1) = slot k := Fin.ext (by show (k + 1 + 1) % 2 = k % 2; omega)
/-- The slot before is the slot after. -/
theorem slot_pred {k : ℕ} (h : 0 < k) : slot (k - 1) = slot (k + 1) := Fin.ext (by show (k - 1) % 2 = (k + 1) % 2; omega)

section
variable {R N : ℕ} (d : Dev nD) (sc : Fin τ.nSC) (su : Fin τ.nSub)
  (tb : Memref sig .scVector .hbm S100000x128 .f32) (ix : Memref sig .scVector .hbm (SI R) .i32)
  (rw : Memref sig .scVector .hbm (SI N) .f32)
  (ib : Memref sig .scVector .vmem S2x1x128 .i32) (is : DmaSems sig S2)
  (rb : Memref sig .scVector .vmem S2x128x128 .f32) (rs : DmaSems sig S2) (gs : DmaSems sig S_)
  (fi : Buf (Elt F) (ix.view.loc (V d sc su))) (ft : Buf (Elt F) (tb.view.loc (V d sc su)))
  (f0 G : Buf (Elt F) (rw.view.loc (V d sc su)))
  (qi : Fin 2 → PosShare TreeShare) (qt : PosShare TreeShare)
  (O : CellTallies nD τ sig (HIx 4)) (W : Waits sig (HIx 4))
  (hin : ∀ (r : ℕ) (h : r < R) (x : S1x128.Idx), BitVec.toNat (w := 32) ((iRow ix r h).view.read (Elt F) fi x) < 100000)
  (n base : ℕ)

/-- The elements of the rows of row `r`, none if the array has no such rows, -/
def blkSet (r : ℕ) : Finset rw.view.ty.Idx := if h : 128 * r + 128 ≤ N then (oBlk rw r h).view.set else ∅
/-- A row's block, where it lies in the array. -/
theorem blkSet_pos {r : ℕ} (h : 128 * r + 128 ≤ N) : blkSet rw r = (oBlk rw r h).view.set := dif_pos h
/-- and those rows, held with the contents `f`. -/
def blkAt (f : Buf (Elt F) (rw.view.loc (V d sc su))) (r : ℕ) : sProp 𝕄 := rw.view.loc (V d sc su) ↦[blkSet rw r]{fullShare} f
/-- A row's block held, where it lies in the array. -/
theorem blkAt_pos (f : Buf (Elt F) (rw.view.loc (V d sc su))) {r : ℕ} (h : 128 * r + 128 ≤ N) : blkAt d sc su rw f r = blk d sc su rw f r h := by
  unfold blkAt; rw [blkSet_pos rw h]; rfl
/-- The index slot of step `k`: its row's fetch under way, at rest after the last row. -/
def inAt (k : ℕ) : sProp 𝕄 :=
  if h : base + k < R ∧ k < n then iFly d sc su ix ib is fi qi (slot k) (base + k) h.1 else iFree d sc su ix ib is fi qi (slot k)
/-- The other slot of the row buffer: the copy-out of the row before under way, at rest before the first. -/
def outAt (k : ℕ) : sProp 𝕄 :=
  if h : 0 < k ∧ 128 * (base + (k - 1)) + 128 ≤ N then oFly d sc su rw rb rs G (slot (k - 1)) (base + (k - 1)) h.2
  else oFree d sc su rb rs (slot (k + 1))

/-- What a tile holds after `k` steps. -/
def Inv (k : ℕ) (acc : Words) : sProp 𝕄 :=
  iprop(Transfers.MayWaits (V d sc su) (default : HIx 4) O ∗ ⌜acc = wordsAt n k⌝ ∗ Owes d sc su O W ∗ (tb.view.loc (V d sc su) ↦{qt} ft) ∗ semVal (V d sc su, .dma gs.sem) 0
    ∗ inAt d sc su ix ib is fi qi n base k ∗ iFree d sc su ix ib is fi qi (slot (k + 1))
    ∗ oFree d sc su rb rs (slot k) ∗ outAt d sc su rw rb rs G base k
    ∗ bigSep (Finset.range (k - 1)) (fun j => blkAt d sc su rw G (base + j))
    ∗ bigSep (Finset.Ico k n) (fun j => blkAt d sc su rw f0 (base + j)))

/-- A proposition a step assumes, once it holds. -/
theorem assume_wp {P : Prop} {dP : Decidable P} (h : P) {Q : PLift P → sProp 𝕄} :
    Q ⟨h⟩ ⊢ wp frame (wpE (defs₀ (F := F)) 𝒱₀ (V d sc su) none) Set.univ (Prog.lift (TpuEff.assume P dP)) Q := by
  show Q ⟨h⟩ ⊢ wp frame (wpE (defs₀ (F := F)) 𝒱₀ (V d sc su) none) Set.univ (.op (.assume P dP) .ret) Q
  rw [wp_assume_of 𝒱₀ _ _ _ h, wp_ret]
  iintro H
  imodintro
  iexact H

/-- The first part of a step leaves the next row's fetch under way. -/
theorem tripA_wp (p : Trip R N) (k : ℕ) (hp : StepOK p n base k) (hR : base + n ≤ R) {Q} :
    iFree d sc su ix ib is fi qi (slot (k + 1))
      ⊢ iprop((inAt d sc su ix ib is fi qi n base (k + 1)
            -∗ Q ⟨hp.1, hp.2.1, hp.2.2.1, p.a5, Scalar.muli 1#32 p.cnt, p.isFirst, p.isLast, p.cur, p.prev, p.next, p.n6, Scalar.cmpi .ne p.cur p.next, 2#32⟩)
          -∗ wp frame (wpE (defs₀ (F := F)) 𝒱₀ (V d sc su) none) Set.univ (tripA p ix ib is) Q) := by
  obtain ⟨h3, h2, h1, hc3, -, -, -, hoff, -⟩ := id hp
  unfold tripA
  simp only [wp_bind, wp_pure]
  iintro H Hk
  iapply (assume_wp d sc su h3)
  iapply (assume_wp d sc su h2)
  iapply (assume_wp d sc su h1)
  by_cases hk : k + 1 < n
  · have hc := hc3.mpr hk
    obtain ⟨h4, h5, h6⟩ := hoff hk
    rw [dif_pos hc]
    simp only [wp_bind, wp_pure]
    iapply (fetch_wp d sc su ix ib is fi qi (slot (k + 1)) (base + (k + 1)) (by omega) h5 h4 h6) $$ H
    iintro H
    imodintro
    iapply Hk
    unfold inAt
    rw [dif_pos ⟨(by omega : base + (k + 1) < R), hk⟩]
    iexact H
  · have hc : ¬ p.c3 = 1#1 := fun h => hk (hc3.mp h)
    rw [dif_neg hc]
    simp only [wp_pure]
    imodintro
    iapply Hk
    unfold inAt
    rw [dif_neg (fun h => hk h.2)]
    iexact H

/-- The second part waits for the step's row and starts the gather of the rows it names. -/
theorem tripB_wp (p : Trip R N) (k : ℕ) (hp : StepOK p n base k) (hR : base + n ≤ R) (hk : k < n)
    (hcr : ∀ σ, ∑ j, ((gSlot rb σ).slice (S128x128.rowRect gathers_S100000x128_S128x128.axis' j) (S128x128.stride_rowRect gathers_S100000x128_S128x128.axis' j)).view.dmaCredit
      = (gSlot rb σ).view.dmaCredit)
    {h3 h2 h1 a5 cur prev fi'} {Q : PUnit.{1} → sProp 𝕄} :
    iprop(Transfers.MayWaits (V d sc su) (default : HIx 4) O ∗ inAt d sc su ix ib is fi qi n base k ∗ oAny d sc su rb (slot k)
        ∗ (tb.view.loc (V d sc su) ↦{qt} ft) ∗ semVal (V d sc su, .dma gs.sem) 0 ∗ Owes d sc su O W)
      ⊢ iprop((iprop(gFly d sc su tb ix ib is rb gs fi ft qi qt hin (slot k) (base + k) (by omega) ∗ Owes d sc su O W) -∗ Q ⟨⟩)
          -∗ wp frame (wpE (defs₀ (F := F)) 𝒱₀ (V d sc su) none) Set.univ (tripB p tb ix ib is rb gs h3 h2 h1 a5 cur prev fi') Q) := by
  obtain ⟨-, -, -, -, hc4, -, -, -, h7, h9, h10, h11, -⟩ := id hp
  have hkR : base + k < R := by omega
  unfold tripB inAt
  rw [dif_pos hc4, dif_pos ⟨hkR, hk⟩]
  simp only [wp_bind, wp_pure, ite_self, dite_eq_ite]
  iintro ⟨Hmw, Hi, Hs, Ht, Hg, Ho⟩ Hk
  iapply (fetched_wp d sc su ix ib is fi qi O W (slot k) (base + k) hkR h7 h9) $$ [Hmw Hi Ho]
  · iframe Hmw Hi Ho
  iintro ⟨Hi, Ho⟩
  iapply (gather_wp d sc su tb ix ib is rb gs fi ft qi qt hin (slot k) (base + k) hkR (hcr _) h10 h11) $$ [Hi Hs Ht Hg]
  · iframe Hi Hs Ht Hg
  iintro H
  imodintro
  iapply Hk
  iframe H Ho

/-- The third part waits for the gather, starts the copy-out of its rows and waits for the one before. -/
theorem tripC_wp (p : Trip R N) (k : ℕ) (hp : StepOK p n base k) (hR : base + n ≤ R) (hk : k < n) (hN : N = 128 * R)
    (hG : ∀ (r : ℕ) (h : r < R) (hb : 128 * r + 128 ≤ N), (oBlk rw r hb).view.read (Elt F) G = pay d sc su tb ix fi ft hin r h)
    {h2 h1 cur prev next fi' la} {Q} :
    iprop(Transfers.MayWaits (V d sc su) (default : HIx 4) O ∗ gFly d sc su tb ix ib is rb gs fi ft qi qt hin (slot k) (base + k) (by omega)
        ∗ semVal (V d sc su, .dma (slotSem rs (slot k))) 0 ∗ blkAt d sc su rw f0 (base + k) ∗ outAt d sc su rw rb rs G base k ∗ Owes d sc su O W)
      ⊢ iprop((iprop(iFree d sc su ix ib is fi qi (slot (k + 1 + 1)) ∗ (tb.view.loc (V d sc su) ↦{qt} ft) ∗ semVal (V d sc su, .dma gs.sem) 0
            ∗ outAt d sc su rw rb rs G base (k + 1) ∗ oFree d sc su rb rs (slot (k + 1))
            ∗ (if 0 < k then blkAt d sc su rw G (base + (k - 1)) else iprop(emp)) ∗ Owes d sc su O W)
              -∗ Q ⟨wN8 p.a8 cur next la, wN9 p.a9 cur prev fi', wN7 p.a7 cur next la, wN10 p.a10 p.cnt⟩)
          -∗ wp frame (wpE (defs₀ (F := F)) 𝒱₀ (V d sc su) none) Set.univ (tripC p tb rw rb rs gs h2 h1 cur prev next fi' la) Q) := by
  obtain ⟨-, -, -, -, -, hc7, hc9, -, -, -, h10, -, h12, h13, h14, h17, -⟩ := id hp
  have hkR : base + k < R := by omega
  have hb : 128 * (base + k) + 128 ≤ N := by omega
  unfold tripC
  rw [dif_pos hc7, blkAt_pos d sc su rw f0 hb, slot_add_two, show outAt d sc su rw rb rs G base (k + 1) = oFly d sc su rw rb rs G (slot k) (base + k) hb from
    dif_pos ⟨Nat.succ_pos k, hb⟩]
  simp only [wp_bind, wp_pure, ite_self]
  by_cases h0 : 0 < k
  · have hb' : 128 * (base + (k - 1)) + 128 ≤ N := by omega
    rw [dif_pos (hc9.mpr h0), if_pos h0, blkAt_pos d sc su rw G hb', ← slot_pred h0,
      show outAt d sc su rw rb rs G base k = oFly d sc su rw rb rs G (slot (k - 1)) (base + (k - 1)) hb' from dif_pos ⟨h0, hb'⟩]
    simp only [wp_bind, wp_pure]
    iintro ⟨#Hmw, Hg, Hsem, Hb, Hp, Ho⟩ Hk
    iapply (gathered_wp d sc su tb ix ib is rb gs fi ft qi qt O W hin (slot k) (base + k) hkR h10) $$ [Hg Ho]
    · iframe Hmw Hg Ho
    iintro ⟨Hs, Hi, Ht, Hg, Ho⟩
    iapply (out_wp d sc su tb ix rw rb rs fi ft f0 G hin (slot k) (base + k) hkR hb (hG _ hkR hb) h12 h13 h14) $$ [Hs Hsem Hb]
    · iframe Hs Hsem Hb
    iintro Hf
    iapply (outed_wp d sc su rw rb rs G O W (slot (k - 1)) (base + (k - 1)) hb' (h17 h0)) $$ [Hp Ho]
    · iframe Hmw Hp Ho
    iintro ⟨Hb, Hr, Ho⟩
    imodintro
    iapply Hk
    iframe Hi Ht Hg Hf Hr Hb Ho
  · rw [dif_neg (fun h => h0 (hc9.mp h)), if_neg h0,
      show outAt d sc su rw rb rs G base k = oFree d sc su rb rs (slot (k + 1)) from dif_neg (fun h => h0 h.1)]
    simp only [wp_pure]
    iintro ⟨#Hmw, Hg, Hsem, Hb, Hp, Ho⟩ Hk
    iapply (gathered_wp d sc su tb ix ib is rb gs fi ft qi qt O W hin (slot k) (base + k) hkR h10) $$ [Hg Ho]
    · iframe Hmw Hg Ho
    iintro ⟨Hs, Hi, Ht, Hg, Ho⟩
    iapply (out_wp d sc su tb ix rw rb rs fi ft f0 G hin (slot k) (base + k) hkR hb (hG _ hkR hb) h12 h13 h14) $$ [Hs Hsem Hb]
    · iframe Hs Hsem Hb
    iintro Hf
    imodintro
    iapply Hk
    iframe Hi Ht Hg Hf Hp Ho

/-- One more row is final. -/
theorem done_step (Φ : ℕ → sProp 𝕄) (k : ℕ) :
    iprop(bigSep (Finset.range (k - 1)) Φ ∗ (if 0 < k then Φ (k - 1) else iprop(emp))) ⊢ bigSep (Finset.range (k + 1 - 1)) Φ := by
  by_cases h0 : 0 < k
  · have hr : Finset.range (k + 1 - 1) = insert (k - 1) (Finset.range (k - 1)) := by
      ext j; simp only [Finset.mem_range, Finset.mem_insert]; omega
    rw [hr, SparseCore.bigSep_insert' (by simp), if_pos h0]
    exact sep_comm.1
  · have hk0 : k = 0 := by omega
    subst hk0
    iintro ⟨H, -⟩
    iexact H

/-- One step, from what the tile holds before it to what it holds after. -/
theorem trip_wp (p : Trip R N) (k : ℕ) (hp : StepOK p n base k) (hR : base + n ≤ R) (hk : k < n) (hN : N = 128 * R)
    (hG : ∀ (r : ℕ) (h : r < R) (hb : 128 * r + 128 ≤ N), (oBlk rw r hb).view.read (Elt F) G = pay d sc su tb ix fi ft hin r h)
    (hcr : ∀ σ, ∑ j, ((gSlot rb σ).slice (S128x128.rowRect gathers_S100000x128_S128x128.axis' j) (S128x128.stride_rowRect gathers_S100000x128_S128x128.axis' j)).view.dmaCredit
      = (gSlot rb σ).view.dmaCredit) :
    Inv d sc su tb ix rw ib is rb rs gs fi ft f0 G qi qt O W n base k (wordsAt n k)
      ⊢ wp frame (wpE (defs₀ (F := F)) 𝒱₀ (V d sc su) none) Set.univ (trip p tb ix rw ib is rb rs gs)
          (Inv d sc su tb ix rw ib is rb rs gs fi ft f0 G qi qt O W n base (k + 1)) := by
  have hIco : Finset.Ico k n = insert k (Finset.Ico (k + 1) n) := by
    ext j; simp only [Finset.mem_Ico, Finset.mem_insert]; omega
  unfold Inv trip
  simp only [wp_bind, wp_pure]
  rw [hIco, SparseCore.bigSep_insert' (by simp)]
  iintro ⟨#Hmw, -, Ho, Ht, Hg, Hi, Hi', Hof, Hop, Hd, ⟨Hb, Htd⟩⟩
  iapply (tripA_wp d sc su ix ib is fi qi n base p k hp hR) $$ Hi'
  iintro Hi'
  dsimp only
  unfold oFree
  icases Hof with ⟨Hoa, Hos⟩
  iapply (tripB_wp d sc su tb ix ib is rb gs fi ft qi qt O W hin n base p k hp hR hk hcr) $$ [Hi Hoa Ht Hg Ho]
  · iframe Hmw Hi Hoa Ht Hg Ho
  iintro ⟨Hgf, Ho⟩
  iapply (tripC_wp d sc su tb ix rw ib is rb rs gs fi ft f0 G qi qt O W hin n base p k hp hR hk hN hG) $$ [Hgf Hos Hb Hop Ho]
  · iframe Hmw Hgf Hos Hb Hop Ho
  iintro ⟨Hi, Ht, Hg, Hop, Hof, Hb, Ho⟩
  imodintro
  iframe Hmw Ho Ht Hg Hi' Hi Hop Htd
  isplitr
  · ipureintro
    exact hp.2.2.2.2.2.2.2.2.2.2.2.2.2.2.2.2
  unfold oFree
  iframe Hof
  iapply (done_step (F := F) (fun j => blkAt d sc su rw G (base + j)) k)
  iframe Hd Hb

/-- The two slots, whichever of them a step's is. -/
theorem both (Φ : Fin 2 → sProp 𝕄) (k : ℕ) : iprop(Φ (slot k) ∗ Φ (slot (k + 1))) ⊢ iprop(Φ 0 ∗ Φ 1) := by
  rcases Nat.mod_two_eq_zero_or_one k with h | h
  · rw [show slot k = 0 from Fin.ext h, show slot (k + 1) = 1 from Fin.ext (by show (k + 1) % 2 = 1; omega)]
  · rw [show slot k = 1 from Fin.ext h, show slot (k + 1) = 0 from Fin.ext (by show (k + 1) % 2 = 0; omega)]
    exact sep_comm.1

/-- What a tile comes with to a call, and (with the final rows) what it leaves. -/
def Held (f : Buf (Elt F) (rw.view.loc (V d sc su))) : sProp 𝕄 :=
  iprop(Owes d sc su O W ∗ (tb.view.loc (V d sc su) ↦{qt} ft) ∗ semVal (V d sc su, .dma gs.sem) 0
    ∗ (iFree d sc su ix ib is fi qi 0 ∗ iFree d sc su ix ib is fi qi 1) ∗ (oFree d sc su rb rs 0 ∗ oFree d sc su rb rs 1)
    ∗ bigSep (Finset.range n) (fun j => blkAt d sc su rw f (base + j)))

/-- A loop without a trip. -/
theorem for0_wp {σ : Type} (l : Scf.Loop 32) (ok : l.OK) (init : σ) (htr : l.trips = 0)
    {body : Fin l.trips → σ → Prog (TpuEff nD τ sig (Elt F) Λ₀ (.scVector sc su)) σ} {Q : σ → sProp 𝕄} :
    Q init ⊢ wp frame (wpE (defs₀ (F := F)) 𝒱₀ (V d sc su) none) Set.univ (Scf.Loop.for l ok init body) Q := by
  have hfor := Scf.wp_for frame (wpE (defs₀ (F := F)) 𝒱₀ (V d sc su) none) Set.univ l.lb l.ub l.st ok init body
    (fun _ acc => iprop(⌜acc = init⌝ ∗ Q init)) (fun k => absurd (lt_of_lt_of_eq k.isLt htr) (Nat.not_lt_zero _)) (Q := Q)
  iintro H
  iapply hfor
  isplitl [H]
  · iframe H
    ipureintro; rfl
  iintro %acc ⟨%h, H⟩
  subst h
  iexact H

/-- The loop over the tile's rows. -/
theorem loop_wp (p : Gather R N) (hp : CallOK p n base)
    (hG : ∀ (r : ℕ) (h : r < R) (hb : 128 * r + 128 ≤ N), (oBlk rw r hb).view.read (Elt F) G = pay d sc su tb ix fi ft hin r h)
    (hcr : ∀ σ, ∑ j, ((gSlot rb σ).slice (S128x128.rowRect gathers_S100000x128_S128x128.axis' j) (S128x128.stride_rowRect gathers_S100000x128_S128x128.axis' j)).view.dmaCredit
      = (gSlot rb σ).view.dmaCredit) {Q : Words → sProp 𝕄} :
    Inv d sc su tb ix rw ib is rb rs gs fi ft f0 G qi qt O W n base 0 (wordsAt n 0)
      ⊢ iprop((Inv d sc su tb ix rw ib is rb rs gs fi ft f0 G qi qt O W n base n (wordsAt n n) -∗ Q (wordsAt n n))
          -∗ wp frame (wpE (defs₀ (F := F)) 𝒱₀ (V d sc su) none) Set.univ
              (Scf.Loop.for p.l1 (p.ok1 hp.2.1) (p.w41, 0#32, 0#32, 0#32, 0#32)
                fun t acc => trip (p.steps hp.2.1 0#32 t acc) tb ix rw ib is rb rs gs) Q) := by
  obtain ⟨hn, h1, h2, ho1, ho2, ho3, h41, htr, hst, htr2, h8, h7, h18, ho34, hR, hN⟩ := id hp
  have hinit : (p.w41, 0#32, 0#32, 0#32, 0#32) = wordsAt n 0 := by
    rw [h41, wordsAt, show min n (0 + 1) = 1 by omega]; simp
  rw [hinit]
  have hbody : ∀ (k : Fin p.l1.trips) (acc : Words),
      Inv d sc su tb ix rw ib is rb rs gs fi ft f0 G qi qt O W n base k.val acc
        ⊢ wp frame (wpE (defs₀ (F := F)) 𝒱₀ (V d sc su) none) Set.univ (trip (p.steps hp.2.1 0#32 k acc) tb ix rw ib is rb rs gs)
            (Inv d sc su tb ix rw ib is rb rs gs fi ft f0 G qi qt O W n base (k.val + 1)) := by
    intro k acc
    by_cases ha : acc = wordsAt n k.val
    · subst ha
      exact trip_wp d sc su tb ix rw ib is rb rs gs fi ft f0 G qi qt O W hin n base _ k.val (hst h1 k) hR (htr ▸ k.isLt) hN hG hcr
    · unfold Inv
      iintro ⟨-, %h, -⟩
      exact absurd h ha
  have hfor := Scf.wp_for frame (wpE (defs₀ (F := F)) 𝒱₀ (V d sc su) none) Set.univ p.l1.lb p.l1.ub p.l1.st (p.ok1 hp.2.1) (wordsAt n 0)
    (fun t acc => trip (p.steps hp.2.1 0#32 t acc) tb ix rw ib is rb rs gs) (Inv d sc su tb ix rw ib is rb rs gs fi ft f0 G qi qt O W n base) hbody (Q := Q)
  have hcv : ∀ acc, Inv d sc su tb ix rw ib is rb rs gs fi ft f0 G qi qt O W n base (Scf.trips p.l1.lb p.l1.ub p.l1.st) acc
      ⊢ Inv d sc su tb ix rw ib is rb rs gs fi ft f0 G qi qt O W n base n acc :=
    fun acc => Entails.of_eq (congrArg (fun k => Inv d sc su tb ix rw ib is rb rs gs fi ft f0 G qi qt O W n base k acc) htr)
  iintro H Hk
  iapply hfor
  isplitl [H]
  · iexact H
  iintro %acc H
  ihave H := (hcv acc) $$ H
  by_cases ha : acc = wordsAt n n
  · subst ha
    iapply Hk; iexact H
  · unfold Inv
    icases H with ⟨-, %h, -⟩
    exact absurd h ha

/-- A tile's run of a call leaves the rows its indices name. -/
theorem gather_run (p : Gather R N) (hp : CallOK p n base)
    (hG : ∀ (r : ℕ) (h : r < R) (hb : 128 * r + 128 ≤ N), (oBlk rw r hb).view.read (Elt F) G = pay d sc su tb ix fi ft hin r h)
    (hcr : ∀ σ, ∑ j, ((gSlot rb σ).slice (S128x128.rowRect gathers_S100000x128_S128x128.axis' j) (S128x128.stride_rowRect gathers_S100000x128_S128x128.axis' j)).view.dmaCredit
      = (gSlot rb σ).view.dmaCredit) {body2} :
    iprop(Transfers.MayWaits (V d sc su) (default : HIx 4) O ∗ Held d sc su tb ix rw ib is rb rs gs fi ft qi qt O W n base f0)
      ⊢ wp frame (wpE (defs₀ (F := F)) 𝒱₀ (V d sc su) none) Set.univ (gather p tb ix rw ib is rb rs gs body2)
          (fun _ => Held d sc su tb ix rw ib is rb rs gs fi ft qi qt O W n base G) := by
  obtain ⟨hn, h1, h2, ho1, ho2, ho3, h41, htr, hst, htr2, h8, h7, h18, ho34, hR, hN⟩ := id hp
  have hstart : Inv d sc su tb ix rw ib is rb rs gs fi ft f0 G qi qt O W n base 0 (wordsAt n 0)
      = iprop(Transfers.MayWaits (V d sc su) (default : HIx 4) O ∗ ⌜wordsAt n 0 = wordsAt n 0⌝ ∗ Owes d sc su O W ∗ (tb.view.loc (V d sc su) ↦{qt} ft)
          ∗ semVal (V d sc su, .dma gs.sem) 0 ∗ iFly d sc su ix ib is fi qi 0 base (by omega) ∗ iFree d sc su ix ib is fi qi 1
          ∗ oFree d sc su rb rs 0 ∗ oFree d sc su rb rs 1 ∗ iprop(emp) ∗ bigSep (Finset.range n) (fun j => blkAt d sc su rw f0 (base + j))) := by
    unfold Inv inAt outAt
    rw [dif_pos ⟨by omega, hn⟩, dif_neg (fun h => absurd h.1 (lt_irrefl 0)), show Finset.Ico 0 n = Finset.range n from (Finset.range_eq_Ico n).symm]
    rfl
  have hend : Inv d sc su tb ix rw ib is rb rs gs fi ft f0 G qi qt O W n base n (wordsAt n n)
      = iprop(Transfers.MayWaits (V d sc su) (default : HIx 4) O ∗ ⌜wordsAt n n = wordsAt n n⌝ ∗ Owes d sc su O W ∗ (tb.view.loc (V d sc su) ↦{qt} ft)
          ∗ semVal (V d sc su, .dma gs.sem) 0 ∗ iFree d sc su ix ib is fi qi (slot n) ∗ iFree d sc su ix ib is fi qi (slot (n + 1))
          ∗ oFree d sc su rb rs (slot n) ∗ oFly d sc su rw rb rs G (slot (n - 1)) (base + (n - 1)) (by omega)
          ∗ bigSep (Finset.range (n - 1)) (fun j => blkAt d sc su rw G (base + j))
          ∗ bigSep (Finset.Ico n n) (fun j => blkAt d sc su rw f0 (base + j))) := by
    unfold Inv inAt outAt
    rw [dif_neg (fun h => absurd h.2 (lt_irrefl n)), dif_pos ⟨hn, by omega⟩]
  have hbl : 128 * (base + (n - 1)) + 128 ≤ N := by omega
  have hdone := done_step (F := F) (fun j => blkAt d sc su rw G (base + j)) n
  rw [if_pos hn] at hdone
  have h8' : p.P8 (wordsAt n n).2.2.2.2 := by rw [wordsAt, if_pos rfl]; exact h8
  unfold gather first rest Held
  rw [dif_pos h1, dif_pos h2]
  simp only [wp_bind, wp_pure, dif_pos h18, dite_eq_ite, ite_self]
  iintro ⟨#Hmw, Ho, Ht, Hg, ⟨Hi0, Hi1⟩, ⟨Ho0, Ho1⟩, Hb⟩
  iapply (fetch_wp d sc su ix ib is fi qi 0 base (by omega) ho2 ho1 ho3) $$ Hi0
  iintro Hi0
  imodintro
  iapply (loop_wp d sc su tb ix rw ib is rb rs gs fi ft f0 G qi qt O W hin n base p hp hG hcr) $$ [Ho Ht Hg Hi0 Hi1 Ho0 Ho1 Hb]
  · rw [hstart]
    iframe Hmw Ho Ht Hg Hi1 Ho0 Hb Hi0 Ho1
    ipureintro; rfl
  iintro H
  iapply (for0_wp d sc su p.l2 _ _ htr2)
  iapply (assume_wp d sc su h8')
  iapply (assume_wp d sc su h7)
  ihave H := (Entails.of_eq hend) $$ H
  icases H with ⟨-, -, Ho, Ht, Hg, Hi, Hi', Hf, Hf', Hd, -⟩
  iapply (outed_wp d sc su rw rb rs G O W (slot (n - 1)) (base + (n - 1)) (by omega) ho34) $$ [Hf' Ho]
  · iframe Hmw Hf' Ho
  iintro ⟨Hb, Hf', Ho⟩
  imodintro
  imodintro
  iframe Ho Ht Hg
  isplitl [Hi Hi']
  · iapply (both (F := F) (fun σ => iFree d sc su ix ib is fi qi σ) n)
    iframe Hi Hi'
  isplitl [Hf Hf']
  · iapply (both (F := F) (fun σ => oFree d sc su rb rs σ) n)
    ihave Hf' := (Entails.of_eq (congrArg (oFree d sc su rb rs) (slot_pred hn))) $$ Hf'
    iframe Hf Hf'
  · iapply hdone
    ihave Hb := (Entails.of_eq (blkAt_pos d sc su rw G hbl).symm) $$ Hb
    iframe Hd Hb
end
end Cert.Proof.Tile
end
-- ==== Proof.Body.lean ====
/-
  One tile's part of a gather call as the launch runs it: the two double buffers it holds whole are its four slots, its
  transfer semaphores are among its own, and the array of gathered rows is the tiles' rows. Over any of the four calls.
-/
module

public import proofs.«01_k».proof.Proof.Tile

@[expose] public section
noncomputable section

namespace Cert.Proof.Body

open Cert.KernelIdeal Cert.KernelIdeal.Gen
open Idealize.ShloMosaic
open Idealize.ShloMosaic.SparseCore (S V T)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Setup Cert.Proof.Trip Cert.Proof.Words Cert.Proof.Ops Cert.Proof.Tile

variable {F : FTy → Type} [FloatOps F]

local notation "𝕄" => MT nD τ sig (HIx 4) (Elt F) ℕ UU ℕ

/-! ## The slots are the buffer -/

/-- Two slices of a whole view by rectangles that are disjoint and together everything. -/
theorem halves {ℓ : Loc nD τ sig} {I J : Finset (Idx ℓ)} (hd : Disjoint I J) (hu : I ∪ J = Finset.univ) :
    (iprop(∃ f : Buf (Elt F) ℓ, ℓ ↦{fullShare} f) : sProp 𝕄)
      ⊢ iprop((∃ f : Buf (Elt F) ℓ, ℓ ↦[I]{fullShare} f) ∗ (∃ f : Buf (Elt F) ℓ, ℓ ↦[J]{fullShare} f)) := by
  iintro ⟨%f, H⟩
  ihave H' := (Entails.of_eq (show (ℓ ↦{fullShare} f : sProp 𝕄) = ℓ ↦[I ∪ J]{fullShare} f by rw [hu])) $$ H
  ihave H2 := (pointsTo_union hd).1 $$ H'
  icases H2 with ⟨H1, H2⟩
  isplitl [H1]
  · iexists f; iexact H1
  · iexists f; iexact H2
/-- Two halves of a buffer, held apart, are the whole. -/
theorem unhalves {ℓ : Loc nD τ sig} {I J : Finset (Idx ℓ)} (hd : Disjoint I J) (hu : I ∪ J = Finset.univ) :
    iprop((∃ f : Buf (Elt F) ℓ, ℓ ↦[I]{fullShare} f) ∗ (∃ f : Buf (Elt F) ℓ, ℓ ↦[J]{fullShare} f))
      ⊢ (iprop(∃ f : Buf (Elt F) ℓ, ℓ ↦{fullShare} f) : sProp 𝕄) := by
  iintro ⟨⟨%f, H1⟩, ⟨%g, H2⟩⟩
  iexists (J.piecewise g f)
  ihave H := (pointsTo_join (f := f) (g := g) hd) $$ [H1 H2]
  · iframe H1 H2
  ihave H' := (Entails.of_eq (show (ℓ ↦[I ∪ J]{fullShare} (J.piecewise g f) : sProp 𝕄) = ℓ ↦{fullShare} (J.piecewise g f) by rw [hu])) $$ H
  iexact H'

section
variable {R N : ℕ} (d : Dev nD) (sc : Fin τ.nSC) (su : Fin τ.nSub)
  (tb : Memref sig .scVector .hbm S100000x128 .f32) (ix : Memref sig .scVector .hbm (SI R) .i32)
  (rw : Memref sig .scVector .hbm (SI N) .f32)
  (ib : Memref sig .scVector .vmem S2x1x128 .i32) (is : DmaSems sig S2)
  (rb : Memref sig .scVector .vmem S2x128x128 .f32) (rs : DmaSems sig S2) (gs : DmaSems sig S_)
  (fi : Buf (Elt F) (ix.view.loc (V d sc su))) (ft : Buf (Elt F) (tb.view.loc (V d sc su)))
  (f0 G : Buf (Elt F) (rw.view.loc (V d sc su)))
  (q qt : PosShare TreeShare)
  (O : CellTallies nD τ sig (HIx 4)) (W : Waits sig (HIx 4))
  (hin : ∀ (r : ℕ) (h : r < R) (x : S1x128.Idx), BitVec.toNat (w := 32) ((iRow ix r h).view.read (Elt F) fi x) < 100000)
  (n base : ℕ)

/-- Disjoint slices covering the view's shape are disjoint and cover the view. -/
theorem slices_disjoint {κ : Kind} {sp : Space} {s : Shape} {e : EltTy} (v : View sig κ sp s e) {r r' : Rect s} (h : Disjoint r.set r'.set) :
    Disjoint (v.slice r).set (v.slice r').set := by
  rw [View.set_slice, View.set_slice]; exact (Finset.disjoint_map _).mpr h
/-- Two rectangles that cover a view cover its set. -/
theorem slices_cover {κ : Kind} {sp : Space} {s : Shape} {e : EltTy} (v : View sig κ sp s e) {r r' : Rect s} (h : r.set ∪ r'.set = Finset.univ) :
    (v.slice r).set ∪ (v.slice r').set = v.set := by
  rw [View.set_slice, View.set_slice, ← Finset.map_union, h]; rfl

/-- The set of a slot of the index buffer. -/
theorem iSlot_set (σ : Fin 2) : (iSlot ib σ).view.set = (ib.view.slice (Rect.unit (s := S2x1x128) ![σ.val, 0, 0] S1x1x128.size (inbI σ))).set := View.set_reshape _ _
/-- The set of a slot of the row buffer. -/
theorem oSlot_set (σ : Fin 2) : (oSlot rb σ).view.set = (rb.view.slice (Rect.unit (s := S2x128x128) ![σ.val, 0, 0] S1x128x128.size (inbO σ))).set := View.set_reshape _ _

/-- The two slots of the index buffer are apart. -/
theorem iSlot_disjoint : Disjoint (iSlot ib 0).view.set (iSlot ib 1).view.set := by
  rw [iSlot_set, iSlot_set]; exact slices_disjoint _ (Rect.unit_disjoint 0 (Or.inl (show 0 + 1 ≤ 1 by omega)))
/-- The two slots of the row buffer are apart. -/
theorem oSlot_disjoint : Disjoint (oSlot rb 0).view.set (oSlot rb 1).view.set := by
  rw [oSlot_set, oSlot_set]; exact slices_disjoint _ (Rect.unit_disjoint 0 (Or.inl (show 0 + 1 ≤ 1 by omega)))

/-- The two slots are all of the index buffer. -/
theorem iSlot_cover : (iSlot ib 0).view.set ∪ (iSlot ib 1).view.set = ib.view.set := by
  rw [iSlot_set, iSlot_set]
  refine slices_cover _ (Finset.eq_univ_iff_forall.mpr fun i => Finset.mem_union.mpr ?_)
  have h0 : (i 0).val < 2 := (i 0).isLt
  have h1 : (i 1).val < 1 := (i 1).isLt
  have h2 : (i 2).val < 128 := (i 2).isLt
  rcases (show (i 0).val = 0 ∨ (i 0).val = 1 by omega) with h | h
  · refine Or.inl (Rect.mem_set_unit.mpr fun a => ?_)
    match a with
    | 0 => exact ⟨Nat.zero_le _, show (i 0).val < 0 + 1 by omega⟩
    | 1 => exact ⟨Nat.zero_le _, show (i 1).val < 0 + 1 by omega⟩
    | 2 => exact ⟨Nat.zero_le _, show (i 2).val < 0 + 128 by omega⟩
  · refine Or.inr (Rect.mem_set_unit.mpr fun a => ?_)
    match a with
    | 0 => exact ⟨show 1 ≤ (i 0).val by omega, show (i 0).val < 1 + 1 by omega⟩
    | 1 => exact ⟨Nat.zero_le _, show (i 1).val < 0 + 1 by omega⟩
    | 2 => exact ⟨Nat.zero_le _, show (i 2).val < 0 + 128 by omega⟩
/-- The two slots are all of the row buffer. -/
theorem oSlot_cover : (oSlot rb 0).view.set ∪ (oSlot rb 1).view.set = rb.view.set := by
  rw [oSlot_set, oSlot_set]
  refine slices_cover _ (Finset.eq_univ_iff_forall.mpr fun i => Finset.mem_union.mpr ?_)
  have h0 : (i 0).val < 2 := (i 0).isLt
  have h1 : (i 1).val < 128 := (i 1).isLt
  have h2 : (i 2).val < 128 := (i 2).isLt
  rcases (show (i 0).val = 0 ∨ (i 0).val = 1 by omega) with h | h
  · refine Or.inl (Rect.mem_set_unit.mpr fun a => ?_)
    match a with
    | 0 => exact ⟨Nat.zero_le _, show (i 0).val < 0 + 1 by omega⟩
    | 1 => exact ⟨Nat.zero_le _, show (i 1).val < 0 + 128 by omega⟩
    | 2 => exact ⟨Nat.zero_le _, show (i 2).val < 0 + 128 by omega⟩
  · refine Or.inr (Rect.mem_set_unit.mpr fun a => ?_)
    match a with
    | 0 => exact ⟨show 1 ≤ (i 0).val by omega, show (i 0).val < 1 + 1 by omega⟩
    | 1 => exact ⟨Nat.zero_le _, show (i 1).val < 0 + 128 by omega⟩
    | 2 => exact ⟨Nat.zero_le _, show (i 2).val < 0 + 128 by omega⟩

/-! ## The tile's part -/

/-- A tile's part of a call's arrays: its shares of the table and of the indices, its rows at the contents `f`. -/
def Part (f : Buf (Elt F) (rw.view.loc (V d sc su))) : sProp 𝕄 :=
  iprop((tb.view.loc (V d sc su) ↦{qt} ft) ∗ (ix.view.loc (V d sc su) ↦{q} fi)
    ∗ bigSep (Finset.range n) (fun j => blkAt d sc su rw f (base + j)))

/-- A tile's own of the two buffers and the five semaphores. -/
def Own : sProp 𝕄 :=
  iprop((∃ f : Buf (Elt F) (ib.view.loc (V d sc su)), ib.view.loc (V d sc su) ↦{fullShare} f)
    ∗ (∃ f : Buf (Elt F) (rb.view.loc (V d sc su)), rb.view.loc (V d sc su) ↦{fullShare} f)
    ∗ semVal (V d sc su, .dma (slotSem is 0)) 0 ∗ semVal (V d sc su, .dma (slotSem is 1)) 0
    ∗ semVal (V d sc su, .dma (slotSem rs 0)) 0 ∗ semVal (V d sc su, .dma (slotSem rs 1)) 0 ∗ semVal (V d sc su, .dma gs.sem) 0)

/-- The two halves of a share. -/
def half (q : PosShare TreeShare) (σ : Fin 2) : PosShare TreeShare := if σ = 0 then q.left else q.right

/-- What a tile starts with, as the loop's invariant asks for it. -/
theorem held_of (hib : ib.view.set = Finset.univ) (hrb : rb.view.set = Finset.univ) (f : Buf (Elt F) (rw.view.loc (V d sc su))) :
    iprop(Part d sc su tb ix rw fi ft q qt n base f ∗ Own d sc su ib is rb rs gs ∗ Owes d sc su O W)
      ⊢ Held d sc su tb ix rw ib is rb rs gs fi ft (half q) qt O W n base f := by
  unfold Part Own Held iFree oFree iAny oAny
  iintro ⟨⟨Ht, Hx, Hb⟩, ⟨Hi, Ho, S0, S1, S2, S3, Hg⟩, HO⟩
  ihave Hi' := (halves (F := F) (ℓ := ib.view.loc (V d sc su)) (I := (iSlot ib 0).view.set) (J := (iSlot ib 1).view.set) (iSlot_disjoint ib) ((iSlot_cover ib).trans hib)) $$ Hi
  icases Hi' with ⟨I0, I1⟩
  ihave Ho' := (halves (F := F) (ℓ := rb.view.loc (V d sc su)) (I := (oSlot rb 0).view.set) (J := (oSlot rb 1).view.set) (oSlot_disjoint rb) ((oSlot_cover rb).trans hrb)) $$ Ho
  icases Ho' with ⟨O0, O1⟩
  ihave Hx' := (pointsTo_share (PosShare.mem_left_op_right q)).1 $$ Hx
  icases Hx' with ⟨X0, X1⟩
  isplitl [HO]; · iexact HO
  isplitl [Ht]; · iexact Ht
  isplitl [Hg]; · iexact Hg
  isplitl [I0 S0 X0 I1 S1 X1]
  · isplitl [I0 S0 X0]
    · isplitl [I0]; · iexact I0
      isplitl [S0]; · iexact S0
      iexact X0
    · isplitl [I1]; · iexact I1
      isplitl [S1]; · iexact S1
      iexact X1
  isplitl [O0 S2 O1 S3]
  · isplitl [O0 S2]
    · isplitl [O0]; · iexact O0
      iexact S2
    · isplitl [O1]; · iexact O1
      iexact S3
  iexact Hb

/-- What the loop leaves, as the tile's task returns it. -/
theorem of_held (hib : ib.view.set = Finset.univ) (hrb : rb.view.set = Finset.univ) (f : Buf (Elt F) (rw.view.loc (V d sc su))) :
    Held d sc su tb ix rw ib is rb rs gs fi ft (half q) qt O W n base f
      ⊢ iprop(Part d sc su tb ix rw fi ft q qt n base f ∗ Own d sc su ib is rb rs gs ∗ Owes d sc su O W) := by
  unfold Part Own Held iFree oFree iAny oAny
  iintro ⟨HO, Ht, Hg, ⟨⟨I0, S0, X0⟩, ⟨I1, S1, X1⟩⟩, ⟨⟨O0, S2⟩, ⟨O1, S3⟩⟩, Hb⟩
  ihave Hi := (unhalves (F := F) (ℓ := ib.view.loc (V d sc su)) (I := (iSlot ib 0).view.set) (J := (iSlot ib 1).view.set) (iSlot_disjoint ib) ((iSlot_cover ib).trans hib)) $$ [I0 I1]
  · isplitl [I0]; · iexact I0
    iexact I1
  ihave Ho := (unhalves (F := F) (ℓ := rb.view.loc (V d sc su)) (I := (oSlot rb 0).view.set) (J := (oSlot rb 1).view.set) (oSlot_disjoint rb) ((oSlot_cover rb).trans hrb)) $$ [O0 O1]
  · isplitl [O0]; · iexact O0
    iexact O1
  ihave Hx := (pointsTo_share (PosShare.mem_left_op_right q)).2 $$ [X0 X1]
  · isplitl [X0]; · iexact X0
    iexact X1
  isplitl [Ht Hx Hb]
  · isplitl [Ht]; · iexact Ht
    isplitl [Hx]; · iexact Hx
    iexact Hb
  isplitr [HO]
  · isplitl [Hi]; · iexact Hi
    isplitl [Ho]; · iexact Ho
    iframe S0 S1 S2 S3 Hg
  iexact HO

/-- A tile's part of a call, from its own buffers and semaphores as the launch deals them. -/
theorem body_wp (hF : (K (F := F)).Facts) (hib : ib.view.set = Finset.univ) (hrb : rb.view.set = Finset.univ) {Bx Sx : sProp 𝕄}
    (hbufs : (ownBufs (V d sc su) : sProp 𝕄) = iprop((∃ f : Buf (Elt F) (ib.view.loc (V d sc su)), ib.view.loc (V d sc su) ↦{fullShare} f)
      ∗ (∃ f : Buf (Elt F) (rb.view.loc (V d sc su)), rb.view.loc (V d sc su) ↦{fullShare} f) ∗ Bx))
    (hsems : (ownSems0 (V d sc su) : sProp 𝕄) = iprop(semVal (V d sc su, .dma (slotSem is 0)) 0 ∗ semVal (V d sc su, .dma (slotSem is 1)) 0
      ∗ semVal (V d sc su, .dma (slotSem rs 0)) 0 ∗ semVal (V d sc su, .dma (slotSem rs 1)) 0 ∗ semVal (V d sc su, .dma gs.sem) 0 ∗ Sx))
    (hO : ∀ g, O g none = 0) (p : Gather R N) (hp : CallOK p n base)
    (hG : ∀ (r : ℕ) (h : r < R) (hb : 128 * r + 128 ≤ N), (oBlk rw r hb).view.read (Elt F) G = pay d sc su tb ix fi ft hin r h)
    (hcr : ∀ σ, ∑ j, ((gSlot rb σ).slice (S128x128.rowRect gathers_S100000x128_S128x128.axis' j) (S128x128.stride_rowRect gathers_S100000x128_S128x128.axis' j)).view.dmaCredit
      = (gSlot rb σ).view.dmaCredit) {body2} :
    iprop(levAts (K (F := F)).L (K (F := F)).lev ∗ emp ∗ Part d sc su tb ix rw fi ft q qt n base f0
        ∗ scopedBufs (V d sc su) ∗ scopedSems0 (V d sc su) ∗ owes (V d sc su) O W)
      ⊢ wp frame (wpE (defs₀ (F := F)) 𝒱₀ (V d sc su) none) Set.univ (gather p tb ix rw ib is rb rs gs body2)
          fun _ => iprop(Part d sc su tb ix rw fi ft q qt n base G ∗ scopedBufs (V d sc su) ∗ scopedSems0 (V d sc su)
            ∗ ∃ W', ⌜∀ p ∈ W', p ∈ W ∨ p.2 = none⌝ ∗ owes (V d sc su) O W') := by
  rw [(K (F := F)).scopedBufs_V hF d sc su, SparseCore.Cfg.scopedSems0_V (Val := Elt F) d sc su, hbufs, hsems]
  have hof := held_of (F := F) d sc su tb ix rw ib is rb rs gs fi ft q qt O W n base hib hrb f0
  have hto := of_held (F := F) d sc su tb ix rw ib is rb rs gs fi ft q qt O W n base hib hrb G
  unfold Own Ops.Owes at hof hto
  iintro ⟨#Hlv, -, Hp, ⟨Hi, Hr, HB⟩, ⟨S0, S1, S2, S3, Hg, HS⟩, HO⟩
  ihave Hmw := (show levAts (K (F := F)).L (K (F := F)).lev ⊢ Transfers.MayWaits (V d sc su) (default : HIx 4) O from
    (K (F := F)).mayWaits_none (thr := V d sc su) hO) $$ Hlv
  ihave Hh := hof $$ [Hp Hi Hr S0 S1 S2 S3 Hg HO]
  · isplitl [Hp]; · iexact Hp
    isplitr [HO]
    · isplitl [Hi]; · iexact Hi
      isplitl [Hr]; · iexact Hr
      iframe S0 S1 S2 S3 Hg
    iexists W
    isplitr; · ipureintro; exact fun p hp => Or.inl hp
    iexact HO
  iapply (wp_wand_r frame _)
  isplitl [Hmw Hh]
  · iapply (gather_run d sc su tb ix rw ib is rb rs gs fi ft f0 G (half q) qt O W hin n base p hp hG hcr)
    isplitl [Hmw]; · iexact Hmw
    iexact Hh
  iintro %_ Hh
  ihave Hx := hto $$ Hh
  icases Hx with ⟨Hp, ⟨Hi, Hr, S0, S1, S2, S3, Hg⟩, HO⟩
  isplitl [Hp]; · iexact Hp
  isplitl [Hi Hr HB]
  · isplitl [Hi]; · iexact Hi
    isplitl [Hr]; · iexact Hr
    iexact HB
  isplitr [HO]
  · iframe S0 S1 S2 S3 Hg HS
  iexact HO

/-- An array of `R` times 128 rows is its row blocks. -/
theorem rows_eq (hN : N = 128 * R) (hw : rw.view.set = Finset.univ) (f : Buf (Elt F) (rw.view.loc (V d sc su))) :
    (rw.view.loc (V d sc su) ↦{fullShare} f : sProp 𝕄) = bigSep (Finset.range R) (fun r => blkAt d sc su rw f r) := by
  classical
  subst hN
  have hd : ∀ t ∈ Finset.range R, ∀ t' ∈ Finset.range R, t ≠ t' → Disjoint (blkSet rw t) (blkSet rw t') := by
    intro t ht t' ht' hne
    have h1 := Finset.mem_range.mp ht
    have h2 := Finset.mem_range.mp ht'
    rw [blkSet_pos rw (show 128 * t + 128 ≤ 128 * R by omega), blkSet_pos rw (show 128 * t' + 128 ≤ 128 * R by omega)]
    exact slices_disjoint _ (Rect.unit_disjoint 0 (show 128 * t + 128 ≤ 128 * t' ∨ 128 * t' + 128 ≤ 128 * t by omega))
  have hu : (Finset.range R).biUnion (blkSet rw) = Finset.univ := by
    rw [← hw]
    ext i
    constructor
    · intro hi
      obtain ⟨t, ht, hi⟩ := Finset.mem_biUnion.mp hi
      have h1 := Finset.mem_range.mp ht
      rw [blkSet_pos rw (show 128 * t + 128 ≤ 128 * R by omega)] at hi
      exact View.set_slice_subset rw.view _ hi
    · intro hi
      obtain ⟨x, -, rfl⟩ := Finset.mem_map.mp hi
      have h0 : (x 0).val < 128 * R := (x 0).isLt
      have h1 : (x 1).val < 128 := (x 1).isLt
      refine Finset.mem_biUnion.mpr ⟨(x 0).val / 128, Finset.mem_range.mpr (by omega), ?_⟩
      rw [blkSet_pos rw (show 128 * ((x 0).val / 128) + 128 ≤ 128 * R by omega)]
      show _ ∈ (rw.view.slice _).set
      rw [View.set_slice]
      refine Finset.mem_map_of_mem _ (Rect.mem_set_unit.mpr fun a => ?_)
      match a with
      | 0 => exact ⟨show 128 * ((x 0).val / 128) ≤ (x 0).val by omega, show (x 0).val < 128 * ((x 0).val / 128) + 128 by omega⟩
      | 1 => exact ⟨Nat.zero_le _, show (x 1).val < 0 + 128 by omega⟩
  have h := pointsTo_biUnion (Ix := HIx 4) (Val := Elt F) (Name := ℕ) (U := UU) (Lvl := ℕ) (ℓ := rw.view.loc (V d sc su)) (q := fullShare) (f := f) (Finset.range R) (blkSet rw) hd
  rw [hu] at h
  exact h

end

/-! ## The tiles' rows -/

/-- The first tiles' rows are the first rows. -/
theorem rows_tiles (n b : ℕ) (Φ : ℕ → sProp 𝕄) : ∀ w : ℕ,
    bigSep (Finset.range (rowBase n b w)) Φ = bigSep (Finset.range w) (fun w => bigSep (Finset.range (rowCnt n (b + 1) b w)) fun j => Φ (rowBase n b w + j))
  | 0 => by simp [rowBase]
  | w + 1 => by
    classical
    have hb : rowBase n b (w + 1) = rowBase n b w + rowCnt n (b + 1) b w := by
      unfold rowBase rowCnt
      split <;> rw [Nat.mul_succ] <;> omega
    rw [Finset.range_add_one, SparseCore.bigSep_insert' Finset.notMem_range_self, ← rows_tiles n b Φ w, hb, Finset.range_add_eq_union,
      BI.bigSep_union (Finset.disjoint_range_addLeftEmbedding _ _), BI.bigSep_map]
    show iprop(bigSep (Finset.range (rowBase n b w)) Φ ∗ bigSep (Finset.range (rowCnt n (b + 1) b w)) fun j => Φ (rowBase n b w + j)) = _
    exact BI.Entails.antisymm BI.sep_comm BI.sep_comm

end Cert.Proof.Body
end
-- ==== Proof.Payload.lean ====
/-
  What the four gather calls carry: the rows each call is to gather, as a function of the sequence and the table, and
  the part of a call's arrays that each of the 32 tiles takes and brings back.
-/
module

public import proofs.«01_k».proof.Proof.Body
public import Idealize.ShloMosaic.Lib.ValueIdxCore

@[expose] public section
noncomputable section

namespace Cert.Proof.Payload

open Cert.KernelIdeal Cert.KernelIdeal.Gen
open Idealize.ShloMosaic Idealize.ShloMosaic.ValueIdx
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Setup Cert.Proof.Trip Cert.Proof.Words Cert.Proof.Ops Cert.Proof.Tile Cert.Proof.Body

variable {F : FTy → Type} [FloatOps F]

local notation "𝕄" => MT nD τ sig (HIx 4) (Elt F) ℕ UU ℕ

/-! ## The gathered rows -/

/-- Row `a` of the rows gathered through the indices `ids`: the table's row that word `a % 128` of row `a / 128` of the
    indices names. -/
def gathered {R N : ℕ} (hN : N = 128 * R) (ids : (SI R).Idx → BitVec 32) (tt : S100000x128.Idx → Elt F .f32) : (SI N).Idx → Elt F .f32 := fun x =>
  tt (ix2 (n0 := 100000) (n1 := 128)
    ⟨(ids (ix2 ⟨(x 0).val / 128, by have := idx2_lt0 x; omega⟩ ⟨(x 0).val % 128, by omega⟩)).toNat % 100000, Nat.mod_lt _ (by decide)⟩ (x 1))

section
variable {R N : ℕ} (d : Dev nD) (sc : Fin τ.nSC) (su : Fin τ.nSub)
  (tb : Memref sig .scVector .hbm S100000x128 .f32) (ix : Memref sig .scVector .hbm (SI R) .i32)
  (rw : Memref sig .scVector .hbm (SI N) .f32)
  (fi : Buf (Elt F) (ix.view.loc (V d sc su))) (ft : Buf (Elt F) (tb.view.loc (V d sc su)))
  (G : Buf (Elt F) (rw.view.loc (V d sc su)))

/-- Every row of the indices reads words below the table's height. -/
theorem inRange (h : ∀ x, BitVec.toNat (w := 32) (ix.view.read (Elt F) fi x) < 100000) (r : ℕ) (hr : r < R) (x : S1x128.Idx) :
    BitVec.toNat (w := 32) ((iRow ix r hr).view.read (Elt F) fi x) < 100000 := h _

/-- The gathered rows, read block by block, are what each step's gather delivers. -/
theorem gathered_blk (hN : N = 128 * R) (h : ∀ x, BitVec.toNat (w := 32) (ix.view.read (Elt F) fi x) < 100000)
    (hG : rw.view.read (Elt F) G = gathered (F := F) hN (ix.view.read (Elt F) fi) (tb.view.read (Elt F) ft))
    (r : ℕ) (hr : r < R) (hb : 128 * r + 128 ≤ N) :
    (oBlk rw r hb).view.read (Elt F) G = pay d sc su tb ix fi ft (inRange d sc su ix fi h) r hr := by
  funext x
  have hx0 : (x 0).val < 128 := idx2_lt0 x
  show rw.view.read (Elt F) G ((Rect.unit (s := SI N) ![128 * r, 0] S128x128.size (inbBlk hb)).emb x) = _
  rw [hG]
  unfold Ops.pay SparseCore.gatherPayload
  rw [show (tbl tb).view.read (Elt F) ft = tb.view.read (Elt F) ft from
    read_full tb.view (fun a => by match a with | 0 => rfl | 1 => rfl) inb_S100000x128_S100000x128_0_0 ft]
  unfold gathered
  refine congrArg (tb.view.read (Elt F) ft) (funext fun a => Fin.ext ?_)
  match a with
  | ⟨0, _⟩ =>
    refine Eq.trans ?_ (congrArg Fin.val (Shape.Gathers.idx_axis gathers_S100000x128_S128x128 _ x).symm)
    show BitVec.toNat (w := 32) (ix.view.read (Elt F) fi _) % 100000 = BitVec.toNat (w := 32) (ix.view.read (Elt F) fi _)
    rw [Nat.mod_eq_of_lt (h _)]
    refine congrArg (fun j => BitVec.toNat (w := 32) (ix.view.read (Elt F) fi j)) (funext fun b => Fin.ext ?_)
    have hy : ∀ k : Fin 128, Shape.reshapeEquiv squeezes_S1x128_S128.numel_eq (S128.rowMajor.symm (k.cast (show 128 = S128.numel from rfl))) = ix2 (0 : Fin 1) k := by
      intro k
      refine Shape.reshapeEquiv_eq_of_rowMajor _ ?_
      rw [Equiv.apply_symm_apply, Shape.rowMajor_val_two]
      show 0 * 128 + k.val = k.val
      omega
    have hk := hy (x 0)
    match b with
    | ⟨0, _⟩ =>
      show (128 * r + 1 * (x 0).val) / 128 = r + 1 * (Shape.reshapeEquiv squeezes_S1x128_S128.numel_eq (S128.rowMajor.symm ((x 0).cast (show 128 = S128.numel from rfl))) 0).val
      rw [hk]; show _ = r + 1 * 0; omega
    | ⟨1, _⟩ =>
      show (128 * r + 1 * (x 0).val) % 128 = 0 + 1 * (Shape.reshapeEquiv squeezes_S1x128_S128.numel_eq (S128.rowMajor.symm ((x 0).cast (show 128 = S128.numel from rfl))) 1).val
      rw [hk]; show _ = 0 + 1 * (x 0).val; omega
  | ⟨1, _⟩ =>
    refine Eq.trans ?_ (Shape.Gathers.idx_of_ne gathers_S100000x128_S128x128 _ x 1 (by decide)).symm
    show 0 + 1 * (x 1).val = (x 1).val
    omega

end

/-! ## The calls' arrays -/

variable (m : (ℓ : Loc nD τ sig) → Buf (Elt F) ℓ)

/-- The TensorCore's thread. -/
abbrev TC (d : Dev nD) : Thread nD τ := SparseCore.T d
/-- The sequences of tokens. -/
def seqOf (d : Dev nD) : S1024x200.Idx → Elt F .i32 := m ((TC d).loc main_arg0)
/-- The table, the four calls' index arrays and the four arrays of gathered rows. -/
abbrev tLoc (d : Dev nD) : Loc nD τ sig := (TC d).loc main_arg1
/-- A call's array of indices. -/
def iLoc (d : Dev nD) : Fin 4 → Loc nD τ sig
  | 0 => (TC d).loc main_v5 | 1 => (TC d).loc main_v9 | 2 => (TC d).loc main_v13 | 3 => (TC d).loc main_v17
/-- A call's array of gathered rows. -/
def rLoc (d : Dev nD) : Fin 4 → Loc nD τ sig
  | 0 => (TC d).loc main_v6 | 1 => (TC d).loc main_v10 | 2 => (TC d).loc main_v14 | 3 => (TC d).loc main_v18

/-- A call's indices: its sequences' tokens, 128 to a row. -/
def idsOf (d : Dev nD) : (q : Fin 4) → Buf (Elt F) (iLoc d q)
  | 0 => shapeCast S200x128 (extractStridedSlice S128x200 ![0, 0] (seqOf m d) slices_S1024x200_S128x200_0_0) shapeCasts_S128x200_S200x128
  | 1 => shapeCast S500x128 (extractStridedSlice S320x200 ![128, 0] (seqOf m d) slices_S1024x200_S320x200_128_0) shapeCasts_S320x200_S500x128
  | 2 => shapeCast S500x128 (extractStridedSlice S320x200 ![448, 0] (seqOf m d) slices_S1024x200_S320x200_448_0) shapeCasts_S320x200_S500x128
  | 3 => shapeCast S400x128 (extractStridedSlice S256x200 ![768, 0] (seqOf m d) slices_S1024x200_S256x200_768_0) shapeCasts_S256x200_S400x128

/-- A call's gathered rows. -/
def rowsOf (d : Dev nD) : (q : Fin 4) → Buf (Elt F) (rLoc d q)
  | 0 => gathered (F := F) (R := 200) (N := 25600) (by decide) (idsOf m d 0) (m (tLoc d))
  | 1 => gathered (F := F) (R := 500) (N := 64000) (by decide) (idsOf m d 1) (m (tLoc d))
  | 2 => gathered (F := F) (R := 500) (N := 64000) (by decide) (idsOf m d 2) (m (tLoc d))
  | 3 => gathered (F := F) (R := 400) (N := 51200) (by decide) (idsOf m d 3) (m (tLoc d))

/-- The elements of the block of rows gathered at row `r` of a call's indices. -/
def blkOf (d : Dev nD) : (q : Fin 4) → ℕ → Finset (Idx (rLoc d q))
  | 0 => blkSet (N := 25600) (Memref.whole main_v6_scv)
  | 1 => blkSet (N := 64000) (Memref.whole main_v10_scv)
  | 2 => blkSet (N := 64000) (Memref.whole main_v14_scv)
  | 3 => blkSet (N := 51200) (Memref.whole main_v18_scv)

/-- How many tiles take one row more than the others, how many the others take, and the rows of a call's indices. -/
def more : Fin 4 → ℕ | 0 => 8 | 1 => 20 | 2 => 20 | 3 => 16
/-- The least number of rows of indices that a tile takes. -/
def least : Fin 4 → ℕ | 0 => 6 | 1 => 15 | 2 => 15 | 3 => 12
/-- How many rows of indices a call has. -/
def total : Fin 4 → ℕ | 0 => 200 | 1 => 500 | 2 => 500 | 3 => 400
/-- The tiles' rows together are all of the call's. -/
theorem total_eq : ∀ q, rowBase (more q) (least q) 32 = total q := by decide

/-- Tile `w`'s share of the table and of the indices. -/
abbrev share (w : Fin (2 ^ 5)) : PosShare TreeShare := ShareLeaves.leaf 5 fullShare w

/-- The part of call `q`'s arrays that tile `w` takes, its rows at the contents `f`. -/
def part (d : Dev nD) (q : Fin 4) (f : Buf (Elt F) (rLoc d q)) (w : Fin (2 ^ 5)) : sProp 𝕄 :=
  iprop((tLoc d ↦{share w} m (tLoc d)) ∗ (iLoc d q ↦{share w} idsOf m d q)
    ∗ bigSep (Finset.range (rowCnt (more q) (least q + 1) (least q) w.val)) fun j => rLoc d q ↦[blkOf d q (rowBase (more q) (least q) w.val + j)]{fullShare} f)

/-- A tile's part can be stored in an invariant. -/
instance part_storable (d : Dev nD) (q : Fin 4) (f : Buf (Elt F) (rLoc d q)) (w : Fin (2 ^ 5)) : BI.Storable (upEmb : UEmb _ 𝕄) (part m d q f w) := by
  unfold part; infer_instance

/-- A call's array of rows is its blocks. -/
theorem rows_blocks (d : Dev nD) : ∀ (q : Fin 4) (f : Buf (Elt F) (rLoc d q)),
    (rLoc d q ↦{fullShare} f : sProp 𝕄) = bigSep (Finset.range (total q)) fun r => rLoc d q ↦[blkOf d q r]{fullShare} f
  | 0, f => rows_eq (R := 200) (N := 25600) d 0 0 (Memref.whole main_v6_scv) (by decide) (View.set_whole _) f
  | 1, f => rows_eq (R := 500) (N := 64000) d 0 0 (Memref.whole main_v10_scv) (by decide) (View.set_whole _) f
  | 2, f => rows_eq (R := 500) (N := 64000) d 0 0 (Memref.whole main_v14_scv) (by decide) (View.set_whole _) f
  | 3, f => rows_eq (R := 400) (N := 51200) d 0 0 (Memref.whole main_v18_scv) (by decide) (View.set_whole _) f

/-- A sum over the numbers below 32 is one over the tiles. -/
theorem bigSep_range32 (Φ : ℕ → sProp 𝕄) : bigSep (Finset.range 32) Φ = bigSep (Finset.univ : Finset (Fin (2 ^ 5))) fun w => Φ w.val := by
  rw [show Finset.range 32 = Finset.univ.map (Fin.valEmbedding (n := 2 ^ 5)) by decide, BI.bigSep_map]; rfl

/-- A call's arrays are the tiles' parts. -/
theorem parts_eq (d : Dev nD) (q : Fin 4) (f : Buf (Elt F) (rLoc d q)) :
    (iprop((tLoc d ↦{fullShare} m (tLoc d)) ∗ (iLoc d q ↦{fullShare} idsOf m d q) ∗ (rLoc d q ↦{fullShare} f)) : sProp 𝕄)
      = bigSep Finset.univ fun w : Fin (2 ^ 5) => part m d q f w := by
  unfold part
  rw [bigSep_sep', bigSep_sep', rows_blocks d q f, ← total_eq q, rows_tiles, bigSep_range32,
    ← ShareLeaves.pointsTo_leaves Finset.univ (m (tLoc d)) 5 fullShare, ← ShareLeaves.pointsTo_leaves Finset.univ (idsOf m d q) 5 fullShare]

end Cert.Proof.Payload
end
-- ==== Proof.Tasks.lean ====
/-
  The four gather calls as the launch runs them: what their handshakes carry, and each tile's task.
-/
module

public import proofs.«01_k».proof.Proof.Payload
public import proofs.«01_k».proof.Proof.Kernels

@[expose] public section
noncomputable section

namespace Cert.Proof.Tasks

open Cert.KernelIdeal Cert.KernelIdeal.Gen
open Idealize.ShloMosaic Idealize.ShloMosaic.ValueIdx
open Idealize.ShloMosaic.SparseCore (S V)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Setup Cert.Proof.Trip Cert.Proof.Words Cert.Proof.Kernels Cert.Proof.Ops Cert.Proof.Tile Cert.Proof.Body Cert.Proof.Payload

variable {F : FTy → Type} [FloatOps F]

local notation "𝕄" => MT nD τ sig (HIx 4) (Elt F) ℕ UU ℕ

variable (m : (ℓ : Loc nD τ sig) → Buf (Elt F) ℓ)

/-! ## The handshakes -/

/-- The number of a tile among the 32. -/
def tileIx (sc : Fin τ.nSC) (su : Fin τ.nSub) : Fin (2 ^ 5) :=
  ⟨16 * sc.val + su.val, by have h0 : sc.val < 2 := sc.isLt; have h1 : su.val < 16 := su.isLt; omega⟩

/-- A task takes its tile's part of its call's arrays and brings it back, its rows gathered; a SparseCore's are its tiles'. -/
def P : (K (F := F)).Pay (nD := nD) (Val := Elt F) (Name := ℕ) (U := UU) where
  st := fun q d c => bigSep Finset.univ fun i => part m d q (m (rLoc d q)) (tileIx ((K (F := F)).core q c) ((K (F := F)).sub q i))
  dn := fun q d c => bigSep Finset.univ fun i => part m d q (rowsOf m d q) (tileIx ((K (F := F)).core q c) ((K (F := F)).sub q i))
  go := fun q d c i => part m d q (m (rLoc d q)) (tileIx ((K (F := F)).core q c) ((K (F := F)).sub q i))
  td := fun q d c i => part m d q (rowsOf m d q) (tileIx ((K (F := F)).core q c) ((K (F := F)).sub q i))
  x := fun _ _ => iprop(emp)

/-- The payloads can be stored in an invariant. -/
instance P_storable : (P (F := F) m).IsStorable where
  st q d c := by unfold P; infer_instance
  dn q d c := by unfold P; infer_instance
  go q d c i := part_storable m d q _ _
  td q d c i := part_storable m d q _ _

/-- A call's arrays, split among its tiles and joined again. -/
theorem vecSplit (q : Fin 4) : (K (F := F)).VecSplit' (P m) q := by
  intro d c
  show (P m).st q d c ⊢ |={Set.univ}=> iprop((P m).st q d c ∗ ((P m).dn q d c -∗ (P m).dn q d c))
  iintro H; imodintro
  isplitl [H]; · iexact H
  iintro H; iexact H

/-! ## A tile's own cells and buffers -/

/-- Five distinct scoped semaphores are among a subcore's own. -/
theorem ownSems5 (thr : Thread nD τ) (hk : thr.2.kind = .scVector) (a b c d e : SemLoc sig) (hn : [a, b, c, d, e].Nodup) (hs : ∀ x ∈ [a, b, c, d, e], x.isScoped .scVector = true) :
    ∃ Sx : sProp 𝕄, (ownSems0 thr : sProp 𝕄) = iprop(semVal (thr, a) 0 ∗ semVal (thr, b) 0 ∗ semVal (thr, c) 0 ∗ semVal (thr, d) 0 ∗ semVal (thr, e) 0 ∗ Sx) := by
  classical
  simp only [List.nodup_cons, List.mem_cons, List.not_mem_nil, or_false, not_or, not_false_eq_true, List.nodup_nil, and_true] at hn
  obtain ⟨⟨hab, hac, had, hae⟩, ⟨hbc, hbd, hbe⟩, ⟨hcd, hce⟩, hde⟩ := hn
  have hm : ∀ x ∈ [a, b, c, d, e], ((thr, x) : GSem nD τ sig) ∈ ownCells thr := fun x hx => mem_ownCells.mpr ⟨rfl, by show x.isScoped thr.2.kind = true; rw [hk]; exact hs x hx⟩
  have hne : ∀ {x y : SemLoc sig}, ¬ x = y → ((thr, y) : GSem nD τ sig) ≠ (thr, x) := fun h e => h (congrArg Prod.snd e).symm
  refine ⟨bigSep ((((((ownCells thr).erase (thr, a)).erase (thr, b)).erase (thr, c)).erase (thr, d)).erase (thr, e)) fun g => semVal g 0, ?_⟩
  unfold SparseCore.Cfg.ownSems0
  rw [SparseCore.bigSep_erase' (hm a (by simp)),
    SparseCore.bigSep_erase' (Finset.mem_erase.mpr ⟨hne hab, hm b (by simp)⟩),
    SparseCore.bigSep_erase' (Finset.mem_erase.mpr ⟨hne hbc, Finset.mem_erase.mpr ⟨hne hac, hm c (by simp)⟩⟩),
    SparseCore.bigSep_erase' (Finset.mem_erase.mpr ⟨hne hcd, Finset.mem_erase.mpr ⟨hne hbd, Finset.mem_erase.mpr ⟨hne had, hm d (by simp)⟩⟩⟩),
    SparseCore.bigSep_erase' (Finset.mem_erase.mpr ⟨hne hde, Finset.mem_erase.mpr ⟨hne hce, Finset.mem_erase.mpr ⟨hne hbe, Finset.mem_erase.mpr ⟨hne hae, hm e (by simp)⟩⟩⟩⟩)]

/-- Two distinct buffers of a subcore's own are among its own. -/
theorem ownBufs2 (d : Dev nD) (sc : Fin τ.nSC) (su : Fin τ.nSub) (a b : Ref sig .scVector) (hab : b ≠ a)
    (ha : ((Proc.scVector sc su).devRef a : DevRef τ sig).owner = .proc (.scVector sc su)) (hb : ((Proc.scVector sc su).devRef b : DevRef τ sig).owner = .proc (.scVector sc su)) :
    ∃ Bx : sProp 𝕄, (ownBufs (V d sc su) : sProp 𝕄) = iprop((∃ f, (V d sc su).loc a ↦{fullShare} f) ∗ (∃ f, (V d sc su).loc b ↦{fullShare} f) ∗ Bx) := by
  classical
  refine ⟨bigSep (((ownRefs (τ := τ) (.scVector sc su)).erase ((Proc.scVector sc su).devRef a)).erase ((Proc.scVector sc su).devRef b))
    fun b => iprop(∃ f, ((d, b) : Loc nD τ sig) ↦{fullShare} f), ?_⟩
  unfold SparseCore.Cfg.ownBufs
  refine (SparseCore.bigSep_erase' (SparseCore.Cfg.mem_ownRefs_of_owner (p := Proc.scVector sc su) ha)).trans ?_
  rw [SparseCore.bigSep_erase' (Finset.mem_erase.mpr ⟨fun e => absurd (Proc.devRef_injective _ e) hab,
    SparseCore.Cfg.mem_ownRefs_of_owner (p := Proc.scVector sc su) hb⟩)]

/-! ## The tasks -/

/-- The tokens name rows of the table. -/
def TokensOK : Prop := ∀ (d : Dev nD) (x : S1024x200.Idx), BitVec.toNat (w := 32) (seqOf m d x) < 100000

/-- The end of a tile's task as the launch asks for it. -/
theorem obl_post {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Cert.Proof.Tasks
end
-- ==== Proof.NormBody.lean ====
/-
  The body of the normalization calls: one run for all four, over whatever staging buffers the pipeline hands it.
-/
module

public import proofs.«01_k».proof.Proof.Setup
public import proofs.«01_k».proof.Proof.Gen.KernelIdeal.Skeleton
public import Idealize.ShloMosaic.Lib.Pipeline.Value

@[expose] public section
noncomputable section

namespace Cert.Proof.NormBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Cert.Proof.Setup

variable {F : FTy → Type} [FloatOps F]

local notation "𝕄" => MT nD τ sig (HIx 4) (Elt F) ℕ UU ℕ

/-- What the body stores, of the blocks it loads: rows, tokens, positions, scale and shift. -/
def norm (e : Vec F S32x200x128 .f32) (s : Vec F S32x200 .i32) (p : Vec F S1x200x128 .f32) (g b : Vec F S1x1x128 .f32) : Vec F S32x200x128 .f32 :=
  k4_pay1 (k4_pay2 e s p g) b

variable (A1 : Memref sig .tc .vmem S32x200 .i32) (A2 : Memref sig .tc .vmem S32x200x128 .f32) (A3 : Memref sig .tc .vmem S1x200x128 .f32)
  (A4 : Memref sig .tc .vmem S1x1x128 .f32) (A5 : Memref sig .tc .vmem S1x1x128 .f32) (A6 : Memref sig .tc .vmem S32x200x128 .f32)

/-- The body's loads and its store. -/
def normProg : Prog (TpuEff nD τ sig (Elt F) Λ₀ .tc) PUnit := do
  let v0 : Vec F S32x200x128 .f32 ← Prog.lift (.load A2 (Rect.unit (s := S32x200x128) ![0, 0, 0] S32x200x128.size inb_S32x200x128_S32x200x128_0_0_0).toLoadRect (View.loadsAt_vmem h_S32x200x128))
  let v2 : Vec F S32x200 .i32 ← Prog.lift (.load A1 (Rect.unit (s := S32x200) ![0, 0] S32x200.size inb_S32x200_S32x200_0_0).toLoadRect (View.loadsAt_vmem h_S32x200))
  let v10 : Vec F S1x200x128 .f32 ← Prog.lift (.load A3 (Rect.unit (s := S1x200x128) ![0, 0, 0] S1x200x128.size inb_S1x200x128_S1x200x128_0_0_0).toLoadRect (View.loadsAt_vmem h_S1x200x128))
  let v33 : Vec F S1x1x128 .f32 ← Prog.lift (.load A4 (Rect.unit (s := S1x1x128) ![0, 0, 0] S1x1x128.size inb_S1x1x128_S1x1x128_0_0_0).toLoadRect (View.loadsAt_vmem h_S1x1x128))
  let v37 : Vec F S1x1x128 .f32 ← Prog.lift (.load A5 (Rect.unit (s := S1x1x128) ![0, 0, 0] S1x1x128.size inb_S1x1x128_S1x1x128_0_0_0).toLoadRect (View.loadsAt_vmem h_S1x1x128))
  let _v41 : Vec F S32x200x128 .f32 ← Prog.lift (.load A6 (Rect.unit (s := S32x200x128) ![0, 0, 0] S32x200x128.size inb_S32x200x128_S32x200x128_0_0_0).toLoadRect (View.loadsAt_vmem h_S32x200x128))
  Prog.lift (.store A6 (Rect.unit (s := S32x200x128) ![0, 0, 0] S32x200x128.size inb_S32x200x128_S32x200x128_0_0_0) (norm v0 v2 v10 v33 v37) Finset.univ (View.stores_vmem_bits_univ h_S32x200x128 rfl) (.inl rfl))
  pure ⟨⟩

section eqs
variable (h1 : A1.IsWhole) (h2 : A2.IsWhole) (h3 : A3.IsWhole) (h4 : A4.IsWhole) (h5 : A5.IsWhole) (h6 : A6.IsWhole)
  (B : Memref sig .tc .hbm S1024x200x128 .f32) (hB : B.IsWhole)

/-- Call 4's printed body is the normalization of a block. -/
theorem body4_eq (i : grid4.Coords) : cc4__tc_norm_body (F := F) i A1 h1 A2 h2 A3 h3 A4 h4 A5 h5 A6 h6 = normProg (F := F) A1 A2 A3 A4 A5 A6 := by
  rw [cc4__tc_norm_body_eq_skeleton]; unfold cc4__tc_norm_body_skel; rw [k4_part1_eq_skeleton]; rfl
/-- Call 5's printed body is the normalization of a block. -/
theorem body5_eq (i : grid5.Coords) : cc5__tc_norm_acc_body (F := F) i B hB A1 h1 A2 h2 A3 h3 A4 h4 A5 h5 A6 h6 = normProg (F := F) A1 A2 A3 A4 A5 A6 := by
  rw [cc5__tc_norm_acc_body_eq_skeleton]; unfold cc5__tc_norm_acc_body_skel; rw [k5_part1_eq_skeleton]; rfl
/-- Call 6's printed body is the normalization of a block. -/
theorem body6_eq (i : grid6.Coords) : cc6__tc_norm_acc_body (F := F) i B hB A1 h1 A2 h2 A3 h3 A4 h4 A5 h5 A6 h6 = normProg (F := F) A1 A2 A3 A4 A5 A6 := by
  rw [cc6__tc_norm_acc_body_eq_skeleton]; unfold cc6__tc_norm_acc_body_skel; rw [k6_part1_eq_skeleton]; rfl
/-- Call 7's printed body is the normalization of a block. -/
theorem body7_eq (i : grid7.Coords) : cc7__tc_norm_acc_body (F := F) i B hB A1 h1 A2 h2 A3 h3 A4 h4 A5 h5 A6 h6 = normProg (F := F) A1 A2 A3 A4 A5 A6 := by
  rw [cc7__tc_norm_acc_body_eq_skeleton]; unfold cc7__tc_norm_acc_body_skel; rw [k7_part1_eq_skeleton]; rfl
end eqs

/-- A corner at the origin, in two axes. -/
theorem zeros2 : (![0, 0] : Fin 2 → ℕ) = fun _ => 0 := by funext a; fin_cases a <;> rfl
/-- A corner at the origin, in three axes. -/
theorem zeros3 : (![0, 0, 0] : Fin 3 → ℕ) = fun _ => 0 := by funext a; fin_cases a <;> rfl

/-- A load of a whole buffer reads what the buffer reads. -/
theorem read_load {sp : Space} {s : Shape} {e : EltTy} (v : View sig .tc sp s e) {off : Fin s.rank → ℕ} (h : off = fun _ => 0)
    (inb : ∀ a, off a + s.size a ≤ s.size a) (f : v.ty.Contents (Elt F)) :
    v.readAt (Elt F) (Rect.unit off s.size inb).toLoadRect f = v.read (Elt F) f := View.ld_unit_zero h inb (v.read (Elt F) f)

/-- A store over a whole buffer leaves it reading what was stored. -/
theorem read_store {sp : Space} {s : Shape} {e : EltTy} (v : View sig .tc sp s e) {off : Fin s.rank → ℕ} (h : off = fun _ => 0)
    (inb : ∀ a, off a + s.size a ≤ s.size a) (f : v.ty.Contents (Elt F)) (w : s.Idx → Elt F e) :
    v.read (Elt F) (v.writes (Elt F) f [⟨Rect.unit off s.size inb, w⟩]) = w := by
  subst h
  funext y
  exact View.read_writes_cons_hit (v := v) (f := f) (Rect.unit (fun _ => 0) s.size inb) w [] y y (funext fun a => Fin.ext (by simp))

/-- The body's run: from its six buffers held, the five it reads come back as they were and the sixth reads `norm` of their contents. -/
theorem normProg_wp (c : Dev nD) (f1 : Buf (Elt F) (A1.view.loc (c : Thread nD τ))) (f2 : Buf (Elt F) (A2.view.loc (c : Thread nD τ)))
    (f3 : Buf (Elt F) (A3.view.loc (c : Thread nD τ))) (f4 : Buf (Elt F) (A4.view.loc (c : Thread nD τ))) (f5 : Buf (Elt F) (A5.view.loc (c : Thread nD τ)))
    (f6 : Buf (Elt F) (A6.view.loc (c : Thread nD τ))) (h1 : A1.IsWhole) (h2 : A2.IsWhole) (h3 : A3.IsWhole) (h4 : A4.IsWhole) (h5 : A5.IsWhole) (h6 : A6.IsWhole)
    (Q : PUnit.{1} → sProp 𝕄) :
    iprop((A1.view.loc (c : Thread nD τ) ↦{fullShare} f1) ∗ (A2.view.loc (c : Thread nD τ) ↦{fullShare} f2) ∗ (A3.view.loc (c : Thread nD τ) ↦{fullShare} f3)
        ∗ (A4.view.loc (c : Thread nD τ) ↦{fullShare} f4) ∗ (A5.view.loc (c : Thread nD τ) ↦{fullShare} f5) ∗ (A6.view.loc (c : Thread nD τ) ↦{fullShare} f6)
        ∗ (∀ f, ⌜A6.view.read (Elt F) f = norm (A2.view.read (Elt F) f2) (A1.view.read (Elt F) f1) (A3.view.read (Elt F) f3) (A4.view.read (Elt F) f4) (A5.view.read (Elt F) f5)⌝ -∗
          (iprop((A1.view.loc (c : Thread nD τ) ↦{fullShare} f1) ∗ (A2.view.loc (c : Thread nD τ) ↦{fullShare} f2) ∗ (A3.view.loc (c : Thread nD τ) ↦{fullShare} f3)
            ∗ (A4.view.loc (c : Thread nD τ) ↦{fullShare} f4) ∗ (A5.view.loc (c : Thread nD τ) ↦{fullShare} f5) ∗ (A6.view.loc (c : Thread nD τ) ↦{fullShare} f)) -∗ Q ⟨⟩)))
      ⊢ wp frame (wpE (defs₀ (F := F)) 𝒱₀ (c : Thread nD τ) none) Set.univ (normProg (F := F) A1 A2 A3 A4 A5 A6) Q := by
  unfold normProg
  iintro ⟨H1, H2, H3, H4, H5, H6, Hk⟩
  sl_exec!
  sl_step
  iapply Hk $$ %(A6.view.writes (Elt F) A6.view.junk (normProg_wp.sl.H6_1 A1 A2 A3 A4 A5 c f1 f2 f3 f4 f5)) [] [H1 H2 H3 H4 H5 H6]
  · ipureintro
    unfold normProg_wp.sl.H6_1
    refine (read_store A6.view zeros3 _ _ _).trans ?_
    rw [read_load A1.view zeros2, read_load A2.view zeros3, read_load A3.view zeros3, read_load A4.view zeros3, read_load A5.view zeros3]
  isplitl [H1]; · iexact H1
  isplitl [H2]; · iexact H2
  isplitl [H3]; · iexact H3
  isplitl [H4]; · iexact H4
  isplitl [H5]; · iexact H5
  iexact H6

end Cert.Proof.NormBody
end
-- ==== Proof.Norms.lean ====
/-
  The four normalization calls: each one's arrays, block by block, what its body leaves, and its step in the launch.
-/
module

public import proofs.«01_k».proof.Proof.NormBody
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix

@[expose] public section
noncomputable section

namespace Cert.Proof.Norms

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.SparseCore.Cfg (HIx)
open Cert.Proof.Setup Cert.Proof.NormBody

variable {F : FTy → Type} [FloatOps F]

local notation "𝕄" => MT nD τ sig (HIx 4) (Elt F) ℕ UU ℕ

/-- A whole buffer's memref is held as its buffer is. -/
theorem owns_of_whole (c : Thread nD τ) {sp : Space} {sh : Shape} {e : EltTy} {A : Memref sig c.2.kind sp sh e} (h : A.IsWhole) (X : sh.Idx → Elt F e) :
    (owns c A fullShare X : sProp 𝕄) = iprop(∃ f, ⌜A.view.read (Elt F) f = X⌝ ∗ (A.view.loc c ↦{fullShare} f)) := by
  unfold owns; rw [h.set_eq_univ]

/-- The body over the pipeline's staging buffers: five read, the sixth left reading `norm` of them. -/
theorem body_owns (c : Dev nD) (Φ O : sProp 𝕄)
    (A1 : Memref sig .tc .vmem S32x200 .i32) (A2 : Memref sig .tc .vmem S32x200x128 .f32) (A3 : Memref sig .tc .vmem S1x200x128 .f32)
    (A4 : Memref sig .tc .vmem S1x1x128 .f32) (A5 : Memref sig .tc .vmem S1x1x128 .f32) (A6 : Memref sig .tc .vmem S32x200x128 .f32)
    (h1 : A1.IsWhole) (h2 : A2.IsWhole) (h3 : A3.IsWhole) (h4 : A4.IsWhole) (h5 : A5.IsWhole) (h6 : A6.IsWhole)
    (X1 : S32x200.Idx → Elt F .i32) (X2 : S32x200x128.Idx → Elt F .f32) (X3 : S1x200x128.Idx → Elt F .f32) (X4 X5 : S1x1x128.Idx → Elt F .f32)
    {D6 : Type} (X6 : D6 → S32x200x128.Idx → Elt F .f32) {D1 D2 D3 D4 D5 : Type} :
    (iprop(Φ ∗ O ∗ (∃ _ : D1, owns (c : Thread nD τ) A1 fullShare X1) ∗ (∃ _ : D2, owns (c : Thread nD τ) A2 fullShare X2)
        ∗ (∃ _ : D3, owns (c : Thread nD τ) A3 fullShare X3) ∗ (∃ _ : D4, owns (c : Thread nD τ) A4 fullShare X4)
        ∗ (∃ _ : D5, owns (c : Thread nD τ) A5 fullShare X5) ∗ (∃ d, owns (c : Thread nD τ) A6 fullShare (X6 d))) : sProp 𝕄)
      ⊢ wp frame (wpE (defs₀ (F := F)) 𝒱₀ (c : Thread nD τ) none) Set.univ (normProg (F := F) A1 A2 A3 A4 A5 A6) fun _ =>
          iprop(Φ ∗ O ∗ owns (c : Thread nD τ) A1 fullShare X1 ∗ owns (c : Thread nD τ) A2 fullShare X2 ∗ owns (c : Thread nD τ) A3 fullShare X3
            ∗ owns (c : Thread nD τ) A4 fullShare X4 ∗ owns (c : Thread nD τ) A5 fullShare X5 ∗ owns (c : Thread nD τ) A6 fullShare (norm X2 X1 X3 X4 X5)) := by
  simp only [owns_of_whole (F := F) (c : Thread nD τ) h1, owns_of_whole (F := F) (c : Thread nD τ) h2, owns_of_whole (F := F) (c : Thread nD τ) h3, owns_of_whole (F := F) (c : Thread nD τ) h4, owns_of_whole (F := F) (c : Thread nD τ) h5, owns_of_whole (F := F) (c : Thread nD τ) h6]
  iintro ⟨HΦ, HO, ⟨%_, %f1, %e1, H1⟩, ⟨%_, %f2, %e2, H2⟩, ⟨%_, %f3, %e3, H3⟩, ⟨%_, %f4, %e4, H4⟩, ⟨%_, %f5, %e5, H5⟩, ⟨%_, %f6, -, H6⟩⟩
  subst e1 e2 e3 e4 e5
  iapply (normProg_wp A1 A2 A3 A4 A5 A6 c f1 f2 f3 f4 f5 f6 h1 h2 h3 h4 h5 h6 _)
  isplitl [H1]; · iexact H1
  isplitl [H2]; · iexact H2
  isplitl [H3]; · iexact H3
  isplitl [H4]; · iexact H4
  isplitl [H5]; · iexact H5
  isplitl [H6]; · iexact H6
  iintro %f %hf ⟨H1, H2, H3, H4, H5, H6⟩
  isplitl [HΦ]; · iexact HΦ
  isplitl [HO]; · iexact HO
  isplitl [H1]; · iexists f1; isplitr; · (ipureintro; rfl)
                  iexact H1
  isplitl [H2]; · iexists f2; isplitr; · (ipureintro; rfl)
                  iexact H2
  isplitl [H3]; · iexists f3; isplitr; · (ipureintro; rfl)
                  iexact H3
  isplitl [H4]; · iexists f4; isplitr; · (ipureintro; rfl)
                  iexact H4
  isplitl [H5]; · iexists f5; isplitr; · (ipureintro; rfl)
                  iexact H5
  iexists f; isplitr; · (ipureintro; exact hf)
  iexact H6

/-! ## The calls' data, at an entry valuation -/

variable (V : Dev nD → Valuation τ sig (Elt F)) (b : ℕ)

/-- The waits recorded so far stay below a bound. -/
def recd (c : Dev nD) : Set (SemLoc sig × HIx 4) := {p | (K (F := F)).lev ((c : Thread nD τ), p.1) p.2 ≤ b}

/-- Call 0's data from the entry valuation: inputs kept, the result's block `norm` of the inputs' blocks. -/
def dat4 (c : Dev nD) : Dat τ (Elt F) (HIx 4) ℕ UU ℕ cfg4 c where
  A w := V c (Pipeline.arrRef spec4 w)
  after w t := match w with
    | ⟨0, _⟩ => ((cfg4.win 0).blk t).view.read (Elt F) (V c (Pipeline.arrRef spec4 0))
    | ⟨1, _⟩ => ((cfg4.win 1).blk t).view.read (Elt F) (V c (Pipeline.arrRef spec4 1))
    | ⟨2, _⟩ => ((cfg4.win 2).blk t).view.read (Elt F) (V c (Pipeline.arrRef spec4 2))
    | ⟨3, _⟩ => ((cfg4.win 3).blk t).view.read (Elt F) (V c (Pipeline.arrRef spec4 3))
    | ⟨4, _⟩ => ((cfg4.win 4).blk t).view.read (Elt F) (V c (Pipeline.arrRef spec4 4))
    | ⟨5, _⟩ => norm (((cfg4.win 1).blk t).view.read (Elt F) (V c (Pipeline.arrRef spec4 1))) (((cfg4.win 0).blk t).view.read (Elt F) (V c (Pipeline.arrRef spec4 0)))
        (((cfg4.win 2).blk t).view.read (Elt F) (V c (Pipeline.arrRef spec4 2))) (((cfg4.win 3).blk t).view.read (Elt F) (V c (Pipeline.arrRef spec4 3)))
        (((cfg4.win 4).blk t).view.read (Elt F) (V c (Pipeline.arrRef spec4 4)))
  Φ _ := Pipeline.scopedRest spec4 c
  q _ := fullShare
  owed _ := 0
  recorded _ := recd (F := F) b c

/-- Call 0's body does what its data says. -/
theorem body_obligation4 (c : Dev nD) : BodyObligation (dat4 V b c) (defs₀ (F := F)) 𝒱₀ (default : HIx 4) Set.univ := fun t => by
  rw [bigSep_W4, bigSep_W4]
  have hb := fun (w : Fin 6) (hw : (cfg4.win w).isOut = false) hc hk d => (dat4 V b c).before_in_eq_fetched w hw (fun _ => rfl) hc hk t d
  have e0 : ∀ d, (dat4 V b c).before 0 t d = (dat4 V b c).after 0 t := fun d => (hb 0 rfl (fun _ _ _ => rfl) (fun _ => rfl) d).trans rfl
  have e1 : ∀ d, (dat4 V b c).before 1 t d = (dat4 V b c).after 1 t := fun d => (hb 1 rfl (fun _ _ _ => rfl) (fun _ => rfl) d).trans rfl
  have e2 : ∀ d, (dat4 V b c).before 2 t d = (dat4 V b c).after 2 t := fun d => (hb 2 rfl (fun _ _ _ => rfl) (fun _ => rfl) d).trans rfl
  have e3 : ∀ d, (dat4 V b c).before 3 t d = (dat4 V b c).after 3 t := fun d => (hb 3 rfl (fun _ _ _ => rfl) (fun _ => rfl) d).trans rfl
  have e4 : ∀ d, (dat4 V b c).before 4 t d = (dat4 V b c).after 4 t := fun d => (hb 4 rfl (fun _ _ _ => rfl) (fun _ => rfl) d).trans rfl
  simp only [e0, e1, e2, e3, e4]
  have hprog : defs₀ (F := F) .tc cfg4.body (cfg4.bodyArgs t (cfg4.slots t)) = normProg (st4_0 t) (st4_1 t) (st4_2 t) (st4_3 t) (st4_4 t) (st4_5 t) :=
    body4_eq _ _ _ _ _ _ (hstage4_0 _) (hstage4_1 _) (hstage4_2 _) (hstage4_3 _) (hstage4_4 _) (hstage4_5 _) (grid4.coords t)
  rw [hprog]
  exact body_owns c ((dat4 V b c).Φ t.castSucc) ((dat4 V b c).owesAt (default : HIx 4) t.castSucc) (st4_0 t) (st4_1 t) (st4_2 t) (st4_3 t) (st4_4 t) (st4_5 t)
    (hstage4_0 _) (hstage4_1 _) (hstage4_2 _) (hstage4_3 _) (hstage4_4 _) (hstage4_5 _)
    ((dat4 V b c).after 0 t) ((dat4 V b c).after 1 t) ((dat4 V b c).after 2 t) ((dat4 V b c).after 3 t) ((dat4 V b c).after 4 t) ((dat4 V b c).before 5 t)

/-- Call 1's data from the entry valuation: inputs kept, the result's block `norm` of the inputs' blocks. -/
def dat5 (c : Dev nD) : Dat τ (Elt F) (HIx 4) ℕ UU ℕ cfg5 c where
  A w := V c (Pipeline.arrRef spec5 w)
  after w t := match w with
    | ⟨0, _⟩ => ((cfg5.win 0).blk t).view.read (Elt F) (V c (Pipeline.arrRef spec5 0))
    | ⟨1, _⟩ => ((cfg5.win 1).blk t).view.read (Elt F) (V c (Pipeline.arrRef spec5 1))
    | ⟨2, _⟩ => ((cfg5.win 2).blk t).view.read (Elt F) (V c (Pipeline.arrRef spec5 2))
    | ⟨3, _⟩ => ((cfg5.win 3).blk t).view.read (Elt F) (V c (Pipeline.arrRef spec5 3))
    | ⟨4, _⟩ => ((cfg5.win 4).blk t).view.read (Elt F) (V c (Pipeline.arrRef spec5 4))
    | ⟨5, _⟩ => norm (((cfg5.win 1).blk t).view.read (Elt F) (V c (Pipeline.arrRef spec5 1))) (((cfg5.win 0).blk t).view.read (Elt F) (V c (Pipeline.arrRef spec5 0)))
        (((cfg5.win 2).blk t).view.read (Elt F) (V c (Pipeline.arrRef spec5 2))) (((cfg5.win 3).blk t).view.read (Elt F) (V c (Pipeline.arrRef spec5 3)))
        (((cfg5.win 4).blk t).view.read (Elt F) (V c (Pipeline.arrRef spec5 4)))
  Φ _ := Pipeline.scopedRest spec5 c
  q _ := fullShare
  owed _ := 0
  recorded _ := recd (F := F) b c

/-- Call 1's body does what its data says. -/
theorem body_obligation5 (c : Dev nD) : BodyObligation (dat5 V b c) (defs₀ (F := F)) 𝒱₀ (default : HIx 4) Set.univ := fun t => by
  rw [bigSep_W5, bigSep_W5]
  have hb := fun (w : Fin 6) (hw : (cfg5.win w).isOut = false) hc hk d => (dat5 V b c).before_in_eq_fetched w hw (fun _ => rfl) hc hk t d
  have e0 : ∀ d, (dat5 V b c).before 0 t d = (dat5 V b c).after 0 t := fun d => (hb 0 rfl (fun _ _ _ => rfl) (fun _ => rfl) d).trans rfl
  have e1 : ∀ d, (dat5 V b c).before 1 t d = (dat5 V b c).after 1 t := fun d => (hb 1 rfl (fun _ _ _ => rfl) (fun _ => rfl) d).trans rfl
  have e2 : ∀ d, (dat5 V b c).before 2 t d = (dat5 V b c).after 2 t := fun d => (hb 2 rfl (fun _ _ _ => rfl) (fun _ => rfl) d).trans rfl
  have e3 : ∀ d, (dat5 V b c).before 3 t d = (dat5 V b c).after 3 t := fun d => (hb 3 rfl (fun _ _ _ => rfl) (fun _ => rfl) d).trans rfl
  have e4 : ∀ d, (dat5 V b c).before 4 t d = (dat5 V b c).after 4 t := fun d => (hb 4 rfl (fun _ _ _ => rfl) (fun _ => rfl) d).trans rfl
  simp only [e0, e1, e2, e3, e4]
  have hprog : defs₀ (F := F) .tc cfg5.body (cfg5.bodyArgs t (cfg5.slots t)) = normProg (st5_0 t) (st5_1 t) (st5_2 t) (st5_3 t) (st5_4 t) (st5_5 t) :=
    body5_eq _ _ _ _ _ _ (hstage5_0 _) (hstage5_1 _) (hstage5_2 _) (hstage5_3 _) (hstage5_4 _) (hstage5_5 _) (Memref.whole main_v20) (Memref.isWhole_whole _) (grid5.coords t)
  rw [hprog]
  exact body_owns c ((dat5 V b c).Φ t.castSucc) ((dat5 V b c).owesAt (default : HIx 4) t.castSucc) (st5_0 t) (st5_1 t) (st5_2 t) (st5_3 t) (st5_4 t) (st5_5 t)
    (hstage5_0 _) (hstage5_1 _) (hstage5_2 _) (hstage5_3 _) (hstage5_4 _) (hstage5_5 _)
    ((dat5 V b c).after 0 t) ((dat5 V b c).after 1 t) ((dat5 V b c).after 2 t) ((dat5 V b c).after 3 t) ((dat5 V b c).after 4 t) ((dat5 V b c).before 5 t)

/-- Call 2's data from the entry valuation: inputs kept, the result's block `norm` of the inputs' blocks. -/
def dat6 (c : Dev nD) : Dat τ (Elt F) (HIx 4) ℕ UU ℕ cfg6 c where
  A w := V c (Pipeline.arrRef spec6 w)
  after w t := match w with
    | ⟨0, _⟩ => ((cfg6.win 0).blk t).view.read (Elt F) (V c (Pipeline.arrRef spec6 0))
    | ⟨1, _⟩ => ((cfg6.win 1).blk t).view.read (Elt F) (V c (Pipeline.arrRef spec6 1))
    | ⟨2, _⟩ => ((cfg6.win 2).blk t).view.read (Elt F) (V c (Pipeline.arrRef spec6 2))
    | ⟨3, _⟩ => ((cfg6.win 3).blk t).view.read (Elt F) (V c (Pipeline.arrRef spec6 3))
    | ⟨4, _⟩ => ((cfg6.win 4).blk t).view.read (Elt F) (V c (Pipeline.arrRef spec6 4))
    | ⟨5, _⟩ => norm (((cfg6.win 1).blk t).view.read (Elt F) (V c (Pipeline.arrRef spec6 1))) (((cfg6.win 0).blk t).view.read (Elt F) (V c (Pipeline.arrRef spec6 0)))
        (((cfg6.win 2).blk t).view.read (Elt F) (V c (Pipeline.arrRef spec6 2))) (((cfg6.win 3).blk t).view.read (Elt F) (V c (Pipeline.arrRef spec6 3)))
        (((cfg6.win 4).blk t).view.read (Elt F) (V c (Pipeline.arrRef spec6 4)))
  Φ _ := Pipeline.scopedRest spec6 c
  q _ := fullShare
  owed _ := 0
  recorded _ := recd (F := F) b c

/-- Call 2's body does what its data says. -/
theorem body_obligation6 (c : Dev nD) : BodyObligation (dat6 V b c) (defs₀ (F := F)) 𝒱₀ (default : HIx 4) Set.univ := fun t => by
  rw [bigSep_W6, bigSep_W6]
  have hb := fun (w : Fin 6) (hw : (cfg6.win w).isOut = false) hc hk d => (dat6 V b c).before_in_eq_fetched w hw (fun _ => rfl) hc hk t d
  have e0 : ∀ d, (dat6 V b c).before 0 t d = (dat6 V b c).after 0 t := fun d => (hb 0 rfl (fun _ _ _ => rfl) (fun _ => rfl) d).trans rfl
  have e1 : ∀ d, (dat6 V b c).before 1 t d = (dat6 V b c).after 1 t := fun d => (hb 1 rfl (fun _ _ _ => rfl) (fun _ => rfl) d).trans rfl
  have e2 : ∀ d, (dat6 V b c).before 2 t d = (dat6 V b c).after 2 t := fun d => (hb 2 rfl (fun _ _ _ => rfl) (fun _ => rfl) d).trans rfl
  have e3 : ∀ d, (dat6 V b c).before 3 t d = (dat6 V b c).after 3 t := fun d => (hb 3 rfl (fun _ _ _ => rfl) (fun _ => rfl) d).trans rfl
  have e4 : ∀ d, (dat6 V b c).before 4 t d = (dat6 V b c).after 4 t := fun d => (hb 4 rfl (fun _ _ _ => rfl) (fun _ => rfl) d).trans rfl
  simp only [e0, e1, e2, e3, e4]
  have hprog : defs₀ (F := F) .tc cfg6.body (cfg6.bodyArgs t (cfg6.slots t)) = normProg (st6_0 t) (st6_1 t) (st6_2 t) (st6_3 t) (st6_4 t) (st6_5 t) :=
    body6_eq _ _ _ _ _ _ (hstage6_0 _) (hstage6_1 _) (hstage6_2 _) (hstage6_3 _) (hstage6_4 _) (hstage6_5 _) (Memref.whole main_v21) (Memref.isWhole_whole _) (grid6.coords t)
  rw [hprog]
  exact body_owns c ((dat6 V b c).Φ t.castSucc) ((dat6 V b c).owesAt (default : HIx 4) t.castSucc) (st6_0 t) (st6_1 t) (st6_2 t) (st6_3 t) (st6_4 t) (st6_5 t)
    (hstage6_0 _) (hstage6_1 _) (hstage6_2 _) (hstage6_3 _) (hstage6_4 _) (hstage6_5 _)
    ((dat6 V b c).after 0 t) ((dat6 V b c).after 1 t) ((dat6 V b c).after 2 t) ((dat6 V b c).after 3 t) ((dat6 V b c).after 4 t) ((dat6 V b c).before 5 t)

/-- Call 3's data from the entry valuation: inputs kept, the result's block `norm` of the inputs' blocks. -/
def dat7 (c : Dev nD) : Dat τ (Elt F) (HIx 4) ℕ UU ℕ cfg7 c where
  A w := V c (Pipeline.arrRef spec7 w)
  after w t := match w with
    | ⟨0, _⟩ => ((cfg7.win 0).blk t).view.read (Elt F) (V c (Pipeline.arrRef spec7 0))
    | ⟨1, _⟩ => ((cfg7.win 1).blk t).view.read (Elt F) (V c (Pipeline.arrRef spec7 1))
    | ⟨2, _⟩ => ((cfg7.win 2).blk t).view.read (Elt F) (V c (Pipeline.arrRef spec7 2))
    | ⟨3, _⟩ => ((cfg7.win 3).blk t).view.read (Elt F) (V c (Pipeline.arrRef spec7 3))
    | ⟨4, _⟩ => ((cfg7.win 4).blk t).view.read (Elt F) (V c (Pipeline.arrRef spec7 4))
    | ⟨5, _⟩ => norm (((cfg7.win 1).blk t).view.read (Elt F) (V c (Pipeline.arrRef spec7 1))) (((cfg7.win 0).blk t).view.read (Elt F) (V c (Pipeline.arrRef spec7 0)))
        (((cfg7.win 2).blk t).view.read (Elt F) (V c (Pipeline.arrRef spec7 2))) (((cfg7.win 3).blk t).view.read (Elt F) (V c (Pipeline.arrRef spec7 3)))
        (((cfg7.win 4).blk t).view.read (Elt F) (V c (Pipeline.arrRef spec7 4)))
  Φ _ := Pipeline.scopedRest spec7 c
  q _ := fullShare
  owed _ := 0
  recorded _ := recd (F := F) b c

/-- Call 3's body does what its data says. -/
theorem body_obligation7 (c : Dev nD) : BodyObligation (dat7 V b c) (defs₀ (F := F)) 𝒱₀ (default : HIx 4) Set.univ := fun t => by
  rw [bigSep_W7, bigSep_W7]
  have hb := fun (w : Fin 6) (hw : (cfg7.win w).isOut = false) hc hk d => (dat7 V b c).before_in_eq_fetched w hw (fun _ => rfl) hc hk t d
  have e0 : ∀ d, (dat7 V b c).before 0 t d = (dat7 V b c).after 0 t := fun d => (hb 0 rfl (fun _ _ _ => rfl) (fun _ => rfl) d).trans rfl
  have e1 : ∀ d, (dat7 V b c).before 1 t d = (dat7 V b c).after 1 t := fun d => (hb 1 rfl (fun _ _ _ => rfl) (fun _ => rfl) d).trans rfl
  have e2 : ∀ d, (dat7 V b c).before 2 t d = (dat7 V b c).after 2 t := fun d => (hb 2 rfl (fun _ _ _ => rfl) (fun _ => rfl) d).trans rfl
  have e3 : ∀ d, (dat7 V b c).before 3 t d = (dat7 V b c).after 3 t := fun d => (hb 3 rfl (fun _ _ _ => rfl) (fun _ => rfl) d).trans rfl
  have e4 : ∀ d, (dat7 V b c).before 4 t d = (dat7 V b c).after 4 t := fun d => (hb 4 rfl (fun _ _ _ => rfl) (fun _ => rfl) d).trans rfl
  simp only [e0, e1, e2, e3, e4]
  have hprog : defs₀ (F := F) .tc cfg7.body (cfg7.bodyArgs t (cfg7.slots t)) = normProg (st7_0 t) (st7_1 t) (st7_2 t) (st7_3 t) (st7_4 t) (st7_5 t) :=
    body7_eq _ _ _ _ _ _ (hstage7_0 _) (hstage7_1 _) (hstage7_2 _) (hstage7_3 _) (hstage7_4 _) (hstage7_5 _) (Memref.whole main_v22) (Memref.isWhole_whole _) (grid7.coords t)
  rw [hprog]
  exact body_owns c ((dat7 V b c).Φ t.castSucc) ((dat7 V b c).owesAt (default : HIx 4) t.castSucc) (st7_0 t) (st7_1 t) (st7_2 t) (st7_3 t) (st7_4 t) (st7_5 t)
    (hstage7_0 _) (hstage7_1 _) (hstage7_2 _) (hstage7_3 _) (hstage7_4 _) (hstage7_5 _)
    ((dat7 V b c).after 0 t) ((dat7 V b c).after 1 t) ((dat7 V b c).after 2 t) ((dat7 V b c).after 3 t) ((dat7 V b c).after 4 t) ((dat7 V b c).before 5 t)

end Cert.Proof.Norms
end
-- ==== Proof.Steps.lean ====
/-
  A normalization call as one step of the launch: from all of the core's arrays at a valuation to all of them at the next.
-/
module

public import proofs.«01_k».proof.Proof.Norms

@[expose] public section
noncomputable section

namespace Cert.Proof.Norms

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.SparseCore.Cfg (HIx)
open Cert.Proof.Setup Cert.Proof.NormBody

variable {F : FTy → Type} [FloatOps F]

local notation "𝕄" => MT nD τ sig (HIx 4) (Elt F) ℕ UU ℕ

/-- Each pipeline is one with its buffers in place. -/
abbrev adm : (p : Fin 4) → (pcfgs (F := F) p).Adm := fun p => (cfgs p).toPCfg_adm

variable (V Vp : Dev nD → Valuation τ sig (Elt F)) (b : ℕ)

/-- The four calls' data at one valuation. -/
def pdats : (p : Fin 4) → (c : Dev nD) → Dat τ (Elt F) (HIx 4) ℕ UU ℕ (Pipeline.pin (pcfgs (F := F)) adm p) c
  | ⟨0, _⟩ => fun c => dat4 V b c
  | ⟨1, _⟩ => fun c => dat5 V b c
  | ⟨2, _⟩ => fun c => dat6 V b c
  | ⟨3, _⟩ => fun c => dat7 V b c

/-- Each call starts from the arrays as they are. -/
theorem pdats_A : ∀ (p : Fin 4) (c : Dev nD) w, (pdats V b p c).A w = V c (Pipeline.arrRef (Pipeline.pin (pcfgs (F := F)) adm p).spec w)
  | ⟨0, _⟩, _, _ => rfl | ⟨1, _⟩, _, _ => rfl | ⟨2, _⟩, _, _ => rfl | ⟨3, _⟩, _, _ => rfl
/-- Each call holds its arrays whole. -/
theorem pdats_q : ∀ (p : Fin 4) (c : Dev nD) w, (pdats V b p c).q w = fullShare
  | ⟨0, _⟩, _, _ => rfl | ⟨1, _⟩, _, _ => rfl | ⟨2, _⟩, _, _ => rfl | ⟨3, _⟩, _, _ => rfl
/-- The calls owe nothing. -/
theorem pdats_owed : ∀ (p : Fin 4) (c : Dev nD) t, (pdats V b p c).owed t = 0
  | ⟨0, _⟩, _, _ => rfl | ⟨1, _⟩, _, _ => rfl | ⟨2, _⟩, _, _ => rfl | ⟨3, _⟩, _, _ => rfl
/-- What the calls have recorded stays the same. -/
theorem pdats_recorded : ∀ (p : Fin 4) (c : Dev nD) t, (pdats V b p c).recorded t = recd (F := F) b c
  | ⟨0, _⟩, _, _ => rfl | ⟨1, _⟩, _, _ => rfl | ⟨2, _⟩, _, _ => rfl | ⟨3, _⟩, _, _ => rfl
/-- Call 4 keeps the rest of its scope. -/
theorem dat4_Φ (c : Dev nD) (t) : (dat4 V b c).Φ t = Pipeline.scopedRest (Ix := HIx 4) (Name := ℕ) (U := UU) (Lvl := ℕ) (Val := Elt F) cfg4.spec c := rfl
/-- Call 5 keeps the rest of its scope. -/
theorem dat5_Φ (c : Dev nD) (t) : (dat5 V b c).Φ t = Pipeline.scopedRest (Ix := HIx 4) (Name := ℕ) (U := UU) (Lvl := ℕ) (Val := Elt F) cfg5.spec c := rfl
/-- Call 6 keeps the rest of its scope. -/
theorem dat6_Φ (c : Dev nD) (t) : (dat6 V b c).Φ t = Pipeline.scopedRest (Ix := HIx 4) (Name := ℕ) (U := UU) (Lvl := ℕ) (Val := Elt F) cfg6.spec c := rfl
/-- Call 7 keeps the rest of its scope. -/
theorem dat7_Φ (c : Dev nD) (t) : (dat7 V b c).Φ t = Pipeline.scopedRest (Ix := HIx 4) (Name := ℕ) (U := UU) (Lvl := ℕ) (Val := Elt F) cfg7.spec c := rfl
/-- Each call keeps the rest of its scope. -/
theorem pdats_Φ : ∀ (p : Fin 4) (c : Dev nD) t, (pdats V b p c).Φ t = Pipeline.scopedRest (Ix := HIx 4) (Name := ℕ) (U := UU) (Lvl := ℕ) (Val := Elt F) (cfgs p).spec c
  | ⟨0, _⟩, c, t => dat4_Φ V b c t | ⟨1, _⟩, c, t => dat5_Φ V b c t | ⟨2, _⟩, c, t => dat6_Φ V b c t | ⟨3, _⟩, c, t => dat7_Φ V b c t
/-- Each call's body does what its step asks for. -/
theorem pdats_body : ∀ (p : Fin 4) (c : Dev nD), BodyObligation (pdats V b p c) (defs₀ (F := F)) 𝒱₀ (default : HIx 4) Set.univ
  | ⟨0, _⟩, c => body_obligation4 V b c | ⟨1, _⟩, c => body_obligation5 V b c | ⟨2, _⟩, c => body_obligation6 V b c | ⟨3, _⟩, c => body_obligation7 V b c
/-- The side conditions of the calls' launch. -/
theorem facts4 : ∀ p : Fin 4, Pipeline.LaunchFacts (nD := nD) (τ := τ) cfgs p
  | ⟨0, _⟩ => launch4 | ⟨1, _⟩ => launch5 | ⟨2, _⟩ => launch6 | ⟨3, _⟩ => launch7

/-- The core's waits so far stay below `b`, and it owes nothing. -/
def quiet (c : Dev nD) : sProp 𝕄 := iprop(∃ W, ⌜(K (F := F)).WBelow (c : Thread nD τ) W b⌝ ∗ owes (c : Thread nD τ) (0 : CellTallies nD τ sig (HIx 4)) W)

/-- Owing nothing, as a call states it. -/
theorem owesAt_quiet (p : Fin 4) (c : Dev nD) (t) : (quiet b c : sProp 𝕄) = (pdats V b p c).owesAt (default : HIx 4) t := by
  have key : ∀ W : Waits sig (HIx 4), (∀ x ∈ W, x ∈ (pdats V b p c).bound (default : HIx 4) t) ↔ (K (F := F)).WBelow (c : Thread nD τ) W b := fun W => by
    unfold SparseCore.Cfg.WBelow Dat.bound
    rw [pdats_recorded]
    refine ⟨fun h x hx => ?_, fun h x hx => Or.inl (h x hx)⟩
    rcases h x hx with h' | ⟨w, s, rfl⟩
    · exact h'
    · exact Nat.zero_le _
  unfold quiet Dat.owesAt Pipeline.owesWithin
  rw [pdats_owed]
  refine congrArg _ (funext fun W => ?_)
  rw [show ((K (F := F)).WBelow (c : Thread nD τ) W b) = _ from propext (key W).symm]
  rfl

set_option backward.isDefEq.respectTransparency.types false in
/-- The call as a step: it ends at any valuation that has its arrays as its data leave them and agrees with the entry's off them. -/
def reg (p : Fin 4)
    (hF : ∀ (c : Dev nD) w, (pdats V b p c).arrAt w (Pipeline.pin (pcfgs (F := F)) adm p).N = Vp c (Pipeline.arrRef (Pipeline.pin (pcfgs (F := F)) adm p).spec w))
    (hrest : ∀ (c : Dev nD) (r : Ref sig .tc), r ∉ Finset.univ.image (Pipeline.arrRef (Pipeline.pin (pcfgs (F := F)) adm p).spec) → Vp c r = V c r) :
    Pipeline.RegionSeg (pcfgs (F := F)) adm (pdats V b) (default : HIx 4) defs₀ 𝒱₀ (K (F := F)).L (K (F := F)).lev p where
  win := (facts4 p).win.to₀
  block_pos := (facts4 p).block_pos
  stage_whole := (facts4 p).stage_whole
  K := PEmpty
  osem k := k.elim
  ho := Pipeline.OwnSemFacts.none _
  hbody c := (pdats_body V b p c).loose
  hwaits := Pipeline.hwaits_of_owed_zero _ _ _ _ _ _ p fun c t => pdats_owed V b p c t
  pre c := iprop(unscopedBufs c (fun r => V c r) ∗ quiet b c)
  post c := iprop(unscopedBufs c (fun r => Vp c r) ∗ quiet b c)
  X _ := BI.emp
  Y _ := BI.emp
  Z c := iprop(Pipeline.unscopedRest (Pipeline.pin (pcfgs (F := F)) adm p).spec c (fun r => V c r))
  hentry c := by
    rw [Pipeline.ownSems0_none]
    have hsplit := Pipeline.arrays_of_unscopedBufs (p := p) (pcfgs (F := F)) adm (pdats V b) (facts4 p).win (facts4 p).arr_whole c
      ((pdats V b p c).share_full fun w => pdats_q V b p c w) (fun r => V c r) fun w => pdats_A V b p c w
    iintro ⟨⟨Hub, HO⟩, -, -⟩
    ihave H := hsplit $$ Hub
    icases H with ⟨Ha, Hrest⟩
    ihave HO := (Entails.of_eq (owesAt_quiet V b p c 0)) $$ HO
    imodintro
    isplitl [Ha]; · iexact Ha
    isplitr; · unfold Pipeline.prefHeld; rw [show (Finset.univ : Finset (Fin 0)) = ∅ from rfl, BI.bigSep_empty]; iempintro
    isplitl [HO]; · iexact HO
    isplitr; · iempintro
    iexact Hrest
  hin c := by
    rw [pdats_Φ]
    iintro ⟨-, -, Hr⟩; iexact Hr
  hout c := by
    rw [Pipeline.ownSems0_none, pdats_Φ]
    iintro Hr
    isplitr; · iempintro
    isplitr; · iempintro
    iexact Hr
  hexit c := by
    have hjoin := Pipeline.unscopedBufs_of_arrays (p := p) (pcfgs (F := F)) adm (Ix := HIx 4) (Name := ℕ) (U := UU) (Lvl := ℕ) (facts4 p).win (facts4 p).arr_whole c
      (pdats V b) ((pdats V b p c).share_full fun w => pdats_q V b p c w) (fun r => V c r) (fun r => Vp c r) ((pdats V b p c).arrAt · (Pipeline.pin (pcfgs (F := F)) adm p).N)
      (fun w => hF c w) (fun r hr => hrest c r hr)
    iintro ⟨Ha, HO, -, Hrest⟩
    ihave HO := (Entails.of_eq (owesAt_quiet V b p c _).symm) $$ HO
    imodintro
    isplitl [Ha Hrest]
    · iapply hjoin; isplitl [Ha] <;> iassumption
    iexact HO

/-- The calls' semaphores are apart. -/
theorem cellOf_pin_inj : Function.Injective (Pipeline.cellOf (nD := nD) (τ := τ) (Pipeline.pin (pcfgs (F := F)) adm)) := cellOf_inj

/-- The ghost state a normalization call runs on. -/
def ghost (p : Fin 4) (c : Dev nD) : sProp 𝕄 :=
  iprop(Pipeline.cellsGhost (Pipeline.pin (pcfgs (F := F)) adm) (EP (F := F)) p c ∗ Pipeline.toksInit (Pipeline.pin (pcfgs (F := F)) adm) (EP (F := F)) p c)

/-- A normalization call's step in the launch. -/
theorem norm_step [∀ e, Nonempty (Elt F e)] (p : Fin 4)
    (hF : ∀ (c : Dev nD) w, (pdats V b p c).arrAt w (Pipeline.pin (pcfgs (F := F)) adm p).N = Vp c (Pipeline.arrRef (Pipeline.pin (pcfgs (F := F)) adm p).spec w))
    (hrest : ∀ (c : Dev nD) (r : Ref sig .tc), r ∉ Finset.univ.image (Pipeline.arrRef (Pipeline.pin (pcfgs (F := F)) adm p).spec) → Vp c r = V c r)
    (c : Dev nD) (Q : PUnit.{1} → sProp 𝕄) :
    iprop((iprop(boundary (c : Thread nD τ) ∗ unscopedBufs c (fun r => Vp c r) ∗ quiet b c) -∗ Q ⟨⟩)
        ∗ boundary (c : Thread nD τ) ∗ unscopedBufs c (fun r => V c r) ∗ quiet b c ∗ levAts (K (F := F)).L (K (F := F)).lev ∗ ghost p c)
      ⊢ wp frame (wpE ((K (F := F)).defs D) 𝒱 (c : Thread nD τ) none) Set.univ (Prog.lift (.customCall (SparseCore.inner (Pipeline.entry p)) ())) Q := by
  have h := Pipeline.RegionSeg.wp (pcfgs (F := F)) adm (pdats V b) (default : HIx 4) cellOf_pin_inj EP defs₀ 𝒱₀ (K (F := F)).L (K (F := F)).lev
    (reg V Vp b p hF hrest) c none (fun u hu => nomatch hu) (α := PUnit.{1}) (fun _ => .ret ⟨⟩) Q
  rw [show (reg V Vp b p hF hrest).pre c = iprop(unscopedBufs c (fun r => V c r) ∗ quiet b c) from rfl,
    show (reg V Vp b p hF hrest).post c = iprop(unscopedBufs c (fun r => Vp c r) ∗ quiet b c) from rfl] at h
  refine BIBase.Entails.trans ?_ (SparseCore.Cfg.wp_liftProg (K (F := F)) D 𝒱 (c : Thread nD τ) Set.univ none (Prog.lift (.customCall (Pipeline.entry p) ())) Q)
  refine BIBase.Entails.trans ?_ h
  unfold ghost
  iintro ⟨Hk, Hb, Hu, Hq, Hl, Hg, Ht⟩
  isplitl [Hk]
  · iintro ⟨Hb, Hu, Hq⟩
    rw [wp_ret]
    imodintro
    iapply Hk
    isplitl [Hb]; · iexact Hb
    isplitl [Hu]; · iexact Hu
    iexact Hq
  isplitl [Hb]; · iexact Hb
  isplitl [Hu Hq]; · (isplitl [Hu] <;> iassumption)
  isplitl [Hl]; · iexact Hl
  isplitl [Hg]; · iexact Hg
  iexact Ht

end Cert.Proof.Norms
end
-- ==== Proof.Calls.lean ====
/-
  A gather call as one step of the launch: from all of the core's arrays at a valuation to the same with the rows gathered.
-/
module

public import proofs.«01_k».proof.Proof.Tasks
public import proofs.«01_k».proof.Proof.Steps

@[expose] public section
noncomputable section

namespace Cert.Proof.Calls

open Cert.KernelIdeal Cert.KernelIdeal.Gen
open Idealize.ShloMosaic Idealize.ShloMosaic.TcCoe Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Setup Cert.Proof.Payload Cert.Proof.Tasks Cert.Proof.Norms

variable {F : FTy → Type} [FloatOps F]

local notation "𝕄" => MT nD τ sig (HIx 4) (Elt F) ℕ UU ℕ

/-! ## What a call takes and gives back -/

/-- A sum over the SparseCores of one over their tiles is one over all the tiles. -/
theorem regroup2 (Φ : Fin (2 ^ 5) → sProp 𝕄) :
    (bigSep Finset.univ fun c : Fin 2 => bigSep Finset.univ fun i : Fin 16 => Φ ⟨16 * c.val + i.val, by have := c.isLt; have := i.isLt; omega⟩)
      = bigSep Finset.univ Φ := by
  rw [BI.bigSep_univ_equiv (finProdFinEquiv : Fin 2 × Fin 16 ≃ Fin (2 ^ 5)) Φ, BI.bigSep_univ_prod]
  refine BI.bigSep_congr fun c _ => BI.bigSep_congr fun i _ => ?_
  refine congrArg Φ (Fin.ext ?_)
  show 16 * c.val + i.val = i.val + 16 * c.val
  omega

/-- A sum over a call's SparseCores and their tiles is one over the tiles' numbers. -/
theorem regroup (Φ : Fin (2 ^ 5) → sProp 𝕄) : ∀ q : Fin 4,
    (bigSep Finset.univ fun c : Fin ((K (F := F)).nCore q) => bigSep Finset.univ fun i : Fin ((K (F := F)).nSub q) =>
      Φ (tileIx ((K (F := F)).core q c) ((K (F := F)).sub q i))) = bigSep Finset.univ Φ
  | 0 => regroup2 Φ
  | 1 => regroup2 Φ
  | 2 => regroup2 Φ
  | 3 => regroup2 Φ

variable (m : (ℓ : Loc nD τ sig) → Buf (Elt F) ℓ)

/-- What a call's start handshakes carry is the call's arrays. -/
theorem st_eq (d : Dev nD) (q : Fin 4) :
    (bigSep Finset.univ fun c : Fin ((K (F := F)).nCore q) => (P m).st q d c)
      = (iprop((tLoc d ↦{fullShare} m (tLoc d)) ∗ (iLoc d q ↦{fullShare} idsOf m d q) ∗ (rLoc d q ↦{fullShare} m (rLoc d q))) : sProp 𝕄) :=
  (regroup (part m d q (m (rLoc d q))) q).trans (parts_eq m d q _).symm

/-- What a call's done handshakes carry is the call's arrays, the rows gathered. -/
theorem dn_eq (d : Dev nD) (q : Fin 4) :
    (bigSep Finset.univ fun c : Fin ((K (F := F)).nCore q) => (P m).dn q d c)
      = (iprop((tLoc d ↦{fullShare} m (tLoc d)) ∗ (iLoc d q ↦{fullShare} idsOf m d q) ∗ (rLoc d q ↦{fullShare} rowsOf m d q)) : sProp 𝕄) :=
  (regroup (part m d q (rowsOf m d q)) q).trans (parts_eq m d q _).symm

/-! ## The arrays of a call among the core's -/

/-- Three of the core's arrays, and the others. -/
def others (d : Dev nD) (t i r : Ref sig .tc) (V : Valuation τ sig (Elt F)) : sProp 𝕄 :=
  bigSep ((((Pipeline.ucRefs τ sig).erase (Proc.devRef .tc t)).erase (Proc.devRef .tc i)).erase (Proc.devRef .tc r)) fun b =>
    ((d, b) : Loc nD τ sig) ↦{fullShare} V b

/-- Three buffers taken out of all that the device holds. -/
theorem held_three (d : Dev nD) (t i r : Ref sig .tc) (hti : i ≠ t) (htr : r ≠ t) (hir : r ≠ i)
    (ht : t.isScoped = false) (hi : i.isScoped = false) (hr : r.isScoped = false) (V : Valuation τ sig (Elt F)) :
    (StableHlo.held (d.tc : Thread nD τ) (Pipeline.ucRefs τ sig) V : sProp 𝕄)
      = iprop((((TC d).loc t) ↦{fullShare} V t) ∗ (((TC d).loc i) ↦{fullShare} V i) ∗ (((TC d).loc r) ↦{fullShare} V r) ∗ others d t i r V) := by
  have mem : ∀ b : Ref sig .tc, b.isScoped = false → Proc.devRef (τ := τ) .tc b ∈ Pipeline.ucRefs τ sig := fun b hb =>
    Finset.mem_filter.mpr ⟨StableHlo.devRef_mem_tcRefs b, by rw [show (Proc.devRef (τ := τ) .tc b).isScoped = b.isScoped from rfl, hb]; exact Bool.false_ne_true⟩
  unfold StableHlo.held others
  rw [SparseCore.bigSep_erase' (mem t ht),
    SparseCore.bigSep_erase' (Finset.mem_erase.mpr ⟨StableHlo.devRef_ne_of_ne hti, mem i hi⟩),
    SparseCore.bigSep_erase' (Finset.mem_erase.mpr ⟨StableHlo.devRef_ne_of_ne hir, Finset.mem_erase.mpr ⟨StableHlo.devRef_ne_of_ne htr, mem r hr⟩⟩)]

/-- What is held besides three buffers does not see a change of one of them. -/
theorem others_update (d : Dev nD) (t i r : Ref sig .tc) (V : Valuation τ sig (Elt F)) (g : (Proc.devRef (τ := τ) .tc r).ty.Contents (Elt F)) :
    (others d t i r (Function.update V (Proc.devRef .tc r) g) : sProp 𝕄) = others d t i r V :=
  BI.bigSep_congr fun b hb => by rw [Function.update_of_ne (Finset.ne_of_mem_erase hb)]

/-- A gather call's step in the launch. -/
theorem gather_step (κ : GSem nD τ sig → ℕ) (d : Dev nD) (q : Fin 4) (t i r : Ref sig .tc) (hti : i ≠ t) (htr : r ≠ t) (hir : r ≠ i)
    (ht : t.isScoped = false) (hi : i.isScoped = false) (hr : r.isScoped = false) (V : Valuation τ sig (Elt F))
    (g : (Proc.devRef (τ := τ) .tc r).ty.Contents (Elt F))
    (hst : (iprop((tLoc d ↦{fullShare} m (tLoc d)) ∗ (iLoc d q ↦{fullShare} idsOf m d q) ∗ (rLoc d q ↦{fullShare} m (rLoc d q))) : sProp 𝕄)
      = iprop((((TC d).loc t) ↦{fullShare} V t) ∗ (((TC d).loc i) ↦{fullShare} V i) ∗ (((TC d).loc r) ↦{fullShare} V r)))
    (hdn : (iprop((tLoc d ↦{fullShare} m (tLoc d)) ∗ (iLoc d q ↦{fullShare} idsOf m d q) ∗ (rLoc d q ↦{fullShare} rowsOf m d q)) : sProp 𝕄)
      = iprop((((TC d).loc t) ↦{fullShare} V t) ∗ (((TC d).loc i) ↦{fullShare} V i) ∗ (((TC d).loc r) ↦{fullShare} g)))
    (Q : PUnit.{1} → sProp 𝕄) :
    iprop((K (F := F)).ctx EH (P m) κ ∗ (K (F := F)).tcSt EH d q.val ∗ StableHlo.held (d.tc : Thread nD τ) (Pipeline.ucRefs τ sig) V
        ∗ (((K (F := F)).tcSt EH d (q.val + 1) ∗ StableHlo.held (d.tc : Thread nD τ) (Pipeline.ucRefs τ sig) (Function.update V (Proc.devRef .tc r) g)) -∗ Q ⟨⟩))
      ⊢ wp frame (wpE ((K (F := F)).defs D) 𝒱 (SparseCore.T d) none) Set.univ ((K (F := F)).run d q) Q := by
  refine BIBase.Entails.trans ?_ ((K (F := F)).wp_run D 𝒱 (EH := EH) (P := P m) κ d q)
  rw [st_eq, dn_eq, held_three d t i r hti htr hir ht hi hr V, held_three d t i r hti htr hir ht hi hr (Function.update V (Proc.devRef .tc r) g),
    others_update, hst, hdn, Function.update_self, Function.update_of_ne (StableHlo.devRef_ne_of_ne htr.symm), Function.update_of_ne (StableHlo.devRef_ne_of_ne hir.symm)]
  iintro ⟨Hc, Hst, ⟨Ht, Hi, Hr, Ho⟩, Hk⟩
  isplitl [Hc]; · iexact Hc
  isplitl [Hst]; · iexact Hst
  isplitl [Ht Hi Hr]
  · isplitl [Ht]; · iexact Ht
    isplitl [Hi] <;> iassumption
  iintro ⟨Hst, Ht, Hi, Hr⟩
  iapply Hk
  isplitl [Hst]; · iexact Hst
  isplitl [Ht]; · iexact Ht
  isplitl [Hi]; · iexact Hi
  isplitl [Hr] <;> iassumption

end Cert.Proof.Calls
end
-- ==== Proof.Values.lean ====
/-
  What the normalization calls leave in the result: each writes its rows, and what it writes is one function of the
  tokens, the table, the positions, the scale and the shift, the same for the four of them.
-/
module

public import proofs.«01_k».proof.Proof.Norms
public import Idealize.ShloMosaic.Lib.ValueLayout
public import Idealize.ShloMosaic.Lib.ValueIdx

@[expose] public section
noncomputable section

namespace Cert.Proof.Values

open Cert.KernelIdeal Cert.KernelIdeal.Gen
open Idealize.ShloMosaic Idealize.ShloMosaic.TcCoe Idealize.ShloMosaic.ValueIdx
open Idealize.SL Idealize.SL.RA Idealize.SL.BI
open Idealize.ShloMosaic.Pipeline (Dat)
open Idealize.ShloMosaic.SparseCore.Cfg (HIx)
open Cert.Proof.Setup Cert.Proof.NormBody Cert.Proof.Norms

variable {F : FTy → Type} [FloatOps F]

section
variable (seq : S1024x200.Idx → Elt F .i32) (tb : S100000x128.Idx → Elt F .f32)
  (pos : S1x200x128.Idx → Elt F .f32) (gam bet : S1x1x128.Idx → Elt F .f32)

/-- The token of row `r` at place `l`. -/
def tok (r : ℕ) (l : Fin 200) : BitVec 32 := seq (ix2 (⟨r % 1024, Nat.mod_lt _ (by decide)⟩ : Fin 1024) l)

/-- The table's row that token names. -/
def emb (r : ℕ) (l : Fin 200) (h : Fin 128) : Elt F .f32 := tb (ix2 (⟨(tok seq r l).toNat % 100000, Nat.mod_lt _ (by decide)⟩ : Fin 100000) h)

/-- Block `k` of 32 rows: its tokens and its gathered rows. -/
def blkTok (k : ℕ) : Vec F S32x200 .i32 := fun y => tok seq (32 * k + (y 0).val) (y 1)
/-- Block `k` of 32 sequences of gathered rows. -/
def blkEmb (k : ℕ) : Vec F S32x200x128 .f32 := fun y => emb seq tb (32 * k + (y 0).val) (y 1) (y 2)

/-- The result: each block of 32 rows is `norm` of its tokens and rows. -/
def G : S1024x200x128.Idx → Elt F .f32 := fun i =>
  norm (blkEmb seq tb ((i 0).val / 32)) (blkTok seq ((i 0).val / 32)) pos gam bet (ix3 (⟨(i 0).val % 32, Nat.mod_lt _ (by decide)⟩ : Fin 32) (i 1) (i 2))

/-- The result, read in its block. -/
theorem G_blk (k : ℕ) (y : S32x200x128.Idx) (i : S1024x200x128.Idx) (h0 : (i 0).val = k * 32 + (y 0).val) (h1 : (i 1).val = (y 1).val) (h2 : (i 2).val = (y 2).val) :
    G seq tb pos gam bet i = norm (blkEmb seq tb k) (blkTok seq k) pos gam bet y := by
  have hy : (y 0).val < 32 := (y 0).isLt
  have e : (i 0).val / 32 = k := by omega
  have ey : (ix3 (⟨(i 0).val % 32, Nat.mod_lt _ (by decide)⟩ : Fin 32) (i 1) (i 2) : S32x200x128.Idx) = y := by
    funext a
    match a with
    | ⟨0, _⟩ => exact Fin.ext (by show (i 0).val % 32 = (y 0).val; omega)
    | ⟨1, _⟩ => exact Fin.ext h1
    | ⟨2, _⟩ => exact Fin.ext h2
  unfold G
  rw [e, ey]

/-- A call's inputs: its `n` rows of tokens from row `off` on, their gathered rows, the positions, the scale and the shift. -/
structure Inputs (n off : ℕ) (ids : (⟨2, ![n, 200]⟩ : Shape).Idx → Elt F .i32) (rows : (⟨3, ![n, 200, 128]⟩ : Shape).Idx → Elt F .f32)
    (p : S1x200x128.Idx → Elt F .f32) (g s : S1x1x128.Idx → Elt F .f32) : Prop where
  ids : ∀ y, ids y = tok seq (off + (y 0).val) (y 1)
  rows : ∀ y, rows y = emb seq tb (off + (y 0).val) (y 1) (y 2)
  pos : p = pos
  gam : g = gam
  bet : s = bet
end

/-- An array with the rows from `off` up to `off + n` replaced. -/
def patch (off n : ℕ) (g A : S1024x200x128.Idx → Elt F .f32) : S1024x200x128.Idx → Elt F .f32 := fun i =>
  if off ≤ (i 0).val ∧ (i 0).val < off + n then g i else A i

variable (V : Dev nD → Valuation τ sig (Elt F)) (b : ℕ) (c : Dev nD)
variable {seq : S1024x200.Idx → Elt F .i32} {tb : S100000x128.Idx → Elt F .f32} {pos : S1x200x128.Idx → Elt F .f32} {gam bet : S1x1x128.Idx → Elt F .f32}

/-- A token by equal places. -/
theorem tok_congr {r r' : ℕ} {l l' : Fin 200} (h : r = r') (hl : l.val = l'.val) : tok seq r l = tok seq r' l' := by
  subst h; rw [Fin.ext hl]
/-- An entry of a gathered row by equal places. -/
theorem emb_congr {r r' : ℕ} {l l' : Fin 200} {h h' : Fin 128} (hr : r = r') (hl : l.val = l'.val) (hh : h.val = h'.val) :
    emb seq tb r l h = emb seq tb r' l' h' := by
  subst hr; rw [Fin.ext hl, Fin.ext hh]
/-- A read through an embedding that keeps every coordinate is the array. -/
theorem read_unit {s : Shape} {α : Type} (f : s.Idx → α) (e : s.Idx → s.Idx) (h : ∀ y a, (e y a).val = (y a).val) : (fun y => f (e y)) = f :=
  funext fun y => congrArg f (funext fun a => Fin.ext (h y a))
/-- The entries of a block of 32 sequences. -/
theorem mem_rows (idx size : Fin 3 → ℕ) {k : ℕ} (hi : idx = ![k, 0, 0]) (hs : size = ![32, 200, 128]) (i : S1024x200x128.Idx) :
    (∀ a : Fin 3, idx a * size a ≤ (i a).val ∧ (i a).val < idx a * size a + size a) ↔ k * 32 ≤ (i 0).val ∧ (i 0).val < k * 32 + 32 := by
  subst hi hs
  have h1 : (i 1).val < 200 := (i 1).isLt
  have h2 : (i 2).val < 128 := (i 2).isLt
  refine ⟨fun h => h 0, fun h a => ?_⟩
  match a with
  | ⟨0, _⟩ => exact h
  | ⟨1, _⟩ => exact ⟨by show 0 * 200 ≤ _; omega, by show (i 1).val < 0 * 200 + 200; omega⟩
  | ⟨2, _⟩ => exact ⟨by show 0 * 128 ≤ _; omega, by show (i 2).val < 0 * 128 + 128; omega⟩

/-! ## Call 0: rows 0 up to 128 -/

/-- Where window 0 of call 4 lies at a step. -/
theorem ix4_0 : ∀ t : Fin grid4.N, win4_0.index t = ![t.val, 0] := by decide +kernel
/-- Where window 1 of call 4 lies at a step. -/
theorem ix4_1 : ∀ t : Fin grid4.N, win4_1.index t = ![t.val, 0, 0] := by decide +kernel
/-- Where window 2 of call 4 lies at a step. -/
theorem ix4_2 : ∀ t : Fin grid4.N, win4_2.index t = ![0, 0, 0] := by decide +kernel
/-- Where window 3 of call 4 lies at a step. -/
theorem ix4_3 : ∀ t : Fin grid4.N, win4_3.index t = ![0, 0, 0] := by decide +kernel
/-- Where window 4 of call 4 lies at a step. -/
theorem ix4_4 : ∀ t : Fin grid4.N, win4_4.index t = ![0, 0, 0] := by decide +kernel
/-- Where window 5 of call 4 lies at a step. -/
theorem ix4_5 : ∀ t : Fin grid4.N, win4_5.index t = ![0 + t.val, 0, 0] := by decide +kernel

/-- What call 4 writes at a step is the result's block. -/
theorem flushed4 (h : Inputs seq tb pos gam bet 128 0 (V c main_v4) (V c main_v7) (V c main_v1) (V c main_v2) (V c main_v3)) (t : Fin cfg4.N) :
    (dat4 V b c).flushed 5 t = ((cfg4.win 5).blk t).view.read (Elt F) (G seq tb pos gam bet) := by
  have e1 : (((cfg4.win 1).blk t).view.read (Elt F) (V c (Pipeline.arrRef spec4 1)) : Vec F S32x200x128 .f32) = blkEmb seq tb (0 + t.val) := funext fun y => by
    refine (h.rows ((win4_1.rect t).emb y)).trans ?_
    have a0 : ((win4_1.rect t).emb y 0).val = t.val * 32 + (y 0).val := (win4_1.rect_emb_val t y 0).trans (by rw [ix4_1]; rfl)
    have a1 : ((win4_1.rect t).emb y 1).val = 0 * 200 + (y 1).val := (win4_1.rect_emb_val t y 1).trans (by rw [ix4_1]; rfl)
    have a2 : ((win4_1.rect t).emb y 2).val = 0 * 128 + (y 2).val := (win4_1.rect_emb_val t y 2).trans (by rw [ix4_1]; rfl)
    exact emb_congr (by omega) (by omega) (by omega)
  have e0 : (((cfg4.win 0).blk t).view.read (Elt F) (V c (Pipeline.arrRef spec4 0)) : Vec F S32x200 .i32) = blkTok seq (0 + t.val) := funext fun y => by
    refine (h.ids ((win4_0.rect t).emb y)).trans ?_
    have a0 : ((win4_0.rect t).emb y 0).val = t.val * 32 + (y 0).val := (win4_0.rect_emb_val t y 0).trans (by rw [ix4_0]; rfl)
    have a1 : ((win4_0.rect t).emb y 1).val = 0 * 200 + (y 1).val := (win4_0.rect_emb_val t y 1).trans (by rw [ix4_0]; rfl)
    exact tok_congr (by omega) (by omega)
  have e2 : (((cfg4.win 2).blk t).view.read (Elt F) (V c (Pipeline.arrRef spec4 2)) : Vec F S1x200x128 .f32) = pos := by
    rw [← h.pos]; exact read_unit (V c main_v1) ((win4_2.rect t).emb) fun y a => by rw [win4_2.rect_emb_val, ix4_2]; fin_cases a <;> simp
  have e3 : (((cfg4.win 3).blk t).view.read (Elt F) (V c (Pipeline.arrRef spec4 3)) : Vec F S1x1x128 .f32) = gam := by
    rw [← h.gam]; exact read_unit (V c main_v2) ((win4_3.rect t).emb) fun y a => by rw [win4_3.rect_emb_val, ix4_3]; fin_cases a <;> simp
  have e4 : (((cfg4.win 4).blk t).view.read (Elt F) (V c (Pipeline.arrRef spec4 4)) : Vec F S1x1x128 .f32) = bet := by
    rw [← h.bet]; exact read_unit (V c main_v3) ((win4_4.rect t).emb) fun y a => by rw [win4_4.rect_emb_val, ix4_4]; fin_cases a <;> simp
  refine (show (dat4 V b c).flushed 5 t = norm (((cfg4.win 1).blk t).view.read (Elt F) (V c (Pipeline.arrRef spec4 1))) (((cfg4.win 0).blk t).view.read (Elt F) (V c (Pipeline.arrRef spec4 0)))
        (((cfg4.win 2).blk t).view.read (Elt F) (V c (Pipeline.arrRef spec4 2))) (((cfg4.win 3).blk t).view.read (Elt F) (V c (Pipeline.arrRef spec4 3)))
        (((cfg4.win 4).blk t).view.read (Elt F) (V c (Pipeline.arrRef spec4 4))) from rfl).trans ?_
  rw [e0, e1, e2, e3, e4]
  funext y
  have a0 : ((win4_5.rect t).emb y 0).val = (0 + t.val) * 32 + (y 0).val := (win4_5.rect_emb_val t y 0).trans (by rw [ix4_5]; rfl)
  have a1 : ((win4_5.rect t).emb y 1).val = 0 * 200 + (y 1).val := (win4_5.rect_emb_val t y 1).trans (by rw [ix4_5]; rfl)
  have a2 : ((win4_5.rect t).emb y 2).val = 0 * 128 + (y 2).val := (win4_5.rect_emb_val t y 2).trans (by rw [ix4_5]; rfl)
  exact (G_blk seq tb pos gam bet (0 + t.val) y ((win4_5.rect t).emb y) a0 (by omega) (by omega)).symm

/-- Which entries call 4 writes at a step. -/
theorem mem_blk4 (t : Fin cfg4.N) (i : S1024x200x128.Idx) :
    i ∈ ((cfg4.win 5).blk t).view.set ↔ (0 + t.val) * 32 ≤ (i 0).val ∧ (i 0).val < (0 + t.val) * 32 + 32 := by
  show i ∈ ((View.whole main_v20).slice (win4_5.rect t)).set ↔ _
  rw [View.set_slice_whole, Rect.mem_set_unit]
  exact mem_rows (win4_5.index t) win4_5.size (ix4_5 t) (by funext a; fin_cases a <;> rfl) i

/-- Call 0 leaves its rows of the result at `G` and the others as they were. -/
theorem final4 (h : Inputs seq tb pos gam bet 128 0 (V c main_v4) (V c main_v7) (V c main_v1) (V c main_v2) (V c main_v3)) :
    (dat4 V b c).arrAt 5 cfg4.N = patch 0 128 (G seq tb pos gam bet) (V c main_v20) := by
  funext i
  refine ((dat4 V b c).arrAt_eq_piecewise 5 (G seq tb pos gam bet) (fun t _ => flushed4 V b c h t) i).trans ?_
  refine if_congr ⟨?_, fun hi => ?_⟩ rfl rfl
  · rintro ⟨t, -, ht⟩
    have hN : t.val < 4 := t.isLt.trans_eq N_4
    have := (mem_blk4 t i).mp ht
    omega
  · have ht : (i 0).val / 32 - 0 < cfg4.N := by rw [show cfg4.N = 4 from N_4]; omega
    refine ⟨⟨(i 0).val / 32 - 0, ht⟩, flush4_5 _, (mem_blk4 _ i).mpr ?_⟩
    dsimp only
    omega

/-! ## Call 1: rows 128 up to 448 -/

/-- Where window 0 of call 5 lies at a step. -/
theorem ix5_0 : ∀ t : Fin grid5.N, win5_0.index t = ![t.val, 0] := by decide +kernel
/-- Where window 1 of call 5 lies at a step. -/
theorem ix5_1 : ∀ t : Fin grid5.N, win5_1.index t = ![t.val, 0, 0] := by decide +kernel
/-- Where window 2 of call 5 lies at a step. -/
theorem ix5_2 : ∀ t : Fin grid5.N, win5_2.index t = ![0, 0, 0] := by decide +kernel
/-- Where window 3 of call 5 lies at a step. -/
theorem ix5_3 : ∀ t : Fin grid5.N, win5_3.index t = ![0, 0, 0] := by decide +kernel
/-- Where window 4 of call 5 lies at a step. -/
theorem ix5_4 : ∀ t : Fin grid5.N, win5_4.index t = ![0, 0, 0] := by decide +kernel
/-- Where window 5 of call 5 lies at a step. -/
theorem ix5_5 : ∀ t : Fin grid5.N, win5_5.index t = ![4 + t.val, 0, 0] := by decide +kernel

/-- What call 5 writes at a step is the result's block. -/
theorem flushed5 (h : Inputs seq tb pos gam bet 320 128 (V c main_v8) (V c main_v11) (V c main_v1) (V c main_v2) (V c main_v3)) (t : Fin cfg5.N) :
    (dat5 V b c).flushed 5 t = ((cfg5.win 5).blk t).view.read (Elt F) (G seq tb pos gam bet) := by
  have e1 : (((cfg5.win 1).blk t).view.read (Elt F) (V c (Pipeline.arrRef spec5 1)) : Vec F S32x200x128 .f32) = blkEmb seq tb (4 + t.val) := funext fun y => by
    refine (h.rows ((win5_1.rect t).emb y)).trans ?_
    have a0 : ((win5_1.rect t).emb y 0).val = t.val * 32 + (y 0).val := (win5_1.rect_emb_val t y 0).trans (by rw [ix5_1]; rfl)
    have a1 : ((win5_1.rect t).emb y 1).val = 0 * 200 + (y 1).val := (win5_1.rect_emb_val t y 1).trans (by rw [ix5_1]; rfl)
    have a2 : ((win5_1.rect t).emb y 2).val = 0 * 128 + (y 2).val := (win5_1.rect_emb_val t y 2).trans (by rw [ix5_1]; rfl)
    exact emb_congr (by omega) (by omega) (by omega)
  have e0 : (((cfg5.win 0).blk t).view.read (Elt F) (V c (Pipeline.arrRef spec5 0)) : Vec F S32x200 .i32) = blkTok seq (4 + t.val) := funext fun y => by
    refine (h.ids ((win5_0.rect t).emb y)).trans ?_
    have a0 : ((win5_0.rect t).emb y 0).val = t.val * 32 + (y 0).val := (win5_0.rect_emb_val t y 0).trans (by rw [ix5_0]; rfl)
    have a1 : ((win5_0.rect t).emb y 1).val = 0 * 200 + (y 1).val := (win5_0.rect_emb_val t y 1).trans (by rw [ix5_0]; rfl)
    exact tok_congr (by omega) (by omega)
  have e2 : (((cfg5.win 2).blk t).view.read (Elt F) (V c (Pipeline.arrRef spec5 2)) : Vec F S1x200x128 .f32) = pos := by
    rw [← h.pos]; exact read_unit (V c main_v1) ((win5_2.rect t).emb) fun y a => by rw [win5_2.rect_emb_val, ix5_2]; fin_cases a <;> simp
  have e3 : (((cfg5.win 3).blk t).view.read (Elt F) (V c (Pipeline.arrRef spec5 3)) : Vec F S1x1x128 .f32) = gam := by
    rw [← h.gam]; exact read_unit (V c main_v2) ((win5_3.rect t).emb) fun y a => by rw [win5_3.rect_emb_val, ix5_3]; fin_cases a <;> simp
  have e4 : (((cfg5.win 4).blk t).view.read (Elt F) (V c (Pipeline.arrRef spec5 4)) : Vec F S1x1x128 .f32) = bet := by
    rw [← h.bet]; exact read_unit (V c main_v3) ((win5_4.rect t).emb) fun y a => by rw [win5_4.rect_emb_val, ix5_4]; fin_cases a <;> simp
  refine (show (dat5 V b c).flushed 5 t = norm (((cfg5.win 1).blk t).view.read (Elt F) (V c (Pipeline.arrRef spec5 1))) (((cfg5.win 0).blk t).view.read (Elt F) (V c (Pipeline.arrRef spec5 0)))
        (((cfg5.win 2).blk t).view.read (Elt F) (V c (Pipeline.arrRef spec5 2))) (((cfg5.win 3).blk t).view.read (Elt F) (V c (Pipeline.arrRef spec5 3)))
        (((cfg5.win 4).blk t).view.read (Elt F) (V c (Pipeline.arrRef spec5 4))) from rfl).trans ?_
  rw [e0, e1, e2, e3, e4]
  funext y
  have a0 : ((win5_5.rect t).emb y 0).val = (4 + t.val) * 32 + (y 0).val := (win5_5.rect_emb_val t y 0).trans (by rw [ix5_5]; rfl)
  have a1 : ((win5_5.rect t).emb y 1).val = 0 * 200 + (y 1).val := (win5_5.rect_emb_val t y 1).trans (by rw [ix5_5]; rfl)
  have a2 : ((win5_5.rect t).emb y 2).val = 0 * 128 + (y 2).val := (win5_5.rect_emb_val t y 2).trans (by rw [ix5_5]; rfl)
  exact (G_blk seq tb pos gam bet (4 + t.val) y ((win5_5.rect t).emb y) a0 (by omega) (by omega)).symm

/-- Which entries call 5 writes at a step. -/
theorem mem_blk5 (t : Fin cfg5.N) (i : S1024x200x128.Idx) :
    i ∈ ((cfg5.win 5).blk t).view.set ↔ (4 + t.val) * 32 ≤ (i 0).val ∧ (i 0).val < (4 + t.val) * 32 + 32 := by
  show i ∈ ((View.whole main_v21).slice (win5_5.rect t)).set ↔ _
  rw [View.set_slice_whole, Rect.mem_set_unit]
  exact mem_rows (win5_5.index t) win5_5.size (ix5_5 t) (by funext a; fin_cases a <;> rfl) i

/-- Call 1 leaves its rows of the result at `G` and the others as they were. -/
theorem final5 (h : Inputs seq tb pos gam bet 320 128 (V c main_v8) (V c main_v11) (V c main_v1) (V c main_v2) (V c main_v3)) :
    (dat5 V b c).arrAt 5 cfg5.N = patch 128 320 (G seq tb pos gam bet) (V c main_v21) := by
  funext i
  refine ((dat5 V b c).arrAt_eq_piecewise 5 (G seq tb pos gam bet) (fun t _ => flushed5 V b c h t) i).trans ?_
  refine if_congr ⟨?_, fun hi => ?_⟩ rfl rfl
  · rintro ⟨t, -, ht⟩
    have hN : t.val < 10 := t.isLt.trans_eq N_5
    have := (mem_blk5 t i).mp ht
    omega
  · have ht : (i 0).val / 32 - 4 < cfg5.N := by rw [show cfg5.N = 10 from N_5]; omega
    refine ⟨⟨(i 0).val / 32 - 4, ht⟩, flush5_5 _, (mem_blk5 _ i).mpr ?_⟩
    dsimp only
    omega

/-! ## Call 2: rows 448 up to 768 -/

/-- Where window 0 of call 6 lies at a step. -/
theorem ix6_0 : ∀ t : Fin grid6.N, win6_0.index t = ![t.val, 0] := by decide +kernel
/-- Where window 1 of call 6 lies at a step. -/
theorem ix6_1 : ∀ t : Fin grid6.N, win6_1.index t = ![t.val, 0, 0] := by decide +kernel
/-- Where window 2 of call 6 lies at a step. -/
theorem ix6_2 : ∀ t : Fin grid6.N, win6_2.index t = ![0, 0, 0] := by decide +kernel
/-- Where window 3 of call 6 lies at a step. -/
theorem ix6_3 : ∀ t : Fin grid6.N, win6_3.index t = ![0, 0, 0] := by decide +kernel
/-- Where window 4 of call 6 lies at a step. -/
theorem ix6_4 : ∀ t : Fin grid6.N, win6_4.index t = ![0, 0, 0] := by decide +kernel
/-- Where window 5 of call 6 lies at a step. -/
theorem ix6_5 : ∀ t : Fin grid6.N, win6_5.index t = ![14 + t.val, 0, 0] := by decide +kernel

/-- What call 6 writes at a step is the result's block. -/
theorem flushed6 (h : Inputs seq tb pos gam bet 320 448 (V c main_v12) (V c main_v15) (V c main_v1) (V c main_v2) (V c main_v3)) (t : Fin cfg6.N) :
    (dat6 V b c).flushed 5 t = ((cfg6.win 5).blk t).view.read (Elt F) (G seq tb pos gam bet) := by
  have e1 : (((cfg6.win 1).blk t).view.read (Elt F) (V c (Pipeline.arrRef spec6 1)) : Vec F S32x200x128 .f32) = blkEmb seq tb (14 + t.val) := funext fun y => by
    refine (h.rows ((win6_1.rect t).emb y)).trans ?_
    have a0 : ((win6_1.rect t).emb y 0).val = t.val * 32 + (y 0).val := (win6_1.rect_emb_val t y 0).trans (by rw [ix6_1]; rfl)
    have a1 : ((win6_1.rect t).emb y 1).val = 0 * 200 + (y 1).val := (win6_1.rect_emb_val t y 1).trans (by rw [ix6_1]; rfl)
    have a2 : ((win6_1.rect t).emb y 2).val = 0 * 128 + (y 2).val := (win6_1.rect_emb_val t y 2).trans (by rw [ix6_1]; rfl)
    exact emb_congr (by omega) (by omega) (by omega)
  have e0 : (((cfg6.win 0).blk t).view.read (Elt F) (V c (Pipeline.arrRef spec6 0)) : Vec F S32x200 .i32) = blkTok seq (14 + t.val) := funext fun y => by
    refine (h.ids ((win6_0.rect t).emb y)).trans ?_
    have a0 : ((win6_0.rect t).emb y 0).val = t.val * 32 + (y 0).val := (win6_0.rect_emb_val t y 0).trans (by rw [ix6_0]; rfl)
    have a1 : ((win6_0.rect t).emb y 1).val = 0 * 200 + (y 1).val := (win6_0.rect_emb_val t y 1).trans (by rw [ix6_0]; rfl)
    exact tok_congr (by omega) (by omega)
  have e2 : (((cfg6.win 2).blk t).view.read (Elt F) (V c (Pipeline.arrRef spec6 2)) : Vec F S1x200x128 .f32) = pos := by
    rw [← h.pos]; exact read_unit (V c main_v1) ((win6_2.rect t).emb) fun y a => by rw [win6_2.rect_emb_val, ix6_2]; fin_cases a <;> simp
  have e3 : (((cfg6.win 3).blk t).view.read (Elt F) (V c (Pipeline.arrRef spec6 3)) : Vec F S1x1x128 .f32) = gam := by
    rw [← h.gam]; exact read_unit (V c main_v2) ((win6_3.rect t).emb) fun y a => by rw [win6_3.rect_emb_val, ix6_3]; fin_cases a <;> simp
  have e4 : (((cfg6.win 4).blk t).view.read (Elt F) (V c (Pipeline.arrRef spec6 4)) : Vec F S1x1x128 .f32) = bet := by
    rw [← h.bet]; exact read_unit (V c main_v3) ((win6_4.rect t).emb) fun y a => by rw [win6_4.rect_emb_val, ix6_4]; fin_cases a <;> simp
  refine (show (dat6 V b c).flushed 5 t = norm (((cfg6.win 1).blk t).view.read (Elt F) (V c (Pipeline.arrRef spec6 1))) (((cfg6.win 0).blk t).view.read (Elt F) (V c (Pipeline.arrRef spec6 0)))
        (((cfg6.win 2).blk t).view.read (Elt F) (V c (Pipeline.arrRef spec6 2))) (((cfg6.win 3).blk t).view.read (Elt F) (V c (Pipeline.arrRef spec6 3)))
        (((cfg6.win 4).blk t).view.read (Elt F) (V c (Pipeline.arrRef spec6 4))) from rfl).trans ?_
  rw [e0, e1, e2, e3, e4]
  funext y
  have a0 : ((win6_5.rect t).emb y 0).val = (14 + t.val) * 32 + (y 0).val := (win6_5.rect_emb_val t y 0).trans (by rw [ix6_5]; rfl)
  have a1 : ((win6_5.rect t).emb y 1).val = 0 * 200 + (y 1).val := (win6_5.rect_emb_val t y 1).trans (by rw [ix6_5]; rfl)
  have a2 : ((win6_5.rect t).emb y 2).val = 0 * 128 + (y 2).val := (win6_5.rect_emb_val t y 2).trans (by rw [ix6_5]; rfl)
  exact (G_blk seq tb pos gam bet (14 + t.val) y ((win6_5.rect t).emb y) a0 (by omega) (by omega)).symm

/-- Which entries call 6 writes at a step. -/
theorem mem_blk6 (t : Fin cfg6.N) (i : S1024x200x128.Idx) :
    i ∈ ((cfg6.win 5).blk t).view.set ↔ (14 + t.val) * 32 ≤ (i 0).val ∧ (i 0).val < (14 + t.val) * 32 + 32 := by
  show i ∈ ((View.whole main_v22).slice (win6_5.rect t)).set ↔ _
  rw [View.set_slice_whole, Rect.mem_set_unit]
  exact mem_rows (win6_5.index t) win6_5.size (ix6_5 t) (by funext a; fin_cases a <;> rfl) i

/-- Call 2 leaves its rows of the result at `G` and the others as they were. -/
theorem final6 (h : Inputs seq tb pos gam bet 320 448 (V c main_v12) (V c main_v15) (V c main_v1) (V c main_v2) (V c main_v3)) :
    (dat6 V b c).arrAt 5 cfg6.N = patch 448 320 (G seq tb pos gam bet) (V c main_v22) := by
  funext i
  refine ((dat6 V b c).arrAt_eq_piecewise 5 (G seq tb pos gam bet) (fun t _ => flushed6 V b c h t) i).trans ?_
  refine if_congr ⟨?_, fun hi => ?_⟩ rfl rfl
  · rintro ⟨t, -, ht⟩
    have hN : t.val < 10 := t.isLt.trans_eq N_6
    have := (mem_blk6 t i).mp ht
    omega
  · have ht : (i 0).val / 32 - 14 < cfg6.N := by rw [show cfg6.N = 10 from N_6]; omega
    refine ⟨⟨(i 0).val / 32 - 14, ht⟩, flush6_5 _, (mem_blk6 _ i).mpr ?_⟩
    dsimp only
    omega

/-! ## Call 3: rows 768 up to 1024 -/

/-- Where window 0 of call 7 lies at a step. -/
theorem ix7_0 : ∀ t : Fin grid7.N, win7_0.index t = ![t.val, 0] := by decide +kernel
/-- Where window 1 of call 7 lies at a step. -/
theorem ix7_1 : ∀ t : Fin grid7.N, win7_1.index t = ![t.val, 0, 0] := by decide +kernel
/-- Where window 2 of call 7 lies at a step. -/
theorem ix7_2 : ∀ t : Fin grid7.N, win7_2.index t = ![0, 0, 0] := by decide +kernel
/-- Where window 3 of call 7 lies at a step. -/
theorem ix7_3 : ∀ t : Fin grid7.N, win7_3.index t = ![0, 0, 0] := by decide +kernel
/-- Where window 4 of call 7 lies at a step. -/
theorem ix7_4 : ∀ t : Fin grid7.N, win7_4.index t = ![0, 0, 0] := by decide +kernel
/-- Where window 5 of call 7 lies at a step. -/
theorem ix7_5 : ∀ t : Fin grid7.N, win7_5.index t = ![24 + t.val, 0, 0] := by decide +kernel

/-- What call 7 writes at a step is the result's block. -/
theorem flushed7 (h : Inputs seq tb pos gam bet 256 768 (V c main_v16) (V c main_v19) (V c main_v1) (V c main_v2) (V c main_v3)) (t : Fin cfg7.N) :
    (dat7 V b c).flushed 5 t = ((cfg7.win 5).blk t).view.read (Elt F) (G seq tb pos gam bet) := by
  have e1 : (((cfg7.win 1).blk t).view.read (Elt F) (V c (Pipeline.arrRef spec7 1)) : Vec F S32x200x128 .f32) = blkEmb seq tb (24 + t.val) := funext fun y => by
    refine (h.rows ((win7_1.rect t).emb y)).trans ?_
    have a0 : ((win7_1.rect t).emb y 0).val = t.val * 32 + (y 0).val := (win7_1.rect_emb_val t y 0).trans (by rw [ix7_1]; rfl)
    have a1 : ((win7_1.rect t).emb y 1).val = 0 * 200 + (y 1).val := (win7_1.rect_emb_val t y 1).trans (by rw [ix7_1]; rfl)
    have a2 : ((win7_1.rect t).emb y 2).val = 0 * 128 + (y 2).val := (win7_1.rect_emb_val t y 2).trans (by rw [ix7_1]; rfl)
    exact emb_congr (by omega) (by omega) (by omega)
  have e0 : (((cfg7.win 0).blk t).view.read (Elt F) (V c (Pipeline.arrRef spec7 0)) : Vec F S32x200 .i32) = blkTok seq (24 + t.val) := funext fun y => by
    refine (h.ids ((win7_0.rect t).emb y)).trans ?_
    have a0 : ((win7_0.rect t).emb y 0).val = t.val * 32 + (y 0).val := (win7_0.rect_emb_val t y 0).trans (by rw [ix7_0]; rfl)
    have a1 : ((win7_0.rect t).emb y 1).val = 0 * 200 + (y 1).val := (win7_0.rect_emb_val t y 1).trans (by rw [ix7_0]; rfl)
    exact tok_congr (by omega) (by omega)
  have e2 : (((cfg7.win 2).blk t).view.read (Elt F) (V c (Pipeline.arrRef spec7 2)) : Vec F S1x200x128 .f32) = pos := by
    rw [← h.pos]; exact read_unit (V c main_v1) ((win7_2.rect t).emb) fun y a => by rw [win7_2.rect_emb_val, ix7_2]; fin_cases a <;> simp
  have e3 : (((cfg7.win 3).blk t).view.read (Elt F) (V c (Pipeline.arrRef spec7 3)) : Vec F S1x1x128 .f32) = gam := by
    rw [← h.gam]; exact read_unit (V c main_v2) ((win7_3.rect t).emb) fun y a => by rw [win7_3.rect_emb_val, ix7_3]; fin_cases a <;> simp
  have e4 : (((cfg7.win 4).blk t).view.read (Elt F) (V c (Pipeline.arrRef spec7 4)) : Vec F S1x1x128 .f32) = bet := by
    rw [← h.bet]; exact read_unit (V c main_v3) ((win7_4.rect t).emb) fun y a => by rw [win7_4.rect_emb_val, ix7_4]; fin_cases a <;> simp
  refine (show (dat7 V b c).flushed 5 t = norm (((cfg7.win 1).blk t).view.read (Elt F) (V c (Pipeline.arrRef spec7 1))) (((cfg7.win 0).blk t).view.read (Elt F) (V c (Pipeline.arrRef spec7 0)))
        (((cfg7.win 2).blk t).view.read (Elt F) (V c (Pipeline.arrRef spec7 2))) (((cfg7.win 3).blk t).view.read (Elt F) (V c (Pipeline.arrRef spec7 3)))
        (((cfg7.win 4).blk t).view.read (Elt F) (V c (Pipeline.arrRef spec7 4))) from rfl).trans ?_
  rw [e0, e1, e2, e3, e4]
  funext y
  have a0 : ((win7_5.rect t).emb y 0).val = (24 + t.val) * 32 + (y 0).val := (win7_5.rect_emb_val t y 0).trans (by rw [ix7_5]; rfl)
  have a1 : ((win7_5.rect t).emb y 1).val = 0 * 200 + (y 1).val := (win7_5.rect_emb_val t y 1).trans (by rw [ix7_5]; rfl)
  have a2 : ((win7_5.rect t).emb y 2).val = 0 * 128 + (y 2).val := (win7_5.rect_emb_val t y 2).trans (by rw [ix7_5]; rfl)
  exact (G_blk seq tb pos gam bet (24 + t.val) y ((win7_5.rect t).emb y) a0 (by omega) (by omega)).symm

/-- Which entries call 7 writes at a step. -/
theorem mem_blk7 (t : Fin cfg7.N) (i : S1024x200x128.Idx) :
    i ∈ ((cfg7.win 5).blk t).view.set ↔ (24 + t.val) * 32 ≤ (i 0).val ∧ (i 0).val < (24 + t.val) * 32 + 32 := by
  show i ∈ ((View.whole main_v23).slice (win7_5.rect t)).set ↔ _
  rw [View.set_slice_whole, Rect.mem_set_unit]
  exact mem_rows (win7_5.index t) win7_5.size (ix7_5 t) (by funext a; fin_cases a <;> rfl) i

/-- Call 3 leaves its rows of the result at `G` and the others as they were. -/
theorem final7 (h : Inputs seq tb pos gam bet 256 768 (V c main_v16) (V c main_v19) (V c main_v1) (V c main_v2) (V c main_v3)) :
    (dat7 V b c).arrAt 5 cfg7.N = patch 768 256 (G seq tb pos gam bet) (V c main_v23) := by
  funext i
  refine ((dat7 V b c).arrAt_eq_piecewise 5 (G seq tb pos gam bet) (fun t _ => flushed7 V b c h t) i).trans ?_
  refine if_congr ⟨?_, fun hi => ?_⟩ rfl rfl
  · rintro ⟨t, -, ht⟩
    have hN : t.val < 8 := t.isLt.trans_eq N_7
    have := (mem_blk7 t i).mp ht
    omega
  · have ht : (i 0).val / 32 - 24 < cfg7.N := by rw [show cfg7.N = 8 from N_7]; omega
    refine ⟨⟨(i 0).val / 32 - 24, ht⟩, flush7_5 _, (mem_blk7 _ i).mpr ?_⟩
    dsimp only
    omega

end Cert.Proof.Values
end
-- ==== Proof.Stages.lean ====
/-
  The core's arrays at each point of @main: the host operations, the gather calls and the normalization calls between them.
-/
module

public import proofs.«01_k».proof.Proof.Calls
public import proofs.«01_k».proof.Proof.Values

@[expose] public section
noncomputable section

namespace Cert.Proof.Stages

open Cert.KernelIdeal Cert.KernelIdeal.Gen
open Idealize.ShloMosaic Idealize.ShloMosaic.TcCoe Idealize.ShloMosaic.ValueIdx
open Idealize.ShloMosaic.SparseCore.Cfg (HIx)
open Idealize.SL Idealize.SL.RA Idealize.SL.BI
open Cert.Proof.Setup Cert.Proof.Payload Cert.Proof.Values

variable {F : FTy → Type} [FloatOps F]

/-! ## The gathered rows, elementwise -/

/-- A call's gathered rows, laid out by row of tokens: the row of the table that token names. -/
theorem rows_at {n R N off : ℕ} (hN : N = 128 * R) (seq : S1024x200.Idx → Elt F .i32) (tb : S100000x128.Idx → Elt F .f32) (hoff : off + n ≤ 1024)
    (hs : (⟨2, ![1024, 200]⟩ : Shape).Slices ![off, 0] ⟨2, ![n, 200]⟩)
    (hi : (⟨2, ![n, 200]⟩ : Shape).ShapeCasts ⟨2, ![R, 128]⟩) (hr : (⟨2, ![N, 128]⟩ : Shape).ShapeCasts ⟨3, ![n, 200, 128]⟩)
    (y : (⟨3, ![n, 200, 128]⟩ : Shape).Idx) :
    shapeCast ⟨3, ![n, 200, 128]⟩ (gathered (F := F) hN (shapeCast ⟨2, ![R, 128]⟩ (extractStridedSlice ⟨2, ![n, 200]⟩ ![off, 0] seq hs) hi) tb) hr y
      = emb seq tb (off + (y 0).val) (y 1) (y 2) := by
  have h0 : (y 0).val < n := (y 0).isLt
  have h1 : (y 1).val < 200 := (y 1).isLt
  have h2 : (y 2).val < 128 := (y 2).isLt
  have hnum : n * 200 = R * 128 := by
    have := hi; simpa [Shape.ShapeCasts, Shape.numel, Fin.prod_univ_succ] using this.symm
  have hx : 200 * (y 0).val + (y 1).val < N := by omega
  refine (shapeCast_apply _ hr y (ix2 (⟨200 * (y 0).val + (y 1).val, hx⟩ : Fin N) (y 2 : Fin 128)) (by
    rw [Shape.rowMajor_val_three, Shape.rowMajor_val_two]
    show (200 * (y 0).val + (y 1).val) * 128 + (y 2).val = ((y 0).val * 200 + (y 1).val) * 128 + (y 2).val
    omega)).trans ?_
  unfold gathered emb tok
  refine congrArg tb (congrArg (fun k => ix2 k (y 2 : Fin 128)) (Fin.ext ?_))
  refine congrArg (fun w : BitVec 32 => w.toNat % 100000) ?_
  refine (shapeCast_apply _ hi _ (ix2 (y 0 : Fin n) (y 1 : Fin 200)) (by
    rw [Shape.rowMajor_val_two, Shape.rowMajor_val_two]
    show (y 0).val * 200 + (y 1).val = (200 * (y 0).val + (y 1).val) / 128 * 128 + (200 * (y 0).val + (y 1).val) % 128
    omega)).trans ?_
  refine congrArg seq (funext fun a => Fin.ext ?_)
  match a with
  | ⟨0, _⟩ => show off + (y 0).val = (off + (y 0).val) % 1024; omega
  | ⟨1, _⟩ => show 0 + (y 1).val = (y 1).val; omega

/-- A call's rows of tokens. -/
theorem ids_at {n off : ℕ} (seq : S1024x200.Idx → Elt F .i32) (hoff : off + n ≤ 1024)
    (hs : (⟨2, ![1024, 200]⟩ : Shape).Slices ![off, 0] ⟨2, ![n, 200]⟩) (y : (⟨2, ![n, 200]⟩ : Shape).Idx) :
    extractStridedSlice ⟨2, ![n, 200]⟩ ![off, 0] seq hs y = tok seq (off + (y 0).val) (y 1) := by
  have h0 : (y 0).val < n := (y 0).isLt
  refine congrArg seq (funext fun a => Fin.ext ?_)
  match a with
  | ⟨0, _⟩ => show off + (y 0).val = (off + (y 0).val) % 1024; omega
  | ⟨1, _⟩ => show 0 + (y 1).val = (y 1).val; omega

/-! ## The host operations -/

/-- The host operations before the first gather call, -/
def opsA : List (HloOp τ sig (Elt F)) :=
  [StableHlo.unary main_arg2 main_v0 ((extractStridedSlice S200x128 ![0, 0] · slices_S512x128_S200x128_0_0) : (⟨S512x128, .f32⟩ : BufTy).Contents (Elt F) → (⟨S200x128, .f32⟩ : BufTy).Contents (Elt F)),
   StableHlo.reshape main_v0 main_v1 (rfl : (.f32 : EltTy) = .f32) shapeCasts_S200x128_S1x200x128,
   StableHlo.reshape main_arg3 main_v2 (rfl : (.f32 : EltTy) = .f32) shapeCasts_S128_S1x1x128,
   StableHlo.reshape main_arg4 main_v3 (rfl : (.f32 : EltTy) = .f32) shapeCasts_S128_S1x1x128,
   StableHlo.unary main_arg0 main_v4 ((extractStridedSlice S128x200 ![0, 0] · slices_S1024x200_S128x200_0_0) : (⟨S1024x200, .i32⟩ : BufTy).Contents (Elt F) → (⟨S128x200, .i32⟩ : BufTy).Contents (Elt F)),
   StableHlo.reshape main_v4 main_v5 (rfl : (.i32 : EltTy) = .i32) shapeCasts_S128x200_S200x128]

/-- The host operations before the first gather keep every other array. -/
theorem keepA (V : Valuation τ sig (Elt F)) (r : Ref sig .tc) (hr : r ∉ [main_v0, main_v1, main_v2, main_v3, main_v4, main_v5]) : StableHlo.after (opsA (F := F)) V r = V r :=
  StableHlo.after_of_writes_sub _ V (StableHlo.forall_writes_sub_of_map (W := [main_v0, main_v1, main_v2, main_v3, main_v4, main_v5]) rfl) hr

/-- The host operations between the first two gather calls, -/
def opsB : List (HloOp τ sig (Elt F)) :=
  [StableHlo.reshape main_v6 main_v7 (rfl : (.f32 : EltTy) = .f32) shapeCasts_S25600x128_S128x200x128,
   StableHlo.unary main_arg0 main_v8 ((extractStridedSlice S320x200 ![128, 0] · slices_S1024x200_S320x200_128_0) : (⟨S1024x200, .i32⟩ : BufTy).Contents (Elt F) → (⟨S320x200, .i32⟩ : BufTy).Contents (Elt F)),
   StableHlo.reshape main_v8 main_v9 (rfl : (.i32 : EltTy) = .i32) shapeCasts_S320x200_S500x128]

/-- The host operations before the second gather keep every other array. -/
theorem keepB (V : Valuation τ sig (Elt F)) (r : Ref sig .tc) (hr : r ∉ [main_v7, main_v8, main_v9]) : StableHlo.after (opsB (F := F)) V r = V r :=
  StableHlo.after_of_writes_sub _ V (StableHlo.forall_writes_sub_of_map (W := [main_v7, main_v8, main_v9]) rfl) hr

/-- The host operations between the second and third gather calls, -/
def opsC : List (HloOp τ sig (Elt F)) :=
  [StableHlo.reshape main_v10 main_v11 (rfl : (.f32 : EltTy) = .f32) shapeCasts_S64000x128_S320x200x128,
   StableHlo.unary main_arg0 main_v12 ((extractStridedSlice S320x200 ![448, 0] · slices_S1024x200_S320x200_448_0) : (⟨S1024x200, .i32⟩ : BufTy).Contents (Elt F) → (⟨S320x200, .i32⟩ : BufTy).Contents (Elt F)),
   StableHlo.reshape main_v12 main_v13 (rfl : (.i32 : EltTy) = .i32) shapeCasts_S320x200_S500x128]

/-- The host operations before the third gather keep every other array. -/
theorem keepC (V : Valuation τ sig (Elt F)) (r : Ref sig .tc) (hr : r ∉ [main_v11, main_v12, main_v13]) : StableHlo.after (opsC (F := F)) V r = V r :=
  StableHlo.after_of_writes_sub _ V (StableHlo.forall_writes_sub_of_map (W := [main_v11, main_v12, main_v13]) rfl) hr

/-- The host operations between the last two gather calls, -/
def opsD : List (HloOp τ sig (Elt F)) :=
  [StableHlo.reshape main_v14 main_v15 (rfl : (.f32 : EltTy) = .f32) shapeCasts_S64000x128_S320x200x128,
   StableHlo.unary main_arg0 main_v16 ((extractStridedSlice S256x200 ![768, 0] · slices_S1024x200_S256x200_768_0) : (⟨S1024x200, .i32⟩ : BufTy).Contents (Elt F) → (⟨S256x200, .i32⟩ : BufTy).Contents (Elt F)),
   StableHlo.reshape main_v16 main_v17 (rfl : (.i32 : EltTy) = .i32) shapeCasts_S256x200_S400x128]

/-- The host operations before the last gather keep every other array. -/
theorem keepD (V : Valuation τ sig (Elt F)) (r : Ref sig .tc) (hr : r ∉ [main_v15, main_v16, main_v17]) : StableHlo.after (opsD (F := F)) V r = V r :=
  StableHlo.after_of_writes_sub _ V (StableHlo.forall_writes_sub_of_map (W := [main_v15, main_v16, main_v17]) rfl) hr

/-- The host operations after the last gather call, -/
def opsE : List (HloOp τ sig (Elt F)) :=
  [StableHlo.reshape main_v18 main_v19 (rfl : (.f32 : EltTy) = .f32) shapeCasts_S51200x128_S256x200x128]

/-- The host operations before the first normalization keep every other array. -/
theorem keepE (V : Valuation τ sig (Elt F)) (r : Ref sig .tc) (hr : r ∉ [main_v19]) : StableHlo.after (opsE (F := F)) V r = V r :=
  StableHlo.after_of_writes_sub _ V (StableHlo.forall_writes_sub_of_map (W := [main_v19]) rfl) hr

/-! ## What they leave -/

/-- What the host operations leave in value 0. -/
theorem opsA_v0 (V : Valuation τ sig (Elt F)) : StableHlo.after (opsA (F := F)) V main_v0 = extractStridedSlice S200x128 ![0, 0] (V main_arg2) slices_S512x128_S200x128_0_0 := by
  simp (disch := decide) only [opsA, StableHlo.after_cons, StableHlo.after_nil, StableHlo.unary_result', StableHlo.reshape_result', StableHlo.unary_result_ne', StableHlo.reshape_result_ne']
/-- What the host operations leave in value 1. -/
theorem opsA_v1 (V : Valuation τ sig (Elt F)) : StableHlo.after (opsA (F := F)) V main_v1 = shapeCast S1x200x128 (extractStridedSlice S200x128 ![0, 0] (V main_arg2) slices_S512x128_S200x128_0_0) shapeCasts_S200x128_S1x200x128 := by
  simp (disch := decide) only [opsA, StableHlo.after_cons, StableHlo.after_nil, StableHlo.unary_result', StableHlo.reshape_result', StableHlo.unary_result_ne', StableHlo.reshape_result_ne']
  rfl
/-- What the host operations leave in value 2. -/
theorem opsA_v2 (V : Valuation τ sig (Elt F)) : StableHlo.after (opsA (F := F)) V main_v2 = shapeCast S1x1x128 (V main_arg3) shapeCasts_S128_S1x1x128 := by
  simp (disch := decide) only [opsA, StableHlo.after_cons, StableHlo.after_nil, StableHlo.unary_result', StableHlo.reshape_result', StableHlo.unary_result_ne', StableHlo.reshape_result_ne']
  rfl
/-- What the host operations leave in value 3. -/
theorem opsA_v3 (V : Valuation τ sig (Elt F)) : StableHlo.after (opsA (F := F)) V main_v3 = shapeCast S1x1x128 (V main_arg4) shapeCasts_S128_S1x1x128 := by
  simp (disch := decide) only [opsA, StableHlo.after_cons, StableHlo.after_nil, StableHlo.unary_result', StableHlo.reshape_result', StableHlo.unary_result_ne', StableHlo.reshape_result_ne']
  rfl
/-- What the host operations leave in value 4. -/
theorem opsA_v4 (V : Valuation τ sig (Elt F)) : StableHlo.after (opsA (F := F)) V main_v4 = extractStridedSlice S128x200 ![0, 0] (V main_arg0) slices_S1024x200_S128x200_0_0 := by
  simp (disch := decide) only [opsA, StableHlo.after_cons, StableHlo.after_nil, StableHlo.unary_result', StableHlo.reshape_result', StableHlo.unary_result_ne', StableHlo.reshape_result_ne']
/-- What the host operations leave in value 5. -/
theorem opsA_v5 (V : Valuation τ sig (Elt F)) : StableHlo.after (opsA (F := F)) V main_v5 = shapeCast S200x128 (extractStridedSlice S128x200 ![0, 0] (V main_arg0) slices_S1024x200_S128x200_0_0) shapeCasts_S128x200_S200x128 := by
  simp (disch := decide) only [opsA, StableHlo.after_cons, StableHlo.after_nil, StableHlo.unary_result', StableHlo.reshape_result', StableHlo.unary_result_ne', StableHlo.reshape_result_ne']
  rfl
/-- What the host operations leave in value 7. -/
theorem opsB_v7 (V : Valuation τ sig (Elt F)) : StableHlo.after (opsB (F := F)) V main_v7 = shapeCast S128x200x128 (V main_v6) shapeCasts_S25600x128_S128x200x128 := by
  simp (disch := decide) only [opsB, StableHlo.after_cons, StableHlo.after_nil, StableHlo.unary_result', StableHlo.reshape_result', StableHlo.unary_result_ne', StableHlo.reshape_result_ne']
  rfl
/-- What the host operations leave in value 8. -/
theorem opsB_v8 (V : Valuation τ sig (Elt F)) : StableHlo.after (opsB (F := F)) V main_v8 = extractStridedSlice S320x200 ![128, 0] (V main_arg0) slices_S1024x200_S320x200_128_0 := by
  simp (disch := decide) only [opsB, StableHlo.after_cons, StableHlo.after_nil, StableHlo.unary_result', StableHlo.reshape_result', StableHlo.unary_result_ne', StableHlo.reshape_result_ne']
/-- What the host operations leave in value 9. -/
theorem opsB_v9 (V : Valuation τ sig (Elt F)) : StableHlo.after (opsB (F := F)) V main_v9 = shapeCast S500x128 (extractStridedSlice S320x200 ![128, 0] (V main_arg0) slices_S1024x200_S320x200_128_0) shapeCasts_S320x200_S500x128 := by
  simp (disch := decide) only [opsB, StableHlo.after_cons, StableHlo.after_nil, StableHlo.unary_result', StableHlo.reshape_result', StableHlo.unary_result_ne', StableHlo.reshape_result_ne']
  rfl
/-- What the host operations leave in value 11. -/
theorem opsC_v11 (V : Valuation τ sig (Elt F)) : StableHlo.after (opsC (F := F)) V main_v11 = shapeCast S320x200x128 (V main_v10) shapeCasts_S64000x128_S320x200x128 := by
  simp (disch := decide) only [opsC, StableHlo.after_cons, StableHlo.after_nil, StableHlo.unary_result', StableHlo.reshape_result', StableHlo.unary_result_ne', StableHlo.reshape_result_ne']
  rfl
/-- What the host operations leave in value 12. -/
theorem opsC_v12 (V : Valuation τ sig (Elt F)) : StableHlo.after (opsC (F := F)) V main_v12 = extractStridedSlice S320x200 ![448, 0] (V main_arg0) slices_S1024x200_S320x200_448_0 := by
  simp (disch := decide) only [opsC, StableHlo.after_cons, StableHlo.after_nil, StableHlo.unary_result', StableHlo.reshape_result', StableHlo.unary_result_ne', StableHlo.reshape_result_ne']
/-- What the host operations leave in value 13. -/
theorem opsC_v13 (V : Valuation τ sig (Elt F)) : StableHlo.after (opsC (F := F)) V main_v13 = shapeCast S500x128 (extractStridedSlice S320x200 ![448, 0] (V main_arg0) slices_S1024x200_S320x200_448_0) shapeCasts_S320x200_S500x128 := by
  simp (disch := decide) only [opsC, StableHlo.after_cons, StableHlo.after_nil, StableHlo.unary_result', StableHlo.reshape_result', StableHlo.unary_result_ne', StableHlo.reshape_result_ne']
  rfl
/-- What the host operations leave in value 15. -/
theorem opsD_v15 (V : Valuation τ sig (Elt F)) : StableHlo.after (opsD (F := F)) V main_v15 = shapeCast S320x200x128 (V main_v14) shapeCasts_S64000x128_S320x200x128 := by
  simp (disch := decide) only [opsD, StableHlo.after_cons, StableHlo.after_nil, StableHlo.unary_result', StableHlo.reshape_result', StableHlo.unary_result_ne', StableHlo.reshape_result_ne']
  rfl
/-- What the host operations leave in value 16. -/
theorem opsD_v16 (V : Valuation τ sig (Elt F)) : StableHlo.after (opsD (F := F)) V main_v16 = extractStridedSlice S256x200 ![768, 0] (V main_arg0) slices_S1024x200_S256x200_768_0 := by
  simp (disch := decide) only [opsD, StableHlo.after_cons, StableHlo.after_nil, StableHlo.unary_result', StableHlo.reshape_result', StableHlo.unary_result_ne', StableHlo.reshape_result_ne']
/-- What the host operations leave in value 17. -/
theorem opsD_v17 (V : Valuation τ sig (Elt F)) : StableHlo.after (opsD (F := F)) V main_v17 = shapeCast S400x128 (extractStridedSlice S256x200 ![768, 0] (V main_arg0) slices_S1024x200_S256x200_768_0) shapeCasts_S256x200_S400x128 := by
  simp (disch := decide) only [opsD, StableHlo.after_cons, StableHlo.after_nil, StableHlo.unary_result', StableHlo.reshape_result', StableHlo.unary_result_ne', StableHlo.reshape_result_ne']
  rfl
/-- What the host operations leave in value 19. -/
theorem opsE_v19 (V : Valuation τ sig (Elt F)) : StableHlo.after (opsE (F := F)) V main_v19 = shapeCast S256x200x128 (V main_v18) shapeCasts_S51200x128_S256x200x128 := by
  simp (disch := decide) only [opsE, StableHlo.after_cons, StableHlo.after_nil, StableHlo.unary_result', StableHlo.reshape_result', StableHlo.unary_result_ne', StableHlo.reshape_result_ne']
  rfl

/-- The copies between the normalization calls. -/
def opsF : List (HloOp τ sig (Elt F)) := [StableHlo.unary main_v20 main_v21 id]
/-- The copy before the third normalization. -/
def opsG : List (HloOp τ sig (Elt F)) := [StableHlo.unary main_v21 main_v22 id]
/-- The copy before the last normalization. -/
def opsH : List (HloOp τ sig (Elt F)) := [StableHlo.unary main_v22 main_v23 id]
/-- The host operations before the second normalization keep every other array. -/
theorem keepF (V : Valuation τ sig (Elt F)) (r : Ref sig .tc) (hr : r ∉ [main_v21]) : StableHlo.after (opsF (F := F)) V r = V r :=
  StableHlo.after_of_writes_sub _ V (StableHlo.forall_writes_sub_of_map (W := [main_v21]) rfl) hr
/-- What the host operations leave in value 21. -/
theorem opsF_v21 (V : Valuation τ sig (Elt F)) : StableHlo.after (opsF (F := F)) V main_v21 = V main_v20 := by
  simp only [opsF, StableHlo.after_cons, StableHlo.after_nil, StableHlo.unary_result', id_eq]
/-- The host operations before the third normalization keep every other array. -/
theorem keepG (V : Valuation τ sig (Elt F)) (r : Ref sig .tc) (hr : r ∉ [main_v22]) : StableHlo.after (opsG (F := F)) V r = V r :=
  StableHlo.after_of_writes_sub _ V (StableHlo.forall_writes_sub_of_map (W := [main_v22]) rfl) hr
/-- What the host operations leave in value 22. -/
theorem opsG_v22 (V : Valuation τ sig (Elt F)) : StableHlo.after (opsG (F := F)) V main_v22 = V main_v21 := by
  simp only [opsG, StableHlo.after_cons, StableHlo.after_nil, StableHlo.unary_result', id_eq]
/-- The host operations before the last normalization keep every other array. -/
theorem keepH (V : Valuation τ sig (Elt F)) (r : Ref sig .tc) (hr : r ∉ [main_v23]) : StableHlo.after (opsH (F := F)) V r = V r :=
  StableHlo.after_of_writes_sub _ V (StableHlo.forall_writes_sub_of_map (W := [main_v23]) rfl) hr
/-- What the host operations leave in value 23. -/
theorem opsH_v23 (V : Valuation τ sig (Elt F)) : StableHlo.after (opsH (F := F)) V main_v23 = V main_v22 := by
  simp only [opsH, StableHlo.after_cons, StableHlo.after_nil, StableHlo.unary_result', id_eq]

/-! ## The arrays at each point -/

variable (m : (ℓ : Loc nD τ sig) → Buf (Elt F) ℓ) (d : Dev nD)

/-- The positions, the scale and the shift as the normalization calls take them, and the result. -/
def posOf : S1x200x128.Idx → Elt F .f32 :=
  shapeCast S1x200x128 (extractStridedSlice S200x128 ![0, 0] (m ((TC d).loc main_arg2) : S512x128.Idx → Elt F .f32) slices_S512x128_S200x128_0_0) shapeCasts_S200x128_S1x200x128
/-- The scale as the normalization calls take it. -/
def gamOf : S1x1x128.Idx → Elt F .f32 := shapeCast S1x1x128 (m ((TC d).loc main_arg3) : S128.Idx → Elt F .f32) shapeCasts_S128_S1x1x128
/-- The shift as the normalization calls take it. -/
def betOf : S1x1x128.Idx → Elt F .f32 := shapeCast S1x1x128 (m ((TC d).loc main_arg4) : S128.Idx → Elt F .f32) shapeCasts_S128_S1x1x128
/-- The kernel's result, from the arrays that it was given. -/
def valueOf : S1024x200x128.Idx → Elt F .f32 := G (seqOf m d) (m (tLoc d)) (posOf m d) (gamOf m d) (betOf m d)

/-- A valuation with one array replaced. -/
abbrev put (V : Valuation τ sig (Elt F)) (r : Ref sig .tc) (g : (Proc.devRef (τ := τ) .tc r).ty.Contents (Elt F)) : Valuation τ sig (Elt F) :=
  Function.update V (Proc.devRef .tc r) g

/-- A replaced array is the new one. -/
theorem put_self (V : Valuation τ sig (Elt F)) (r : Ref sig .tc) (g : (Proc.devRef (τ := τ) .tc r).ty.Contents (Elt F)) : put V r g r = g := Function.update_self _ _ _
/-- Every other array is as it was. -/
theorem put_ne (V : Valuation τ sig (Elt F)) (r : Ref sig .tc) (g : (Proc.devRef (τ := τ) .tc r).ty.Contents (Elt F)) (x : Ref sig .tc) (h : x ≠ r) : put V r g x = V x :=
  Function.update_of_ne (StableHlo.devRef_ne_of_ne h) _ _

/-- At each gather call, and after it, -/
def vA : Valuation τ sig (Elt F) := StableHlo.after opsA (StableHlo.launchContents m d)
/-- The arrays after the first gather. -/
def gA : Valuation τ sig (Elt F) := put (vA m d) main_v6 (rowsOf m d 0)
/-- The arrays before the second gather. -/
def vB : Valuation τ sig (Elt F) := StableHlo.after opsB (gA m d)
/-- The arrays after the second gather. -/
def gB : Valuation τ sig (Elt F) := put (vB m d) main_v10 (rowsOf m d 1)
/-- The arrays before the third gather. -/
def vC : Valuation τ sig (Elt F) := StableHlo.after opsC (gB m d)
/-- The arrays after the third gather. -/
def gC : Valuation τ sig (Elt F) := put (vC m d) main_v14 (rowsOf m d 2)
/-- The arrays before the last gather. -/
def vD : Valuation τ sig (Elt F) := StableHlo.after opsD (gC m d)
/-- The arrays after the last gather. -/
def gD : Valuation τ sig (Elt F) := put (vD m d) main_v18 (rowsOf m d 3)
/-- and at each normalization call, and after it. -/
def vE : Valuation τ sig (Elt F) := StableHlo.after opsE (gD m d)
/-- The arrays after the first normalization. -/
def gE : Valuation τ sig (Elt F) := put (vE m d) main_v20 (patch 0 128 (valueOf m d) (vE m d main_v20))
/-- The arrays before the second normalization. -/
def vF : Valuation τ sig (Elt F) := StableHlo.after opsF (gE m d)
/-- The arrays after the second normalization. -/
def gF : Valuation τ sig (Elt F) := put (vF m d) main_v21 (patch 128 320 (valueOf m d) (vF m d main_v21))
/-- The arrays before the third normalization. -/
def vG : Valuation τ sig (Elt F) := StableHlo.after opsG (gF m d)
/-- The arrays after the third normalization. -/
def gG : Valuation τ sig (Elt F) := put (vG m d) main_v22 (patch 448 320 (valueOf m d) (vG m d main_v22))
/-- The arrays before the last normalization. -/
def vH : Valuation τ sig (Elt F) := StableHlo.after opsH (gG m d)
/-- The arrays after the last normalization. -/
def gH : Valuation τ sig (Elt F) := put (vH m d) main_v23 (patch 768 256 (valueOf m d) (vH m d main_v23))

/-- The first gather leaves its rows. -/
theorem gatherA : gA m d main_v6 = rowsOf m d 0 := put_self _ _ _
/-- The first gather leaves every other array. -/
theorem gatherA_ne (x : Ref sig .tc) (h : x ≠ main_v6) : gA m d x = vA m d x := put_ne _ _ _ x h
/-- The second gather leaves its rows. -/
theorem gatherB : gB m d main_v10 = rowsOf m d 1 := put_self _ _ _
/-- The second gather leaves every other array. -/
theorem gatherB_ne (x : Ref sig .tc) (h : x ≠ main_v10) : gB m d x = vB m d x := put_ne _ _ _ x h
/-- The third gather leaves its rows. -/
theorem gatherC : gC m d main_v14 = rowsOf m d 2 := put_self _ _ _
/-- The third gather leaves every other array. -/
theorem gatherC_ne (x : Ref sig .tc) (h : x ≠ main_v14) : gC m d x = vC m d x := put_ne _ _ _ x h
/-- The last gather leaves its rows. -/
theorem gatherD : gD m d main_v18 = rowsOf m d 3 := put_self _ _ _
/-- The last gather leaves every other array. -/
theorem gatherD_ne (x : Ref sig .tc) (h : x ≠ main_v18) : gD m d x = vD m d x := put_ne _ _ _ x h

/-! An array not written from one point to the next is kept. -/

/-- What stays until before the first gather. -/
theorem stayA (r : Ref sig .tc) (h : r ∉ [main_v0, main_v1, main_v2, main_v3, main_v4, main_v5]) : vA m d r = m ((TC d).loc r) := keepA _ r h
/-- What stays until before the second gather. -/
theorem stayB (r : Ref sig .tc) (h : r ∉ [main_v6, main_v7, main_v8, main_v9]) : vB m d r = vA m d r :=
  (keepB _ r fun e => h (List.mem_cons_of_mem _ e)).trans (put_ne _ _ _ r fun e => h (e ▸ List.mem_cons_self))
/-- What stays until before the third gather. -/
theorem stayC (r : Ref sig .tc) (h : r ∉ [main_v10, main_v11, main_v12, main_v13]) : vC m d r = vB m d r :=
  (keepC _ r fun e => h (List.mem_cons_of_mem _ e)).trans (put_ne _ _ _ r fun e => h (e ▸ List.mem_cons_self))
/-- What stays until before the last gather. -/
theorem stayD (r : Ref sig .tc) (h : r ∉ [main_v14, main_v15, main_v16, main_v17]) : vD m d r = vC m d r :=
  (keepD _ r fun e => h (List.mem_cons_of_mem _ e)).trans (put_ne _ _ _ r fun e => h (e ▸ List.mem_cons_self))
/-- What stays until before the first normalization. -/
theorem stayE (r : Ref sig .tc) (h : r ∉ [main_v18, main_v19]) : vE m d r = vD m d r :=
  (keepE _ r fun e => h (List.mem_cons_of_mem _ e)).trans (put_ne _ _ _ r fun e => h (e ▸ List.mem_cons_self))
/-- What stays until before the second normalization. -/
theorem stayF (r : Ref sig .tc) (h : r ∉ [main_v20, main_v21]) : vF m d r = vE m d r :=
  (keepF _ r fun e => h (List.mem_cons_of_mem _ e)).trans (put_ne _ _ _ r fun e => h (e ▸ List.mem_cons_self))
/-- What stays until before the third normalization. -/
theorem stayG (r : Ref sig .tc) (h : r ∉ [main_v21, main_v22]) : vG m d r = vF m d r :=
  (keepG _ r fun e => h (List.mem_cons_of_mem _ e)).trans (put_ne _ _ _ r fun e => h (e ▸ List.mem_cons_self))
/-- What stays until before the last normalization. -/
theorem stayH (r : Ref sig .tc) (h : r ∉ [main_v22, main_v23]) : vH m d r = vG m d r :=
  (keepH _ r fun e => h (List.mem_cons_of_mem _ e)).trans (put_ne _ _ _ r fun e => h (e ▸ List.mem_cons_self))

/-! ## The gather calls' arrays -/

/-- The table is as it was before the first gather. -/
theorem tableA : vA m d main_arg1 = m (tLoc d) := by rw [stayA m d _ (by decide)]
/-- The first gather's result has not been written before it. -/
theorem freshA : vA m d main_v6 = m (rLoc d 0) := by rw [stayA m d _ (by decide)]; rfl
/-- The first gather reads its part of the tokens. -/
theorem wordsA : vA m d main_v5 = idsOf m d 0 := opsA_v5 _
/-- The table is as it was before the second gather. -/
theorem tableB : vB m d main_arg1 = m (tLoc d) := by rw [stayB m d _ (by decide), stayA m d _ (by decide)]
/-- The second gather's result has not been written before it. -/
theorem freshB : vB m d main_v10 = m (rLoc d 1) := by rw [stayB m d _ (by decide), stayA m d _ (by decide)]; rfl
/-- The tokens are as they were before the second part is sliced. -/
theorem seqB : gA m d main_arg0 = seqOf m d := by rw [gatherA_ne m d _ (by decide), stayA m d _ (by decide)]; rfl
/-- The second gather reads its part of the tokens. -/
theorem wordsB : vB m d main_v9 = idsOf m d 1 := (opsB_v9 _).trans (by rw [seqB]; rfl)
/-- The table is as it was before the third gather. -/
theorem tableC : vC m d main_arg1 = m (tLoc d) := by rw [stayC m d _ (by decide), stayB m d _ (by decide), stayA m d _ (by decide)]
/-- The third gather's result has not been written before it. -/
theorem freshC : vC m d main_v14 = m (rLoc d 2) := by rw [stayC m d _ (by decide), stayB m d _ (by decide), stayA m d _ (by decide)]; rfl
/-- The tokens are as they were before the third part is sliced. -/
theorem seqC : gB m d main_arg0 = seqOf m d := by rw [gatherB_ne m d _ (by decide), stayB m d _ (by decide), stayA m d _ (by decide)]; rfl
/-- The third gather reads its part of the tokens. -/
theorem wordsC : vC m d main_v13 = idsOf m d 2 := (opsC_v13 _).trans (by rw [seqC]; rfl)
/-- The table is as it was before the last gather. -/
theorem tableD : vD m d main_arg1 = m (tLoc d) := by rw [stayD m d _ (by decide), stayC m d _ (by decide), stayB m d _ (by decide), stayA m d _ (by decide)]
/-- The last gather's result has not been written before it. -/
theorem freshD : vD m d main_v18 = m (rLoc d 3) := by rw [stayD m d _ (by decide), stayC m d _ (by decide), stayB m d _ (by decide), stayA m d _ (by decide)]; rfl
/-- The tokens are as they were before the last part is sliced. -/
theorem seqD : gC m d main_arg0 = seqOf m d := by rw [gatherC_ne m d _ (by decide), stayC m d _ (by decide), stayB m d _ (by decide), stayA m d _ (by decide)]; rfl
/-- The last gather reads its part of the tokens. -/
theorem wordsD : vD m d main_v17 = idsOf m d 3 := (opsD_v17 _).trans (by rw [seqD]; rfl)

/-! ## The normalization calls' inputs -/

/-- The first normalization's inputs are its part of the tokens, of the rows, and the positions, scale and shift. -/
theorem inputsE : Inputs (seqOf m d) (m (tLoc d)) (posOf m d) (gamOf m d) (betOf m d) 128 0 (vE m d main_v4) (vE m d main_v7)
    (vE m d main_v1) (vE m d main_v2) (vE m d main_v3) where
  ids y := by
    rw [stayE m d _ (by decide), stayD m d _ (by decide), stayC m d _ (by decide), stayB m d _ (by decide), show vA m d main_v4 = _ from opsA_v4 _]
    exact ids_at (seqOf m d) (by decide) _ y
  rows y := by
    rw [stayE m d _ (by decide), stayD m d _ (by decide), stayC m d _ (by decide), show vB m d main_v7 = _ from opsB_v7 _, gatherA]
    exact rows_at (R := 200) (N := 25600) (by decide) (seqOf m d) (m (tLoc d)) (by decide) _ _ _ y
  pos := by rw [stayE m d _ (by decide), stayD m d _ (by decide), stayC m d _ (by decide), stayB m d _ (by decide)]; exact opsA_v1 _
  gam := by rw [stayE m d _ (by decide), stayD m d _ (by decide), stayC m d _ (by decide), stayB m d _ (by decide)]; exact opsA_v2 _
  bet := by rw [stayE m d _ (by decide), stayD m d _ (by decide), stayC m d _ (by decide), stayB m d _ (by decide)]; exact opsA_v3 _
/-- The second normalization's inputs are its part of the tokens, of the rows, and the positions, scale and shift. -/
theorem inputsF : Inputs (seqOf m d) (m (tLoc d)) (posOf m d) (gamOf m d) (betOf m d) 320 128 (vF m d main_v8) (vF m d main_v11)
    (vF m d main_v1) (vF m d main_v2) (vF m d main_v3) where
  ids y := by
    rw [stayF m d _ (by decide), stayE m d _ (by decide), stayD m d _ (by decide), stayC m d _ (by decide), show vB m d main_v8 = _ from opsB_v8 _, seqB]
    exact ids_at (seqOf m d) (by decide) _ y
  rows y := by
    rw [stayF m d _ (by decide), stayE m d _ (by decide), stayD m d _ (by decide), show vC m d main_v11 = _ from opsC_v11 _, gatherB]
    exact rows_at (R := 500) (N := 64000) (by decide) (seqOf m d) (m (tLoc d)) (by decide) _ _ _ y
  pos := by rw [stayF m d _ (by decide), stayE m d _ (by decide), stayD m d _ (by decide), stayC m d _ (by decide), stayB m d _ (by decide)]; exact opsA_v1 _
  gam := by rw [stayF m d _ (by decide), stayE m d _ (by decide), stayD m d _ (by decide), stayC m d _ (by decide), stayB m d _ (by decide)]; exact opsA_v2 _
  bet := by rw [stayF m d _ (by decide), stayE m d _ (by decide), stayD m d _ (by decide), stayC m d _ (by decide), stayB m d _ (by decide)]; exact opsA_v3 _
/-- The third normalization's inputs are its part of the tokens, of the rows, and the positions, scale and shift. -/
theorem inputsG : Inputs (seqOf m d) (m (tLoc d)) (posOf m d) (gamOf m d) (betOf m d) 320 448 (vG m d main_v12) (vG m d main_v15)
    (vG m d main_v1) (vG m d main_v2) (vG m d main_v3) where
  ids y := by
    rw [stayG m d _ (by decide), stayF m d _ (by decide), stayE m d _ (by decide), stayD m d _ (by decide), show vC m d main_v12 = _ from opsC_v12 _, seqC]
    exact ids_at (seqOf m d) (by decide) _ y
  rows y := by
    rw [stayG m d _ (by decide), stayF m d _ (by decide), stayE m d _ (by decide), show vD m d main_v15 = _ from opsD_v15 _, gatherC]
    exact rows_at (R := 500) (N := 64000) (by decide) (seqOf m d) (m (tLoc d)) (by decide) _ _ _ y
  pos := by rw [stayG m d _ (by decide), stayF m d _ (by decide), stayE m d _ (by decide), stayD m d _ (by decide), stayC m d _ (by decide), stayB m d _ (by decide)]; exact opsA_v1 _
  gam := by rw [stayG m d _ (by decide), stayF m d _ (by decide), stayE m d _ (by decide), stayD m d _ (by decide), stayC m d _ (by decide), stayB m d _ (by decide)]; exact opsA_v2 _
  bet := by rw [stayG m d _ (by decide), stayF m d _ (by decide), stayE m d _ (by decide), stayD m d _ (by decide), stayC m d _ (by decide), stayB m d _ (by decide)]; exact opsA_v3 _
/-- The last normalization's inputs are its part of the tokens, of the rows, and the positions, scale and shift. -/
theorem inputsH : Inputs (seqOf m d) (m (tLoc d)) (posOf m d) (gamOf m d) (betOf m d) 256 768 (vH m d main_v16) (vH m d main_v19)
    (vH m d main_v1) (vH m d main_v2) (vH m d main_v3) where
  ids y := by
    rw [stayH m d _ (by decide), stayG m d _ (by decide), stayF m d _ (by decide), stayE m d _ (by decide), show vD m d main_v16 = _ from opsD_v16 _, seqD]
    exact ids_at (seqOf m d) (by decide) _ y
  rows y := by
    rw [stayH m d _ (by decide), stayG m d _ (by decide), stayF m d _ (by decide), show vE m d main_v19 = _ from opsE_v19 _, gatherD]
    exact rows_at (R := 400) (N := 51200) (by decide) (seqOf m d) (m (tLoc d)) (by decide) _ _ _ y
  pos := by rw [stayH m d _ (by decide), stayG m d _ (by decide), stayF m d _ (by decide), stayE m d _ (by decide), stayD m d _ (by decide), stayC m d _ (by decide), stayB m d _ (by decide)]; exact opsA_v1 _
  gam := by rw [stayH m d _ (by decide), stayG m d _ (by decide), stayF m d _ (by decide), stayE m d _ (by decide), stayD m d _ (by decide), stayC m d _ (by decide), stayB m d _ (by decide)]; exact opsA_v2 _
  bet := by rw [stayH m d _ (by decide), stayG m d _ (by decide), stayF m d _ (by decide), stayE m d _ (by decide), stayD m d _ (by decide), stayC m d _ (by decide), stayB m d _ (by decide)]; exact opsA_v3 _

/-! ## The end -/

/-- The result is `valueOf`. -/
theorem result_eq : gH m d main_v23 = valueOf m d := by
  rw [gH, put_self, show vH m d main_v23 = gG m d main_v22 from opsH_v23 _, gG, put_self, show vG m d main_v22 = gF m d main_v21 from opsG_v22 _,
    gF, put_self, show vF m d main_v21 = gE m d main_v20 from opsF_v21 _, gE, put_self]
  funext i
  have h : (i 0).val < 1024 := (i 0).isLt
  unfold patch
  split_ifs <;> first | rfl | omega

/-- The arguments are kept. -/
theorem arg_eq (r : Ref sig .tc) (h : r ∈ [main_arg0, main_arg1, main_arg2, main_arg3, main_arg4]) : gH m d r = m ((TC d).loc r) := by
  simp only [List.mem_cons, List.not_mem_nil, or_false] at h
  rcases h with rfl | rfl | rfl | rfl | rfl <;>
  rw [gH, put_ne _ _ _ _ (by decide), stayH m d _ (by decide), stayG m d _ (by decide), stayF m d _ (by decide), stayE m d _ (by decide), stayD m d _ (by decide),
    stayC m d _ (by decide), stayB m d _ (by decide), stayA m d _ (by decide)]

end Cert.Proof.Stages
end
-- ==== Proof.Task0.lean ====
/-
  The first gather call: each tile's task.
-/
module

public import proofs.«01_k».proof.Proof.Tasks

@[expose] public section
noncomputable section

namespace Cert.Proof.Task0

open Cert.KernelIdeal Cert.KernelIdeal.Gen
open Idealize.ShloMosaic Idealize.ShloMosaic.ValueIdx
open Idealize.ShloMosaic.SparseCore (S V)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Setup Cert.Proof.Trip Cert.Proof.Words Cert.Proof.Kernels Cert.Proof.Ops Cert.Proof.Tile Cert.Proof.Body Cert.Proof.Payload Cert.Proof.Tasks

variable {F : FTy → Type} [FloatOps F]

local notation "𝕄" => MT nD τ sig (HIx 4) (Elt F) ℕ UU ℕ

variable (m : (ℓ : Loc nD τ sig) → Buf (Elt F) ℓ)

/-- What a tile runs at this call. -/
theorem defs₀_vector0 (c : Fin τ.nSC) (s : Fin τ.nSub) :
    defs₀ (F := F) (.scVector c s) 0 ()
      = SparseCore.onTile hcore0 hsub0 (fun c s => cc0_gather_kernel (tile c s)
          (Memref.whole main_arg1_scv) (Memref.isWhole_whole _) (Memref.whole main_v5_scv) (Memref.isWhole_whole _) (Memref.whole main_v6_scv) (Memref.isWhole_whole _)
          (Memref.whole cc0_scoped0) (Memref.isWhole_whole _) cc0_scoped1 (Memref.whole cc0_scoped2) (Memref.isWhole_whole _) cc0_scoped3 cc0_scoped4 cc0_scoped5) ⟨⟩ c s := rfl

section call0
variable (d : Dev nD) (sc : Fin τ.nSC) (su : Fin τ.nSub)

/-- A tile's semaphores: two for the indices, two for the rows, one for the gather, and the rest. -/
theorem sems0 : ∃ Sx : sProp 𝕄, (ownSems0 (V d sc su) : sProp 𝕄) = iprop(semVal (V d sc su, .dma (slotSem cc0_scoped1 0)) 0 ∗ semVal (V d sc su, .dma (slotSem cc0_scoped1 1)) 0
      ∗ semVal (V d sc su, .dma (slotSem cc0_scoped3 0)) 0 ∗ semVal (V d sc su, .dma (slotSem cc0_scoped3 1)) 0 ∗ semVal (V d sc su, .dma cc0_scoped4.sem) 0 ∗ Sx) :=
  ownSems5 (V d sc su) rfl _ _ _ _ _ (by decide) (by decide)
/-- A tile's buffers: the indices', the rows', and the rest. -/
theorem bufs0 : ∃ Bx : sProp 𝕄, (ownBufs (V d sc su) : sProp 𝕄) = iprop((∃ f, (V d sc su).loc cc0_scoped0 ↦{fullShare} f) ∗ (∃ f, (V d sc su).loc cc0_scoped2 ↦{fullShare} f) ∗ Bx) :=
  ownBufs2 d sc su cc0_scoped0 cc0_scoped2 (by decide) rfl rfl
/-- The call's tokens name rows of the table. -/
theorem lt0 (hm : TokensOK m) : ∀ x, BitVec.toNat (w := 32) ((Memref.whole main_v5_scv).view.read (Elt F) (idsOf m d 0) x) < 100000 := fun x => hm d _
/-- A block of the call's result is what the gather brings. -/
theorem blk0 (hm : TokensOK m) (r : ℕ) (hr : r < 200) (hb : 128 * r + 128 ≤ 25600) :
    (oBlk (N := 25600) (Memref.whole main_v6_scv) r hb).view.read (Elt F) (rowsOf m d 0)
      = Ops.pay (R := 200) d sc su (Memref.whole main_arg1_scv) (Memref.whole main_v5_scv) (idsOf m d 0) (m (tLoc d)) (inRange d sc su _ _ (lt0 m d hm)) r hr :=
  gathered_blk (F := F) (R := 200) (N := 25600) d sc su (Memref.whole main_arg1_scv) (Memref.whole main_v5_scv)
    (Memref.whole main_v6_scv) (idsOf m d 0) (m (tLoc d)) (rowsOf m d 0) (by decide) (lt0 m d hm) rfl r hr hb
/-- A block's rows together are the block's credit. -/
theorem cr0 : ∀ σ : Fin 2, ∑ j, ((gSlot (Memref.whole cc0_scoped2) σ).slice (S128x128.rowRect gathers_S100000x128_S128x128.axis' j) (S128x128.stride_rowRect gathers_S100000x128_S128x128.axis' j)).view.dmaCredit
      = (gSlot (Memref.whole cc0_scoped2) σ).view.dmaCredit := by decide +kernel
/-- A tile's part of the arrays, as the run of a body takes it. -/
theorem part0_eq (f : Buf (Elt F) (rLoc d 0)) : part m d 0 f (tileIx sc su)
    = Body.Part (R := 200) (N := 25600) d sc su (Memref.whole main_arg1_scv) (Memref.whole main_v5_scv) (Memref.whole main_v6_scv) (idsOf m d 0) (m (tLoc d))
        (share (tileIx sc su)) (share (tileIx sc su)) (rowCnt 8 7 6 (tileNo sc su)) (rowBase 8 6 (tileNo sc su)) f := by
  unfold part Body.Part; rfl
set_option maxHeartbeats 4000000 in
/-- A tile's task: from its part of the arrays, its own buffers and cells, the run returns them with its rows gathered. -/
theorem task0 (hm : TokensOK m) (O : CellTallies nD τ sig (HIx 4)) (W : Waits sig (HIx 4)) (hO : ∀ g, O g none = 0) :
    iprop(levAts (K (F := F)).L (K (F := F)).lev ∗ emp ∗ part m d 0 (m (rLoc d 0)) (tileIx sc su)
        ∗ scopedBufs (V d sc su) ∗ scopedSems0 (V d sc su) ∗ owes (V d sc su) O W)
      ⊢ wp frame (wpE (defs₀ (F := F)) 𝒱₀ (V d sc su) none) Set.univ
          (cc0_gather_kernel (F := F) (tile sc su)
            (Memref.whole main_arg1_scv) (Memref.isWhole_whole _) (Memref.whole main_v5_scv) (Memref.isWhole_whole _) (Memref.whole main_v6_scv) (Memref.isWhole_whole _)
            (Memref.whole cc0_scoped0) (Memref.isWhole_whole _) cc0_scoped1 (Memref.whole cc0_scoped2) (Memref.isWhole_whole _) cc0_scoped3 cc0_scoped4 cc0_scoped5)
          fun _ => iprop(part m d 0 (rowsOf m d 0) (tileIx sc su) ∗ scopedBufs (V d sc su) ∗ scopedSems0 (V d sc su)
            ∗ ∃ W', ⌜∀ p ∈ W', p ∈ W ∨ p.2 = none⌝ ∗ owes (V d sc su) O W') := by
  obtain ⟨Sx, hS⟩ := sems0 (F := F) d sc su
  obtain ⟨Bx, hB⟩ := bufs0 (F := F) d sc su
  rw [part0_eq, part0_eq]
  obtain ⟨b2, e⟩ : ∃ b2, cc0_gather_kernel (F := F) (tile sc su)
            (Memref.whole main_arg1_scv) (Memref.isWhole_whole _) (Memref.whole main_v5_scv) (Memref.isWhole_whole _) (Memref.whole main_v6_scv) (Memref.isWhole_whole _)
            (Memref.whole cc0_scoped0) (Memref.isWhole_whole _) cc0_scoped1 (Memref.whole cc0_scoped2) (Memref.isWhole_whole _) cc0_scoped3 cc0_scoped4 cc0_scoped5
      = gather (F := F) (call0 (tile sc su)) (Memref.whole main_arg1_scv) (Memref.whole main_v5_scv) (Memref.whole main_v6_scv)
          (Memref.whole cc0_scoped0) cc0_scoped1 (Memref.whole cc0_scoped2) cc0_scoped3 cc0_scoped4 b2 := ⟨_, kernel0_eq _ _ _ _ _ _ _ _ _ _ _ _ _ _ _⟩
  rw [e]
  generalize hn : rowCnt 8 7 6 (tileNo sc su) = n
  generalize hb : rowBase 8 6 (tileNo sc su) = base
  have hok := call0_ok sc su
  rw [hn, hb] at hok
  exact body_wp (F := F) (R := 200) (N := 25600) d sc su (Memref.whole main_arg1_scv) (Memref.whole main_v5_scv) (Memref.whole main_v6_scv)
    (Memref.whole cc0_scoped0) cc0_scoped1 (Memref.whole cc0_scoped2) cc0_scoped3 cc0_scoped4 (idsOf m d 0) (m (tLoc d)) (m (rLoc d 0)) (rowsOf m d 0)
    (share (tileIx sc su)) (share (tileIx sc su)) O W (inRange d sc su _ _ (lt0 m d hm)) _ _ facts (View.set_whole _) (View.set_whole _) hB hS hO
    _ hok (blk0 m d sc su hm) cr0
end call0

set_option maxRecDepth 16384 in
set_option maxHeartbeats 4000000 in
/-- The task as the launch asks for it. -/
theorem tileObl0 (hm : TokensOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  exact (task0 m d ((K (F := F)).core 0 c) ((K (F := F)).sub 0 i) hm O W hO).trans (wp_mono frame _ _ fun _ => obl_post)

end Cert.Proof.Task0
end
-- ==== Proof.Task1.lean ====
/-
  The second gather call: each tile's task.
-/
module

public import proofs.«01_k».proof.Proof.Tasks

@[expose] public section
noncomputable section

namespace Cert.Proof.Task1

open Cert.KernelIdeal Cert.KernelIdeal.Gen
open Idealize.ShloMosaic Idealize.ShloMosaic.ValueIdx
open Idealize.ShloMosaic.SparseCore (S V)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Setup Cert.Proof.Trip Cert.Proof.Words Cert.Proof.Kernels Cert.Proof.Ops Cert.Proof.Tile Cert.Proof.Body Cert.Proof.Payload Cert.Proof.Tasks

variable {F : FTy → Type} [FloatOps F]

local notation "𝕄" => MT nD τ sig (HIx 4) (Elt F) ℕ UU ℕ

variable (m : (ℓ : Loc nD τ sig) → Buf (Elt F) ℓ)

/-- What a tile runs at this call. -/
theorem defs₀_vector1 (c : Fin τ.nSC) (s : Fin τ.nSub) :
    defs₀ (F := F) (.scVector c s) 1 ()
      = SparseCore.onTile hcore1 hsub1 (fun c s => cc1_gather_kernel (tile c s)
          (Memref.whole main_arg1_scv) (Memref.isWhole_whole _) (Memref.whole main_v9_scv) (Memref.isWhole_whole _) (Memref.whole main_v10_scv) (Memref.isWhole_whole _)
          (Memref.whole cc1_scoped0) (Memref.isWhole_whole _) cc1_scoped1 (Memref.whole cc1_scoped2) (Memref.isWhole_whole _) cc1_scoped3 cc1_scoped4 cc1_scoped5) ⟨⟩ c s := rfl

section call1
variable (d : Dev nD) (sc : Fin τ.nSC) (su : Fin τ.nSub)

/-- A tile's semaphores: two for the indices, two for the rows, one for the gather, and the rest. -/
theorem sems1 : ∃ Sx : sProp 𝕄, (ownSems0 (V d sc su) : sProp 𝕄) = iprop(semVal (V d sc su, .dma (slotSem cc1_scoped1 0)) 0 ∗ semVal (V d sc su, .dma (slotSem cc1_scoped1 1)) 0
      ∗ semVal (V d sc su, .dma (slotSem cc1_scoped3 0)) 0 ∗ semVal (V d sc su, .dma (slotSem cc1_scoped3 1)) 0 ∗ semVal (V d sc su, .dma cc1_scoped4.sem) 0 ∗ Sx) :=
  ownSems5 (V d sc su) rfl _ _ _ _ _ (by decide) (by decide)
/-- A tile's buffers: the indices', the rows', and the rest. -/
theorem bufs1 : ∃ Bx : sProp 𝕄, (ownBufs (V d sc su) : sProp 𝕄) = iprop((∃ f, (V d sc su).loc cc1_scoped0 ↦{fullShare} f) ∗ (∃ f, (V d sc su).loc cc1_scoped2 ↦{fullShare} f) ∗ Bx) :=
  ownBufs2 d sc su cc1_scoped0 cc1_scoped2 (by decide) rfl rfl
/-- The call's tokens name rows of the table. -/
theorem lt1 (hm : TokensOK m) : ∀ x, BitVec.toNat (w := 32) ((Memref.whole main_v9_scv).view.read (Elt F) (idsOf m d 1) x) < 100000 := fun x => hm d _
/-- A block of the call's result is what the gather brings. -/
theorem blk1 (hm : TokensOK m) (r : ℕ) (hr : r < 500) (hb : 128 * r + 128 ≤ 64000) :
    (oBlk (N := 64000) (Memref.whole main_v10_scv) r hb).view.read (Elt F) (rowsOf m d 1)
      = Ops.pay (R := 500) d sc su (Memref.whole main_arg1_scv) (Memref.whole main_v9_scv) (idsOf m d 1) (m (tLoc d)) (inRange d sc su _ _ (lt1 m d hm)) r hr :=
  gathered_blk (F := F) (R := 500) (N := 64000) d sc su (Memref.whole main_arg1_scv) (Memref.whole main_v9_scv)
    (Memref.whole main_v10_scv) (idsOf m d 1) (m (tLoc d)) (rowsOf m d 1) (by decide) (lt1 m d hm) rfl r hr hb
/-- A block's rows together are the block's credit. -/
theorem cr1 : ∀ σ : Fin 2, ∑ j, ((gSlot (Memref.whole cc1_scoped2) σ).slice (S128x128.rowRect gathers_S100000x128_S128x128.axis' j) (S128x128.stride_rowRect gathers_S100000x128_S128x128.axis' j)).view.dmaCredit
      = (gSlot (Memref.whole cc1_scoped2) σ).view.dmaCredit := by decide +kernel
/-- A tile's part of the arrays, as the run of a body takes it. -/
theorem part1_eq (f : Buf (Elt F) (rLoc d 1)) : part m d 1 f (tileIx sc su)
    = Body.Part (R := 500) (N := 64000) d sc su (Memref.whole main_arg1_scv) (Memref.whole main_v9_scv) (Memref.whole main_v10_scv) (idsOf m d 1) (m (tLoc d))
        (share (tileIx sc su)) (share (tileIx sc su)) (rowCnt 20 16 15 (tileNo sc su)) (rowBase 20 15 (tileNo sc su)) f := by
  unfold part Body.Part; rfl
set_option maxHeartbeats 4000000 in
/-- A tile's task: from its part of the arrays, its own buffers and cells, the run returns them with its rows gathered. -/
theorem task1 (hm : TokensOK m) (O : CellTallies nD τ sig (HIx 4)) (W : Waits sig (HIx 4)) (hO : ∀ g, O g none = 0) :
    iprop(levAts (K (F := F)).L (K (F := F)).lev ∗ emp ∗ part m d 1 (m (rLoc d 1)) (tileIx sc su)
        ∗ scopedBufs (V d sc su) ∗ scopedSems0 (V d sc su) ∗ owes (V d sc su) O W)
      ⊢ wp frame (wpE (defs₀ (F := F)) 𝒱₀ (V d sc su) none) Set.univ
          (cc1_gather_kernel (F := F) (tile sc su)
            (Memref.whole main_arg1_scv) (Memref.isWhole_whole _) (Memref.whole main_v9_scv) (Memref.isWhole_whole _) (Memref.whole main_v10_scv) (Memref.isWhole_whole _)
            (Memref.whole cc1_scoped0) (Memref.isWhole_whole _) cc1_scoped1 (Memref.whole cc1_scoped2) (Memref.isWhole_whole _) cc1_scoped3 cc1_scoped4 cc1_scoped5)
          fun _ => iprop(part m d 1 (rowsOf m d 1) (tileIx sc su) ∗ scopedBufs (V d sc su) ∗ scopedSems0 (V d sc su)
            ∗ ∃ W', ⌜∀ p ∈ W', p ∈ W ∨ p.2 = none⌝ ∗ owes (V d sc su) O W') := by
  obtain ⟨Sx, hS⟩ := sems1 (F := F) d sc su
  obtain ⟨Bx, hB⟩ := bufs1 (F := F) d sc su
  rw [part1_eq, part1_eq]
  obtain ⟨b2, e⟩ : ∃ b2, cc1_gather_kernel (F := F) (tile sc su)
            (Memref.whole main_arg1_scv) (Memref.isWhole_whole _) (Memref.whole main_v9_scv) (Memref.isWhole_whole _) (Memref.whole main_v10_scv) (Memref.isWhole_whole _)
            (Memref.whole cc1_scoped0) (Memref.isWhole_whole _) cc1_scoped1 (Memref.whole cc1_scoped2) (Memref.isWhole_whole _) cc1_scoped3 cc1_scoped4 cc1_scoped5
      = gather (F := F) (call1 (tile sc su)) (Memref.whole main_arg1_scv) (Memref.whole main_v9_scv) (Memref.whole main_v10_scv)
          (Memref.whole cc1_scoped0) cc1_scoped1 (Memref.whole cc1_scoped2) cc1_scoped3 cc1_scoped4 b2 := ⟨_, kernel1_eq _ _ _ _ _ _ _ _ _ _ _ _ _ _ _⟩
  rw [e]
  generalize hn : rowCnt 20 16 15 (tileNo sc su) = n
  generalize hb : rowBase 20 15 (tileNo sc su) = base
  have hok := call1_ok sc su
  rw [hn, hb] at hok
  exact body_wp (F := F) (R := 500) (N := 64000) d sc su (Memref.whole main_arg1_scv) (Memref.whole main_v9_scv) (Memref.whole main_v10_scv)
    (Memref.whole cc1_scoped0) cc1_scoped1 (Memref.whole cc1_scoped2) cc1_scoped3 cc1_scoped4 (idsOf m d 1) (m (tLoc d)) (m (rLoc d 1)) (rowsOf m d 1)
    (share (tileIx sc su)) (share (tileIx sc su)) O W (inRange d sc su _ _ (lt1 m d hm)) _ _ facts (View.set_whole _) (View.set_whole _) hB hS hO
    _ hok (blk1 m d sc su hm) cr1
end call1

set_option maxRecDepth 16384 in
set_option maxHeartbeats 4000000 in
/-- The task as the launch asks for it. -/
theorem tileObl1 (hm : TokensOK m) : (K (F := F)).TileObl (D (F := F)) 𝒱 (P m) v₀ 1 := by
  intro d c i O W hO _ _
  simp only [show (P m).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_vector1]; simp only [SparseCore.onTile, hci, and_self, ↓reduceDIte]
  exact (task1 m d ((K (F := F)).core 1 c) ((K (F := F)).sub 1 i) hm O W hO).trans (wp_mono frame _ _ fun _ => obl_post)

end Cert.Proof.Task1
end
-- ==== Proof.Task2.lean ====
/-
  The third gather call: each tile's task.
-/
module

public import proofs.«01_k».proof.Proof.Tasks

@[expose] public section
noncomputable section

namespace Cert.Proof.Task2

open Cert.KernelIdeal Cert.KernelIdeal.Gen
open Idealize.ShloMosaic Idealize.ShloMosaic.ValueIdx
open Idealize.ShloMosaic.SparseCore (S V)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Setup Cert.Proof.Trip Cert.Proof.Words Cert.Proof.Kernels Cert.Proof.Ops Cert.Proof.Tile Cert.Proof.Body Cert.Proof.Payload Cert.Proof.Tasks

variable {F : FTy → Type} [FloatOps F]

local notation "𝕄" => MT nD τ sig (HIx 4) (Elt F) ℕ UU ℕ

variable (m : (ℓ : Loc nD τ sig) → Buf (Elt F) ℓ)

/-- What a tile runs at this call. -/
theorem defs₀_vector2 (c : Fin τ.nSC) (s : Fin τ.nSub) :
    defs₀ (F := F) (.scVector c s) 2 ()
      = SparseCore.onTile hcore2 hsub2 (fun c s => cc2_gather_kernel (tile c s)
          (Memref.whole main_arg1_scv) (Memref.isWhole_whole _) (Memref.whole main_v13_scv) (Memref.isWhole_whole _) (Memref.whole main_v14_scv) (Memref.isWhole_whole _)
          (Memref.whole cc2_scoped0) (Memref.isWhole_whole _) cc2_scoped1 (Memref.whole cc2_scoped2) (Memref.isWhole_whole _) cc2_scoped3 cc2_scoped4 cc2_scoped5) ⟨⟩ c s := rfl

section call2
variable (d : Dev nD) (sc : Fin τ.nSC) (su : Fin τ.nSub)

/-- A tile's semaphores: two for the indices, two for the rows, one for the gather, and the rest. -/
theorem sems2 : ∃ Sx : sProp 𝕄, (ownSems0 (V d sc su) : sProp 𝕄) = iprop(semVal (V d sc su, .dma (slotSem cc2_scoped1 0)) 0 ∗ semVal (V d sc su, .dma (slotSem cc2_scoped1 1)) 0
      ∗ semVal (V d sc su, .dma (slotSem cc2_scoped3 0)) 0 ∗ semVal (V d sc su, .dma (slotSem cc2_scoped3 1)) 0 ∗ semVal (V d sc su, .dma cc2_scoped4.sem) 0 ∗ Sx) :=
  ownSems5 (V d sc su) rfl _ _ _ _ _ (by decide) (by decide)
/-- A tile's buffers: the indices', the rows', and the rest. -/
theorem bufs2 : ∃ Bx : sProp 𝕄, (ownBufs (V d sc su) : sProp 𝕄) = iprop((∃ f, (V d sc su).loc cc2_scoped0 ↦{fullShare} f) ∗ (∃ f, (V d sc su).loc cc2_scoped2 ↦{fullShare} f) ∗ Bx) :=
  ownBufs2 d sc su cc2_scoped0 cc2_scoped2 (by decide) rfl rfl
/-- The call's tokens name rows of the table. -/
theorem lt2 (hm : TokensOK m) : ∀ x, BitVec.toNat (w := 32) ((Memref.whole main_v13_scv).view.read (Elt F) (idsOf m d 2) x) < 100000 := fun x => hm d _
/-- A block of the call's result is what the gather brings. -/
theorem blk2 (hm : TokensOK m) (r : ℕ) (hr : r < 500) (hb : 128 * r + 128 ≤ 64000) :
    (oBlk (N := 64000) (Memref.whole main_v14_scv) r hb).view.read (Elt F) (rowsOf m d 2)
      = Ops.pay (R := 500) d sc su (Memref.whole main_arg1_scv) (Memref.whole main_v13_scv) (idsOf m d 2) (m (tLoc d)) (inRange d sc su _ _ (lt2 m d hm)) r hr :=
  gathered_blk (F := F) (R := 500) (N := 64000) d sc su (Memref.whole main_arg1_scv) (Memref.whole main_v13_scv)
    (Memref.whole main_v14_scv) (idsOf m d 2) (m (tLoc d)) (rowsOf m d 2) (by decide) (lt2 m d hm) rfl r hr hb
/-- A block's rows together are the block's credit. -/
theorem cr2 : ∀ σ : Fin 2, ∑ j, ((gSlot (Memref.whole cc2_scoped2) σ).slice (S128x128.rowRect gathers_S100000x128_S128x128.axis' j) (S128x128.stride_rowRect gathers_S100000x128_S128x128.axis' j)).view.dmaCredit
      = (gSlot (Memref.whole cc2_scoped2) σ).view.dmaCredit := by decide +kernel
/-- A tile's part of the arrays, as the run of a body takes it. -/
theorem part2_eq (f : Buf (Elt F) (rLoc d 2)) : part m d 2 f (tileIx sc su)
    = Body.Part (R := 500) (N := 64000) d sc su (Memref.whole main_arg1_scv) (Memref.whole main_v13_scv) (Memref.whole main_v14_scv) (idsOf m d 2) (m (tLoc d))
        (share (tileIx sc su)) (share (tileIx sc su)) (rowCnt 20 16 15 (tileNo sc su)) (rowBase 20 15 (tileNo sc su)) f := by
  unfold part Body.Part; rfl
set_option maxHeartbeats 4000000 in
/-- A tile's task: from its part of the arrays, its own buffers and cells, the run returns them with its rows gathered. -/
theorem task2 (hm : TokensOK m) (O : CellTallies nD τ sig (HIx 4)) (W : Waits sig (HIx 4)) (hO : ∀ g, O g none = 0) :
    iprop(levAts (K (F := F)).L (K (F := F)).lev ∗ emp ∗ part m d 2 (m (rLoc d 2)) (tileIx sc su)
        ∗ scopedBufs (V d sc su) ∗ scopedSems0 (V d sc su) ∗ owes (V d sc su) O W)
      ⊢ wp frame (wpE (defs₀ (F := F)) 𝒱₀ (V d sc su) none) Set.univ
          (cc2_gather_kernel (F := F) (tile sc su)
            (Memref.whole main_arg1_scv) (Memref.isWhole_whole _) (Memref.whole main_v13_scv) (Memref.isWhole_whole _) (Memref.whole main_v14_scv) (Memref.isWhole_whole _)
            (Memref.whole cc2_scoped0) (Memref.isWhole_whole _) cc2_scoped1 (Memref.whole cc2_scoped2) (Memref.isWhole_whole _) cc2_scoped3 cc2_scoped4 cc2_scoped5)
          fun _ => iprop(part m d 2 (rowsOf m d 2) (tileIx sc su) ∗ scopedBufs (V d sc su) ∗ scopedSems0 (V d sc su)
            ∗ ∃ W', ⌜∀ p ∈ W', p ∈ W ∨ p.2 = none⌝ ∗ owes (V d sc su) O W') := by
  obtain ⟨Sx, hS⟩ := sems2 (F := F) d sc su
  obtain ⟨Bx, hB⟩ := bufs2 (F := F) d sc su
  rw [part2_eq, part2_eq]
  obtain ⟨b2, e⟩ : ∃ b2, cc2_gather_kernel (F := F) (tile sc su)
            (Memref.whole main_arg1_scv) (Memref.isWhole_whole _) (Memref.whole main_v13_scv) (Memref.isWhole_whole _) (Memref.whole main_v14_scv) (Memref.isWhole_whole _)
            (Memref.whole cc2_scoped0) (Memref.isWhole_whole _) cc2_scoped1 (Memref.whole cc2_scoped2) (Memref.isWhole_whole _) cc2_scoped3 cc2_scoped4 cc2_scoped5
      = gather (F := F) (call2 (tile sc su)) (Memref.whole main_arg1_scv) (Memref.whole main_v13_scv) (Memref.whole main_v14_scv)
          (Memref.whole cc2_scoped0) cc2_scoped1 (Memref.whole cc2_scoped2) cc2_scoped3 cc2_scoped4 b2 := ⟨_, kernel2_eq _ _ _ _ _ _ _ _ _ _ _ _ _ _ _⟩
  rw [e]
  generalize hn : rowCnt 20 16 15 (tileNo sc su) = n
  generalize hb : rowBase 20 15 (tileNo sc su) = base
  have hok := call2_ok sc su
  rw [hn, hb] at hok
  exact body_wp (F := F) (R := 500) (N := 64000) d sc su (Memref.whole main_arg1_scv) (Memref.whole main_v13_scv) (Memref.whole main_v14_scv)
    (Memref.whole cc2_scoped0) cc2_scoped1 (Memref.whole cc2_scoped2) cc2_scoped3 cc2_scoped4 (idsOf m d 2) (m (tLoc d)) (m (rLoc d 2)) (rowsOf m d 2)
    (share (tileIx sc su)) (share (tileIx sc su)) O W (inRange d sc su _ _ (lt2 m d hm)) _ _ facts (View.set_whole _) (View.set_whole _) hB hS hO
    _ hok (blk2 m d sc su hm) cr2
end call2

set_option maxRecDepth 16384 in
set_option maxHeartbeats 4000000 in
/-- The task as the launch asks for it. -/
theorem tileObl2 (hm : TokensOK m) : (K (F := F)).TileObl (D (F := F)) 𝒱 (P m) v₀ 2 := by
  intro d c i O W hO _ _
  simp only [show (P m).ox = fun _ _ => 0 from rfl, add_zero]
  have hci : ((K (F := F)).core 2 c).val < grid2.bound 0 ∧ ((K (F := F)).sub 2 i).val < grid2.bound 1 := ⟨c.isLt, i.isLt⟩
  change _ ⊢ wp _ _ _ (Pipeline.liftProg (defs₀ (F := F) (.scVector ((K (F := F)).core 2 c) ((K (F := F)).sub 2 i)) 2 ())) _
  refine BI.Entails.trans ?_ (Pipeline.wp_liftProg (D (F := F)) (Pipeline.defs_kernel pcfgs defs₀) 𝒱₀ _ Set.univ none _ _)
  rw [defs₀_vector2]; simp only [SparseCore.onTile, hci, and_self, ↓reduceDIte]
  exact (task2 m d ((K (F := F)).core 2 c) ((K (F := F)).sub 2 i) hm O W hO).trans (wp_mono frame _ _ fun _ => obl_post)

end Cert.Proof.Task2
end
-- ==== Proof.Task3.lean ====
/-
  The fourth gather call: each tile's task.
-/
module

public import proofs.«01_k».proof.Proof.Tasks

@[expose] public section
noncomputable section

namespace Cert.Proof.Task3

open Cert.KernelIdeal Cert.KernelIdeal.Gen
open Idealize.ShloMosaic Idealize.ShloMosaic.ValueIdx
open Idealize.ShloMosaic.SparseCore (S V)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Setup Cert.Proof.Trip Cert.Proof.Words Cert.Proof.Kernels Cert.Proof.Ops Cert.Proof.Tile Cert.Proof.Body Cert.Proof.Payload Cert.Proof.Tasks

variable {F : FTy → Type} [FloatOps F]

local notation "𝕄" => MT nD τ sig (HIx 4) (Elt F) ℕ UU ℕ

variable (m : (ℓ : Loc nD τ sig) → Buf (Elt F) ℓ)

/-- What a tile runs at this call. -/
theorem defs₀_vector3 (c : Fin τ.nSC) (s : Fin τ.nSub) :
    defs₀ (F := F) (.scVector c s) 3 ()
      = SparseCore.onTile hcore3 hsub3 (fun c s => cc3_gather_kernel (tile c s)
          (Memref.whole main_arg1_scv) (Memref.isWhole_whole _) (Memref.whole main_v17_scv) (Memref.isWhole_whole _) (Memref.whole main_v18_scv) (Memref.isWhole_whole _)
          (Memref.whole cc3_scoped0) (Memref.isWhole_whole _) cc3_scoped1 (Memref.whole cc3_scoped2) (Memref.isWhole_whole _) cc3_scoped3 cc3_scoped4 cc3_scoped5) ⟨⟩ c s := rfl

section call3
variable (d : Dev nD) (sc : Fin τ.nSC) (su : Fin τ.nSub)

/-- A tile's semaphores: two for the indices, two for the rows, one for the gather, and the rest. -/
theorem sems3 : ∃ Sx : sProp 𝕄, (ownSems0 (V d sc su) : sProp 𝕄) = iprop(semVal (V d sc su, .dma (slotSem cc3_scoped1 0)) 0 ∗ semVal (V d sc su, .dma (slotSem cc3_scoped1 1)) 0
      ∗ semVal (V d sc su, .dma (slotSem cc3_scoped3 0)) 0 ∗ semVal (V d sc su, .dma (slotSem cc3_scoped3 1)) 0 ∗ semVal (V d sc su, .dma cc3_scoped4.sem) 0 ∗ Sx) :=
  ownSems5 (V d sc su) rfl _ _ _ _ _ (by decide) (by decide)
/-- A tile's buffers: the indices', the rows', and the rest. -/
theorem bufs3 : ∃ Bx : sProp 𝕄, (ownBufs (V d sc su) : sProp 𝕄) = iprop((∃ f, (V d sc su).loc cc3_scoped0 ↦{fullShare} f) ∗ (∃ f, (V d sc su).loc cc3_scoped2 ↦{fullShare} f) ∗ Bx) :=
  ownBufs2 d sc su cc3_scoped0 cc3_scoped2 (by decide) rfl rfl
/-- The call's tokens name rows of the table. -/
theorem lt3 (hm : TokensOK m) : ∀ x, BitVec.toNat (w := 32) ((Memref.whole main_v17_scv).view.read (Elt F) (idsOf m d 3) x) < 100000 := fun x => hm d _
/-- A block of the call's result is what the gather brings. -/
theorem blk3 (hm : TokensOK m) (r : ℕ) (hr : r < 400) (hb : 128 * r + 128 ≤ 51200) :
    (oBlk (N := 51200) (Memref.whole main_v18_scv) r hb).view.read (Elt F) (rowsOf m d 3)
      = Ops.pay (R := 400) d sc su (Memref.whole main_arg1_scv) (Memref.whole main_v17_scv) (idsOf m d 3) (m (tLoc d)) (inRange d sc su _ _ (lt3 m d hm)) r hr :=
  gathered_blk (F := F) (R := 400) (N := 51200) d sc su (Memref.whole main_arg1_scv) (Memref.whole main_v17_scv)
    (Memref.whole main_v18_scv) (idsOf m d 3) (m (tLoc d)) (rowsOf m d 3) (by decide) (lt3 m d hm) rfl r hr hb
/-- A block's rows together are the block's credit. -/
theorem cr3 : ∀ σ : Fin 2, ∑ j, ((gSlot (Memref.whole cc3_scoped2) σ).slice (S128x128.rowRect gathers_S100000x128_S128x128.axis' j) (S128x128.stride_rowRect gathers_S100000x128_S128x128.axis' j)).view.dmaCredit
      = (gSlot (Memref.whole cc3_scoped2) σ).view.dmaCredit := by decide +kernel
/-- A tile's part of the arrays, as the run of a body takes it. -/
theorem part3_eq (f : Buf (Elt F) (rLoc d 3)) : part m d 3 f (tileIx sc su)
    = Body.Part (R := 400) (N := 51200) d sc su (Memref.whole main_arg1_scv) (Memref.whole main_v17_scv) (Memref.whole main_v18_scv) (idsOf m d 3) (m (tLoc d))
        (share (tileIx sc su)) (share (tileIx sc su)) (rowCnt 16 13 12 (tileNo sc su)) (rowBase 16 12 (tileNo sc su)) f := by
  unfold part Body.Part; rfl
set_option maxHeartbeats 4000000 in
/-- A tile's task: from its part of the arrays, its own buffers and cells, the run returns them with its rows gathered. -/
theorem task3 (hm : TokensOK m) (O : CellTallies nD τ sig (HIx 4)) (W : Waits sig (HIx 4)) (hO : ∀ g, O g none = 0) :
    iprop(levAts (K (F := F)).L (K (F := F)).lev ∗ emp ∗ part m d 3 (m (rLoc d 3)) (tileIx sc su)
        ∗ scopedBufs (V d sc su) ∗ scopedSems0 (V d sc su) ∗ owes (V d sc su) O W)
      ⊢ wp frame (wpE (defs₀ (F := F)) 𝒱₀ (V d sc su) none) Set.univ
          (cc3_gather_kernel (F := F) (tile sc su)
            (Memref.whole main_arg1_scv) (Memref.isWhole_whole _) (Memref.whole main_v17_scv) (Memref.isWhole_whole _) (Memref.whole main_v18_scv) (Memref.isWhole_whole _)
            (Memref.whole cc3_scoped0) (Memref.isWhole_whole _) cc3_scoped1 (Memref.whole cc3_scoped2) (Memref.isWhole_whole _) cc3_scoped3 cc3_scoped4 cc3_scoped5)
          fun _ => iprop(part m d 3 (rowsOf m d 3) (tileIx sc su) ∗ scopedBufs (V d sc su) ∗ scopedSems0 (V d sc su)
            ∗ ∃ W', ⌜∀ p ∈ W', p ∈ W ∨ p.2 = none⌝ ∗ owes (V d sc su) O W') := by
  obtain ⟨Sx, hS⟩ := sems3 (F := F) d sc su
  obtain ⟨Bx, hB⟩ := bufs3 (F := F) d sc su
  rw [part3_eq, part3_eq]
  obtain ⟨b2, e⟩ : ∃ b2, cc3_gather_kernel (F := F) (tile sc su)
            (Memref.whole main_arg1_scv) (Memref.isWhole_whole _) (Memref.whole main_v17_scv) (Memref.isWhole_whole _) (Memref.whole main_v18_scv) (Memref.isWhole_whole _)
            (Memref.whole cc3_scoped0) (Memref.isWhole_whole _) cc3_scoped1 (Memref.whole cc3_scoped2) (Memref.isWhole_whole _) cc3_scoped3 cc3_scoped4 cc3_scoped5
      = gather (F := F) (call3 (tile sc su)) (Memref.whole main_arg1_scv) (Memref.whole main_v17_scv) (Memref.whole main_v18_scv)
          (Memref.whole cc3_scoped0) cc3_scoped1 (Memref.whole cc3_scoped2) cc3_scoped3 cc3_scoped4 b2 := ⟨_, kernel3_eq _ _ _ _ _ _ _ _ _ _ _ _ _ _ _⟩
  rw [e]
  generalize hn : rowCnt 16 13 12 (tileNo sc su) = n
  generalize hb : rowBase 16 12 (tileNo sc su) = base
  have hok := call3_ok sc su
  rw [hn, hb] at hok
  exact body_wp (F := F) (R := 400) (N := 51200) d sc su (Memref.whole main_arg1_scv) (Memref.whole main_v17_scv) (Memref.whole main_v18_scv)
    (Memref.whole cc3_scoped0) cc3_scoped1 (Memref.whole cc3_scoped2) cc3_scoped3 cc3_scoped4 (idsOf m d 3) (m (tLoc d)) (m (rLoc d 3)) (rowsOf m d 3)
    (share (tileIx sc su)) (share (tileIx sc su)) O W (inRange d sc su _ _ (lt3 m d hm)) _ _ facts (View.set_whole _) (View.set_whole _) hB hS hO
    _ hok (blk3 m d sc su hm) cr3
end call3

set_option maxRecDepth 16384 in
set_option maxHeartbeats 4000000 in
/-- The task as the launch asks for it. -/
theorem tileObl3 (hm : TokensOK m) : (K (F := F)).TileObl (D (F := F)) 𝒱 (P m) v₀ 3 := by
  intro d c i O W hO _ _
  simp only [show (P m).ox = fun _ _ => 0 from rfl, add_zero]
  have hci : ((K (F := F)).core 3 c).val < grid3.bound 0 ∧ ((K (F := F)).sub 3 i).val < grid3.bound 1 := ⟨c.isLt, i.isLt⟩
  change _ ⊢ wp _ _ _ (Pipeline.liftProg (defs₀ (F := F) (.scVector ((K (F := F)).core 3 c) ((K (F := F)).sub 3 i)) 3 ())) _
  refine BI.Entails.trans ?_ (Pipeline.wp_liftProg (D (F := F)) (Pipeline.defs_kernel pcfgs defs₀) 𝒱₀ _ Set.univ none _ _)
  rw [defs₀_vector3]; simp only [SparseCore.onTile, hci, and_self, ↓reduceDIte]
  exact (task3 m d ((K (F := F)).core 3 c) ((K (F := F)).sub 3 i) hm O W hO).trans (wp_mono frame _ _ fun _ => obl_post)

end Cert.Proof.Task3
end
-- ==== Proof.Launch.lean ====
/-
  @main on the TensorCore and the program's run: the gather calls, the normalization calls and the host operations between them,
  from any launch memory whose tokens name rows of the table, to the result `valueOf`.
-/
module

public import proofs.«01_k».proof.Proof.Stages
public import proofs.«01_k».proof.Proof.Task0
public import proofs.«01_k».proof.Proof.Task1
public import proofs.«01_k».proof.Proof.Task2
public import proofs.«01_k».proof.Proof.Task3
public import Idealize.ShloMosaic.Lib.SparseCore.Quiescent

@[expose] public section
noncomputable section

namespace Cert.Proof.Launch

open Cert.KernelIdeal Cert.KernelIdeal.Gen
open Idealize.ShloMosaic Idealize.ShloMosaic.TcCoe Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Setup Cert.Proof.Payload Cert.Proof.Tasks Cert.Proof.Norms Cert.Proof.Calls Cert.Proof.Values Cert.Proof.Stages

variable {F : FTy → Type} [FloatOps F]

local notation "𝕄" => MT nD τ sig (HIx 4) (Elt F) ℕ UU ℕ

/-! ## The launch's ghost state -/

/-- The handshakes' rounds, the normalization calls' rounds, and no counter. -/
def u₀ : UU := (initOf (K (F := F)).hsCells (K (F := F)).hsToks,
  (initOf (Pipeline.cells (Pipeline.pin (pcfgs (F := F)) adm) (cellOf_pin_inj (F := F))) (Pipeline.launchToks (Pipeline.pin (pcfgs (F := F)) adm) (cellOf_pin_inj (F := F))), 1))

/-- What the launch hands the TensorCore: the normalization calls' ghost state. -/
def GG (d : Dev nD) : sProp 𝕄 := bigSep Finset.univ fun p : Fin 4 => ghost p d

variable (m : (ℓ : Loc nD τ sig) → Buf (Elt F) ℓ) (ρ : Dev nD → PrngReg)

/-- The ghost state the launch starts from, in its parts. -/
theorem hu₀ : (ownU (u₀ (F := F)) : sProp 𝕄)
    ⊢ |={Set.univ}=> iprop(BI.own (EH (initOf (K (F := F)).hsCells (K (F := F)).hsToks)) ∗ (bigSep Finset.univ GG)
        ∗ bigSep Finset.univ fun thr : Thread nD τ => bigSep Finset.univ fun q : Fin 4 => (P m).x q thr) := by
  have hx : (bigSep Finset.univ fun thr : Thread nD τ => bigSep Finset.univ fun q : Fin 4 => (P (F := F) m).x q thr) = (iprop(emp) : sProp 𝕄) :=
    (BI.bigSep_congr fun _ _ => bigSep_emp_const _).trans (bigSep_emp_const _)
  have hg : iprop((bigSep Finset.univ fun c : Dev nD => bigSep Finset.univ fun p => Pipeline.cellsGhost (Pipeline.pin (pcfgs (F := F)) adm) (EP (F := F)) p c)
        ∗ (bigSep Finset.univ fun c : Dev nD => bigSep Finset.univ fun p => Pipeline.toksInit (Pipeline.pin (pcfgs (F := F)) adm) (EP (F := F)) p c))
      ⊢ (bigSep Finset.univ GG : sProp 𝕄) := by
    unfold GG ghost
    simp only [bigSep_sep']
    exact BI.Entails.refl _
  rw [hx]
  unfold u₀
  iintro Hu
  ihave H := (ownU_pair (initOf (K (F := F)).hsCells (K (F := F)).hsToks) _) $$ Hu
  icases H with ⟨HH, HR⟩
  ihave H := (own_pair_emb _ _ (1 : Counters)) $$ HR
  icases H with ⟨HP, -⟩
  ihave HP := (Entails.of_eq (show _ = BI.own ((EP (F := F)) (initOf (Pipeline.cells (Pipeline.pin (pcfgs (F := F)) adm) (cellOf_pin_inj (F := F)))
    (Pipeline.launchToks (Pipeline.pin (pcfgs (F := F)) adm) (cellOf_pin_inj (F := F))))) by unfold EP; rfl)) $$ HP
  imod (Pipeline.fund_ghost (Pipeline.pin (pcfgs (F := F)) adm) (EP (F := F)) (cellOf_pin_inj (F := F))) $$ HP with HG
  imodintro
  isplitl [HH]; · iexact HH
  isplitl [HG]; · iapply hg; iexact HG
  iempintro

/-! ## The steps -/

/-- A line of host operations. -/
theorem host_step (d : Dev nD) (ops : List (HloOp τ sig (Elt F))) (hsub : ops.Forall fun op => op.bufs ⊆ StableHlo.tcRefs τ sig)
    (hfresh : ops.Forall fun op => op.fresh = ∅) (V : Valuation τ sig (Elt F)) (Q : PUnit.{1} → sProp 𝕄) :
    iprop((boundary (d.tc : Thread nD τ) ∗ StableHlo.held (d.tc : Thread nD τ) (Pipeline.ucRefs τ sig) V)
        ∗ ((boundary (d.tc : Thread nD τ) ∗ StableHlo.held (d.tc : Thread nD τ) (Pipeline.ucRefs τ sig) (StableHlo.after ops V)) -∗ Q ⟨⟩))
      ⊢ wp frame (wpE ((K (F := F)).defs D) 𝒱 (d.tc : Thread nD τ) none) Set.univ (StableHlo.seq ops) Q := by
  have h := StableHlo.wp_seq (defs := (K (F := F)).defs D) (𝒱 := 𝒱) (bd := none) (E := Set.univ) d (Pipeline.ucRefs τ sig) (fun _ => Prog.ret PUnit.unit) (K := Q) ops
    (fun op ho => Pipeline.sub_ucRefs op ((List.forall_iff_forall_mem.mp hsub) op ho)) (List.forall_iff_forall_mem.mp hfresh) V
  rw [show (StableHlo.seq ops >>= fun _ => Prog.ret PUnit.unit : Prog (TpuEff nD τ sig (Elt F) _ .tc) PUnit) = StableHlo.seq ops from bind_pure _, wp_ret] at h
  iintro ⟨H, Hk⟩
  iapply h $$ H
  iintro H
  imodintro
  iapply Hk; iexact H

/-- The program on the TensorCore, as the steps that are run one after another. -/
theorem main_eq (d : Dev nD) : main (F := F) d = (do
    StableHlo.seq opsA
    sc.run d 0
    StableHlo.seq opsB
    sc.run d 1
    StableHlo.seq opsC
    sc.run d 2
    StableHlo.seq opsD
    sc.run d 3
    StableHlo.seq opsE
    Prog.lift (.customCall (SparseCore.inner (Pipeline.entry 0)) ())
    StableHlo.seq opsF
    Prog.lift (.customCall (SparseCore.inner (Pipeline.entry 1)) ())
    StableHlo.seq opsG
    Prog.lift (.customCall (SparseCore.inner (Pipeline.entry 2)) ())
    StableHlo.seq opsH
    Prog.lift (.customCall (SparseCore.inner (Pipeline.entry 3)) ())
    pure ⟨⟩) := by
  simp only [StableHlo.seq_bind_seqK]
  rfl

/-- The bound the core's waits stay below after the gather calls. -/
abbrev bnd : ℕ := 8 * (inferInstance : SparseCore.Cfg.Blocks 4 4).fst 4

/-- The TensorCore's state after the last gather call: it owes nothing, and the rest. -/
theorem tcSt_end (d : Dev nD) : ∃ R : sProp 𝕄, ((K (F := F)).tcSt EH d 4 : sProp 𝕄) = iprop(quiet (F := F) bnd d ∗ R) := by
  unfold SparseCore.Cfg.tcSt quiet
  rw [(K (F := F)).Otc_end d (le_refl 4)]
  exact ⟨_, rfl⟩

/-! ## A normalization call, from one valuation to the next -/

/-- A normalization call's step over all of the core's arrays. -/
theorem norm_held [∀ e, Nonempty (Elt F e)] (V Vp : Dev nD → Valuation τ sig (Elt F)) (b : ℕ) (p : Fin 4)
    (hF : ∀ (c : Dev nD) w, (pdats V b p c).arrAt w (Pipeline.pin (pcfgs (F := F)) adm p).N = Vp c (Pipeline.arrRef (Pipeline.pin (pcfgs (F := F)) adm p).spec w))
    (hrest : ∀ (c : Dev nD) (r : Ref sig .tc), r ∉ Finset.univ.image (Pipeline.arrRef (Pipeline.pin (pcfgs (F := F)) adm p).spec) → Vp c r = V c r)
    (c : Dev nD) (Q : PUnit.{1} → sProp 𝕄) :
    iprop((iprop(boundary (c.tc : Thread nD τ) ∗ StableHlo.held (c.tc : Thread nD τ) (Pipeline.ucRefs τ sig) (Vp c) ∗ quiet (F := F) b c) -∗ Q ⟨⟩)
        ∗ boundary (c.tc : Thread nD τ) ∗ StableHlo.held (c.tc : Thread nD τ) (Pipeline.ucRefs τ sig) (V c) ∗ quiet (F := F) b c
        ∗ levAts (K (F := F)).L (K (F := F)).lev ∗ ghost p c)
      ⊢ wp frame (wpE ((K (F := F)).defs D) 𝒱 (c.tc : Thread nD τ) none) Set.univ (Prog.lift (.customCall (SparseCore.inner (Pipeline.entry p)) ())) Q := by
  have h := norm_step V Vp b p hF hrest c Q
  rw [show unscopedBufs c (fun r => Vp c r) = StableHlo.held (c.tc : Thread nD τ) (Pipeline.ucRefs τ sig) (Vp c) from Pipeline.unscopedBufs_held c (Vp c),
    show unscopedBufs c (fun r => V c r) = StableHlo.held (c.tc : Thread nD τ) (Pipeline.ucRefs τ sig) (V c) from Pipeline.unscopedBufs_held c (V c)] at h
  exact h

section
variable (m : (ℓ : Loc nD τ sig) → Buf (Elt F) ℓ)

/-- What normalization call 1 leaves in its arrays. -/
theorem finalE (b : ℕ) (c : Dev nD) : ∀ w : Fin 6, (dat4 (vE m) b c).arrAt w cfg4.N = gE m c (Pipeline.arrRef spec4 w)
  | ⟨0, _⟩ => ((dat4 (vE m) b c).arrAt_in 0 rfl _).trans (put_ne (vE m c) main_v20 _ (Pipeline.arrRef spec4 0) (by decide)).symm
  | ⟨1, _⟩ => ((dat4 (vE m) b c).arrAt_in 1 rfl _).trans (put_ne (vE m c) main_v20 _ (Pipeline.arrRef spec4 1) (by decide)).symm
  | ⟨2, _⟩ => ((dat4 (vE m) b c).arrAt_in 2 rfl _).trans (put_ne (vE m c) main_v20 _ (Pipeline.arrRef spec4 2) (by decide)).symm
  | ⟨3, _⟩ => ((dat4 (vE m) b c).arrAt_in 3 rfl _).trans (put_ne (vE m c) main_v20 _ (Pipeline.arrRef spec4 3) (by decide)).symm
  | ⟨4, _⟩ => ((dat4 (vE m) b c).arrAt_in 4 rfl _).trans (put_ne (vE m c) main_v20 _ (Pipeline.arrRef spec4 4) (by decide)).symm
  | ⟨5, _⟩ => (final4 (vE m) b c (inputsE m c)).trans (put_self (vE m c) main_v20 _).symm
/-- What normalization call 1 does not touch. -/
theorem restE (c : Dev nD) (r : Ref sig .tc) (h : r ∉ Finset.univ.image (Pipeline.arrRef spec4)) : gE m c r = vE m c r :=
  put_ne (vE m c) main_v20 _ r fun e => h (Finset.mem_image.mpr ⟨5, Finset.mem_univ _, e.symm⟩)
/-- What normalization call 2 leaves in its arrays. -/
theorem finalF (b : ℕ) (c : Dev nD) : ∀ w : Fin 6, (dat5 (vF m) b c).arrAt w cfg5.N = gF m c (Pipeline.arrRef spec5 w)
  | ⟨0, _⟩ => ((dat5 (vF m) b c).arrAt_in 0 rfl _).trans (put_ne (vF m c) main_v21 _ (Pipeline.arrRef spec5 0) (by decide)).symm
  | ⟨1, _⟩ => ((dat5 (vF m) b c).arrAt_in 1 rfl _).trans (put_ne (vF m c) main_v21 _ (Pipeline.arrRef spec5 1) (by decide)).symm
  | ⟨2, _⟩ => ((dat5 (vF m) b c).arrAt_in 2 rfl _).trans (put_ne (vF m c) main_v21 _ (Pipeline.arrRef spec5 2) (by decide)).symm
  | ⟨3, _⟩ => ((dat5 (vF m) b c).arrAt_in 3 rfl _).trans (put_ne (vF m c) main_v21 _ (Pipeline.arrRef spec5 3) (by decide)).symm
  | ⟨4, _⟩ => ((dat5 (vF m) b c).arrAt_in 4 rfl _).trans (put_ne (vF m c) main_v21 _ (Pipeline.arrRef spec5 4) (by decide)).symm
  | ⟨5, _⟩ => (final5 (vF m) b c (inputsF m c)).trans (put_self (vF m c) main_v21 _).symm
/-- What normalization call 2 does not touch. -/
theorem restF (c : Dev nD) (r : Ref sig .tc) (h : r ∉ Finset.univ.image (Pipeline.arrRef spec5)) : gF m c r = vF m c r :=
  put_ne (vF m c) main_v21 _ r fun e => h (Finset.mem_image.mpr ⟨5, Finset.mem_univ _, e.symm⟩)
/-- What normalization call 3 leaves in its arrays. -/
theorem finalG (b : ℕ) (c : Dev nD) : ∀ w : Fin 6, (dat6 (vG m) b c).arrAt w cfg6.N = gG m c (Pipeline.arrRef spec6 w)
  | ⟨0, _⟩ => ((dat6 (vG m) b c).arrAt_in 0 rfl _).trans (put_ne (vG m c) main_v22 _ (Pipeline.arrRef spec6 0) (by decide)).symm
  | ⟨1, _⟩ => ((dat6 (vG m) b c).arrAt_in 1 rfl _).trans (put_ne (vG m c) main_v22 _ (Pipeline.arrRef spec6 1) (by decide)).symm
  | ⟨2, _⟩ => ((dat6 (vG m) b c).arrAt_in 2 rfl _).trans (put_ne (vG m c) main_v22 _ (Pipeline.arrRef spec6 2) (by decide)).symm
  | ⟨3, _⟩ => ((dat6 (vG m) b c).arrAt_in 3 rfl _).trans (put_ne (vG m c) main_v22 _ (Pipeline.arrRef spec6 3) (by decide)).symm
  | ⟨4, _⟩ => ((dat6 (vG m) b c).arrAt_in 4 rfl _).trans (put_ne (vG m c) main_v22 _ (Pipeline.arrRef spec6 4) (by decide)).symm
  | ⟨5, _⟩ => (final6 (vG m) b c (inputsG m c)).trans (put_self (vG m c) main_v22 _).symm
/-- What normalization call 3 does not touch. -/
theorem restG (c : Dev nD) (r : Ref sig .tc) (h : r ∉ Finset.univ.image (Pipeline.arrRef spec6)) : gG m c r = vG m c r :=
  put_ne (vG m c) main_v22 _ r fun e => h (Finset.mem_image.mpr ⟨5, Finset.mem_univ _, e.symm⟩)
/-- What normalization call 4 leaves in its arrays. -/
theorem finalH (b : ℕ) (c : Dev nD) : ∀ w : Fin 6, (dat7 (vH m) b c).arrAt w cfg7.N = gH m c (Pipeline.arrRef spec7 w)
  | ⟨0, _⟩ => ((dat7 (vH m) b c).arrAt_in 0 rfl _).trans (put_ne (vH m c) main_v23 _ (Pipeline.arrRef spec7 0) (by decide)).symm
  | ⟨1, _⟩ => ((dat7 (vH m) b c).arrAt_in 1 rfl _).trans (put_ne (vH m c) main_v23 _ (Pipeline.arrRef spec7 1) (by decide)).symm
  | ⟨2, _⟩ => ((dat7 (vH m) b c).arrAt_in 2 rfl _).trans (put_ne (vH m c) main_v23 _ (Pipeline.arrRef spec7 2) (by decide)).symm
  | ⟨3, _⟩ => ((dat7 (vH m) b c).arrAt_in 3 rfl _).trans (put_ne (vH m c) main_v23 _ (Pipeline.arrRef spec7 3) (by decide)).symm
  | ⟨4, _⟩ => ((dat7 (vH m) b c).arrAt_in 4 rfl _).trans (put_ne (vH m c) main_v23 _ (Pipeline.arrRef spec7 4) (by decide)).symm
  | ⟨5, _⟩ => (final7 (vH m) b c (inputsH m c)).trans (put_self (vH m c) main_v23 _).symm
/-- What normalization call 4 does not touch. -/
theorem restH (c : Dev nD) (r : Ref sig .tc) (h : r ∉ Finset.univ.image (Pipeline.arrRef spec7)) : gH m c r = vH m c r :=
  put_ne (vH m c) main_v23 _ r fun e => h (Finset.mem_image.mpr ⟨5, Finset.mem_univ _, e.symm⟩)
end

/-! ## @main -/

section
variable (m : (ℓ : Loc nD τ sig) → Buf (Elt F) ℓ) (ρ : Dev nD → PrngReg)

/-- What the run leaves: the core's arrays at the end. -/
def FIN (d : Dev nD) : sProp 𝕄 := StableHlo.held (d.tc : Thread nD τ) (Pipeline.ucRefs τ sig) (gH m d)

/-- Gather call 0's step. -/
theorem gather_A (κ : GSem nD τ sig → ℕ) (d : Dev nD) (Q : PUnit.{1} → sProp 𝕄) :
    iprop((K (F := F)).ctx EH (P m) κ ∗ (K (F := F)).tcSt EH d 0 ∗ StableHlo.held (d.tc : Thread nD τ) (Pipeline.ucRefs τ sig) (vA m d)
        ∗ (((K (F := F)).tcSt EH d 1 ∗ StableHlo.held (d.tc : Thread nD τ) (Pipeline.ucRefs τ sig) (gA m d)) -∗ Q ⟨⟩))
      ⊢ wp frame (wpE ((K (F := F)).defs D) 𝒱 (d.tc : Thread nD τ) none) Set.univ (sc.run d 0) Q :=
  gather_step m κ d 0 main_arg1 main_v5 main_v6 (by decide) (by decide) (by decide) rfl rfl rfl (vA m d) (rowsOf m d 0)
    (by rw [tableA, wordsA, freshA]; rfl) (by rw [tableA, wordsA]; rfl) Q
/-- Gather call 1's step. -/
theorem gather_B (κ : GSem nD τ sig → ℕ) (d : Dev nD) (Q : PUnit.{1} → sProp 𝕄) :
    iprop((K (F := F)).ctx EH (P m) κ ∗ (K (F := F)).tcSt EH d 1 ∗ StableHlo.held (d.tc : Thread nD τ) (Pipeline.ucRefs τ sig) (vB m d)
        ∗ (((K (F := F)).tcSt EH d 2 ∗ StableHlo.held (d.tc : Thread nD τ) (Pipeline.ucRefs τ sig) (gB m d)) -∗ Q ⟨⟩))
      ⊢ wp frame (wpE ((K (F := F)).defs D) 𝒱 (d.tc : Thread nD τ) none) Set.univ (sc.run d 1) Q :=
  gather_step m κ d 1 main_arg1 main_v9 main_v10 (by decide) (by decide) (by decide) rfl rfl rfl (vB m d) (rowsOf m d 1)
    (by rw [tableB, wordsB, freshB]; rfl) (by rw [tableB, wordsB]; rfl) Q
/-- Gather call 2's step. -/
theorem gather_C (κ : GSem nD τ sig → ℕ) (d : Dev nD) (Q : PUnit.{1} → sProp 𝕄) :
    iprop((K (F := F)).ctx EH (P m) κ ∗ (K (F := F)).tcSt EH d 2 ∗ StableHlo.held (d.tc : Thread nD τ) (Pipeline.ucRefs τ sig) (vC m d)
        ∗ (((K (F := F)).tcSt EH d 3 ∗ StableHlo.held (d.tc : Thread nD τ) (Pipeline.ucRefs τ sig) (gC m d)) -∗ Q ⟨⟩))
      ⊢ wp frame (wpE ((K (F := F)).defs D) 𝒱 (d.tc : Thread nD τ) none) Set.univ (sc.run d 2) Q :=
  gather_step m κ d 2 main_arg1 main_v13 main_v14 (by decide) (by decide) (by decide) rfl rfl rfl (vC m d) (rowsOf m d 2)
    (by rw [tableC, wordsC, freshC]; rfl) (by rw [tableC, wordsC]; rfl) Q
/-- Gather call 3's step. -/
theorem gather_D (κ : GSem nD τ sig → ℕ) (d : Dev nD) (Q : PUnit.{1} → sProp 𝕄) :
    iprop((K (F := F)).ctx EH (P m) κ ∗ (K (F := F)).tcSt EH d 3 ∗ StableHlo.held (d.tc : Thread nD τ) (Pipeline.ucRefs τ sig) (vD m d)
        ∗ (((K (F := F)).tcSt EH d 4 ∗ StableHlo.held (d.tc : Thread nD τ) (Pipeline.ucRefs τ sig) (gD m d)) -∗ Q ⟨⟩))
      ⊢ wp frame (wpE ((K (F := F)).defs D) 𝒱 (d.tc : Thread nD τ) none) Set.univ (sc.run d 3) Q :=
  gather_step m κ d 3 main_arg1 main_v17 main_v18 (by decide) (by decide) (by decide) rfl rfl rfl (vD m d) (rowsOf m d 3)
    (by rw [tableD, wordsD, freshD]; rfl) (by rw [tableD, wordsD]; rfl) Q

/-- @main: from the launch's arrays to the last valuation. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ GG d)
      ⊢ wp frame (wpE ((K (F := F)).defs D) 𝒱 (SparseCore.T d) none) Set.univ (main d)
          fun _ => iprop((K (F := F)).tcSt EH d 4 ∗ FIN m d ∗ (K (F := F)).tcEnd d) := by
  obtain ⟨R, hR⟩ := tcSt_end (F := F) d
  unfold SparseCore.Cfg.tcRes SparseCore.Cfg.tcEnd FIN GG
  rw [main_eq, hR, show unscopedBufs d (fun b => m ((SparseCore.T d).loc b))
      = StableHlo.held (d.tc : Thread nD τ) (Pipeline.ucRefs τ sig) (StableHlo.launchContents m d) from Pipeline.unscopedBufs_held d (StableHlo.launchContents m d),
    show (Finset.univ : Finset (Fin 4)) = {0, 1, 2, 3} by decide, SparseCore.bigSep_insert' (by decide), SparseCore.bigSep_insert' (by decide),
    SparseCore.bigSep_insert' (by decide), bigSep_singleton]
  simp only [wp_bind, wp_pure]
  iintro ⟨#Hctx, Hst, ⟨Hb, Hh, Hts, -⟩, HG0, HG1, HG2, HG3⟩
  ihave #Hlev := (SparseCore.Cfg.ctx_levAts (K := K (F := F)) (EH := EH) (P := P m) κ) $$ Hctx
  iapply (host_step d opsA (by simp [opsA]) (StableHlo.forall_fresh_of_map rfl) _ _)
  isplitl [Hb Hh]; · (isplitl [Hb] <;> iassumption)
  iintro ⟨Hb, Hh⟩
  iapply (gather_A m κ d _)
  isplitr; · iexact Hctx
  isplitl [Hst]; · iexact Hst
  isplitl [Hh]; · iexact Hh
  iintro ⟨Hst, Hh⟩
  iapply (host_step d opsB (by simp [opsB]) (StableHlo.forall_fresh_of_map rfl) _ _)
  isplitl [Hb Hh]; · (isplitl [Hb] <;> iassumption)
  iintro ⟨Hb, Hh⟩
  iapply (gather_B m κ d _)
  isplitr; · iexact Hctx
  isplitl [Hst]; · iexact Hst
  isplitl [Hh]; · iexact Hh
  iintro ⟨Hst, Hh⟩
  iapply (host_step d opsC (by simp [opsC]) (StableHlo.forall_fresh_of_map rfl) _ _)
  isplitl [Hb Hh]; · (isplitl [Hb] <;> iassumption)
  iintro ⟨Hb, Hh⟩
  iapply (gather_C m κ d _)
  isplitr; · iexact Hctx
  isplitl [Hst]; · iexact Hst
  isplitl [Hh]; · iexact Hh
  iintro ⟨Hst, Hh⟩
  iapply (host_step d opsD (by simp [opsD]) (StableHlo.forall_fresh_of_map rfl) _ _)
  isplitl [Hb Hh]; · (isplitl [Hb] <;> iassumption)
  iintro ⟨Hb, Hh⟩
  iapply (gather_D m κ d _)
  isplitr; · iexact Hctx
  isplitl [Hst]; · iexact Hst
  isplitl [Hh]; · iexact Hh
  iintro ⟨Hst, Hh⟩
  iapply (host_step d opsE (by simp [opsE]) (StableHlo.forall_fresh_of_map rfl) _ _)
  isplitl [Hb Hh]; · (isplitl [Hb] <;> iassumption)
  iintro ⟨Hb, Hh⟩
  ihave Hst := (Entails.of_eq hR) $$ Hst
  icases Hst with ⟨Hq, HR⟩
  iapply (norm_held (vE m) (gE m) bnd 0 (finalE m bnd) (restE m) d _)
  isplitr [Hb Hh Hq HG0]
  rotate_left
  · isplitl [Hb]; · iexact Hb
    isplitl [Hh]; · iexact Hh
    isplitl [Hq]; · iexact Hq
    isplitr; · iexact Hlev
    iexact HG0
  iintro ⟨Hb, Hh, Hq⟩
  iapply (host_step d opsF (by simp [opsF]) (StableHlo.forall_fresh_of_map rfl) _ _)
  isplitl [Hb Hh]; · (isplitl [Hb] <;> iassumption)
  iintro ⟨Hb, Hh⟩
  iapply (norm_held (vF m) (gF m) bnd 1 (finalF m bnd) (restF m) d _)
  isplitr [Hb Hh Hq HG1]
  rotate_left
  · isplitl [Hb]; · iexact Hb
    isplitl [Hh]; · iexact Hh
    isplitl [Hq]; · iexact Hq
    isplitr; · iexact Hlev
    iexact HG1
  iintro ⟨Hb, Hh, Hq⟩
  iapply (host_step d opsG (by simp [opsG]) (StableHlo.forall_fresh_of_map rfl) _ _)
  isplitl [Hb Hh]; · (isplitl [Hb] <;> iassumption)
  iintro ⟨Hb, Hh⟩
  iapply (norm_held (vG m) (gG m) bnd 2 (finalG m bnd) (restG m) d _)
  isplitr [Hb Hh Hq HG2]
  rotate_left
  · isplitl [Hb]; · iexact Hb
    isplitl [Hh]; · iexact Hh
    isplitl [Hq]; · iexact Hq
    isplitr; · iexact Hlev
    iexact HG2
  iintro ⟨Hb, Hh, Hq⟩
  iapply (host_step d opsH (by simp [opsH]) (StableHlo.forall_fresh_of_map rfl) _ _)
  isplitl [Hb Hh]; · (isplitl [Hb] <;> iassumption)
  iintro ⟨Hb, Hh⟩
  iapply (norm_held (vH m) (gH m) bnd 3 (finalH m bnd) (restH m) d _)
  isplitr [Hb Hh Hq HG3]
  rotate_left
  · isplitl [Hb]; · iexact Hb
    isplitl [Hh]; · iexact Hh
    isplitl [Hq]; · iexact Hq
    isplitr; · iexact Hlev
    iexact HG3
  iintro ⟨Hb, Hh, Hq⟩
  imodintro
  isplitl [Hq HR]; · (isplitl [Hq] <;> iassumption)
  isplitl [Hh]; · iexact Hh
  isplitl [Hb] <;> iassumption
/-! ## The run -/

set_option maxRecDepth 16384 in
/-- An array of the core, read off the memory the run ends in. -/
theorem read_end (d : Dev nD) (r : Ref sig .tc) (hr : r.isScoped = false) (s' : Phys nD τ sig (Elt F)) :
    iprop(FIN m d ∗ SI s') ⊢ (iprop(⌜s'.mem.mem ((TC d).loc r) = gH m d r⌝ ∗ (FIN m d ∗ SI s')) : sProp 𝕄) := by
  refine persistent_entails_right ?_
  have mem : Proc.devRef (τ := τ) .tc r ∈ Pipeline.ucRefs τ sig :=
    Finset.mem_filter.mpr ⟨StableHlo.devRef_mem_tcRefs r, by rw [show (Proc.devRef (τ := τ) .tc r).isScoped = r.isScoped from rfl, hr]; exact Bool.false_ne_true⟩
  unfold FIN StableHlo.held
  rw [SparseCore.bigSep_erase' mem]
  iintro ⟨⟨Hr, -⟩, HSI⟩
  ihave H := (SI_pointsTo_agree (st := s') (ℓ := (TC d).loc r) (I := Finset.univ) (q := fullShare) (f := gH m d r)) $$ [HSI Hr]
  · isplitl [HSI] <;> iassumption
  icases H with %h
  ipureintro; exact funext fun i => h i (Finset.mem_univ i)

/-- What the run's end says of a device: the arguments kept, the result `valueOf`. -/
def Ends (d : Dev nD) (mem : (ℓ : Loc nD τ sig) → Buf (Elt F) ℓ) : Prop :=
  mem ((TC d).loc main_v23) = valueOf m d ∧ mem ((TC d).loc main_arg0) = m ((TC d).loc main_arg0) ∧ mem ((TC d).loc main_arg1) = m ((TC d).loc main_arg1)
    ∧ mem ((TC d).loc main_arg2) = m ((TC d).loc main_arg2) ∧ mem ((TC d).loc main_arg3) = m ((TC d).loc main_arg3) ∧ mem ((TC d).loc main_arg4) = m ((TC d).loc main_arg4)

/-- What the program ends with says what the memory holds. -/
theorem hfin (d : Dev nD) (s' : Phys nD τ sig (Elt F)) : iprop(FIN m d ∗ SI s') ⊢ (⌜Ends m d s'.mem.mem⌝ : sProp 𝕄) := by
  iintro H
  ihave H := (read_end m d main_v23 rfl s') $$ H
  icases H with ⟨%h5, H⟩
  ihave H := (read_end m d main_arg0 rfl s') $$ H
  icases H with ⟨%h0, H⟩
  ihave H := (read_end m d main_arg1 rfl s') $$ H
  icases H with ⟨%h1, H⟩
  ihave H := (read_end m d main_arg2 rfl s') $$ H
  icases H with ⟨%h2, H⟩
  ihave H := (read_end m d main_arg3 rfl s') $$ H
  icases H with ⟨%h3, H⟩
  ihave H := (read_end m d main_arg4 rfl s') $$ H
  icases H with ⟨%h4, -⟩
  ipureintro
  exact ⟨h5.trans (result_eq m d), h0.trans (arg_eq m d _ (by simp)), h1.trans (arg_eq m d _ (by simp)), h2.trans (arg_eq m d _ (by simp)),
    h3.trans (arg_eq m d _ (by simp)), h4.trans (arg_eq m d _ (by simp))⟩

/-- The program's run: from tokens that name rows of the table, to the result `valueOf`, the arguments kept, every semaphore at zero. -/
theorem run_main [∀ e, Nonempty (Elt F e)] (hm : TokensOK m) :
    θ_run (Cert.KernelIdeal.defs (F := F)) (Cert.KernelIdeal.threads (F := F)) ⟨m, fun _ => 0, ρ⟩
      fun r => (∀ d : Dev nD, Ends m d r.2.mem) ∧ r.2.sem = fun _ => 0 :=
  SparseCore.Cfg.θ_run_sc_quiescent (K := K (F := F)) (D := D (F := F)) (𝒱 := 𝒱) (EH := EH) (P := P m) (A := ∅) facts v₀
    (fun q hq => match q with | 0 => nomatch hq | 1 => nomatch hq | 2 => nomatch hq | 3 => nomatch hq)
    (fun q _ => match q with
      | 0 => Task0.tileObl0 m hm | 1 => Task1.tileObl1 m hm | 2 => Task2.tileObl2 m hm | 3 => Task3.tileObl3 m hm)
    (fun q _ => SparseCore.Cfg.VecSplit.of_plain (vecSplit m q))
    m ρ main GG (FIN m) (u₀ (F := F)) (sep_elim_left.trans (hu₀ m)) (hmain m ρ) (fun d s' => Ends m d s'.mem.mem) (hfin m) _ (fun _ h hz => ⟨h, hz⟩)
end

end Cert.Proof.Launch
end
-- ==== Proof.Algebra.lean ====
/-
  The normalization of one row of 128 reals in the two forms that the kernel and the reference compute: by the mean of
  the squares and a reciprocal square root, and by the mean of the squared deviations, a square root and a quotient.
-/
module

public import Idealize.ShloMosaic.PureOps.Ideal
public import Idealize.ShloMosaic.Lib.IdealHost

@[expose] public section
noncomputable section

namespace Cert.Proof.Algebra

open Idealize.ShloMosaic

/-- The pattern of the kernel's 1/128. -/
theorem ofBits_inv : Ideal.ofBits .f32 0x3C000000#32 = ((1 / 128 : ℝ) : EReal) := by
  simp [Ideal.ofBits, Ideal.ieee, -EReal.coe_mul]; norm_num

/-- The pattern of the reference's 128. -/
theorem ofBits_n : Ideal.ofBits .f32 0x43000000#32 = ((128 : ℝ) : EReal) := by
  simp [Ideal.ofBits, Ideal.ieee, -EReal.coe_mul]; norm_num

/-- The pattern both add to the variance is a positive real. -/
theorem ofBits_eps : ∃ ε : ℝ, 0 < ε ∧ Ideal.ofBits .f32 0x3727C5AC#32 = (ε : EReal) := by
  refine ⟨_, ?_, by simp [Ideal.ofBits, Ideal.ieee, -EReal.coe_mul]; rfl⟩
  norm_num

/-- A sum of reals, taken over the extended reals. -/
theorem sum_coe (x : Fin 128 → ℝ) : (∑ k, (x k : EReal)) = ((∑ k, x k : ℝ) : EReal) :=
  (map_sum (⟨⟨fun r : ℝ => (r : EReal), EReal.coe_zero⟩, EReal.coe_add⟩ : ℝ →+ EReal) x Finset.univ).symm

/-- What the kernel makes of entry `h` of a row. -/
def byMoments (X : Fin 128 → EReal) (g b : EReal) (h : Fin 128) : EReal :=
  (X h * Ideal.rsqrt ((∑ k, X k * X k) * Ideal.ofBits .f32 0x3C000000#32
        - (∑ k, X k) * Ideal.ofBits .f32 0x3C000000#32 * ((∑ k, X k) * Ideal.ofBits .f32 0x3C000000#32) + Ideal.ofBits .f32 0x3727C5AC#32)
      - (∑ k, X k) * Ideal.ofBits .f32 0x3C000000#32 * Ideal.rsqrt ((∑ k, X k * X k) * Ideal.ofBits .f32 0x3C000000#32
        - (∑ k, X k) * Ideal.ofBits .f32 0x3C000000#32 * ((∑ k, X k) * Ideal.ofBits .f32 0x3C000000#32) + Ideal.ofBits .f32 0x3727C5AC#32)) * g + b

/-- What the reference makes of it. -/
def byDeviations (X : Fin 128 → EReal) (g b : EReal) (h : Fin 128) : EReal :=
  Ideal.div (X h - Ideal.div (∑ k, X k) (Ideal.ofBits .f32 0x43000000#32))
    (Ideal.sqrt (Ideal.div (∑ k, (X k - Ideal.div (∑ k, X k) (Ideal.ofBits .f32 0x43000000#32)) * (X k - Ideal.div (∑ k, X k) (Ideal.ofBits .f32 0x43000000#32)))
      (Ideal.ofBits .f32 0x43000000#32) + Ideal.ofBits .f32 0x3727C5AC#32)) * g + b

/-- The mean of the squares less the square of the mean is the mean of the squared deviations. -/
theorem variance (x : Fin 128 → ℝ) :
    (∑ k, x k * x k) * (1 / 128) - (∑ k, x k) * (1 / 128) * ((∑ k, x k) * (1 / 128))
      = (∑ k, (x k - (∑ k, x k) * (1 / 128)) * (x k - (∑ k, x k) * (1 / 128))) * (1 / 128) := by
  have e : ∀ c : ℝ, ∑ k, (x k - c) * (x k - c) = (∑ k, x k * x k) - 2 * c * (∑ k, x k) + 128 * (c * c) := fun c => by
    have : ∀ k, (x k - c) * (x k - c) = x k * x k - 2 * c * x k + c * c := fun k => by ring
    simp only [this, Finset.sum_add_distrib, Finset.sum_sub_distrib, ← Finset.mul_sum, Finset.sum_const, Finset.card_univ, Fintype.card_fin, nsmul_eq_mul]
    norm_num; ring
  rw [e]; ring

/-- On a row of reals the two forms agree, whatever the scale and the shift. -/
theorem moments_eq_deviations (x : Fin 128 → ℝ) (g b : EReal) (h : Fin 128) :
    byMoments (fun k => (x k : EReal)) g b h = byDeviations (fun k => (x k : EReal)) g b h := by
  obtain ⟨ε, hε, eε⟩ := ofBits_eps
  unfold byMoments byDeviations
  have hn : (128 : ℝ) ≠ 0 := by norm_num
  simp only [ofBits_inv, ofBits_n, eε, Ideal.div_coe hn, ← EReal.coe_mul, ← EReal.coe_sub, ← EReal.coe_add, sum_coe]
  rw [variance]
  set mu : ℝ := (∑ k, x k) * (1 / 128) with hmu
  set v : ℝ := (∑ k, (x k - mu) * (x k - mu)) * (1 / 128) + ε with hv
  have vpos : 0 < v := by
    have : 0 ≤ ∑ k, (x k - mu) * (x k - mu) := Finset.sum_nonneg fun k _ => mul_self_nonneg _
    positivity
  have hs : Real.sqrt v ≠ 0 := (Real.sqrt_pos.2 vpos).ne'
  rw [Ideal.rsqrt_coe, if_neg (not_lt.2 vpos.le), if_neg vpos.ne', Ideal.sqrt_coe, if_neg (not_lt.2 vpos.le), Ideal.div_coe hs]
  simp only [← EReal.coe_mul, ← EReal.coe_sub]
  congr 3
  ring
end Cert.Proof.Algebra
end
-- ==== Proof.Rows.lean ====
module
public import proofs.«01_k».proof.Proof.Gen.ReferenceIdeal.Run
public import proofs.«01_k».proof.Proof.Algebra
public import Idealize.ShloMosaic.Lib.ReduceAll
public import Idealize.ShloMosaic.Lib.Pointwise.Tactic
public import Idealize.ShloMosaic.Lib.Pointwise.Reduce
public import Idealize.ShloMosaic.Lib.Pointwise.Reshape
public import Idealize.ShloMosaic.Lib.Pointwise.Sums
@[expose] public section
noncomputable section
namespace Cert.Proof.Rows
open Cert.ReferenceIdeal Cert.ReferenceIdeal.Gen
open Idealize.ShloMosaic
open Cert.Proof.Algebra

/-- The array with the first 200 rows of positions added to each sequence. -/
def withPos (R : FVec Ideal S1024x200x128 .f32) (pos : FVec Ideal S512x128 .f32) : FVec Ideal S1024x200x128 .f32 :=
  addf R (broadcastInDim S1024x200x128 ![0, 1, 2] bcast_S1x200x128_S1024x200x128_0_1_2 (broadcastInDim S1x200x128 ![1, 2] bcast_S200x128_S1x200x128_1_2 (extractStridedSlice S200x128 ![0, 0] pos slices_S512x128_S200x128_0_0)))

/-- Each row's mean. -/
def mean (X : FVec Ideal S1024x200x128 .f32) : FVec Ideal S1024x200x1 .f32 :=
  Host.divf (broadcastInDim S1024x200x1 ![0, 1] bcast_S1024x200_S1024x200x1_0_1 (Host.reduceAdd X (constant S_ .f32 0x00000000#32) reducesTo_S1024x200x128_S1024x200_d2 h_S_)) (broadcastInDim S1024x200x1 ![] bcast_S_S1024x200x1 (constant S_ .f32 0x43000000#32))

/-- Each row's deviations from its mean, over the root of their mean square, scaled and shifted. -/
def normed (X : FVec Ideal S1024x200x128 .f32) (gam bet : FVec Ideal S128 .f32) : FVec Ideal S1024x200x128 .f32 :=
  addf (mulf (Host.divf (subf X (broadcastInDim S1024x200x128 ![0, 1, 2] bcast_S1024x200x1_S1024x200x128_0_1_2 (mean X))) (broadcastInDim S1024x200x128 ![0, 1, 2] bcast_S1024x200x1_S1024x200x128_0_1_2 (Host.sqrt (addf (mean (mulf (subf X (broadcastInDim S1024x200x128 ![0, 1, 2] bcast_S1024x200x1_S1024x200x128_0_1_2 (mean X))) (subf X (broadcastInDim S1024x200x128 ![0, 1, 2] bcast_S1024x200x1_S1024x200x128_0_1_2 (mean X))))) (broadcastInDim S1024x200x1 ![] bcast_S_S1024x200x1 (constant S_ .f32 0x3727C5AC#32)))))) (broadcastInDim S1024x200x128 ![0, 1, 2] bcast_S1x1x128_S1024x200x128_0_1_2 (broadcastInDim S1x1x128 ![2] bcast_S128_S1x1x128_2 gam))) (broadcastInDim S1024x200x128 ![0, 1, 2] bcast_S1x1x128_S1024x200x128_0_1_2 (broadcastInDim S1x1x128 ![2] bcast_S128_S1x1x128_2 bet))

/-- The normalized array at an entry: the row's deviations, scaled and shifted. -/
theorem normed_at (X : FVec Ideal S1024x200x128 .f32) (gam bet : FVec Ideal S128 .f32) (r : Fin 1024) (l : Fin 200) (h : Fin 128) :
    normed X gam bet (ix3 r l h) = byDeviations (fun k => X (ix3 r l k)) (gam (ix1 h)) (bet (ix1 h)) h := by
  unfold normed mean byDeviations
  pointwise

/-- The array with the positions added, at an entry. -/
theorem withPos_at (R : FVec Ideal S1024x200x128 .f32) (pos : FVec Ideal S512x128 .f32) (r : Fin 1024) (l : Fin 200) (h : Fin 128) :
    withPos R pos (ix3 r l h) = R (ix3 r l h) + pos (ix2 ⟨l.val, by omega⟩ h) := by
  unfold withPos
  pointwise

/-- The tokens as places of the table: a negative one counts from its end. -/
def ids (seq : IVec S1024x200 32) : IVec S1024x200x1 32 :=
  broadcastInDim S1024x200x1 ![0, 1] bcast_S1024x200_S1024x200x1_0_1 (select (cmpi .slt seq (broadcastInDim S1024x200 ![] bcast_S_S1024x200 (constantI S_ 32 0#32))) (addi seq (broadcastInDim S1024x200 ![] bcast_S_S1024x200 (constantI S_ 32 100000#32))) seq)

/-- A token in the table's range is its own place. -/
theorem ids_at (seq : IVec S1024x200 32) (r : Fin 1024) (l : Fin 200) (h : Fin 1) (hr : (seq (ix2 r l)).toNat < 100000) :
    ids seq (ix3 r l h) = seq (ix2 r l) := by
  unfold ids
  pointwise
  have hn : IntOp.cmpi .slt (seq (ix2 r l)) 0#32 = 0#1 := by
    have : ¬ (seq (ix2 r l)).toInt < 0 := by rw [BitVec.toInt_eq_toNat_of_lt (by omega)]; omega
    simp [IntOp.cmpi, BitVec.slt, this]
  rw [hn]; rfl

/-- The table with its row 0 set to zero. -/
def table (tb : FVec Ideal S100000x128 .f32) : FVec Ideal S100000x128 .f32 :=
  Host.scatter scatter_S100000x128_S1_S128_0_0_0_0 (fun _ b => b) tb (broadcastInDim S1 ![] bcast_S_S1 (constantI S_ 32 0#32)) (broadcastInDim S128 ![] bcast_S_S128 (constant S_ .f32 0x00000000#32))

/-- Which tokens lie in the table. -/
def inRange (seq : IVec S1024x200 32) : IVec S1024x200 1 :=
  Host.reduce IntOp.andi (andi (cmpi .sge (ids seq) (broadcastInDim S1024x200x1 ![] bcast_S_S1024x200x1 (constantI S_ 32 0#32))) (cmpi .sle (ids seq) (broadcastInDim S1024x200x1 ![0, 1, 2] bcast_S1x1x1_S1024x200x1_0_1_2 (broadcastInDim S1x1x1 ![2] bcast_S1_S1x1x1_2 (constantI S1 32 99999#32))))) (constantI S_ 1 1#1) reducesTo_S1024x200x1_S1024x200_d2 h_S_

/-- The table's rows that the tokens name, where they lie in the table. -/
def rows (seq : IVec S1024x200 32) (tb : FVec Ideal S100000x128 .f32) : FVec Ideal S1024x200x128 .f32 :=
  select (broadcastInDim S1024x200x128 ![0, 1] bcast_S1024x200_S1024x200x128_0_1 (inRange seq)) (Host.gather gather_S100000x128_S1024x200x1_S1024x200x128_2_0_n_n_0_2_1128 (table tb) (ids seq)) (broadcastInDim S1024x200x128 ![] bcast_S_S1024x200x128 (constant S_ .f32 0x7FC00000#32))

/-- Where the update's entry lands: in row 0. -/
theorem lands (k : S128.Idx) : (scatter_S100000x128_S1_S128_0_0_0_0).resultIdx? k (broadcastInDim S1 ![] bcast_S_S1 (constantI S_ 32 0#32))
    = some (ix2 0 (k 0)) := by
  have e : ∀ a, (scatter_S100000x128_S1_S128_0_0_0_0).start k (broadcastInDim S1 ![] bcast_S_S1 (constantI S_ 32 0#32)) a
      + (scatter_S100000x128_S1_S128_0_0_0_0).window k a = (((ix2 0 (k 0) : S100000x128.Idx) a).val : ℤ) := by
    intro a
    match a with
    | ⟨0, _⟩ => rfl
    | ⟨1, _⟩ => exact Int.zero_add _
  unfold ScatterDims.resultIdx?
  rw [dif_pos fun a => by rw [e a]; exact ⟨by omega, by exact_mod_cast ((ix2 0 (k 0) : S100000x128.Idx) a).isLt⟩]
  congr 1
  funext a
  exact Fin.ext (by show (_ + _ : ℤ).toNat = _; rw [e a]; rfl)

/-- Writing one value at the places a list names, read at one place. -/
theorem foldl_write {ι β α : Type} [DecidableEq ι] (t : β → ι) (z : α) (i : ι) : ∀ (L : List β) (x : ι → α),
    L.foldl (fun r n => fun i' => if i' = t n then z else r i') x i = if ∃ n ∈ L, i = t n then z else x i
  | [], x => by simp
  | n :: L, x => by
    rw [List.foldl_cons, foldl_write t z i L]
    by_cases h : ∃ k ∈ L, i = t k
    · rw [if_pos h, if_pos (let ⟨k, hk, e⟩ := h; ⟨k, List.mem_cons_of_mem _ hk, e⟩)]
    · rw [if_neg h]
      by_cases hn : i = t n
      · rw [if_pos hn, if_pos ⟨n, List.mem_cons_self, hn⟩]
      · rw [if_neg hn, if_neg]
        rintro ⟨k, hk, e⟩
        rcases List.mem_cons.1 hk with rfl | hk
        · exact hn e
        · exact h ⟨k, hk, e⟩

/-- A scatter that sets one value, all of its updates landing: the value at the places they land at, the array elsewhere. -/
theorem scatter_set {s si u : Shape} {w : ℕ} {α : Type} (d : ScatterDims s si u) (x : s.Idx → α) (idx : IVec si w) (upd : u.Idx → α) (z : α) (t : u.Idx → s.Idx)
    (hl : ∀ k, d.resultIdx? k idx = some (t k)) (hu : ∀ k, upd k = z) (i : s.Idx) :
    Host.scatter d (fun _ b => b) x idx upd i = if ∃ k, i = t k then z else x i := by
  unfold Host.scatter
  simp only [hl, hu]
  refine (foldl_write (fun n => t (u.rowMajor.symm n)) z i _ x).trans ?_
  by_cases H : ∃ k, i = t k
  · obtain ⟨k, e⟩ := H
    exact (if_pos ⟨u.rowMajor k, List.mem_finRange _, by rw [Equiv.symm_apply_apply]; exact e⟩).trans (if_pos ⟨k, e⟩).symm
  · exact (if_neg fun ⟨n, _, e⟩ => H ⟨_, e⟩).trans (if_neg H).symm

/-- The table with its row 0 cleared. -/
theorem table_at (tb : FVec Ideal S100000x128 .f32) (a : Fin 100000) (h : Fin 128) : table tb (ix2 a h) = if a.val = 0 then 0 else tb (ix2 a h) := by
  unfold table
  rw [scatter_set _ tb _ _ (0 : EReal) (fun k => ix2 0 (k 0)) lands (fun k => by pointwise)]
  by_cases ha : a.val = 0
  · rw [if_pos ha, if_pos]
    exact ⟨ix1 h, by rw [show a = 0 from Fin.ext ha]; rfl⟩
  · rw [if_neg ha, if_neg]
    rintro ⟨n, e⟩
    exact ha (congrArg Fin.val (congrFun e 0))

/-- Every token lies in the table's range, so that the reference's mask keeps every row. -/
theorem inRange_at (seq : IVec S1024x200 32) (hr : ∀ y, (seq y).toNat < 100000) (y : S1024x200.Idx) : inRange seq y = 1#1 := by
  unfold inRange
  refine Host.reduce_andi_one _ _ _ _ _ rfl fun i => ?_
  obtain ⟨r, l, h, rfl⟩ : ∃ (r : Fin 1024) (l : Fin 200) (h : Fin 1), i = ix3 r l h := ⟨i 0, i 1, i 2, by funext a; match a with | ⟨0, _⟩ => rfl | ⟨1, _⟩ => rfl | ⟨2, _⟩ => rfl⟩
  pointwise
  have hs := hr (ix2 r l)
  rw [ids_at seq r l h hs]
  have ht := BitVec.toInt_eq_toNat_of_lt (x := seq (ix2 r l)) (by omega)
  have h0 : (0#32).sle (seq (ix2 r l)) = true := by rw [BitVec.sle, ht]; simp
  have h1 : (seq (ix2 r l)).sle 99999#32 = true := by rw [BitVec.sle, ht]; simp; omega
  simp [IntOp.cmpi, IntOp.andi, h0, h1]

/-- The place of the table that the gather reads for an entry. -/
theorem gather_at (tb : FVec Ideal S100000x128 .f32) (idx : IVec S1024x200x1 32) (r : Fin 1024) (l : Fin 200) (h : Fin 128) (a : Fin 100000)
    (ha : (idx (ix3 r l 0)).toInt.toNat = a.val) :
    Host.gather gather_S100000x128_S1024x200x1_S1024x200x128_2_0_n_n_0_2_1128 tb idx (ix3 r l h) = tb (ix2 a h) := by
  unfold Host.gather
  have e : (gather_S100000x128_S1024x200x1_S1024x200x128_2_0_n_n_0_2_1128).siIdx (ix3 r l h) ⟨0, by decide⟩ = ix3 r l 0 := by
    funext b
    match b with
    | ⟨0, _⟩ => rfl
    | ⟨1, _⟩ => rfl
    | ⟨2, _⟩ => rfl
  have hs : (gather_S100000x128_S1024x200x1_S1024x200x128_2_0_n_n_0_2_1128).start (ix3 r l h) idx 0 = a.val := by
    unfold GatherDims.start
    rw [dif_pos (show (0 : Fin S100000x128.rank) ∈ (gather_S100000x128_S1024x200x1_S1024x200x128_2_0_n_n_0_2_1128).startIndexMap from List.mem_singleton.2 rfl)]
    refine (congrArg (fun k => min (idx k).toInt.toNat (100000 - 1)) e).trans ?_
    rw [ha]; omega
  have h0 : (gather_S100000x128_S1024x200x1_S1024x200x128_2_0_n_n_0_2_1128).start (ix3 r l h) idx 1 = 0 := rfl
  congr 1
  funext b
  refine Fin.ext ?_
  match b with
  | ⟨0, _⟩ => exact (congrArg (· + 0 + 0) hs)
  | ⟨1, _⟩ => exact (congrArg (· + 0 + h.val) h0).trans (by simp)

/-- The gathered rows at an entry: the table's row that the token names, and zero for token 0. -/
theorem rows_at (seq : IVec S1024x200 32) (tb : FVec Ideal S100000x128 .f32) (hr : ∀ y, (seq y).toNat < 100000) (r : Fin 1024) (l : Fin 200) (h : Fin 128) :
    rows seq tb (ix3 r l h) = if (seq (ix2 r l)).toNat = 0 then 0 else tb (ix2 ⟨(seq (ix2 r l)).toNat, hr _⟩ h) := by
  unfold rows
  pointwise
  rw [inRange_at seq hr, gather_at (table tb) (ids seq) r l h ⟨_, hr (ix2 r l)⟩
    (by rw [ids_at seq r l 0 (hr _), BitVec.toInt_eq_toNat_of_lt (by have := hr (ix2 r l); omega)]; rfl), table_at]
  rfl

/-- The reference's result is the normalized array of the gathered rows with the positions added. -/
theorem res_eq (m : (ℓ : Loc nD τ sig) → Buf (Elt Ideal) ℓ) (c : Dev nD) : (Cert.ReferenceIdeal.Value.res_main_v31 m c : FVec Ideal S1024x200x128 .f32)
  = normed (withPos (rows (m ((c.tc : Thread nD τ).loc main_arg0)) (m ((c.tc : Thread nD τ).loc main_arg1))) (m ((c.tc : Thread nD τ).loc main_arg2))) (m ((c.tc : Thread nD τ).loc main_arg3)) (m ((c.tc : Thread nD τ).loc main_arg4)) := by
  unfold Cert.ReferenceIdeal.Value.res_main_v31 normed mean withPos rows inRange table ids
  rfl
end Cert.Proof.Rows
-- ==== Proof.Value.lean ====
/-
  The value the kernel leaves is the reference's: entry by entry, both normalize the row of the table that the token
  names, cleared for token 0, with the row of positions added.
-/
module

public import proofs.«01_k».proof.Proof.Stages
public import proofs.«01_k».proof.Proof.Rows

@[expose] public section
noncomputable section

namespace Cert.Proof.Value

open Cert.KernelIdeal Cert.KernelIdeal.Gen
open Idealize.ShloMosaic
open Cert.Proof.Algebra

/-- The normalization of a block at an entry. -/
theorem norm_at (e : Vec Ideal S32x200x128 .f32) (s : Vec Ideal S32x200 .i32) (p : Vec Ideal S1x200x128 .f32) (g b : Vec Ideal S1x1x128 .f32)
    (r : Fin 32) (l : Fin 200) (h : Fin 128) :
    NormBody.norm e s p g b (ix3 r l h) = byMoments (fun k => Scalar.select (IntOp.cmpi .eq (s (ix2 r l)) 0#32) 0 (e (ix3 r l k)) + p (ix3 0 l k))
      (g (ix3 0 0 h)) (b (ix3 0 0 h)) h := by
  unfold NormBody.norm k4_pay1 k4_pay2 byMoments
  pointwise

/-- The choice between zero and a value by a token being zero. -/
theorem choose_zero (t : BitVec 32) (x : EReal) : Scalar.select (IntOp.cmpi .eq t 0#32) (0 : EReal) x = if t.toNat = 0 then 0 else x := by
  by_cases h : t = 0#32
  · subst h; rfl
  · have hn : t.toNat ≠ 0 := fun e => h (BitVec.eq_of_toNat_eq e)
    rw [if_neg hn, show IntOp.cmpi .eq t 0#32 = 0#1 by simp [IntOp.cmpi, beq_eq_false_iff_ne.2 h]]
    rfl

variable (seq : IVec S1024x200 32) (tb : FVec Ideal S100000x128 .f32) (pt : FVec Ideal S512x128 .f32) (ga be : FVec Ideal S128 .f32)

/-- The positions, the scale and the shift as the normalization calls take them, at an entry. -/
theorem pos_at (l : Fin 200) (k : Fin 128) : shapeCast S1x200x128 (extractStridedSlice S200x128 ![0, 0] pt slices_S512x128_S200x128_0_0) shapeCasts_S200x128_S1x200x128 (ix3 0 l k)
    = pt (ix2 ⟨l.val, by omega⟩ k) := by
  pointwise
/-- A vector of the scale or the shift, as the normalization calls take it, at an entry. -/
theorem vec_at (k : Fin 128) : shapeCast S1x1x128 ga shapeCasts_S128_S1x1x128 (ix3 0 0 k) = ga (ix1 k) := by
  pointwise

/-- The kernel's value at an entry. -/
theorem value_at (pos : FVec Ideal S1x200x128 .f32) (g b : FVec Ideal S1x1x128 .f32) (ht : ∀ y, (seq y).toNat < 100000) (r : Fin 1024) (l : Fin 200) (h : Fin 128) :
    Values.G (F := Ideal) seq tb pos g b (ix3 r l h) = byMoments (fun k =>
      (if (seq (ix2 r l)).toNat = 0 then 0 else tb (ix2 ⟨_, ht (ix2 r l)⟩ k)) + pos (ix3 0 l k)) (g (ix3 0 0 h)) (b (ix3 0 0 h)) h := by
  have et : Values.blkTok (F := Ideal) seq (r.val / 32) (ix2 ⟨r.val % 32, Nat.mod_lt _ (by decide)⟩ l) = seq (ix2 r l) := by
    have hq : (32 * (r.val / 32) + r.val % 32) % 1024 = r.val := by omega
    exact congrArg (fun q => seq (ix2 q l)) (Fin.ext hq)
  have ee : ∀ k : Fin 128, Values.blkEmb (F := Ideal) seq tb (r.val / 32) (ix3 ⟨r.val % 32, Nat.mod_lt _ (by decide)⟩ l k) = tb (ix2 ⟨_, ht (ix2 r l)⟩ k) := fun k => by
    have hq : (Values.blkTok (F := Ideal) seq (r.val / 32) (ix2 ⟨r.val % 32, Nat.mod_lt _ (by decide)⟩ l)).toNat % 100000 = (seq (ix2 r l)).toNat := by
      rw [et]; exact Nat.mod_eq_of_lt (ht _)
    exact congrArg (fun q => tb (ix2 q k)) (Fin.ext hq)
  refine (norm_at (Values.blkEmb (F := Ideal) seq tb (r.val / 32)) (Values.blkTok (F := Ideal) seq (r.val / 32)) pos g b ⟨r.val % 32, Nat.mod_lt _ (by decide)⟩ l h).trans ?_
  simp only [et, ee, choose_zero]

/-- With every token in the table and both tables of reals, the kernel's value is the reference's. -/
theorem values_eq (ht : ∀ y, (seq y).toNat < 100000) (f1 : ∀ y, ∃ x : ℝ, tb y = (x : EReal)) (f2 : ∀ y, ∃ x : ℝ, pt y = (x : EReal)) :
    Values.G (F := Ideal) seq tb (shapeCast S1x200x128 (extractStridedSlice S200x128 ![0, 0] pt slices_S512x128_S200x128_0_0) shapeCasts_S200x128_S1x200x128)
        (shapeCast S1x1x128 ga shapeCasts_S128_S1x1x128) (shapeCast S1x1x128 be shapeCasts_S128_S1x1x128)
      = Rows.normed (Rows.withPos (Rows.rows seq tb) pt) ga be := by
  funext i
  obtain ⟨r, l, h, rfl⟩ : ∃ (r : Fin 1024) (l : Fin 200) (h : Fin 128), i = ix3 r l h :=
    ⟨i 0, i 1, i 2, by funext a; match a with | ⟨0, _⟩ => rfl | ⟨1, _⟩ => rfl | ⟨2, _⟩ => rfl⟩
  rw [value_at seq tb _ _ _ ht]
  refine Eq.trans ?_ (Rows.normed_at _ ga be r l h).symm
  have ec : ∀ (p : Prop) [Decidable p] (x y : ℝ), (if p then 0 else (x : EReal)) + (y : EReal) = (((if p then 0 else x) + y : ℝ) : EReal) := fun p _ x y => by
    by_cases hp : p <;> simp [hp]
  choose x1 hx1 using f1
  choose x2 hx2 using f2
  simp only [pos_at, vec_at, Rows.withPos_at, Rows.rows_at seq tb ht, hx1, hx2, ec]
  exact moments_eq_deviations _ _ _ h

/-- From equal arguments, with every token in the table and the two tables of reals, the kernel and the reference leave the same result. -/
theorem value_eq (m : (ℓ : Loc nD τ sig) → Buf (Elt Ideal) ℓ) (d : Dev nD)
    (m' : (ℓ : Loc Cert.ReferenceIdeal.nD Cert.ReferenceIdeal.τ Cert.ReferenceIdeal.sig) → Buf (Elt Ideal) ℓ)
    (h0 : m' ((d.tc : Thread Cert.ReferenceIdeal.nD Cert.ReferenceIdeal.τ).loc Cert.ReferenceIdeal.main_arg0) = m ((d.tc : Thread nD τ).loc main_arg0))
    (h1 : m' ((d.tc : Thread Cert.ReferenceIdeal.nD Cert.ReferenceIdeal.τ).loc Cert.ReferenceIdeal.main_arg1) = m ((d.tc : Thread nD τ).loc main_arg1))
    (h2 : m' ((d.tc : Thread Cert.ReferenceIdeal.nD Cert.ReferenceIdeal.τ).loc Cert.ReferenceIdeal.main_arg2) = m ((d.tc : Thread nD τ).loc main_arg2))
    (h3 : m' ((d.tc : Thread Cert.ReferenceIdeal.nD Cert.ReferenceIdeal.τ).loc Cert.ReferenceIdeal.main_arg3) = m ((d.tc : Thread nD τ).loc main_arg3))
    (h4 : m' ((d.tc : Thread Cert.ReferenceIdeal.nD Cert.ReferenceIdeal.τ).loc Cert.ReferenceIdeal.main_arg4) = m ((d.tc : Thread nD τ).loc main_arg4))
    (ht : ∀ y : S1024x200.Idx, (m ((d.tc : Thread nD τ).loc main_arg0) y : BitVec 32).toNat < 100000)
    (f1 : ∀ y : S100000x128.Idx, ∃ x : ℝ, (m ((d.tc : Thread nD τ).loc main_arg1) y : EReal) = (x : EReal))
    (f2 : ∀ y : S512x128.Idx, ∃ x : ℝ, (m ((d.tc : Thread nD τ).loc main_arg2) y : EReal) = (x : EReal)) :
    (Cert.ReferenceIdeal.Value.res_main_v31 m' d : FVec Ideal S1024x200x128 .f32) = Stages.valueOf m d := by
  refine (Rows.res_eq m' d).trans ?_
  rw [h0, h1, h2, h3, h4]
  exact (values_eq (m ((d.tc : Thread nD τ).loc main_arg0)) (m ((d.tc : Thread nD τ).loc main_arg1)) (m ((d.tc : Thread nD τ).loc main_arg2))
    (m ((d.tc : Thread nD τ).loc main_arg3)) (m ((d.tc : Thread nD τ).loc main_arg4)) ht f1 f2).symm

end Cert.Proof.Value
end
-- ==== Proof.Pre.lean ====
/-
  What the preconditions say: the tokens name rows of the table, and the two tables hold no infinity.
-/
module

public import proofs.«01_k».proof.Proof.Gen.Pre_tokens_in_table
public import proofs.«01_k».proof.Proof.Gen.Pre_tokens_in_table_and_tables_finite
public import Idealize.ShloMosaic.Lib.ReduceAll
public import Idealize.ShloMosaic.PureOps.Ideal.Laws

@[expose] public section
noncomputable section

namespace Cert.Proof.Pre

open Idealize.ShloMosaic

/-! ## Conjunctions of truth words -/

/-- A conjunction of truth words. -/
theorem andi_ofBool (p q : Bool) : IntOp.andi (BitVec.ofBool p) (BitVec.ofBool q) = BitVec.ofBool (p && q) := by
  cases p <;> cases q <;> rfl
/-- A truth word is one when its truth value is true. -/
theorem ofBool_one (p : Bool) : BitVec.ofBool p = 1#1 ↔ p = true := by cases p <;> simp
/-- Both conjuncts of a true conjunction are true. -/
theorem and_one (p q : BitVec 1) (h : IntOp.andi p q = 1#1) : p = 1#1 ∧ q = 1#1 := by
  revert p q; decide

/-- A word that is not negative and below 100000 as a signed word is so as a number. -/
theorem word_lt (w : BitVec 32) (h : IntOp.andi (IntOp.cmpi .sge w 0#32) (IntOp.cmpi .slt w 100000#32) = 1#1) : w.toNat < 100000 := by
  simp only [IntOp.cmpi, andi_ofBool, ofBool_one, Bool.and_eq_true, BitVec.sle_eq_decide, BitVec.slt_eq_decide, decide_eq_true_eq,
    BitVec.toInt_eq_toNat_cond, BitVec.toNat_ofNat, Nat.reducePow, Nat.reduceMod] at h
  omega

instance : Subsingleton Cert.Pre_tokens_in_table.S_.Idx := ⟨fun a b => funext fun i => i.elim0⟩

variable {F : FTy → Type} [FloatOps F]

/-- Under the first precondition every token is below 100000. -/
theorem tokens_of_pre (a0 : IVec Cert.Pre_tokens_in_table.S1024x200 32) (a1 : FVec F Cert.Pre_tokens_in_table.S100000x128 .f32) (a2 : FVec F Cert.Pre_tokens_in_table.S512x128 .f32)
    (a3 a4 : FVec F Cert.Pre_tokens_in_table.S128 .f32) (h : Cert.Pre_tokens_in_table.fn a0 a1 a2 a3 a4 = fun _ => 1#1) (x : Cert.Pre_tokens_in_table.S1024x200.Idx) : (a0 x).toNat < 100000 :=
  word_lt _ (Host.reduce_andi_all _ _ _ _ default (congrFun h default) x)

/-! ## Both tables finite -/

/-- An extended real whose absolute value is below the float infinity is a real. -/
theorem real_of_lt (x : EReal) (h : FloatOps.cmpf (F := Ideal) (φ := .f32) .olt (FloatOps.hostAbsf (F := Ideal) (φ := .f32) x) (Scalar.ofBits (F := Ideal) .f32 0x7F800000#32) = 1#1) :
    ∃ r : ℝ, x = (r : EReal) := by
  have ht : (Scalar.ofBits (F := Ideal) .f32 0x7F800000#32 : EReal) = ⊤ := by
    show Ideal.ofBits .f32 _ = ⊤
    simp [Ideal.ofBits, Ideal.ieee]
  rw [ht] at h
  have h' : max x (-x) < ⊤ := by
    by_contra hn
    have : BitVec.ofBool (decide (max x (-x) < ⊤)) = 1#1 := h
    rw [decide_eq_false hn] at this
    exact absurd this (by decide)
  induction x with
  | bot => simp at h'
  | top => simp at h'
  | coe r => exact ⟨r, rfl⟩

instance : Subsingleton Cert.Pre_tokens_in_table_and_tables_finite.S_.Idx := ⟨fun a b => funext fun i => i.elim0⟩

section
open Cert.Pre_tokens_in_table_and_tables_finite
variable (a0 : IVec S1024x200 32) (a1 : FVec Ideal S100000x128 .f32) (a2 : FVec Ideal S512x128 .f32) (a3 a4 : FVec Ideal S128 .f32) (h : fn a0 a1 a2 a3 a4 = fun _ => 1#1)
include h

/-- The precondition's three conditions, apart. -/
theorem parts_of_pre : (∀ x, (a0 x).toNat < 100000) ∧ (∀ x, ∃ r : ℝ, a1 x = (r : EReal)) ∧ ∀ x, ∃ r : ℝ, a2 x = (r : EReal) := by
  obtain ⟨h01, h2⟩ := and_one _ _ (congrFun h default)
  obtain ⟨h0, h1⟩ := and_one _ _ h01
  exact ⟨fun x => word_lt _ (Host.reduce_andi_all _ _ _ _ default h0 x), fun x => real_of_lt _ (Host.reduce_andi_all _ _ _ _ default h1 x),
    fun x => real_of_lt _ (Host.reduce_andi_all _ _ _ _ default h2 x)⟩
end

end Cert.Proof.Pre
end
-- ==== Proof.Same.lean ====
/-
  The kernel and its idealization are here the same text over the same floats: their tables of bodies and their threads
  agree at every family of floats, so that one run serves both frames.
-/
module

public import proofs.«01_k».proof.Kernel
public import proofs.«01_k».proof.KernelIdeal
public import proofs.«01_k».proof.Proof.Gen.Kernel
public import proofs.«01_k».proof.Proof.Gen.KernelIdeal

@[expose] public section
set_option maxHeartbeats 20000000

namespace Cert.Proof.Same

open Idealize.ShloMosaic Idealize.SL.Sem

variable {F : FTy → Type} [FloatOps F]

/-- The two programs' kernels are the same, label by label. -/
theorem defs₀_eq : Cert.Kernel.defs₀ (F := F) = Cert.KernelIdeal.defs₀ (F := F) := by
  funext c l a
  match c, l, a with
  | .scVector c s, 0, a => rfl
  | .scVector c s, 1, a => rfl
  | .scVector c s, 2, a => rfl
  | .scVector c s, 3, a => rfl
  | .tc, 4, a => rfl
  | .tc, 5, a => rfl
  | .tc, 6, a => rfl
  | .tc, 7, a => rfl
  | .scVector c s, 4, a => rfl
  | .scVector c s, 5, a => rfl
  | .scVector c s, 6, a => rfl
  | .scVector c s, 7, a => rfl
  | .tc, 0, a => rfl
  | .tc, 1, a => rfl
  | .tc, 2, a => rfl
  | .tc, 3, a => rfl
  | .scScalar c, 0, a => rfl
  | .scScalar c, 1, a => rfl
  | .scScalar c, 2, a => rfl
  | .scScalar c, 3, a => rfl
  | .scScalar c, 4, a => rfl
  | .scScalar c, 5, a => rfl
  | .scScalar c, 6, a => rfl
  | .scScalar c, 7, a => rfl

/-- So are their whole tables of bodies. -/
theorem defs_eq : Cert.Kernel.defs (F := F) = Cert.KernelIdeal.defs (F := F) :=
  congrArg (fun D => Cert.KernelIdeal.sc.defs (Pipeline.defs Cert.KernelIdeal.pcfgs D)) defs₀_eq

/-- And so are the threads they run. -/
theorem threads_eq : Cert.Kernel.threads (F := F) = Cert.KernelIdeal.threads (F := F) := rfl

end Cert.Proof.Same
-- ==== Proof.Frames.lean ====
/-
  The claims: every program runs, keeps its arguments and leaves every semaphore at zero; and over the extended reals the
  kernel leaves the reference's result.
-/
module

public import proofs.«01_k».proof.Defs
public import proofs.«01_k».proof.Proof.Launch
public import proofs.«01_k».proof.Proof.Value
public import proofs.«01_k».proof.Proof.Pre
public import proofs.«01_k».proof.Proof.Same
public import proofs.«01_k».proof.Proof.Gen.Kernel
public import proofs.«01_k».proof.Proof.Gen.KernelIdeal
public import proofs.«01_k».proof.Proof.Gen.ReferenceIdeal.Run

@[expose] public section
set_option maxHeartbeats 20000000
noncomputable section

namespace Cert.Proof.Frames

open Idealize.ShloMosaic Idealize.SL.Sem
open Cert.Proof.Launch Cert.Proof.Tasks

/-- The kernel, as it runs: the run at the machine's floats, its values dropped. -/
theorem frame_kernel : Cert.quiescent_Kernel := by
  intro m ρ hpre
  have h := run_main (F := Bits) m ρ fun d x => Cert.Proof.Pre.tokens_of_pre (F := Bits) _ _ _ _ _ (hpre d) x
  have h' := (θ_run Cert.KernelIdeal.defs Cert.KernelIdeal.threads ⟨m, fun _ => 0, ρ⟩).mono
    (fun r h => (⟨fun c => (h.1 c).2, h.2⟩ : (∀ c, _) ∧ r.2.sem = fun _ => 0)) h
  exact (congrArg (fun D => θ_run D Cert.KernelIdeal.threads ⟨m, fun _ => 0, ρ⟩ _)
    (Cert.Proof.Same.defs_eq (F := Bits))).mpr h'

/-- The kernel over the extended reals. -/
theorem frame_ideal : Cert.quiescent_KernelIdeal := by
  intro m ρ hpre
  have h := run_main (F := Ideal) m ρ fun d x => Cert.Proof.Pre.tokens_of_pre (F := Ideal) _ _ _ _ _ (hpre d) x
  refine (θ_run Cert.KernelIdeal.defs _ _).mono (fun r h => ?_) h
  exact ⟨fun c => (h.1 c).2, h.2⟩

/-- The reference over the extended reals. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel over the extended reals, under the precondition of the algebraic claim. -/
theorem frame_ideal_finite : Cert.quiescent_KernelIdeal_pre_tokens_in_table_and_tables_finite := by
  intro m ρ hpre
  have h := run_main (F := Ideal) m ρ fun d x => (Cert.Proof.Pre.parts_of_pre _ _ _ _ _ (hpre d)).1 x
  refine (θ_run Cert.KernelIdeal.defs _ _).mono (fun r h => ?_) h
  exact ⟨fun c => (h.1 c).2, h.2⟩

/-- The reference over the extended reals, under the same precondition. -/
theorem frame_reference_finite : Cert.quiescent_ReferenceIdeal_pre_tokens_in_table_and_tables_finite := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From equal arguments the kernel and the reference leave the same result, over the extended reals. -/
theorem algebraic : Cert.algebraic_KernelIdeal_ReferenceIdeal_pre_tokens_in_table_and_tables_finite := by
  intro m ρ m' ρ' hpre harg
  have hp := fun d => Cert.Proof.Pre.parts_of_pre _ _ _ _ _ (hpre d)
  refine ⟨fun c => Cert.Proof.Stages.valueOf m c, ?_, ?_⟩
  · have h := run_main (F := Ideal) m ρ fun d x => (hp d).1 x
    refine (θ_run Cert.KernelIdeal.defs _ _).mono (fun r h => ?_) h
    exact fun c => h.1 c
  · refine (θ_run Cert.ReferenceIdeal.defs _ _).mono (fun r h => ?_) (Cert.ReferenceIdeal.Value.run (F := Ideal) m' ρ')
    exact fun c => ⟨(h c).1.trans (Cert.Proof.Value.value_eq m c m' (harg c).1 (harg c).2.1 (harg c).2.2.1 (harg c).2.2.2.1 (harg c).2.2.2.2
      (hp c).1 (hp c).2.1 (hp c).2.2), (h c).2⟩

end Cert.Proof.Frames
end
-- ==== Proof.lean ====
/-
  The proof of the five claims: the kernel's frame at the machine's floats and over the extended reals, the reference's
  frame, that the idealization rewrote nothing, and that over the extended reals both leave the same result.
-/
module

public import proofs.«01_k».proof.Defs
public import proofs.«01_k».proof.Proof.Frames
public import proofs.«01_k».proof.Proof.Gen.Kernel
public import proofs.«01_k».proof.Proof.Gen.KernelIdeal
public import proofs.«01_k».proof.Proof.Gen.ReferenceIdeal
public import proofs.«01_k».proof.Proof.Gen.Pre_tokens_in_table
public import proofs.«01_k».proof.Proof.Gen.Pre_tokens_in_table_and_tables_finite

@[expose] public section

noncomputable section

namespace Cert.Proof

open Cert.Proof.Frames

/-- All the claims. -/
theorem claim : Cert.Claim :=
  ⟨Cert.Kernel.Gen.facts, Cert.KernelIdeal.Gen.facts, Cert.ReferenceIdeal.Gen.facts, Cert.Pre_tokens_in_table.Gen.facts,
    Cert.Pre_tokens_in_table_and_tables_finite.Gen.facts,
    frame_kernel, frame_ideal, frame_ideal_finite, frame_reference, frame_reference_finite, trivial, algebraic⟩

end Cert.Proof

end
